-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 2048, 8, 128]⟩ ⟨4, ![1, 16384, 8, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 8, 128]⟩ ⟨4, ![1, 16384, 8, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x2048x1024 : Shape := ⟨3, ![1, 2048, 1024]⟩
abbrev S1024x1024 : Shape := ⟨2, ![1024, 1024]⟩
abbrev S1x2048x8x128 : Shape := ⟨4, ![1, 2048, 8, 128]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048x8x128 : S_.BroadcastsInDim S1x2048x8x128 (![] : Fin 0 → Fin S1x2048x8x128.rank)
  reducesTo_S1x2048x8x128_S_d0_1_2_3 : S1x2048x8x128.ReducesTo [0, 1, 2, 3] S_

variable [Facts]

def fn {F : FTy → Type} [FloatOps F] (main_arg0 : FVec F S1x2048x1024 .f32) (main_arg1 : FVec F S1024x1024 .f32) (main_arg2 : FVec F S1x2048x8x128 .f32) (main_arg3 : FVec F S1x2048x8x128 .f32) (main_arg4 : FVec F S1024x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x2048x8x128 .f32 := Host.absf main_arg2
  let main_cst_2 : FVec F S_ .f32 := constant S_ .f32 0x7F800000#32
  let main_v10 : FVec F S1x2048x8x128 .f32 := broadcastInDim S1x2048x8x128 ![] bcast_S_S1x2048x8x128 main_cst_2
  let main_v11 : IVec S1x2048x8x128 1 := cmpf .olt main_v9 main_v10
  let main_c_3 : IVec S_ 1 := constantI S_ 1 1#1
  let main_v12 : IVec S_ 1 := (fun x v => Host.reduce IntOp.andi x v reducesTo_S1x2048x8x128_S_d0_1_2_3 h_S_) main_v11 main_c_3
  let main_v13 : IVec S_ 1 := andi main_v8 main_v12
  main_v13
-- ==== Pre_finite_ReferenceIdeal.lean ====
abbrev S1x2048x1024 : Shape := ⟨3, ![1, 2048, 1024]⟩
abbrev S1024x1024 : Shape := ⟨2, ![1024, 1024]⟩
abbrev S1x16384x8x128 : Shape := ⟨4, ![1, 16384, 8, 128]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x16384x8x128 : S_.BroadcastsInDim S1x16384x8x128 (![] : Fin 0 → Fin S1x16384x8x128.rank)
  reducesTo_S1x16384x8x128_S_d0_1_2_3 : S1x16384x8x128.ReducesTo [0, 1, 2, 3] S_

variable [Facts]

def fn {F : FTy → Type} [FloatOps F] (main_arg0 : FVec F S1x2048x1024 .f32) (main_arg1 : FVec F S1024x1024 .f32) (main_arg2 : FVec F S1x16384x8x128 .f32) (main_arg3 : FVec F S1x16384x8x128 .f32) (main_arg4 : FVec F S1024x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x16384x8x128 .f32 := Host.absf main_arg2
  let main_cst_2 : FVec F S_ .f32 := constant S_ .f32 0x7F800000#32
  let main_v10 : FVec F S1x16384x8x128 .f32 := broadcastInDim S1x16384x8x128 ![] bcast_S_S1x16384x8x128 main_cst_2
  let main_v11 : IVec S1x16384x8x128 1 := cmpf .olt main_v9 main_v10
  let main_c_3 : IVec S_ 1 := constantI S_ 1 1#1
  let main_v12 : IVec S_ 1 := (fun x v => Host.reduce IntOp.andi x v reducesTo_S1x16384x8x128_S_d0_1_2_3 h_S_) main_v11 main_c_3
  let main_v13 : IVec S_ 1 := andi main_v8 main_v12
  main_v13
-- ==== Kernel.lean ====
abbrev S1x2048x1024 : Shape := ⟨3, ![1, 2048, 1024]⟩
abbrev S1024x1024 : Shape := ⟨2, ![1024, 1024]⟩
abbrev S1x2048x8x128 : Shape := ⟨4, ![1, 2048, 8, 128]⟩
abbrev S2048x1024 : Shape := ⟨2, ![2048, 1024]⟩
abbrev S2112x1024 : Shape := ⟨2, ![2112, 1024]⟩
abbrev S2112x8 : Shape := ⟨2, ![2112, 8]⟩
abbrev S1024x128 : Shape := ⟨2, ![1024, 128]⟩
abbrev S2048x128 : Shape := ⟨2, ![2048, 128]⟩
abbrev S2112x128 : Shape := ⟨2, ![2112, 128]⟩
abbrev S704x128 : Shape := ⟨2, ![704, 128]⟩
abbrev S1x64x1024 : Shape := ⟨3, ![1, 64, 1024]⟩
abbrev S64x1024 : Shape := ⟨2, ![64, 1024]⟩
abbrev S704x1024 : Shape := ⟨2, ![704, 1024]⟩
abbrev S64x128 : Shape := ⟨2, ![64, 128]⟩
abbrev S704x704 : Shape := ⟨2, ![704, 704]⟩
abbrev S1x704 : Shape := ⟨2, ![1, 704]⟩
abbrev S704 : Shape := ⟨1, ![704]⟩
abbrev S704x1 : Shape := ⟨2, ![704, 1]⟩
abbrev S704x8 : Shape := ⟨2, ![704, 8]⟩
abbrev S704x64 : Shape := ⟨2, ![704, 64]⟩
abbrev S11x64x128 : Shape := ⟨3, ![11, 64, 128]⟩
abbrev S1x64x128 : Shape := ⟨3, ![1, 64, 128]⟩
abbrev S11x64x64 : Shape := ⟨3, ![11, 64, 64]⟩
abbrev S256x1024 : Shape := ⟨2, ![256, 1024]⟩
abbrev S2x256x8 : Shape := ⟨3, ![2, 256, 8]⟩
abbrev S7x256x1024 : Shape := ⟨3, ![7, 256, 1024]⟩
abbrev S7x2x256x8 : Shape := ⟨4, ![7, 2, 256, 8]⟩
abbrev S3x8 : Shape := ⟨2, ![3, 8]⟩
abbrev S8 : Shape := ⟨1, ![8]⟩
abbrev S_ : Shape := ⟨0, ![]⟩
abbrev S1x1 : Shape := ⟨2, ![1, 1]⟩
abbrev S1x256x1024 : Shape := ⟨3, ![1, 256, 1024]⟩
abbrev S1x1x256x8 : Shape := ⟨4, ![1, 1, 256, 8]⟩
abbrev S256x8 : Shape := ⟨2, ![256, 8]⟩
abbrev S1x256x8 : Shape := ⟨3, ![1, 256, 8]⟩
abbrev S256x128 : Shape := ⟨2, ![256, 128]⟩
abbrev S256x1 : Shape := ⟨2, ![256, 1]⟩
abbrev S1 : Shape := ⟨1, ![1]⟩

abbrev nBuf : Space → Nat
  | .hbm => 11
  | .vmem => 24
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1x2048x8x128, .f32⟩
  | .hbm, ⟨3, _⟩ => ⟨S1x2048x8x128, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2112x1024, .bf16⟩
  | .hbm, ⟨8, _⟩ => ⟨S2112x8, .f32⟩
  | .hbm, ⟨9, _⟩ => ⟨S2112x8, .f32⟩
  | .hbm, ⟨10, _⟩ => ⟨S1x2048x1024, .f32⟩
  | .local _ .vmem, ⟨0, _⟩ => ⟨S1x2048x1024, .f32⟩
  | .local _ .vmem, ⟨1, _⟩ => ⟨S1024x128, .f32⟩
  | .local _ .vmem, ⟨2, _⟩ => ⟨S1024x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2112x128, .bf16⟩
  | .local _ .vmem, ⟨8, _⟩ => ⟨S2112x128, .bf16⟩
  | .local _ .vmem, ⟨9, _⟩ => ⟨S2112x8, .f32⟩
  | .local _ .vmem, ⟨10, _⟩ => ⟨S2112x8, .f32⟩
  | .local _ .vmem, ⟨11, _⟩ => ⟨S704x128, .f32⟩
  | .local _ .vmem, ⟨12, _⟩ => ⟨S704x128, .f32⟩
  | .local _ .vmem, ⟨13, _⟩ => ⟨S2112x1024, .f32⟩
  | .local _ .vmem, ⟨14, _⟩ => ⟨S2112x1024, .bf16⟩
  | .local _ .vmem, ⟨15, _⟩ => ⟨S2112x8, .f32⟩
  | .local _ .vmem, ⟨16, _⟩ => ⟨S2112x8, .f32⟩
  | .local _ .vmem, ⟨17, _⟩ => ⟨S1024x1024, .f32⟩
  | .local _ .vmem, ⟨18, _⟩ => ⟨S1x2048x1024, .f32⟩
  | .local _ .vmem, ⟨19, _⟩ => ⟨S256x1024, .f32⟩
  | .local _ .vmem, ⟨20, _⟩ => ⟨S2x256x8, .f32⟩
  | .local _ .vmem, ⟨21, _⟩ => ⟨S7x256x1024, .bf16⟩
  | .local _ .vmem, ⟨22, _⟩ => ⟨S7x2x256x8, .f32⟩
  | .local _ .vmem, ⟨23, _⟩ => ⟨S2048x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 1 → Bool
  | ⟨0, _⟩ => false
  | _ => false

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  (ofTc nBuf bufTy 1 80 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc1_scratch3 : Ref sig .tc := ⟨.vmem, 22, rfl⟩
abbrev cc1_scratch4 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc1_sem0_0 : DmaSem sig := 11
abbrev cc1_sem1_0 : DmaSem sig := 12
abbrev cc1_sem2_0 : DmaSem sig := 13
abbrev cc1_sem3_0 : DmaSem sig := 14
abbrev cc1_sem4_0 : DmaSem sig := 15
abbrev barrier0 : Sem sig := 0

abbrev nD : Nat := 8
abbrev τ : Topo := Topo.v7x

variable {F : FTy → Type} [FloatOps F]

abbrev grid0 : Pipeline.Grid := ⟨1, ![8], ![false]⟩

def k0_off1 (d0 : Dev nD) (c0_i32_5 : BitVec 32) (c0_i32_6 : BitVec 32) : Fin 2 → Nat :=
  let c2_i32 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v11 : BitVec 32 := Scalar.muli c2_i32 v2
  let v12 : BitVec 32 := Scalar.subi c0_i32_5 v11
  let c48_i32 : BitVec 32 := 48#32
  let v13 : BitVec 32 := Scalar.addi v12 c48_i32
  let c3_i32 : BitVec 32 := 3#32
  let v14 : BitVec 32 := Scalar.remsi v13 c3_i32
  let c64_i32 : BitVec 32 := 64#32
  let v15 : BitVec 32 := Scalar.muli v14 c64_i32
  let v16 : BitVec 32 := Scalar.addi v15 c0_i32_6
  let c1984_i32 : BitVec 32 := 1984#32
  let v17 : BitVec 32 := Scalar.minsi v16 c1984_i32
  let v18 : Index := Scalar.indexCast v17
  let c0_7 : Index := 0#32
  ![v18.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2112x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2112x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2112x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := .none

def k1_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k1_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k1_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k1_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k1_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k1_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k1_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k1_off1 (d0 : Dev nD) (c1_i32_29 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v32 : BitVec 32 := Scalar.subi v2 c1_i32_29
  let c8_i32_30 : BitVec 32 := 8#32
  let v33 : BitVec 32 := Scalar.addi v32 c8_i32_30
  let c8_i32_31 : BitVec 32 := 8#32
  let v34 : BitVec 32 := Scalar.remsi v33 c8_i32_31
  let c256_i32 : BitVec 32 := 256#32
  let v35 : BitVec 32 := Scalar.muli v34 c256_i32
  let c0_i32_43 : BitVec 32 := 0#32
  ![v35.toNat, 0]
def k1_dev8 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let v32 : BitVec 32 := Scalar.subi v2 c1_i32_29
  let c8_i32_30 : BitVec 32 := 8#32
  let v33 : BitVec 32 := Scalar.addi v32 c8_i32_30
  let c8_i32_31 : BitVec 32 := 8#32
  let v34 : BitVec 32 := Scalar.remsi v33 c8_i32_31
  let c1_i32_39 : BitVec 32 := 1#32
  let v38 : BitVec 32 := Scalar.muli v34 c1_i32_39
  let v39 : BitVec 32 := Scalar.addi c0_i32_40 v38
  v39.toNat
def k1_off2 (d0 : Dev nD) (c1_i32_29 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v32 : BitVec 32 := Scalar.subi v2 c1_i32_29
  let c8_i32_30 : BitVec 32 := 8#32
  let v33 : BitVec 32 := Scalar.addi v32 c8_i32_30
  let c8_i32_31 : BitVec 32 := 8#32
  let v34 : BitVec 32 := Scalar.remsi v33 c8_i32_31
  let c256_i32_32 : BitVec 32 := 256#32
  let v36 : BitVec 32 := Scalar.muli v34 c256_i32_32
  let c0_i32_54 : BitVec 32 := 0#32
  ![v36.toNat, 0]
def k1_dev9 (d0 : Dev nD) : Nat :=
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let v32 : BitVec 32 := Scalar.subi v2 c1_i32_29
  let c8_i32_30 : BitVec 32 := 8#32
  let v33 : BitVec 32 := Scalar.addi v32 c8_i32_30
  let c8_i32_31 : BitVec 32 := 8#32
  let v34 : BitVec 32 := Scalar.remsi v33 c8_i32_31
  let c1_i32_50 : BitVec 32 := 1#32
  let v47 : BitVec 32 := Scalar.muli v34 c1_i32_50
  let v48 : BitVec 32 := Scalar.addi c0_i32_51 v47
  v48.toNat
def k1_dev10 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let v32 : BitVec 32 := Scalar.subi v2 c1_i32_29
  let c8_i32_30 : BitVec 32 := 8#32
  let v33 : BitVec 32 := Scalar.addi v32 c8_i32_30
  let c8_i32_31 : BitVec 32 := 8#32
  let v34 : BitVec 32 := Scalar.remsi v33 c8_i32_31
  let c1_i32_61 : BitVec 32 := 1#32
  let v56 : BitVec 32 := Scalar.muli v34 c1_i32_61
  let v57 : BitVec 32 := Scalar.addi c0_i32_62 v56
  v57.toNat
def k1_dev11 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_66 : BitVec 32 := 2#32
  let v65 : BitVec 32 := Scalar.subi v2 c2_i32_66
  let c8_i32_67 : BitVec 32 := 8#32
  let v66 : BitVec 32 := Scalar.addi v65 c8_i32_67
  let c8_i32_68 : BitVec 32 := 8#32
  let v67 : BitVec 32 := Scalar.remsi v66 c8_i32_68
  let c1_i32_77 : BitVec 32 := 1#32
  let v71 : BitVec 32 := Scalar.muli v67 c1_i32_77
  let v72 : BitVec 32 := Scalar.addi c0_i32_78 v71
  v72.toNat
def k1_dev12 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_66 : BitVec 32 := 2#32
  let v65 : BitVec 32 := Scalar.subi v2 c2_i32_66
  let c8_i32_67 : BitVec 32 := 8#32
  let v66 : BitVec 32 := Scalar.addi v65 c8_i32_67
  let c8_i32_68 : BitVec 32 := 8#32
  let v67 : BitVec 32 := Scalar.remsi v66 c8_i32_68
  let c1_i32_88 : BitVec 32 := 1#32
  let v80 : BitVec 32 := Scalar.muli v67 c1_i32_88
  let v81 : BitVec 32 := Scalar.addi c0_i32_89 v80
  v81.toNat
def k1_dev13 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_66 : BitVec 32 := 2#32
  let v65 : BitVec 32 := Scalar.subi v2 c2_i32_66
  let c8_i32_67 : BitVec 32 := 8#32
  let v66 : BitVec 32 := Scalar.addi v65 c8_i32_67
  let c8_i32_68 : BitVec 32 := 8#32
  let v67 : BitVec 32 := Scalar.remsi v66 c8_i32_68
  let c1_i32_99 : BitVec 32 := 1#32
  let v89 : BitVec 32 := Scalar.muli v67 c1_i32_99
  let v90 : BitVec 32 := Scalar.addi c0_i32_100 v89
  v90.toNat
def k1_dev14 (d0 : Dev nD) : Nat :=
  let c0_i32_116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_104 : BitVec 32 := 3#32
  let v98 : BitVec 32 := Scalar.subi v2 c3_i32_104
  let c8_i32_105 : BitVec 32 := 8#32
  let v99 : BitVec 32 := Scalar.addi v98 c8_i32_105
  let c8_i32_106 : BitVec 32 := 8#32
  let v100 : BitVec 32 := Scalar.remsi v99 c8_i32_106
  let c1_i32_115 : BitVec 32 := 1#32
  let v104 : BitVec 32 := Scalar.muli v100 c1_i32_115
  let v105 : BitVec 32 := Scalar.addi c0_i32_116 v104
  v105.toNat
def k1_dev15 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_104 : BitVec 32 := 3#32
  let v98 : BitVec 32 := Scalar.subi v2 c3_i32_104
  let c8_i32_105 : BitVec 32 := 8#32
  let v99 : BitVec 32 := Scalar.addi v98 c8_i32_105
  let c8_i32_106 : BitVec 32 := 8#32
  let v100 : BitVec 32 := Scalar.remsi v99 c8_i32_106
  let c1_i32_126 : BitVec 32 := 1#32
  let v113 : BitVec 32 := Scalar.muli v100 c1_i32_126
  let v114 : BitVec 32 := Scalar.addi c0_i32_127 v113
  v114.toNat
def k1_dev16 (d0 : Dev nD) : Nat :=
  let c0_i32_138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_104 : BitVec 32 := 3#32
  let v98 : BitVec 32 := Scalar.subi v2 c3_i32_104
  let c8_i32_105 : BitVec 32 := 8#32
  let v99 : BitVec 32 := Scalar.addi v98 c8_i32_105
  let c8_i32_106 : BitVec 32 := 8#32
  let v100 : BitVec 32 := Scalar.remsi v99 c8_i32_106
  let c1_i32_137 : BitVec 32 := 1#32
  let v122 : BitVec 32 := Scalar.muli v100 c1_i32_137
  let v123 : BitVec 32 := Scalar.addi c0_i32_138 v122
  v123.toNat
def k1_dev17 (d0 : Dev nD) : Nat :=
  let c0_i32_154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_142 : BitVec 32 := 4#32
  let v131 : BitVec 32 := Scalar.subi v2 c4_i32_142
  let c8_i32_143 : BitVec 32 := 8#32
  let v132 : BitVec 32 := Scalar.addi v131 c8_i32_143
  let c8_i32_144 : BitVec 32 := 8#32
  let v133 : BitVec 32 := Scalar.remsi v132 c8_i32_144
  let c1_i32_153 : BitVec 32 := 1#32
  let v137 : BitVec 32 := Scalar.muli v133 c1_i32_153
  let v138 : BitVec 32 := Scalar.addi c0_i32_154 v137
  v138.toNat
def k1_dev18 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_142 : BitVec 32 := 4#32
  let v131 : BitVec 32 := Scalar.subi v2 c4_i32_142
  let c8_i32_143 : BitVec 32 := 8#32
  let v132 : BitVec 32 := Scalar.addi v131 c8_i32_143
  let c8_i32_144 : BitVec 32 := 8#32
  let v133 : BitVec 32 := Scalar.remsi v132 c8_i32_144
  let c1_i32_164 : BitVec 32 := 1#32
  let v146 : BitVec 32 := Scalar.muli v133 c1_i32_164
  let v147 : BitVec 32 := Scalar.addi c0_i32_165 v146
  v147.toNat
def k1_dev19 (d0 : Dev nD) : Nat :=
  let c0_i32_176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_142 : BitVec 32 := 4#32
  let v131 : BitVec 32 := Scalar.subi v2 c4_i32_142
  let c8_i32_143 : BitVec 32 := 8#32
  let v132 : BitVec 32 := Scalar.addi v131 c8_i32_143
  let c8_i32_144 : BitVec 32 := 8#32
  let v133 : BitVec 32 := Scalar.remsi v132 c8_i32_144
  let c1_i32_175 : BitVec 32 := 1#32
  let v155 : BitVec 32 := Scalar.muli v133 c1_i32_175
  let v156 : BitVec 32 := Scalar.addi c0_i32_176 v155
  v156.toNat
def k1_dev20 (d0 : Dev nD) : Nat :=
  let c0_i32_192 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_180 : BitVec 32 := 5#32
  let v164 : BitVec 32 := Scalar.subi v2 c5_i32_180
  let c8_i32_181 : BitVec 32 := 8#32
  let v165 : BitVec 32 := Scalar.addi v164 c8_i32_181
  let c8_i32_182 : BitVec 32 := 8#32
  let v166 : BitVec 32 := Scalar.remsi v165 c8_i32_182
  let c1_i32_191 : BitVec 32 := 1#32
  let v170 : BitVec 32 := Scalar.muli v166 c1_i32_191
  let v171 : BitVec 32 := Scalar.addi c0_i32_192 v170
  v171.toNat
def k1_dev21 (d0 : Dev nD) : Nat :=
  let c0_i32_203 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_180 : BitVec 32 := 5#32
  let v164 : BitVec 32 := Scalar.subi v2 c5_i32_180
  let c8_i32_181 : BitVec 32 := 8#32
  let v165 : BitVec 32 := Scalar.addi v164 c8_i32_181
  let c8_i32_182 : BitVec 32 := 8#32
  let v166 : BitVec 32 := Scalar.remsi v165 c8_i32_182
  let c1_i32_202 : BitVec 32 := 1#32
  let v179 : BitVec 32 := Scalar.muli v166 c1_i32_202
  let v180 : BitVec 32 := Scalar.addi c0_i32_203 v179
  v180.toNat
def k1_dev22 (d0 : Dev nD) : Nat :=
  let c0_i32_214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_180 : BitVec 32 := 5#32
  let v164 : BitVec 32 := Scalar.subi v2 c5_i32_180
  let c8_i32_181 : BitVec 32 := 8#32
  let v165 : BitVec 32 := Scalar.addi v164 c8_i32_181
  let c8_i32_182 : BitVec 32 := 8#32
  let v166 : BitVec 32 := Scalar.remsi v165 c8_i32_182
  let c1_i32_213 : BitVec 32 := 1#32
  let v188 : BitVec 32 := Scalar.muli v166 c1_i32_213
  let v189 : BitVec 32 := Scalar.addi c0_i32_214 v188
  v189.toNat
def k1_dev23 (d0 : Dev nD) : Nat :=
  let c0_i32_230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_218 : BitVec 32 := 6#32
  let v197 : BitVec 32 := Scalar.subi v2 c6_i32_218
  let c8_i32_219 : BitVec 32 := 8#32
  let v198 : BitVec 32 := Scalar.addi v197 c8_i32_219
  let c8_i32_220 : BitVec 32 := 8#32
  let v199 : BitVec 32 := Scalar.remsi v198 c8_i32_220
  let c1_i32_229 : BitVec 32 := 1#32
  let v203 : BitVec 32 := Scalar.muli v199 c1_i32_229
  let v204 : BitVec 32 := Scalar.addi c0_i32_230 v203
  v204.toNat
def k1_dev24 (d0 : Dev nD) : Nat :=
  let c0_i32_241 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_218 : BitVec 32 := 6#32
  let v197 : BitVec 32 := Scalar.subi v2 c6_i32_218
  let c8_i32_219 : BitVec 32 := 8#32
  let v198 : BitVec 32 := Scalar.addi v197 c8_i32_219
  let c8_i32_220 : BitVec 32 := 8#32
  let v199 : BitVec 32 := Scalar.remsi v198 c8_i32_220
  let c1_i32_240 : BitVec 32 := 1#32
  let v212 : BitVec 32 := Scalar.muli v199 c1_i32_240
  let v213 : BitVec 32 := Scalar.addi c0_i32_241 v212
  v213.toNat
def k1_dev25 (d0 : Dev nD) : Nat :=
  let c0_i32_252 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_218 : BitVec 32 := 6#32
  let v197 : BitVec 32 := Scalar.subi v2 c6_i32_218
  let c8_i32_219 : BitVec 32 := 8#32
  let v198 : BitVec 32 := Scalar.addi v197 c8_i32_219
  let c8_i32_220 : BitVec 32 := 8#32
  let v199 : BitVec 32 := Scalar.remsi v198 c8_i32_220
  let c1_i32_251 : BitVec 32 := 1#32
  let v221 : BitVec 32 := Scalar.muli v199 c1_i32_251
  let v222 : BitVec 32 := Scalar.addi c0_i32_252 v221
  v222.toNat
def k1_dev26 (d0 : Dev nD) : Nat :=
  let c0_i32_268 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_256 : BitVec 32 := 7#32
  let v230 : BitVec 32 := Scalar.subi v2 c7_i32_256
  let c8_i32_257 : BitVec 32 := 8#32
  let v231 : BitVec 32 := Scalar.addi v230 c8_i32_257
  let c8_i32_258 : BitVec 32 := 8#32
  let v232 : BitVec 32 := Scalar.remsi v231 c8_i32_258
  let c1_i32_267 : BitVec 32 := 1#32
  let v236 : BitVec 32 := Scalar.muli v232 c1_i32_267
  let v237 : BitVec 32 := Scalar.addi c0_i32_268 v236
  v237.toNat
def k1_dev27 (d0 : Dev nD) : Nat :=
  let c0_i32_279 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_256 : BitVec 32 := 7#32
  let v230 : BitVec 32 := Scalar.subi v2 c7_i32_256
  let c8_i32_257 : BitVec 32 := 8#32
  let v231 : BitVec 32 := Scalar.addi v230 c8_i32_257
  let c8_i32_258 : BitVec 32 := 8#32
  let v232 : BitVec 32 := Scalar.remsi v231 c8_i32_258
  let c1_i32_278 : BitVec 32 := 1#32
  let v245 : BitVec 32 := Scalar.muli v232 c1_i32_278
  let v246 : BitVec 32 := Scalar.addi c0_i32_279 v245
  v246.toNat
def k1_dev28 (d0 : Dev nD) : Nat :=
  let c0_i32_290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_256 : BitVec 32 := 7#32
  let v230 : BitVec 32 := Scalar.subi v2 c7_i32_256
  let c8_i32_257 : BitVec 32 := 8#32
  let v231 : BitVec 32 := Scalar.addi v230 c8_i32_257
  let c8_i32_258 : BitVec 32 := 8#32
  let v232 : BitVec 32 := Scalar.remsi v231 c8_i32_258
  let c1_i32_289 : BitVec 32 := 1#32
  let v254 : BitVec 32 := Scalar.muli v232 c1_i32_289
  let v255 : BitVec 32 := Scalar.addi c0_i32_290 v254
  v255.toNat
def k1_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_294 : BitVec 32 := 256#32
  let v263 : BitVec 32 := Scalar.muli v2 c256_i32_294
  let v264 : Index := Scalar.indexCast v263
  let c0 : Index := 0#32
  ![v264.toNat, 0]
def k1_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_294 : BitVec 32 := 256#32
  let v263 : BitVec 32 := Scalar.muli v2 c256_i32_294
  let v271 : Index := Scalar.indexCast v263
  let c0_297 : Index := 0#32
  ![v271.toNat, 0]
def k1_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_294 : BitVec 32 := 256#32
  let v263 : BitVec 32 := Scalar.muli v2 c256_i32_294
  let v1463 : Index := Scalar.indexCast v263
  let c0_1069 : Index := 0#32
  ![v1463.toNat, 0]
def k1_off6 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k1_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_294 : BitVec 32 := 256#32
  let v263 : BitVec 32 := Scalar.muli v2 c256_i32_294
  let c0_i32_1075 : BitVec 32 := 0#32
  ![v263.toNat, 0]
def k1_dev29 (d0 : Dev nD) : Nat :=
  let c0_i32_1074 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1070 : BitVec 32 := 1#32
  let v1467 : BitVec 32 := Scalar.addi v2 c1_i32_1070
  let c8_i32_1071 : BitVec 32 := 8#32
  let v1468 : BitVec 32 := Scalar.remsi v1467 c8_i32_1071
  let c1_i32_1073 : BitVec 32 := 1#32
  let v1469 : BitVec 32 := Scalar.muli v1468 c1_i32_1073
  let v1470 : BitVec 32 := Scalar.addi c0_i32_1074 v1469
  v1470.toNat
def k1_dev30 (d0 : Dev nD) : Nat :=
  let c0_i32_1081 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1077 : BitVec 32 := 2#32
  let v1477 : BitVec 32 := Scalar.addi v2 c2_i32_1077
  let c8_i32_1078 : BitVec 32 := 8#32
  let v1478 : BitVec 32 := Scalar.remsi v1477 c8_i32_1078
  let c1_i32_1080 : BitVec 32 := 1#32
  let v1479 : BitVec 32 := Scalar.muli v1478 c1_i32_1080
  let v1480 : BitVec 32 := Scalar.addi c0_i32_1081 v1479
  v1480.toNat
def k1_dev31 (d0 : Dev nD) : Nat :=
  let c0_i32_1088 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1084 : BitVec 32 := 3#32
  let v1487 : BitVec 32 := Scalar.addi v2 c3_i32_1084
  let c8_i32_1085 : BitVec 32 := 8#32
  let v1488 : BitVec 32 := Scalar.remsi v1487 c8_i32_1085
  let c1_i32_1087 : BitVec 32 := 1#32
  let v1489 : BitVec 32 := Scalar.muli v1488 c1_i32_1087
  let v1490 : BitVec 32 := Scalar.addi c0_i32_1088 v1489
  v1490.toNat
def k1_dev32 (d0 : Dev nD) : Nat :=
  let c0_i32_1095 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1091 : BitVec 32 := 4#32
  let v1497 : BitVec 32 := Scalar.addi v2 c4_i32_1091
  let c8_i32_1092 : BitVec 32 := 8#32
  let v1498 : BitVec 32 := Scalar.remsi v1497 c8_i32_1092
  let c1_i32_1094 : BitVec 32 := 1#32
  let v1499 : BitVec 32 := Scalar.muli v1498 c1_i32_1094
  let v1500 : BitVec 32 := Scalar.addi c0_i32_1095 v1499
  v1500.toNat
def k1_dev33 (d0 : Dev nD) : Nat :=
  let c0_i32_1102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1098 : BitVec 32 := 5#32
  let v1507 : BitVec 32 := Scalar.addi v2 c5_i32_1098
  let c8_i32_1099 : BitVec 32 := 8#32
  let v1508 : BitVec 32 := Scalar.remsi v1507 c8_i32_1099
  let c1_i32_1101 : BitVec 32 := 1#32
  let v1509 : BitVec 32 := Scalar.muli v1508 c1_i32_1101
  let v1510 : BitVec 32 := Scalar.addi c0_i32_1102 v1509
  v1510.toNat
def k1_dev34 (d0 : Dev nD) : Nat :=
  let c0_i32_1109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1105 : BitVec 32 := 6#32
  let v1517 : BitVec 32 := Scalar.addi v2 c6_i32_1105
  let c8_i32_1106 : BitVec 32 := 8#32
  let v1518 : BitVec 32 := Scalar.remsi v1517 c8_i32_1106
  let c1_i32_1108 : BitVec 32 := 1#32
  let v1519 : BitVec 32 := Scalar.muli v1518 c1_i32_1108
  let v1520 : BitVec 32 := Scalar.addi c0_i32_1109 v1519
  v1520.toNat
def k1_dev35 (d0 : Dev nD) : Nat :=
  let c0_i32_1116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1112 : BitVec 32 := 7#32
  let v1527 : BitVec 32 := Scalar.addi v2 c7_i32_1112
  let c8_i32_1113 : BitVec 32 := 8#32
  let v1528 : BitVec 32 := Scalar.remsi v1527 c8_i32_1113
  let c1_i32_1115 : BitVec 32 := 1#32
  let v1529 : BitVec 32 := Scalar.muli v1528 c1_i32_1115
  let v1530 : BitVec 32 := Scalar.addi c0_i32_1116 v1529
  v1530.toNat
def k1_off8 (d0 : Dev nD) (c1_i32_1119 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1537 : BitVec 32 := Scalar.addi v2 c1_i32_1119
  let c8_i32_1120 : BitVec 32 := 8#32
  let v1538 : BitVec 32 := Scalar.remsi v1537 c8_i32_1120
  ![v1538.toNat]
def k1_off9 (d0 : Dev nD) (c1_i32_1119 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1537 : BitVec 32 := Scalar.addi v2 c1_i32_1119
  let c8_i32_1120 : BitVec 32 := 8#32
  let v1538 : BitVec 32 := Scalar.remsi v1537 c8_i32_1120
  let c256_i32_1121 : BitVec 32 := 256#32
  let v1539 : BitVec 32 := Scalar.muli v1538 c256_i32_1121
  let c0_i32_1125 : BitVec 32 := 0#32
  ![v1539.toNat, 0]
abbrev stage1_0 : Fin 1 → Memref sig .tc .vmem S2112x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2112x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2112x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1024x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x2048x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S1024x1024 : Shape := ⟨2, ![1024, 1024]⟩
abbrev S1x16384x8x128 : Shape := ⟨4, ![1, 16384, 8, 128]⟩
abbrev S1x2048x8x128 : Shape := ⟨4, ![1, 2048, 8, 128]⟩
abbrev S2048 : Shape := ⟨1, ![2048]⟩
abbrev S_ : Shape := ⟨0, ![]⟩
abbrev S2048x1 : Shape := ⟨2, ![2048, 1]⟩
abbrev S16384 : Shape := ⟨1, ![16384]⟩
abbrev S1x16384 : Shape := ⟨2, ![1, 16384]⟩
abbrev S2048x16384 : Shape := ⟨2, ![2048, 16384]⟩
abbrev S1x8x2048x16384 : Shape := ⟨4, ![1, 8, 2048, 16384]⟩
abbrev S1x1x2048x16384 : Shape := ⟨4, ![1, 1, 2048, 16384]⟩
abbrev S1x8x2048 : Shape := ⟨3, ![1, 8, 2048]⟩
abbrev S1x8x2048x1 : Shape := ⟨4, ![1, 8, 2048, 1]⟩
abbrev S1x1x2048x1 : Shape := ⟨4, ![1, 1, 2048, 1]⟩
abbrev S1x8x128x2048 : Shape := ⟨4, ![1, 8, 128, 2048]⟩

abbrev nBuf : Space → Nat
  | .hbm => 123
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1x16384x8x128, .f32⟩
  | .hbm, ⟨3, _⟩ => ⟨S1x16384x8x128, .f32⟩
  | .hbm, ⟨4, _⟩ => ⟨S1024x1024, .f32⟩
  | .hbm, ⟨5, _⟩ => ⟨S1x2048x1024, .f32⟩
  | .hbm, ⟨6, _⟩ => ⟨S1x2048x8x128, .f32⟩
  | .hbm, ⟨7, _⟩ => ⟨S2048, .i32⟩
  | .hbm, ⟨8, _⟩ => ⟨S_, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S2048x1, .i32⟩
  | .hbm, ⟨27, _⟩ => ⟨S16384, .i32⟩
  | .hbm, ⟨28, _⟩ => ⟨S_, .i32⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S16384, .i32⟩
  | .hbm, ⟨37, _⟩ => ⟨S16384, .i32⟩
  | .hbm, ⟨38, _⟩ => ⟨S_, .i32⟩
  | .hbm, ⟨39, _⟩ => ⟨S16384, .i32⟩
  | .hbm, ⟨40, _⟩ => ⟨S16384, .i1⟩
  | .hbm, ⟨41, _⟩ => ⟨S16384, .i1⟩
  | .hbm, ⟨42, _⟩ => ⟨S_, .i32⟩
  | .hbm, ⟨43, _⟩ => ⟨S16384, .i32⟩
  | .hbm, ⟨44, _⟩ => ⟨S16384, .i32⟩
  | .hbm, ⟨45, _⟩ => ⟨S16384, .i32⟩
  | .hbm, ⟨46, _⟩ => ⟨S1x16384, .i32⟩
  | .hbm, ⟨47, _⟩ => ⟨S2048x16384, .i32⟩
  | .hbm, ⟨48, _⟩ => ⟨S2048x16384, .i32⟩
  | .hbm, ⟨49, _⟩ => ⟨S2048x16384, .i1⟩
  | .hbm, ⟨50, _⟩ => ⟨S_, .i32⟩
  | .hbm, ⟨51, _⟩ => ⟨S1x16384, .i32⟩
  | .hbm, ⟨52, _⟩ => ⟨S1x16384, .i1⟩
  | .hbm, ⟨53, _⟩ => ⟨S2048x16384, .i1⟩
  | .hbm, ⟨54, _⟩ => ⟨S2048x16384, .i1⟩
  | .hbm, ⟨55, _⟩ => ⟨S2048x16384, .i32⟩
  | .hbm, ⟨56, _⟩ => ⟨S2048x16384, .i32⟩
  | .hbm, ⟨57, _⟩ => ⟨S2048x16384, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S2048x16384, .i32⟩
  | .hbm, ⟨65, _⟩ => ⟨S2048x16384, .i32⟩
  | .hbm, ⟨66, _⟩ => ⟨S_, .i32⟩
  | .hbm, ⟨67, _⟩ => ⟨S2048x16384, .i32⟩
  | .hbm, ⟨68, _⟩ => ⟨S2048x16384, .i1⟩
  | .hbm, ⟨69, _⟩ => ⟨S_, .i32⟩
  | .hbm, ⟨70, _⟩ => ⟨S2048x16384, .i32⟩
  | .hbm, ⟨71, _⟩ => ⟨S2048x16384, .i1⟩
  | .hbm, ⟨72, _⟩ => ⟨S_, .i32⟩
  | .hbm, ⟨73, _⟩ => ⟨S_, .i1⟩
  | .hbm, ⟨74, _⟩ => ⟨S2048x16384, .i1⟩
  | .hbm, ⟨75, _⟩ => ⟨S2048x16384, .i1⟩
  | .hbm, ⟨76, _⟩ => ⟨S2048x16384, .i1⟩
  | .hbm, ⟨77, _⟩ => ⟨S2048x16384, .i32⟩
  | .hbm, ⟨78, _⟩ => ⟨S2048x16384, .i32⟩
  | .hbm, ⟨79, _⟩ => ⟨S2048x16384, .i32⟩
  | .hbm, ⟨80, _⟩ => ⟨S_, .i32⟩
  | .hbm, ⟨81, _⟩ => ⟨S2048x16384, .i32⟩
  | .hbm, ⟨82, _⟩ => ⟨S2048x16384, .i1⟩
  | .hbm, ⟨83, _⟩ => ⟨S2048x16384, .i1⟩
  | .hbm, ⟨84, _⟩ => ⟨S1x8x2048x16384, .f32⟩
  | .hbm, ⟨85, _⟩ => ⟨S_, .f32⟩
  | .hbm, ⟨86, _⟩ => ⟨S1x8x2048x16384, .f32⟩
  | .hbm, ⟨87, _⟩ => ⟨S1x8x2048x16384, .f32⟩
  | .hbm, ⟨88, _⟩ => ⟨S1x1x2048x16384, .i1⟩
  | .hbm, ⟨89, _⟩ => ⟨S_, .f32⟩
  | .hbm, ⟨90, _⟩ => ⟨S_, .f32⟩
  | .hbm, ⟨91, _⟩ => ⟨S1x8x2048x16384, .i1⟩
  | .hbm, ⟨92, _⟩ => ⟨S1x8x2048x16384, .f32⟩
  | .hbm, ⟨93, _⟩ => ⟨S1x8x2048x16384, .f32⟩
  | .hbm, ⟨94, _⟩ => ⟨S_, .f32⟩
  | .hbm, ⟨95, _⟩ => ⟨S1x8x2048, .f32⟩
  | .hbm, ⟨96, _⟩ => ⟨S1x8x2048x1, .f32⟩
  | .hbm, ⟨97, _⟩ => ⟨S1x8x2048x16384, .f32⟩
  | .hbm, ⟨98, _⟩ => ⟨S1x8x2048x16384, .f32⟩
  | .hbm, ⟨99, _⟩ => ⟨S1x8x2048x16384, .f32⟩
  | .hbm, ⟨100, _⟩ => ⟨S_, .i1⟩
  | .hbm, ⟨101, _⟩ => ⟨S2048, .i1⟩
  | .hbm, ⟨102, _⟩ => ⟨S1x1x2048x1, .i1⟩
  | .hbm, ⟨103, _⟩ => ⟨S_, .f32⟩
  | .hbm, ⟨104, _⟩ => ⟨S1x8x2048, .f32⟩
  | .hbm, ⟨105, _⟩ => ⟨S1x8x2048x1, .f32⟩
  | .hbm, ⟨106, _⟩ => ⟨S_, .f32⟩
  | .hbm, ⟨107, _⟩ => ⟨S_, .f32⟩
  | .hbm, ⟨108, _⟩ => ⟨S1x8x2048x1, .i1⟩
  | .hbm, ⟨109, _⟩ => ⟨S1x8x2048x1, .f32⟩
  | .hbm, ⟨110, _⟩ => ⟨S1x8x2048x1, .f32⟩
  | .hbm, ⟨111, _⟩ => ⟨S1x8x2048x16384, .f32⟩
  | .hbm, ⟨112, _⟩ => ⟨S1x8x2048x16384, .f32⟩
  | .hbm, ⟨113, _⟩ => ⟨S1x1x2048x1, .i1⟩
  | .hbm, ⟨114, _⟩ => ⟨S_, .f32⟩
  | .hbm, ⟨115, _⟩ => ⟨S_, .f32⟩
  | .hbm, ⟨116, _⟩ => ⟨S1x8x2048x16384, .i1⟩
  | .hbm, ⟨117, _⟩ => ⟨S1x8x2048x16384, .f32⟩
  | .hbm, ⟨118, _⟩ => ⟨S1x8x2048x16384, .f32⟩
  | .hbm, ⟨119, _⟩ => ⟨S1x8x128x2048, .f32⟩
  | .hbm, ⟨120, _⟩ => ⟨S1x2048x8x128, .f32⟩
  | .hbm, ⟨121, _⟩ => ⟨S1x2048x1024, .f32⟩
  | .hbm, ⟨122, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Prog.lean ====
/- The ring kernel's body as a program over its phases: the printed body, one operation after another, is this program,
   whose loops run over lists of peers, hops, heads and row blocks. Everything later is proved of the loops. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Rounds

@[expose] public section

noncomputable section

namespace Cert.KernelIdeal.Hand

open Idealize.ShloMosaic Idealize.SL.Sem
open Cert.KernelIdeal.Gen

variable {F : FTy → Type} [FloatOps F]

/-- The programs of the TensorCore. -/
abbrev PG (F : FTy → Type) (α : Type) := Prog (TpuEff nD τ sig (Elt F) Λ₀ .tc) α

/-! ## The buffers -/

abbrev bO : Memref sig .tc .vmem S2112x1024 .bf16 := Memref.whole cc1_stg0_0
abbrev bM : Memref sig .tc .vmem S2112x8 .f32 := Memref.whole cc1_stg1_0
abbrev bL : Memref sig .tc .vmem S2112x8 .f32 := Memref.whole cc1_stg2_0
abbrev bW : Memref sig .tc .vmem S1024x1024 .f32 := Memref.whole cc1_stg3_0
abbrev bOut : Memref sig .tc .vmem S1x2048x1024 .f32 := Memref.whole cc1_stg4_0
abbrev aO : Memref sig .tc .vmem S256x1024 .f32 := Memref.whole cc1_scratch0
abbrev aM : Memref sig .tc .vmem S2x256x8 .f32 := Memref.whole cc1_scratch1
abbrev rO : Memref sig .tc .vmem S7x256x1024 .bf16 := Memref.whole cc1_scratch2
abbrev rM : Memref sig .tc .vmem S7x2x256x8 .f32 := Memref.whole cc1_scratch3
abbrev gB : Memref sig .tc .vmem S2048x1024 .bf16 := Memref.whole cc1_scratch4

/-- The word `1 + d` of a peer's distance. -/
abbrev dw (d : Fin 7) : BitVec 32 := BitVec.ofNat 32 (1 + d.val)

/-! ## The devices as the kernel computes them -/

/-- The peer of the `d`-th signal. -/
def sigDev (c : Dev nD) : Fin 7 → Dev nD :=
  ![⟨k1_dev1 c, k1_dev1_lt c⟩, ⟨k1_dev2 c, k1_dev2_lt c⟩, ⟨k1_dev3 c, k1_dev3_lt c⟩, ⟨k1_dev4 c, k1_dev4_lt c⟩,
    ⟨k1_dev5 c, k1_dev5_lt c⟩, ⟨k1_dev6 c, k1_dev6_lt c⟩, ⟨k1_dev7 c, k1_dev7_lt c⟩]

/-- The peer of the `d`-th exchange of partial sums. -/
def oDev (c : Dev nD) : Fin 7 → Dev nD :=
  ![⟨k1_dev8 c, k1_dev8_lt c⟩, ⟨k1_dev11 c, k1_dev11_lt c⟩, ⟨k1_dev14 c, k1_dev14_lt c⟩, ⟨k1_dev17 c, k1_dev17_lt c⟩,
    ⟨k1_dev20 c, k1_dev20_lt c⟩, ⟨k1_dev23 c, k1_dev23_lt c⟩, ⟨k1_dev26 c, k1_dev26_lt c⟩]

/-- The peer of the `d`-th exchange of maxima. -/
def mDev (c : Dev nD) : Fin 7 → Dev nD :=
  ![⟨k1_dev9 c, k1_dev9_lt c⟩, ⟨k1_dev12 c, k1_dev12_lt c⟩, ⟨k1_dev15 c, k1_dev15_lt c⟩, ⟨k1_dev18 c, k1_dev18_lt c⟩,
    ⟨k1_dev21 c, k1_dev21_lt c⟩, ⟨k1_dev24 c, k1_dev24_lt c⟩, ⟨k1_dev27 c, k1_dev27_lt c⟩]

/-- The peer of the `d`-th exchange of denominators. -/
def lDev (c : Dev nD) : Fin 7 → Dev nD :=
  ![⟨k1_dev10 c, k1_dev10_lt c⟩, ⟨k1_dev13 c, k1_dev13_lt c⟩, ⟨k1_dev16 c, k1_dev16_lt c⟩, ⟨k1_dev19 c, k1_dev19_lt c⟩,
    ⟨k1_dev22 c, k1_dev22_lt c⟩, ⟨k1_dev25 c, k1_dev25_lt c⟩, ⟨k1_dev28 c, k1_dev28_lt c⟩]

/-- The peer of the `d`-th send of the gathered rows. -/
def gDev (c : Dev nD) : Fin 7 → Dev nD :=
  ![⟨k1_dev29 c, k1_dev29_lt c⟩, ⟨k1_dev30 c, k1_dev30_lt c⟩, ⟨k1_dev31 c, k1_dev31_lt c⟩, ⟨k1_dev32 c, k1_dev32_lt c⟩,
    ⟨k1_dev33 c, k1_dev33_lt c⟩, ⟨k1_dev34 c, k1_dev34_lt c⟩, ⟨k1_dev35 c, k1_dev35_lt c⟩]

/-! ## Views -/

theorem inb_sem (k : Fin 3) (d : Fin 8) : ∀ a, (![k.val, d.val] : Fin 2 → ℕ) a + S1x1.size a ≤ S3x8.size a := by
  revert k d; decide

theorem inb_sem8 (d : Fin 8) : ∀ a, (![d.val] : Fin 1 → ℕ) a + S1.size a ≤ S8.size a := by
  revert d; decide

theorem inb_slotO (j : Fin 7) : ∀ a, (![j.val, 0, 0] : Fin 3 → ℕ) a + S1x256x1024.size a ≤ S7x256x1024.size a := by
  revert j; decide

theorem inb_slotM (j : Fin 7) (k : Fin 2) :
    ∀ a, (![j.val, k.val, 0, 0] : Fin 4 → ℕ) a + S1x1x256x8.size a ≤ S7x2x256x8.size a := by
  revert j k; decide

theorem inb_ml (k : Fin 2) : ∀ a, (![k.val, 0, 0] : Fin 3 → ℕ) a + S1x256x8.size a ≤ S2x256x8.size a := by
  revert k; decide

theorem inb_head (h : Fin 8) : ∀ a, (![0, 128 * h.val] : Fin 2 → ℕ) a + S256x128.size a ≤ S256x1024.size a := by
  revert h; decide

theorem slices_col (h : Fin 8) : S256x8.Slices ![0, h.val] S256x1 := by revert h; decide

theorem slices_head (h : Fin 8) : S256x1024.Slices ![0, 128 * h.val] S256x128 := by revert h; decide

theorem words_slotO (j : Fin 7) :
    (Rect.unit (s := S7x256x1024) ![j.val, 0, 0] S1x256x1024.size (inb_slotO j)).WholeWords (EltTy.packing .bf16) := by
  revert j; decide

/-- The block of 64 gathered rows that becomes output block `b`. -/
abbrev srcBlk (b : Fin 32) : ℕ := b.val % 3 * 11 + b.val / 3

theorem inb_src (b : Fin 32) : ∀ a, (![64 * srcBlk b, 0] : Fin 2 → ℕ) a + S64x1024.size a ≤ S2048x1024.size a := by
  revert b; decide

theorem inb_dst (b : Fin 32) : ∀ a, (![0, 64 * b.val, 0] : Fin 3 → ℕ) a + S1x64x1024.size a ≤ S1x2048x1024.size a := by
  revert b; decide

/-- Rows of the partial sums sent at distance `d`. -/
abbrev srcO (c : Dev nD) (d : Fin 7) : Memref sig .tc .vmem S256x1024 .bf16 :=
  bO.slice (Rect.unit (s := S2112x1024) (k1_off1 c (dw d)) S256x1024.size (k1_off1_inb c d)) (fun _ => rfl)
abbrev srcM (c : Dev nD) (d : Fin 7) : Memref sig .tc .vmem S256x8 .f32 :=
  bM.slice (Rect.unit (s := S2112x8) (k1_off2 c (dw d)) S256x8.size (k1_off2_inb c d)) (fun _ => rfl)
abbrev srcL (c : Dev nD) (d : Fin 7) : Memref sig .tc .vmem S256x8 .f32 :=
  bL.slice (Rect.unit (s := S2112x8) (k1_off2 c (dw d)) S256x8.size (k1_off2_inb c d)) (fun _ => rfl)
/-- The slots that a peer at distance `j + 1` fills. -/
abbrev slotO (j : Fin 7) : Memref sig .tc .vmem S256x1024 .bf16 :=
  (rO.slice (Rect.unit (s := S7x256x1024) ![j.val, 0, 0] S1x256x1024.size (inb_slotO j)) (fun _ => rfl)).squeeze
    S256x1024 squeezes_S1x256x1024_S256x1024
abbrev slotML (j : Fin 7) (k : Fin 2) : Memref sig .tc .vmem S256x8 .f32 :=
  (rM.slice (Rect.unit (s := S7x2x256x8) ![j.val, k.val, 0, 0] S1x1x256x8.size (inb_slotM j k)) (fun _ => rfl)).squeeze
    S256x8 squeezes_S1x1x256x8_S256x8
/-- The rows of the gather buffer that a device writes and sends. -/
abbrev gOwn (c : Dev nD) : Memref sig .tc .vmem S256x1024 .bf16 :=
  gB.slice (Rect.unit (s := S2048x1024) (k1_off7 c) S256x1024.size (k1_off7_inb c)) (fun _ => rfl)
/-- The rows of the gather buffer that arrive from distance `d`. -/
abbrev gFrom (c : Dev nD) (d : Fin 7) : Memref sig .tc .vmem S256x1024 .bf16 :=
  gB.slice (Rect.unit (s := S2048x1024) (k1_off9 c (dw d)) S256x1024.size (k1_off9_inb c d)) (fun _ => rfl)

/-- The semaphores of the partial sums' sends and arrivals, by kind and distance or slot. -/
abbrev smS (k : Fin 3) (d : Fin 8) : DmaSem sig :=
  ((cc1_scratch5.slice (Rect.unit (s := S3x8) ![k.val, d.val] S1x1.size (inb_sem k d))).squeeze S_ squeezes_S1x1_S_).sem
abbrev smR (k : Fin 3) (d : Fin 8) : DmaSem sig :=
  ((cc1_scratch6.slice (Rect.unit (s := S3x8) ![k.val, d.val] S1x1.size (inb_sem k d))).squeeze S_ squeezes_S1x1_S_).sem
/-- The semaphores of the gather's sends, by distance. -/
abbrev smG (d : Fin 8) : DmaSem sig :=
  ((cc1_scratch7.slice (Rect.unit (s := S8) ![d.val] S1.size (inb_sem8 d))).squeeze S_ squeezes_S1_S_).sem
/-- The semaphore of the gather's arrivals from the device itself, on its peers. -/
abbrev smH (c : Dev nD) : DmaSem sig :=
  ((cc1_scratch8.slice (Rect.unit (s := S8) (k1_off6 c) S1.size (k1_off6_inb c))).squeeze S_ squeezes_S1_S_).sem
/-- The semaphore of the arrival from distance `d`. -/
abbrev smHf (c : Dev nD) (d : Fin 7) : DmaSem sig :=
  ((cc1_scratch8.slice (Rect.unit (s := S8) (k1_off8 c (dw d)) S1.size (k1_off8_inb c d))).squeeze S_ squeezes_S1_S_).sem

theorem wx_srcO (c : Dev nD) (d : Fin 7) : (srcO c d).view.WordExact :=
  (Memref.isWhole_whole (sig := sig) cc1_stg0_0).wordExact_slice rfl _ (k1_off1_wordsbf16 c d)
theorem wx_slotO (j : Fin 7) : (slotO j).view.WordExact :=
  ((Memref.isWhole_whole (sig := sig) cc1_scratch2).wordExact_slice rfl _ (words_slotO j)).reshape _ _
theorem wx_slotML (j : Fin 7) (k : Fin 2) : (slotML j k).view.WordExact := (View.wordExact_bits rfl).reshape _ _
theorem wx_gOwn (c : Dev nD) : (gOwn c).view.WordExact :=
  (Memref.isWhole_whole (sig := sig) cc1_scratch4).wordExact_slice rfl _ (k1_off7_wordsbf16 c)
theorem wx_gFrom (c : Dev nD) (d : Fin 7) : (gFrom c d).view.WordExact :=
  (Memref.isWhole_whole (sig := sig) cc1_scratch4).wordExact_slice rfl _ (k1_off9_wordsbf16 c d)

/-! ## What the operations compute -/

/-- The new maximum, the two scales, the new denominator of a merge. -/
def mergeM (m0 : Vec F S1x256x8 .f32) (m1 : Vec F S1x1x256x8 .f32) : FVec F S256x8 .f32 :=
  maximumf (shapeCast S256x8 m0 shapeCasts_S1x256x8_S256x8 : FVec F S256x8 .f32)
    (shapeCast S256x8 m1 shapeCasts_S1x1x256x8_S256x8 : FVec F S256x8 .f32)

def scaleA (m0 : Vec F S1x256x8 .f32) (m1 : Vec F S1x1x256x8 .f32) : FVec F S256x8 .f32 :=
  exp (subf (shapeCast S256x8 m0 shapeCasts_S1x256x8_S256x8 : FVec F S256x8 .f32) (mergeM m0 m1))

def scaleR (m0 : Vec F S1x256x8 .f32) (m1 : Vec F S1x1x256x8 .f32) : FVec F S256x8 .f32 :=
  exp (subf (shapeCast S256x8 m1 shapeCasts_S1x1x256x8_S256x8 : FVec F S256x8 .f32) (mergeM m0 m1))

/-- A merged head: the accumulated columns times their scale plus the arrived ones times theirs. -/
def headVal (h : Fin 8) (al ar : FVec F S256x8 .f32) (x : Vec F S256x128 .f32) (y : Vec F S1x256x1024 .bf16) :
    FVec F S256x128 .f32 :=
  shapeCast S256x128
    (addf (mulf x (broadcastTo S256x128 (extractStridedSlice S256x1 ![0, h.val] al (slices_col h)) broadcasts_S256x1_S256x128))
      (mulf (extf .f32 (extractStridedSlice S256x128 ![0, 128 * h.val]
          (shapeCast S256x1024 y shapeCasts_S1x256x1024_S256x1024 : FVec F S256x1024 .bf16) (slices_head h)) bitsLt_bf16_f32)
        (broadcastTo S256x128 (extractStridedSlice S256x1 ![0, h.val] ar (slices_col h)) broadcasts_S256x1_S256x128))
      : FVec F S256x128 .f32) shapeCasts_S256x128_S256x128

def newM (m0 : Vec F S1x256x8 .f32) (m1 : Vec F S1x1x256x8 .f32) : FVec F S1x256x8 .f32 :=
  shapeCast S1x256x8 (mergeM m0 m1) shapeCasts_S256x8_S1x256x8

def newL (m0 : Vec F S1x256x8 .f32) (m1 : Vec F S1x1x256x8 .f32) (l0 : Vec F S1x256x8 .f32) (l1 : Vec F S1x1x256x8 .f32) :
    FVec F S1x256x8 .f32 :=
  shapeCast S1x256x8
    (addf (mulf (shapeCast S256x8 l0 shapeCasts_S1x256x8_S256x8 : FVec F S256x8 .f32) (scaleA m0 m1))
      (mulf (shapeCast S256x8 l1 shapeCasts_S1x1x256x8_S256x8 : FVec F S256x8 .f32) (scaleR m0 m1)) : FVec F S256x8 .f32)
    shapeCasts_S256x8_S1x256x8

/-- A head of the attended values: the accumulated columns over the denominator. -/
def headDiv (h : Fin 8) (l : Vec F S1x256x8 .f32) (x : Vec F S256x128 .f32) : FVec F S256x128 .f32 :=
  divf x (broadcastTo S256x128 (extractStridedSlice S256x1 ![0, h.val]
    (shapeCast S256x8 l shapeCasts_S1x256x8_S256x8 : FVec F S256x8 .f32) (slices_col h)) broadcasts_S256x1_S256x128)

/-- The device's rows of the result: its heads side by side times the output matrix. -/
def finVal (l : Vec F S1x256x8 .f32) (x : Fin 8 → Vec F S256x128 .f32) (w : Vec F S1024x1024 .f32) : FVec F S256x1024 .bf16 :=
  shapeCast S256x1024 (truncf .bf16 (matmul dot_S256x1024_S1024x1024_S256x1024_1_0_0_1_n_n none
    (concatenate S256x1024 1 [⟨S256x128, headDiv 0 l (x 0)⟩, ⟨S256x128, headDiv 1 l (x 1)⟩, ⟨S256x128, headDiv 2 l (x 2)⟩,
      ⟨S256x128, headDiv 3 l (x 3)⟩, ⟨S256x128, headDiv 4 l (x 4)⟩, ⟨S256x128, headDiv 5 l (x 5)⟩,
      ⟨S256x128, headDiv 6 l (x 6)⟩, ⟨S256x128, headDiv 7 l (x 7)⟩]
      concatenates_S256x128_S256x128_S256x128_S256x128_S256x128_S256x128_S256x128_S256x128_S256x1024_d1)
    (shapeCast S1024x1024 w shapeCasts_S1024x1024_S1024x1024 : FVec F S1024x1024 .f32)
    (constant S256x1024 .f32 0x00000000#32)) bitsLt_bf16_f32 : FVec F S256x1024 .bf16) shapeCasts_S256x1024_S256x1024

def outVal (x : Vec F S64x1024 .bf16) : FVec F S1x64x1024 .f32 :=
  shapeCast S1x64x1024 (extf .f32 x bitsLt_bf16_f32 : FVec F S64x1024 .f32) shapeCasts_S64x1024_S1x64x1024

/-! ## The program -/

/-- A step for each entry of a list, in order. -/
def forEach {α : Type} (f : α → PG F PUnit) : List α → PG F PUnit
  | [] => pure ⟨⟩
  | a :: l => f a >>= fun _ => forEach f l

/-- The seven distances less one, or slots. -/
abbrev L7 : List (Fin 7) :=
  [⟨0, by decide⟩, ⟨1, by decide⟩, ⟨2, by decide⟩, ⟨3, by decide⟩, ⟨4, by decide⟩, ⟨5, by decide⟩, ⟨6, by decide⟩]

/-- The eight heads. -/
abbrev L8 : List (Fin 8) :=
  [⟨0, by decide⟩, ⟨1, by decide⟩, ⟨2, by decide⟩, ⟨3, by decide⟩, ⟨4, by decide⟩, ⟨5, by decide⟩, ⟨6, by decide⟩, ⟨7, by decide⟩]

/-- The 32 row blocks of the output. -/
abbrev L32 : List (Fin 32) :=
  [⟨0, by decide⟩, ⟨1, by decide⟩, ⟨2, by decide⟩, ⟨3, by decide⟩, ⟨4, by decide⟩, ⟨5, by decide⟩, ⟨6, by decide⟩, ⟨7, by decide⟩,
   ⟨8, by decide⟩, ⟨9, by decide⟩, ⟨10, by decide⟩, ⟨11, by decide⟩, ⟨12, by decide⟩, ⟨13, by decide⟩, ⟨14, by decide⟩, ⟨15, by decide⟩,
   ⟨16, by decide⟩, ⟨17, by decide⟩, ⟨18, by decide⟩, ⟨19, by decide⟩, ⟨20, by decide⟩, ⟨21, by decide⟩, ⟨22, by decide⟩, ⟨23, by decide⟩,
   ⟨24, by decide⟩, ⟨25, by decide⟩, ⟨26, by decide⟩, ⟨27, by decide⟩, ⟨28, by decide⟩, ⟨29, by decide⟩, ⟨30, by decide⟩, ⟨31, by decide⟩]

/-- The index of a send semaphore: the distance. -/
abbrev up1 (d : Fin 7) : Fin 8 := ⟨d.val + 1, Nat.succ_lt_succ d.isLt⟩
/-- The index of an arrival semaphore: the slot. -/
abbrev lo1 (d : Fin 7) : Fin 8 := ⟨d.val, Nat.lt_succ_of_lt d.isLt⟩

def signal (c : Dev nD) (d : Fin 7) : PG F PUnit :=
  semSignalWord (sigDev c d) (SemArray.scalar (sig.barrier 0 rfl) : Sems sig S_).sem 1#32

def sendChunk (c : Dev nD) (d : Fin 7) : PG F PUnit := do
  Prog.lift (.enqueueDma (srcO c d) (.remote (Dev.tc (oDev c d)) (slotO d) (.dma (smS 0 (up1 d)))) (.dma (smR 0 (lo1 d)))
    (wx_srcO c d) (wx_slotO d) ⟨⟨rfl, Or.inl rfl⟩, trivial⟩)
  Prog.lift (.enqueueDma (srcM c d) (.remote (Dev.tc (mDev c d)) (slotML d 0) (.dma (smS 1 (up1 d)))) (.dma (smR 1 (lo1 d)))
    (View.wordExact_bits rfl) (wx_slotML d 0) ⟨⟨rfl, Or.inl rfl⟩, trivial⟩)
  Prog.lift (.enqueueDma (srcL c d) (.remote (Dev.tc (lDev c d)) (slotML d 1) (.dma (smS 2 (up1 d)))) (.dma (smR 2 (lo1 d)))
    (View.wordExact_bits rfl) (wx_slotML d 1) ⟨⟨rfl, Or.inl rfl⟩, trivial⟩)

def ownChunk (c : Dev nD) : PG F PUnit := do
  let x ← Prog.lift (.load bO (Rect.unit (s := S2112x1024) (k1_off3 c) S256x1024.size (k1_off3_inb c)).toLoadRect (View.loadsAt_vmem h_S256x1024))
  let _ ← Prog.lift (.load aO (Rect.unit (s := S256x1024) ![0, 0] S256x1024.size inb_S256x1024_S256x1024_0_0).toLoadRect (View.loadsAt_vmem h_S256x1024))
  Prog.lift (.store aO (Rect.unit (s := S256x1024) ![0, 0] S256x1024.size inb_S256x1024_S256x1024_0_0) (k1_pay1 x) Finset.univ (View.stores_vmem_bits_univ h_S256x1024 rfl) (.inl rfl))
  let m ← Prog.lift (.load bM (Rect.unit (s := S2112x8) (k1_off4 c) S256x8.size (k1_off4_inb c)).toLoadRect (View.loadsAt_vmem h_S256x8))
  let _ ← Prog.lift (.load aM (Rect.unit (s := S2x256x8) ![(0 : Fin 2).val, 0, 0] S1x256x8.size (inb_ml 0)).toLoadRect (View.loadsAt_vmem h_S1x256x8))
  Prog.lift (.store aM (Rect.unit (s := S2x256x8) ![(0 : Fin 2).val, 0, 0] S1x256x8.size (inb_ml 0)) (k1_pay2 m) Finset.univ (View.stores_vmem_bits_univ h_S1x256x8 rfl) (.inl rfl))
  let l ← Prog.lift (.load bL (Rect.unit (s := S2112x8) (k1_off4 c) S256x8.size (k1_off4_inb c)).toLoadRect (View.loadsAt_vmem h_S256x8))
  let _ ← Prog.lift (.load aM (Rect.unit (s := S2x256x8) ![(1 : Fin 2).val, 0, 0] S1x256x8.size (inb_ml 1)).toLoadRect (View.loadsAt_vmem h_S1x256x8))
  Prog.lift (.store aM (Rect.unit (s := S2x256x8) ![(1 : Fin 2).val, 0, 0] S1x256x8.size (inb_ml 1)) (k1_pay2 l) Finset.univ (View.stores_vmem_bits_univ h_S1x256x8 rfl) (.inl rfl))

/-- A head of a hop. -/
def head (j : Fin 7) (al ar : FVec F S256x8 .f32) (h : Fin 8) : PG F PUnit := do
  let x ← Prog.lift (.load aO (Rect.unit (s := S256x1024) ![0, 128 * h.val] S256x128.size (inb_head h)).toLoadRect (View.loadsAt_vmem h_S256x128))
  let y ← Prog.lift (.load rO (Rect.unit (s := S7x256x1024) ![j.val, 0, 0] S1x256x1024.size (inb_slotO j)).toLoadRect (View.loadsAt_vmem h_S1x256x1024))
  let _ ← Prog.lift (.load aO (Rect.unit (s := S256x1024) ![0, 128 * h.val] S256x128.size (inb_head h)).toLoadRect (View.loadsAt_vmem h_S256x128))
  Prog.lift (.store aO (Rect.unit (s := S256x1024) ![0, 128 * h.val] S256x128.size (inb_head h)) (headVal h al ar x y) Finset.univ (View.stores_vmem_bits_univ h_S256x128 rfl) (.inl rfl))

/-- The hop's waits. -/
def hopWait (c : Dev nD) (j : Fin 7) : PG F PUnit := do
  Prog.lift (.waitDma2 (smR 0 (lo1 j)) (srcO c j) (slotO j) (wx_srcO c j) (wx_slotO j))
  Prog.lift (.waitDma2 (smR 1 (lo1 j)) (srcM c j) (slotML j 0) (View.wordExact_bits rfl) (wx_slotML j 0))
  Prog.lift (.waitDma2 (smR 2 (lo1 j)) (srcL c j) (slotML j 1) (View.wordExact_bits rfl) (wx_slotML j 1))

/-- A hop's merge. -/
def hopMerge (j : Fin 7) : PG F PUnit := do
  let m0 ← Prog.lift (.load aM (Rect.unit (s := S2x256x8) ![(0 : Fin 2).val, 0, 0] S1x256x8.size (inb_ml 0)).toLoadRect (View.loadsAt_vmem h_S1x256x8))
  let l0 ← Prog.lift (.load aM (Rect.unit (s := S2x256x8) ![(1 : Fin 2).val, 0, 0] S1x256x8.size (inb_ml 1)).toLoadRect (View.loadsAt_vmem h_S1x256x8))
  let m1 ← Prog.lift (.load rM (Rect.unit (s := S7x2x256x8) ![j.val, (0 : Fin 2).val, 0, 0] S1x1x256x8.size (inb_slotM j 0)).toLoadRect (View.loadsAt_vmem h_S1x1x256x8))
  let l1 ← Prog.lift (.load rM (Rect.unit (s := S7x2x256x8) ![j.val, (1 : Fin 2).val, 0, 0] S1x1x256x8.size (inb_slotM j 1)).toLoadRect (View.loadsAt_vmem h_S1x1x256x8))
  forEach (head j (scaleA m0 m1) (scaleR m0 m1)) L8
  let _ ← Prog.lift (.load aM (Rect.unit (s := S2x256x8) ![(0 : Fin 2).val, 0, 0] S1x256x8.size (inb_ml 0)).toLoadRect (View.loadsAt_vmem h_S1x256x8))
  Prog.lift (.store aM (Rect.unit (s := S2x256x8) ![(0 : Fin 2).val, 0, 0] S1x256x8.size (inb_ml 0)) (newM m0 m1) Finset.univ (View.stores_vmem_bits_univ h_S1x256x8 rfl) (.inl rfl))
  let _ ← Prog.lift (.load aM (Rect.unit (s := S2x256x8) ![(1 : Fin 2).val, 0, 0] S1x256x8.size (inb_ml 1)).toLoadRect (View.loadsAt_vmem h_S1x256x8))
  Prog.lift (.store aM (Rect.unit (s := S2x256x8) ![(1 : Fin 2).val, 0, 0] S1x256x8.size (inb_ml 1)) (newL m0 m1 l0 l1) Finset.univ (View.stores_vmem_bits_univ h_S1x256x8 rfl) (.inl rfl))

def hop (c : Dev nD) (j : Fin 7) : PG F PUnit := do
  hopWait c j
  hopMerge j

def loadHead (h : Fin 8) : PG F (Vec F S256x128 .f32) :=
  Prog.lift (.load aO (Rect.unit (s := S256x1024) ![0, 128 * h.val] S256x128.size (inb_head h)).toLoadRect (View.loadsAt_vmem h_S256x128))

def finish (c : Dev nD) : PG F PUnit := do
  let l ← Prog.lift (.load aM (Rect.unit (s := S2x256x8) ![(1 : Fin 2).val, 0, 0] S1x256x8.size (inb_ml 1)).toLoadRect (View.loadsAt_vmem h_S1x256x8))
  let x0 ← loadHead ⟨0, by decide⟩
  let x1 ← loadHead ⟨1, by decide⟩
  let x2 ← loadHead ⟨2, by decide⟩
  let x3 ← loadHead ⟨3, by decide⟩
  let x4 ← loadHead ⟨4, by decide⟩
  let x5 ← loadHead ⟨5, by decide⟩
  let x6 ← loadHead ⟨6, by decide⟩
  let x7 ← loadHead ⟨7, by decide⟩
  let w ← Prog.lift (.load bW (Rect.unit (s := S1024x1024) ![0, 0] S1024x1024.size inb_S1024x1024_S1024x1024_0_0).toLoadRect (View.loadsAt_vmem h_S1024x1024))
  let _ ← Prog.lift (.load gB (Rect.unit (s := S2048x1024) (k1_off5 c) S256x1024.size (k1_off5_inb c)).toLoadRect (View.loadsAt_vmem h_S256x1024))
  Prog.lift (.store gB (Rect.unit (s := S2048x1024) (k1_off5 c) S256x1024.size (k1_off5_inb c)) (finVal l ![x0, x1, x2, x3, x4, x5, x6, x7] w) Finset.univ
    (View.stores_vmem h_S256x1024 ((Memref.isWhole_whole (sig := sig) cc1_scratch4).storeExact_slice rfl _ (k1_off5_packedbf16 c)) (fun _ => rfl)) (.inl rfl))

def gSend (c : Dev nD) (d : Fin 7) : PG F PUnit :=
  Prog.lift (.enqueueDma (gOwn c) (.remote (Dev.tc (gDev c d)) (gOwn c) (.dma (smG (up1 d)))) (.dma (smH c))
    (wx_gOwn c) (wx_gOwn c) ⟨⟨rfl, Or.inl rfl⟩, trivial⟩)

def gWait (c : Dev nD) (d : Fin 7) : PG F PUnit :=
  Prog.lift (.waitDma2 (smHf c d) (gFrom c d) (gFrom c d) (wx_gFrom c d) (wx_gFrom c d))

def outBlk (b : Fin 32) : PG F PUnit := do
  let x ← Prog.lift (.load gB (Rect.unit (s := S2048x1024) ![64 * srcBlk b, 0] S64x1024.size (inb_src b)).toLoadRect (View.loadsAt_vmem h_S64x1024))
  let _ ← Prog.lift (.load bOut (Rect.unit (s := S1x2048x1024) ![0, 64 * b.val, 0] S1x64x1024.size (inb_dst b)).toLoadRect (View.loadsAt_vmem h_S1x64x1024))
  Prog.lift (.store bOut (Rect.unit (s := S1x2048x1024) ![0, 64 * b.val, 0] S1x64x1024.size (inb_dst b)) (outVal x) Finset.univ (View.stores_vmem_bits_univ h_S1x64x1024 rfl) (.inl rfl))

def sendWait (c : Dev nD) (d : Fin 7) : PG F PUnit := do
  Prog.lift (.waitDma2 (smS 0 (up1 d)) (slotO d) (srcO c d) (wx_slotO d) (wx_srcO c d))
  Prog.lift (.waitDma2 (smS 1 (up1 d)) (slotML d 0) (srcM c d) (wx_slotML d 0) (View.wordExact_bits rfl))
  Prog.lift (.waitDma2 (smS 2 (up1 d)) (slotML d 1) (srcL c d) (wx_slotML d 1) (View.wordExact_bits rfl))

def gSendWait (c : Dev nD) (d : Fin 7) : PG F PUnit :=
  Prog.lift (.waitDma2 (smG (up1 d)) (gOwn c) (gOwn c) (wx_gOwn c) (wx_gOwn c))

/-- The body on device `c`. -/
def phases (c : Dev nD) : PG F PUnit := do
  forEach (signal c) L7
  semWaitWord (SemArray.scalar (sig.barrier 0 rfl) : Sems sig S_).sem 7#32
  forEach (sendChunk c) L7
  ownChunk c
  forEach (hop c) L7
  finish c
  forEach (gSend c) L7
  forEach (gWait c) L7
  forEach outBlk L32
  forEach (sendWait c) L7
  forEach (gSendWait c) L7

/-- The body: read the device, then its phases. -/
def structured : PG F PUnit := do
  let c ← Prog.lift .deviceId
  phases c

universe v in
theorem op_congr {E : Type → Type v} {α β : Type} (e : E β) (k k' : β → Prog E α) (h : ∀ x, k x = k' x) :
    Prog.op e k = Prog.op e k' := congrArg (Prog.op e) (funext h)

end Cert.KernelIdeal.Hand

end
-- ==== Proof.AProg.lean ====
/- The body of the attention call: what it computes of the blocks it loads, and the same operations as the printed body, as
   loops over the blocks of rows and of keys. -/
module

public import proofs.«01_k».proof.Proof.Prog

@[expose] public section

noncomputable section

namespace Cert.KernelIdeal.Att

open Idealize.ShloMosaic Idealize.ShloMosaic.TcCoe Idealize.SL.Sem
open Cert.KernelIdeal.Gen Cert.KernelIdeal.Hand

variable {F : FTy → Type} [FloatOps F] [Named F]

/-! ## Values -/

/-- The queries of a class of rows. -/
def qV (x : Vec F S704x1024 .f32) (w : Vec F S1024x128 .f32) : FVec F S704x128 .f32 :=
  matmul dot_S704x1024_S1024x128_S704x128_1_0_0_1_n_n none x (shapeCast S1024x128 w shapeCasts_S1024x128_S1024x128 : FVec F S1024x128 .f32)
    (constant S704x128 .f32 0x00000000#32)

/-- The device's place on the mesh axis as a word; whether it is the first. -/
def posW (c : Dev nD) : BitVec 32 := Scalar.remsi (Scalar.divsi (Dev.word c) 1#32) 8#32
def firstW (c : Dev nD) : BitVec 1 := Scalar.cmpi .eq (posW c) 0#32

/-- The word of a class: `-r` modulo three. -/
def clsW : Fin 3 → BitVec 32 := ![0#32, 2#32, 1#32]
def clsI : Fin 3 → Fin 3 := ![0, 2, 1]

/-- The first allowed block of keys, and how many of the gathered keys are allowed. -/
def b0W (c : Dev nD) (r : Fin 3) : BitVec 32 :=
  Scalar.remsi (Scalar.addi (Scalar.subi (clsW r) (Scalar.muli 2#32 (posW c))) 48#32) 3#32
def nvW (c : Dev nD) (r : Fin 3) : BitVec 32 := Scalar.select (Scalar.cmpi .eq (b0W c r) 2#32) 640#32 704#32

def scale : F .f32 := Scalar.ofBits .f32 0x3DB504F3#32
def mask : F .f32 := Named.named κ "mask" 0xCE6E6B28#32

/-- The scores against the gathered keys. -/
def sV (q : FVec F S704x128 .f32) (kc : Vec F S704x128 .f32) (nv : BitVec 32) : FVec F S704x704 .f32 :=
  select (broadcastTo S704x704 (shapeCast S1x704 (cmpi .slt (iota .tc S1x704 32 [1] iota_S1x704_d1_w32) (broadcast S1x704 nv) : IVec S1x704 1)
      shapeCasts_S1x704_S1x704 : IVec S1x704 1) broadcasts_S1x704_S704x704 : IVec S704x704 1)
    (mulf (matmul dot_S704x128_S704x128_S704x704_1_1_0_0_n_n none q kc (constant S704x704 .f32 0x00000000#32)) (broadcast S704x704 scale))
    (broadcast S704x704 mask)

/-- The scores against the first block of keys. -/
def s0V (f : BitVec 1) (q : FVec F S704x128 .f32) (k0 : Vec F S64x128 .f32) : FVec F S704x64 .f32 :=
  Scalar.select f (mulf (matmul dot_S704x128_S64x128_S704x64_1_1_0_0_n_n none q (shapeCast S64x128 k0 shapeCasts_S64x128_S64x128 : FVec F S64x128 .f32)
    (constant S704x64 .f32 0x00000000#32)) (broadcast S704x64 scale)) (broadcast S704x64 mask)

/-- Eleven blocks stacked. -/
def stack (b : Fin 11 → Vec F S64x128 .f32) : FVec F S11x64x128 .f32 :=
  let g (j : Fin 11) : FVec F S1x64x128 .f32 :=
    shapeCast S1x64x128 (shapeCast S64x128 (b j) shapeCasts_S64x128_S64x128 : FVec F S64x128 .f32) shapeCasts_S64x128_S1x64x128
  concatenate S11x64x128 0 [⟨S1x64x128, g 0⟩, ⟨S1x64x128, g 1⟩, ⟨S1x64x128, g 2⟩, ⟨S1x64x128, g 3⟩, ⟨S1x64x128, g 4⟩, ⟨S1x64x128, g 5⟩,
    ⟨S1x64x128, g 6⟩, ⟨S1x64x128, g 7⟩, ⟨S1x64x128, g 8⟩, ⟨S1x64x128, g 9⟩, ⟨S1x64x128, g 10⟩]
    concatenates_S1x64x128_S1x64x128_S1x64x128_S1x64x128_S1x64x128_S1x64x128_S1x64x128_S1x64x128_S1x64x128_S1x64x128_S1x64x128_S11x64x128_d0

/-- The scores against each row block's own block of keys. -/
def sdV (f : BitVec 1) (q : FVec F S704x128 .f32) (kd : Fin 11 → Vec F S64x128 .f32) : FVec F S704x64 .f32 :=
  shapeCast S704x64 (Scalar.select f
    (mulf (matmul dot_S11x64x128_S11x64x128_S11x64x64_2_2_1_1_0_0 none (shapeCast S11x64x128 q shapeCasts_S704x128_S11x64x128 : FVec F S11x64x128 .f32) (stack kd)
      (constant S11x64x64 .f32 0x00000000#32)) (broadcast S11x64x64 scale)) (broadcast S11x64x64 mask) : FVec F S11x64x64 .f32) shapeCasts_S11x64x64_S704x64

/-- The largest of each row, as a column; the sum of each row, as a column; the exponentials of rows less a column. -/
def max704 (s : FVec F S704x704 .f32) : FVec F S704x1 .f32 :=
  shapeCast S704x1 (multiReduction .maximumf [1] S704 s 0xFF800000#32 reduces_S704x704_S704 (.inl rfl) rfl : FVec F S704 .f32) shapeCasts_S704_S704x1
def max64 (s : FVec F S704x64 .f32) : FVec F S704x1 .f32 :=
  shapeCast S704x1 (multiReduction .maximumf [1] S704 s 0xFF800000#32 reduces_S704x64_S704 (.inl rfl) rfl : FVec F S704 .f32) shapeCasts_S704_S704x1
def sum704 (s : FVec F S704x704 .f32) : FVec F S704x1 .f32 :=
  shapeCast S704x1 (multiReduction .add [1] S704 s 0x00000000#32 reduces_S704x704_S704 (.inl rfl) rfl : FVec F S704 .f32) shapeCasts_S704_S704x1
def sum64 (s : FVec F S704x64 .f32) : FVec F S704x1 .f32 :=
  shapeCast S704x1 (multiReduction .add [1] S704 s 0x00000000#32 reduces_S704x64_S704 (.inl rfl) rfl : FVec F S704 .f32) shapeCasts_S704_S704x1
def exp704 (s : FVec F S704x704 .f32) (m : FVec F S704x1 .f32) : FVec F S704x704 .f32 :=
  exp (subf s (broadcastTo S704x704 m broadcasts_S704x1_S704x704 : FVec F S704x704 .f32))
def exp64 (s : FVec F S704x64 .f32) (m : FVec F S704x1 .f32) : FVec F S704x64 .f32 :=
  exp (subf s (broadcastTo S704x64 m broadcasts_S704x1_S704x64 : FVec F S704x64 .f32))

/-- The weighted values of the gathered keys; of the first block; of the own blocks. -/
def oMain (w : FVec F S704x704 .f32) (vc : Vec F S704x128 .f32) : FVec F S704x128 .f32 :=
  matmul dot_S704x704_S704x128_S704x128_1_0_0_1_n_n none w vc (constant S704x128 .f32 0x00000000#32)
def oFirst (w : FVec F S704x64 .f32) (v0 : Vec F S64x128 .f32) : FVec F S704x128 .f32 :=
  matmul dot_S704x64_S64x128_S704x128_1_0_0_1_n_n none w (shapeCast S64x128 v0 shapeCasts_S64x128_S64x128 : FVec F S64x128 .f32) (constant S704x128 .f32 0x00000000#32)
def oOwn (w : FVec F S704x64 .f32) (vd : Fin 11 → Vec F S64x128 .f32) : FVec F S704x128 .f32 :=
  shapeCast S704x128 (matmul dot_S11x64x64_S11x64x128_S11x64x128_2_1_1_2_0_0 none (shapeCast S11x64x64 w shapeCasts_S704x64_S11x64x64 : FVec F S11x64x64 .f32) (stack vd)
    (constant S11x64x128 .f32 0x00000000#32) : FVec F S11x64x128 .f32) shapeCasts_S11x64x128_S704x128

/-- What the first class stores. -/
def m0 (q : FVec F S704x128 .f32) (kc : Vec F S704x128 .f32) (nv : BitVec 32) : FVec F S704x1 .f32 := max704 (sV q kc nv)
def w0 (q : FVec F S704x128 .f32) (kc : Vec F S704x128 .f32) (nv : BitVec 32) : FVec F S704x704 .f32 := exp704 (sV q kc nv) (m0 q kc nv)
def l0 (q : FVec F S704x128 .f32) (kc : Vec F S704x128 .f32) (nv : BitVec 32) : FVec F S704x1 .f32 := sum704 (w0 q kc nv)
def o0 (q : FVec F S704x128 .f32) (kc : Vec F S704x128 .f32) (nv : BitVec 32) (vc : Vec F S704x128 .f32) : FVec F S704x128 .bf16 :=
  truncf .bf16 (oMain (w0 q kc nv) vc) bitsLt_bf16_f32

/-- What the other classes store. -/
def m1 (f : BitVec 1) (q : FVec F S704x128 .f32) (kc : Vec F S704x128 .f32) (nv : BitVec 32) (k0 : Vec F S64x128 .f32) (kd : Fin 11 → Vec F S64x128 .f32) : FVec F S704x1 .f32 :=
  maximumf (max704 (sV q kc nv)) (maximumf (max64 (s0V f q k0)) (max64 (sdV f q kd)))
def l1 (f : BitVec 1) (q : FVec F S704x128 .f32) (kc : Vec F S704x128 .f32) (nv : BitVec 32) (k0 : Vec F S64x128 .f32) (kd : Fin 11 → Vec F S64x128 .f32) : FVec F S704x1 .f32 :=
  addf (addf (sum704 (exp704 (sV q kc nv) (m1 f q kc nv k0 kd))) (sum64 (exp64 (s0V f q k0) (m1 f q kc nv k0 kd))))
    (sum64 (exp64 (sdV f q kd) (m1 f q kc nv k0 kd)))
def o1 (f : BitVec 1) (q : FVec F S704x128 .f32) (kc : Vec F S704x128 .f32) (nv : BitVec 32) (k0 : Vec F S64x128 .f32) (kd : Fin 11 → Vec F S64x128 .f32)
    (vc : Vec F S704x128 .f32) (v0 : Vec F S64x128 .f32) (vd : Fin 11 → Vec F S64x128 .f32) : FVec F S704x128 .bf16 :=
  truncf .bf16 (addf (addf (oMain (exp704 (sV q kc nv) (m1 f q kc nv k0 kd)) vc) (oFirst (exp64 (s0V f q k0) (m1 f q kc nv k0 kd)) v0))
    (oOwn (exp64 (sdV f q kd) (m1 f q kc nv k0 kd)) vd)) bitsLt_bf16_f32

/-- A column in the head's lane, the other lanes as they were. -/
def laneV (h : BitVec 32) (x : FVec F S704x1 .f32) (y : Vec F S704x8 .f32) : FVec F S704x8 .f32 :=
  select (cmpi .eq (iota .tc S704x8 32 [1] iota_S704x8_d1_w32) (broadcast S704x8 h) : IVec S704x8 1)
    (broadcastTo S704x8 (shapeCast S704x1 x shapeCasts_S704x1_S704x1 : FVec F S704x1 .f32) broadcasts_S704x1_S704x8 : FVec F S704x8 .f32)
    (shapeCast S704x8 y shapeCasts_S704x8_S704x8 : FVec F S704x8 .f32)

def rowsV (x : Vec F S1x64x1024 .f32) : FVec F S64x1024 .f32 :=
  shapeCast S64x1024 (shapeCast S64x1024 x shapeCasts_S1x64x1024_S64x1024 : FVec F S64x1024 .f32) shapeCasts_S64x1024_S64x1024
def blkV (x : Vec F S64x128 .f32) : FVec F S64x128 .f32 :=
  shapeCast S64x128 (shapeCast S64x128 x shapeCasts_S64x128_S64x128 : FVec F S64x128 .f32) shapeCasts_S64x128_S64x128

/-! ## Places -/

/-- The block of the queries' rows at a position. -/
abbrev qBlk (p : Fin 33) : ℕ := min (p.val / 11 + 3 * (p.val % 11)) 31
/-- The block of keys of a class's own rows. -/
abbrev dBlk (r : Fin 3) (j : Fin 11) : ℕ := min (r.val + 3 * j.val) 31

theorem inb_qsrc (p : Fin 33) : ∀ a, (![0, 64 * qBlk p, 0] : Fin 3 → ℕ) a + S1x64x1024.size a ≤ S1x2048x1024.size a := by
  revert p; decide
theorem inb_qdst (p : Fin 33) : ∀ a, (![64 * p.val, 0] : Fin 2 → ℕ) a + S64x1024.size a ≤ S2112x1024.size a := by
  revert p; decide
theorem inb_seg (r : Fin 3) : ∀ a, (![704 * r.val, 0] : Fin 2 → ℕ) a + S704x1024.size a ≤ S2112x1024.size a := by
  revert r; decide
theorem inb_segO (r : Fin 3) : ∀ a, (![704 * r.val, 0] : Fin 2 → ℕ) a + S704x128.size a ≤ S2112x128.size a := by
  revert r; decide
theorem inb_segM (r : Fin 3) : ∀ a, (![704 * r.val, 0] : Fin 2 → ℕ) a + S704x8.size a ≤ S2112x8.size a := by
  revert r; decide
theorem inb_kc (j : Fin 11) : ∀ a, (![64 * j.val, 0] : Fin 2 → ℕ) a + S64x128.size a ≤ S704x128.size a := by
  revert j; decide
theorem inb_kd (r : Fin 3) (j : Fin 11) : ∀ a, (![64 * dBlk r j, 0] : Fin 2 → ℕ) a + S64x128.size a ≤ S2048x128.size a := by
  revert r j; decide

abbrev rQsrc (p : Fin 33) : Rect S1x2048x1024 := Rect.unit (s := S1x2048x1024) ![0, 64 * qBlk p, 0] S1x64x1024.size (inb_qsrc p)
abbrev rQdst (p : Fin 33) : Rect S2112x1024 := Rect.unit (s := S2112x1024) ![64 * p.val, 0] S64x1024.size (inb_qdst p)
abbrev rSeg (r : Fin 3) : Rect S2112x1024 := Rect.unit (s := S2112x1024) ![704 * r.val, 0] S704x1024.size (inb_seg r)
abbrev rSegO (r : Fin 3) : Rect S2112x128 := Rect.unit (s := S2112x128) ![704 * r.val, 0] S704x128.size (inb_segO r)
abbrev rSegM (r : Fin 3) : Rect S2112x8 := Rect.unit (s := S2112x8) ![704 * r.val, 0] S704x8.size (inb_segM r)
abbrev rKc (j : Fin 11) : Rect S704x128 := Rect.unit (s := S704x128) ![64 * j.val, 0] S64x128.size (inb_kc j)
abbrev rKd (r : Fin 3) (j : Fin 11) : Rect S2048x128 := Rect.unit (s := S2048x128) ![64 * dBlk r j, 0] S64x128.size (inb_kd r j)
abbrev rK0 : Rect S2048x128 := Rect.unit (s := S2048x128) ![0, 0] S64x128.size inb_S2048x128_S64x128_0_0
abbrev rKg (c : Dev nD) (r : Fin 3) (j : Fin 11) : Rect S2048x128 :=
  Rect.unit (s := S2048x128) (k0_off1 c (BitVec.ofNat 32 (clsI r).val) (BitVec.ofNat 32 (192 * j.val))) S64x128.size (k0_off1_inb c (clsI r) j)
abbrev rAllK : Rect S704x128 := Rect.unit (s := S704x128) ![0, 0] S704x128.size inb_S704x128_S704x128_0_0
abbrev rAllW : Rect S1024x128 := Rect.unit (s := S1024x128) ![0, 0] S1024x128.size inb_S1024x128_S1024x128_0_0

abbrev L11 : List (Fin 11) :=
  [⟨0, by decide⟩, ⟨1, by decide⟩, ⟨2, by decide⟩, ⟨3, by decide⟩, ⟨4, by decide⟩, ⟨5, by decide⟩, ⟨6, by decide⟩, ⟨7, by decide⟩,
   ⟨8, by decide⟩, ⟨9, by decide⟩, ⟨10, by decide⟩]
abbrev L33 : List (Fin 33) :=
  [⟨0, by decide⟩, ⟨1, by decide⟩, ⟨2, by decide⟩, ⟨3, by decide⟩, ⟨4, by decide⟩, ⟨5, by decide⟩, ⟨6, by decide⟩, ⟨7, by decide⟩,
   ⟨8, by decide⟩, ⟨9, by decide⟩, ⟨10, by decide⟩, ⟨11, by decide⟩, ⟨12, by decide⟩, ⟨13, by decide⟩, ⟨14, by decide⟩, ⟨15, by decide⟩,
   ⟨16, by decide⟩, ⟨17, by decide⟩, ⟨18, by decide⟩, ⟨19, by decide⟩, ⟨20, by decide⟩, ⟨21, by decide⟩, ⟨22, by decide⟩, ⟨23, by decide⟩,
   ⟨24, by decide⟩, ⟨25, by decide⟩, ⟨26, by decide⟩, ⟨27, by decide⟩, ⟨28, by decide⟩, ⟨29, by decide⟩, ⟨30, by decide⟩, ⟨31, by decide⟩,
   ⟨32, by decide⟩]

/-! ## The program -/

section
variable (arg1 : Memref sig .tc .vmem S1x2048x1024 .f32) (arg2 : Memref sig .tc .vmem S1024x128 .f32)
  (arg3 arg4 : Memref sig .tc .vmem S2048x128 .f32) (arg5 : Memref sig .tc .vmem S2112x128 .bf16) (harg5 : arg5.IsWhole)
  (arg6 arg7 : Memref sig .tc .vmem S2112x8 .f32) (arg8 arg9 : Memref sig .tc .vmem S704x128 .f32)
  (arg10 : Memref sig .tc .vmem S2112x1024 .f32)

/-- A block of rows to its place among the regrouped rows. -/
def fillX (p : Fin 33) : PG F PUnit := do
  let x ← Prog.lift (.load arg1 (rQsrc p).toLoadRect (View.loadsAt_vmem h_S1x64x1024))
  let _ ← Prog.lift (.load arg10 (rQdst p).toLoadRect (View.loadsAt_vmem h_S64x1024))
  Prog.lift (.store arg10 (rQdst p) (rowsV x) Finset.univ (View.stores_vmem_bits_univ h_S64x1024 rfl) (.inl rfl))

def loadQ (r : Fin 3) : PG F (FVec F S704x128 .f32) := do
  let x ← Prog.lift (.load arg10 (rSeg r).toLoadRect (View.loadsAt_vmem h_S704x1024))
  let w ← Prog.lift (.load arg2 rAllW.toLoadRect (View.loadsAt_vmem h_S1024x128))
  pure (qV x w)

/-- A gathered block of keys, or of values. -/
def fillB (a : Memref sig .tc .vmem S2048x128 .f32) (b : Memref sig .tc .vmem S704x128 .f32) (c : Dev nD) (r : Fin 3) (j : Fin 11) : PG F PUnit := do
  let x ← Prog.lift (.load a (rKg c r j).toLoadRect (View.loadsAt_vmem h_S64x128))
  let _ ← Prog.lift (.load b (rKc j).toLoadRect (View.loadsAt_vmem h_S64x128))
  Prog.lift (.store b (rKc j) (blkV x) Finset.univ (View.stores_vmem_bits_univ h_S64x128 rfl) (.inl rfl))

def fillKV (c : Dev nD) (r : Fin 3) (j : Fin 11) : PG F PUnit := do
  fillB arg3 arg8 c r j
  fillB arg4 arg9 c r j

def ldOwn (a : Memref sig .tc .vmem S2048x128 .f32) (r : Fin 3) : PG F (Fin 11 → Vec F S64x128 .f32) := do
  let x0 ← Prog.lift (.load a (rKd r 0).toLoadRect (View.loadsAt_vmem h_S64x128))
  let x1 ← Prog.lift (.load a (rKd r 1).toLoadRect (View.loadsAt_vmem h_S64x128))
  let x2 ← Prog.lift (.load a (rKd r 2).toLoadRect (View.loadsAt_vmem h_S64x128))
  let x3 ← Prog.lift (.load a (rKd r 3).toLoadRect (View.loadsAt_vmem h_S64x128))
  let x4 ← Prog.lift (.load a (rKd r 4).toLoadRect (View.loadsAt_vmem h_S64x128))
  let x5 ← Prog.lift (.load a (rKd r 5).toLoadRect (View.loadsAt_vmem h_S64x128))
  let x6 ← Prog.lift (.load a (rKd r 6).toLoadRect (View.loadsAt_vmem h_S64x128))
  let x7 ← Prog.lift (.load a (rKd r 7).toLoadRect (View.loadsAt_vmem h_S64x128))
  let x8 ← Prog.lift (.load a (rKd r 8).toLoadRect (View.loadsAt_vmem h_S64x128))
  let x9 ← Prog.lift (.load a (rKd r 9).toLoadRect (View.loadsAt_vmem h_S64x128))
  let x10 ← Prog.lift (.load a (rKd r 10).toLoadRect (View.loadsAt_vmem h_S64x128))
  pure ![x0, x1, x2, x3, x4, x5, x6, x7, x8, x9, x10]

theorem packedO (r : Fin 3) : (rSegO r).PackedRows (EltTy.packing .bf16) := match r with
  | ⟨0, _⟩ => packedbf16_S2112x128_S704x128_0_0
  | ⟨1, _⟩ => packedbf16_S2112x128_S704x128_704_0
  | ⟨2, _⟩ => packedbf16_S2112x128_S704x128_1408_0

include harg5 in
theorem storesO (r : Fin 3) : (arg5.access (rSegO r)).Stores Finset.univ :=
  View.stores_vmem h_S704x128 (harg5.storeExact_slice rfl _ (packedO r)) (fun _ => rfl)

def putO (r : Fin 3) (o : FVec F S704x128 .bf16) : PG F PUnit := do
  let _ ← Prog.lift (.load arg5 (rSegO r).toLoadRect (View.loadsAt_vmem h_S704x128))
  Prog.lift (.store arg5 (rSegO r) o Finset.univ (storesO arg5 harg5 r) (.inl rfl))

def putM (a : Memref sig .tc .vmem S2112x8 .f32) (h : BitVec 32) (r : Fin 3) (x : FVec F S704x1 .f32) : PG F PUnit := do
  let y ← Prog.lift (.load a (rSegM r).toLoadRect (View.loadsAt_vmem h_S704x8))
  let _ ← Prog.lift (.load a (rSegM r).toLoadRect (View.loadsAt_vmem h_S704x8))
  Prog.lift (.store a (rSegM r) (laneV h x y) Finset.univ (View.stores_vmem_bits_univ h_S704x8 rfl) (.inl rfl))

def class0 (h : BitVec 32) (c : Dev nD) : PG F PUnit := do
  let q ← loadQ arg2 arg10 0
  forEach (fillKV arg3 arg4 arg8 arg9 c 0) L11
  let kc : Vec F S704x128 .f32 ← Prog.lift (.load arg8 rAllK.toLoadRect (View.loadsAt_vmem h_S704x128))
  let vc : Vec F S704x128 .f32 ← Prog.lift (.load arg9 rAllK.toLoadRect (View.loadsAt_vmem h_S704x128))
  putO arg5 harg5 0 (o0 q kc (nvW c 0) vc)
  putM arg6 h 0 (m0 q kc (nvW c 0))
  putM arg7 h 0 (l0 q kc (nvW c 0))

def class1 (h : BitVec 32) (c : Dev nD) (r : Fin 3) : PG F PUnit := do
  let q ← loadQ arg2 arg10 r
  forEach (fillKV arg3 arg4 arg8 arg9 c r) L11
  let kc : Vec F S704x128 .f32 ← Prog.lift (.load arg8 rAllK.toLoadRect (View.loadsAt_vmem h_S704x128))
  let k0 ← Prog.lift (.load arg3 rK0.toLoadRect (View.loadsAt_vmem h_S64x128))
  let kd ← ldOwn arg3 r
  let vd ← ldOwn arg4 r
  let vc : Vec F S704x128 .f32 ← Prog.lift (.load arg9 rAllK.toLoadRect (View.loadsAt_vmem h_S704x128))
  let v0 ← Prog.lift (.load arg4 rK0.toLoadRect (View.loadsAt_vmem h_S64x128))
  putO arg5 harg5 r (o1 (firstW c) q kc (nvW c r) k0 kd vc v0 vd)
  putM arg6 h r (m1 (firstW c) q kc (nvW c r) k0 kd)
  putM arg7 h r (l1 (firstW c) q kc (nvW c r) k0 kd)

/-- Whether a head is the first, as the body tests it. -/
def headFirst (h : BitVec 32) : BitVec 1 := Scalar.cmpi .ne (Scalar.extui (Scalar.cmpi .eq h 0#32) : BitVec 32) 0#32

/-- The three classes of a head. -/
def attRest (h : BitVec 32) (c : Dev nD) : PG F PUnit := do
  class0 arg2 arg3 arg4 arg5 harg5 arg6 arg7 arg8 arg9 arg10 h c
  class1 arg2 arg3 arg4 arg5 harg5 arg6 arg7 arg8 arg9 arg10 h c 1
  class1 arg2 arg3 arg4 arg5 harg5 arg6 arg7 arg8 arg9 arg10 h c 2

def attFill (h : BitVec 32) : PG F PUnit := if headFirst h = 1#1 then forEach (fillX arg1 arg10) L33 else pure ⟨⟩

/-- The body. -/
def attBody (h : BitVec 32) (c : Dev nD) : PG F PUnit := do
  attFill arg1 arg10 h
  attRest arg2 arg3 arg4 arg5 harg5 arg6 arg7 arg8 arg9 arg10 h c

def attStructured (h : BitVec 32) : PG F PUnit := do
  let c ← Prog.lift .deviceId
  attBody arg1 arg2 arg3 arg4 arg5 harg5 arg6 arg7 arg8 arg9 arg10 h c

end

end Cert.KernelIdeal.Att

end
-- ==== Proof.Cells.lean ====
/- The devices and the semaphore cells of the exchange: who is at which distance, which semaphore plays which part, what a
   cell expects, and in which order a device pays its peers' cells. Numbers only. -/
module

public import proofs.«01_k».proof.Proof.Prog
public import Idealize.ShloMosaic.Lib.Pipeline.Launch
public import Idealize.ShloMosaic.Lib.Pipeline.Kit
public meta import Mathlib.Tactic.DeriveFintype

@[expose] public section

noncomputable section

namespace Cert.KernelIdeal.Hand

open Idealize.ShloMosaic Idealize.ShloMosaic.TcCoe Idealize.SL.Sem
open Cert.KernelIdeal.Gen

/-! ## Distances -/

set_option backward.proofsInPublic true in
/-- The device `d + 1` places on. -/
def up (c : Dev nD) (d : Fin 7) : Dev nD := ⟨(c.val + d.val + 1) % 8, Nat.mod_lt _ (by decide)⟩
set_option backward.proofsInPublic true in
/-- The device `d + 1` places back. -/
def dn (c : Dev nD) (d : Fin 7) : Dev nD := ⟨(c.val + 7 - d.val) % 8, Nat.mod_lt _ (by decide)⟩
set_option backward.proofsInPublic true in
/-- The distance, less one, from `q` on to another device `p`. -/
def gap (q p : Dev nD) : Fin 7 := ⟨(p.val + 7 - q.val) % 8 % 7, Nat.mod_lt _ (by decide)⟩

theorem dn_up (c : Dev nD) (d : Fin 7) : dn (up c d) d = c := by revert c d; decide
theorem up_dn (c : Dev nD) (d : Fin 7) : up (dn c d) d = c := by revert c d; decide
theorem gap_up (c : Dev nD) (d : Fin 7) : gap c (up c d) = d := by revert c d; decide
theorem gap_dn (c : Dev nD) (d : Fin 7) : gap (dn c d) c = d := by revert c d; decide
theorem up_ne (c : Dev nD) (d : Fin 7) : up c d ≠ c := by revert c d; decide
theorem dn_ne (c : Dev nD) (d : Fin 7) : dn c d ≠ c := by revert c d; decide

theorem sigDev_eq (c : Dev nD) (d : Fin 7) : sigDev c d = up c d := by
  revert c d; decide +kernel
theorem oDev_eq (c : Dev nD) (d : Fin 7) : oDev c d = dn c d := by
  revert c d; decide +kernel
theorem mDev_eq (c : Dev nD) (d : Fin 7) : mDev c d = dn c d := by
  revert c d; decide +kernel
theorem lDev_eq (c : Dev nD) (d : Fin 7) : lDev c d = dn c d := by
  revert c d; decide +kernel
theorem gDev_eq (c : Dev nD) (d : Fin 7) : gDev c d = up c d := by
  revert c d; decide +kernel

/-! ## The cells -/

/-- The parts that semaphores play on a device: the barrier; a chunk's send (of kind `k`, at distance `d`) and arrival (in
    slot `j`); a gathered block's send (at distance `d`) and its arrival (from device `q`). -/
inductive K where
  | bar
  | rsS (k : Fin 3) (d : Fin 8)
  | rsR (k : Fin 3) (j : Fin 8)
  | agS (d : Fin 8)
  | agR (q : Fin 8)
  deriving DecidableEq, Fintype

abbrev barS : Sem sig := (SemArray.scalar (sig.barrier 0 rfl) : Sems sig S_).sem

/-- The semaphore of a part. -/
abbrev csem : K → SemLoc sig
  | .bar => .reg barS
  | .rsS k d => .dma (smS k d)
  | .rsR k j => .dma (smR k j)
  | .agS d => .dma (smG d)
  | .agR q => .dma (smH q)

/-- The part of a semaphore, if it has one here. -/
def kindOf : SemLoc sig → Option K
  | .reg _ => some .bar
  | .dma s =>
    if s.val < 16 then none
    else if s.val < 40 then some (.rsS (Fin.ofNat 3 ((s.val - 16) / 8)) (Fin.ofNat 8 ((s.val - 16) % 8)))
    else if s.val < 64 then some (.rsR (Fin.ofNat 3 ((s.val - 40) / 8)) (Fin.ofNat 8 ((s.val - 40) % 8)))
    else if s.val < 72 then some (.agS (Fin.ofNat 8 (s.val - 64)))
    else some (.agR (Fin.ofNat 8 (s.val - 72)))

theorem kindOf_csem (k : K) : kindOf (csem k) = some k := by revert k; decide +kernel

theorem csem_injective : Function.Injective csem := fun a b h => by
  have := congrArg kindOf h
  rw [kindOf_csem, kindOf_csem] at this
  exact Option.some.inj this

abbrev cell (c : Dev nD) (k : K) : GSem nD τ sig := ((c : Thread nD τ), csem k)
abbrev kcell (ck : Dev nD × K) : GSem nD τ sig := cell ck.1 ck.2

theorem cell_inj {c c' : Dev nD} {k k' : K} : cell c k = cell c' k' ↔ c = c' ∧ k = k' := by
  constructor
  · intro h
    have h1 : c = c' := congrArg (fun g : GSem nD τ sig => g.1.1) h
    exact ⟨h1, csem_injective (congrArg Prod.snd h)⟩
  · rintro ⟨rfl, rfl⟩; rfl

theorem kcell_injective : Function.Injective kcell := by
  rintro ⟨c, k⟩ ⟨c', k'⟩ h
  obtain ⟨rfl, rfl⟩ := cell_inj.mp h; rfl

/-- The semaphore that a device names for the arrival from distance `d`. -/
theorem smHf_eq (c : Dev nD) (d : Fin 7) : smHf c d = smH (up c d) := by revert c d; decide +kernel

/-- The credits of the three kinds of chunk and of a gathered block. -/
abbrev creditO : ℕ := (slotO 0).view.dmaCredit
abbrev creditM : ℕ := (slotML 0 0).view.dmaCredit
abbrev creditG : ℕ := (gOwn 0).view.dmaCredit

theorem creditO_pos : 0 < creditO := View.dmaCredit_pos _ (by decide)
theorem creditM_pos : 0 < creditM := View.dmaCredit_pos _ (by decide)
theorem creditG_pos : 0 < creditG := View.dmaCredit_pos _ (by decide)

theorem amt_slotO (j : Fin 7) : (slotO j).view.dmaCredit = creditO := rfl
theorem amt_slotML (j : Fin 7) (k : Fin 2) : (slotML j k).view.dmaCredit = creditM := rfl
theorem amt_gOwn (c : Dev nD) : (gOwn c).view.dmaCredit = creditG := rfl
theorem amt_gFrom (c : Dev nD) (d : Fin 7) : (gFrom c d).view.dmaCredit = creditG := rfl
theorem amt_srcO (c : Dev nD) (d : Fin 7) : (srcO c d).view.dmaCredit = creditO := rfl
theorem amt_srcM (c : Dev nD) (d : Fin 7) : (srcM c d).view.dmaCredit = creditM := rfl
theorem amt_srcL (c : Dev nD) (d : Fin 7) : (srcL c d).view.dmaCredit = creditM := rfl

end Cert.KernelIdeal.Hand

end
-- ==== Proof.SepL.lean ====
/- The separating conjunction along a list, and the rule of a program that runs a step for each entry of a list. -/
module

public import proofs.«01_k».proof.Proof.Prog
public import Idealize.ShloMosaic.Lib.Pipeline.Launch
public import Idealize.ShloMosaic.Lib.Tactic

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

section
variable {M : Type} [URA M] {α β : Type}

/-- `Φ` of every entry, separately; nothing for the empty list. -/
def sepL (Φ : α → sProp M) : List α → sProp M
  | [] => iprop(emp)
  | a :: l => iprop(Φ a ∗ sepL Φ l)

theorem sepL_nil (Φ : α → sProp M) : sepL Φ [] = iprop(emp) := rfl
theorem sepL_cons (Φ : α → sProp M) (a : α) (l : List α) : sepL Φ (a :: l) = iprop(Φ a ∗ sepL Φ l) := rfl

theorem eq_of_both {P Q : sProp M} (h : P ⊢ Q) (h' : Q ⊢ P) : P = Q := BI.Entails.antisymm h h'

theorem emp_sep_eq (P : sProp M) : iprop(emp ∗ P) = P := eq_of_both BIClass.emp_sep.1 BIClass.emp_sep.2
theorem sep_emp_eq (P : sProp M) : iprop(P ∗ emp) = P :=
  eq_of_both Laws.sep_emp.1 Laws.sep_emp.2
theorem sep_assoc_eq (P Q R : sProp M) : iprop((P ∗ Q) ∗ R) = iprop(P ∗ Q ∗ R) :=
  eq_of_both sep_assoc.1 sep_assoc.2

theorem sepL_append (Φ : α → sProp M) (l l' : List α) : sepL Φ (l ++ l') = iprop(sepL Φ l ∗ sepL Φ l') := by
  induction l with
  | nil => rw [sepL_nil, emp_sep_eq]; rfl
  | cons a l ih => rw [List.cons_append, sepL_cons, sepL_cons, ih, sep_assoc_eq]

theorem sepL_map (Φ : β → sProp M) (f : α → β) (l : List α) : sepL Φ (l.map f) = sepL (fun a => Φ (f a)) l := by
  induction l with
  | nil => rfl
  | cons a l ih => rw [List.map_cons, sepL_cons, sepL_cons, ih]

theorem sepL_flatMap (Φ : β → sProp M) (f : α → List β) (l : List α) :
    sepL Φ (l.flatMap f) = sepL (fun a => sepL Φ (f a)) l := by
  induction l with
  | nil => rfl
  | cons a l ih => rw [List.flatMap_cons, sepL_append, sepL_cons, ih]

theorem sepL_sep (Φ Ψ : α → sProp M) (l : List α) :
    sepL (fun a => iprop(Φ a ∗ Ψ a)) l = iprop(sepL Φ l ∗ sepL Ψ l) := by
  induction l with
  | nil => rw [sepL_nil, sepL_nil, sepL_nil, emp_sep_eq]
  | cons a l ih =>
    rw [sepL_cons, sepL_cons, sepL_cons, ih]
    refine eq_of_both ?_ ?_
    · iintro ⟨⟨H1, H2⟩, H3, H4⟩
      isplitl [H1 H3]
      · isplitl [H1] <;> iassumption
      · isplitl [H2] <;> iassumption
    · iintro ⟨⟨H1, H3⟩, H2, H4⟩
      isplitl [H1 H2]
      · isplitl [H1] <;> iassumption
      · isplitl [H3] <;> iassumption

theorem sepL_mono {Φ Ψ : α → sProp M} {l : List α} (h : ∀ a ∈ l, Φ a ⊢ Ψ a) : sepL Φ l ⊢ sepL Ψ l := by
  induction l with
  | nil => exact BI.Entails.refl _
  | cons a l ih =>
    rw [sepL_cons, sepL_cons]
    exact BIClass.sep_mono (h a List.mem_cons_self) (ih fun b hb => h b (List.mem_cons_of_mem _ hb))

theorem sepL_congr {Φ Ψ : α → sProp M} {l : List α} (h : ∀ a ∈ l, Φ a = Ψ a) : sepL Φ l = sepL Ψ l :=
  eq_of_both (sepL_mono fun a ha => Entails.of_eq (h a ha)) (sepL_mono fun a ha => Entails.of_eq (h a ha).symm)

theorem bigSep_toFinset [DecidableEq α] (Φ : α → sProp M) {l : List α} (h : l.Nodup) : bigSep l.toFinset Φ = sepL Φ l := by
  induction l with
  | nil => rfl
  | cons a l ih =>
    rw [List.toFinset_cons, bigSep_insert (by rw [List.mem_toFinset]; exact (List.nodup_cons.mp h).1), ih (List.nodup_cons.mp h).2]
    rfl

theorem bigSep_eq_sepL [DecidableEq α] {s : Finset α} (Φ : α → sProp M) {l : List α} (h : l.Nodup) (hm : s = l.toFinset) :
    bigSep s Φ = sepL Φ l := by
  subst hm; exact bigSep_toFinset Φ h

end

section
variable {F : FTy → Type} [FloatOps F] [Named F] {U : Type} [URA U]

local notation "𝕄" => MT nD τ sig Unit (Elt F) ℕ U ℕ

abbrev WP {α : Type} (c : Dev nD) (p : PG F α) (Q : α → sProp 𝕄) : sProp 𝕄 :=
  wp frame (wpE (defs₀ (F := F)) Variants.none (c : Thread nD τ) none) Set.univ p Q

/-- A step for each entry: each takes the state of the entries that are left to the next, and its own part to what it
    leaves. -/
theorem wp_forEach {σ α : Type} (c : Dev nD) (I : List α → σ → sProp 𝕄) (step : σ → α → σ) (P Q : α → sProp 𝕄) (f : α → PG F PUnit)
    (h : ∀ (a : α) (l : List α) (s : σ), iprop(I (a :: l) s ∗ P a) ⊢ WP c (f a) (fun _ => iprop(I l (step s a) ∗ Q a)))
    (l : List α) : ∀ s : σ, iprop(I l s ∗ sepL P l) ⊢ WP c (forEach f l) (fun _ => iprop(I [] (l.foldl step s) ∗ sepL Q l)) := by
  induction l with
  | nil =>
    intro s
    show _ ⊢ WP c (Prog.ret PUnit.unit) _
    rw [WP, wp_ret]
    iintro H; imodintro; iexact H
  | cons a l ih =>
    intro s
    show _ ⊢ WP c (f a >>= fun _ => forEach f l) _
    rw [WP, wp_bind, sepL_cons]
    iintro ⟨HI, HP, Hl⟩
    ihave H := (h a l s) $$ [HI HP]
    · isplitl [HI] <;> iassumption
    iapply (wp_wand _ _ _) $$ H
    iintro %u ⟨HI, HQ⟩
    ihave H := (ih (step s a)) $$ [HI Hl]
    · isplitl [HI] <;> iassumption
    iapply (wp_wand _ _ _) $$ H
    iintro %u' ⟨HI, Hl⟩
    rw [sepL_cons, List.foldl_cons]
    isplitl [HI]; · iexact HI
    isplitl [HQ] <;> iassumption

end

end Cert.KernelIdeal.Hand

end
-- ==== Proof.Proto.lean ====
/- The protocol of the exchange, with contents: what every buffer holds at every stage, as functions of the devices'
   inputs, and for every semaphore cell who pays it, how much, and what the payment hands over. -/
module

public import proofs.«01_k».proof.Proof.Cells
public import proofs.«01_k».proof.Proof.SepL
public import Idealize.ShloMosaic.Lib.Transfers
public import Idealize.ShloMosaic.Lib.VecWindow

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

/-! ## The resource algebra -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Contents -/

/-- A device's inputs, as its staging buffers hold them. -/
def inO (c : Dev nD) : (cc1_stg0_0 : Ref sig .tc).ty.Contents (Elt F) :=
  (win1_0.blk (0 : Fin 1)).view.read (Elt F) (m ((c : Thread nD τ).loc main_v3_0))
def inM (c : Dev nD) : (cc1_stg1_0 : Ref sig .tc).ty.Contents (Elt F) :=
  (win1_1.blk (0 : Fin 1)).view.read (Elt F) (m ((c : Thread nD τ).loc main_v3_1))
def inL (c : Dev nD) : (cc1_stg2_0 : Ref sig .tc).ty.Contents (Elt F) :=
  (win1_2.blk (0 : Fin 1)).view.read (Elt F) (m ((c : Thread nD τ).loc main_v3_2))
def inW (c : Dev nD) : (cc1_stg3_0 : Ref sig .tc).ty.Contents (Elt F) :=
  (win1_3.blk (0 : Fin 1)).view.read (Elt F) (m ((c : Thread nD τ).loc main_arg4))

/-- The chunks that `c` sends at distance `d`. -/
def xO (c : Dev nD) (d : Fin 7) : S256x1024.Idx → Elt F .bf16 := (srcO c d).view.read (Elt F) (inO m c)
def xM (c : Dev nD) (d : Fin 7) : S256x8.Idx → Elt F .f32 := (srcM c d).view.read (Elt F) (inM m c)
def xL (c : Dev nD) (d : Fin 7) : S256x8.Idx → Elt F .f32 := (srcL c d).view.read (Elt F) (inL m c)

/-- A slot of `c` after its chunk arrived. -/
def sO (c : Dev nD) (j : Fin 7) : (cc1_scratch2 : Ref sig .tc).ty.Contents (Elt F) := (slotO j).view.rep (xO m (up c j) j)
def sM (c : Dev nD) (j : Fin 7) : (cc1_scratch3 : Ref sig .tc).ty.Contents (Elt F) := (slotML j 0).view.rep (xM m (up c j) j)
def sL (c : Dev nD) (j : Fin 7) : (cc1_scratch3 : Ref sig .tc).ty.Contents (Elt F) := (slotML j 1).view.rep (xL m (up c j) j)

/-- The columns of a head, the planes of maxima and denominators, a slot: as rectangles. -/
abbrev rHead (h : Fin 8) : Rect S256x1024 := Rect.unit (s := S256x1024) ![0, 128 * h.val] S256x128.size (inb_head h)
abbrev rPlane (k : Fin 2) : Rect S2x256x8 := Rect.unit (s := S2x256x8) ![k.val, 0, 0] S1x256x8.size (inb_ml k)
abbrev rSlotO (j : Fin 7) : Rect S7x256x1024 := Rect.unit (s := S7x256x1024) ![j.val, 0, 0] S1x256x1024.size (inb_slotO j)
abbrev rSlotM (j : Fin 7) (k : Fin 2) : Rect S7x2x256x8 :=
  Rect.unit (s := S7x2x256x8) ![j.val, k.val, 0, 0] S1x1x256x8.size (inb_slotM j k)

abbrev AO (F : FTy → Type) := (cc1_scratch0 : Ref sig .tc).ty.Contents (Elt F)
abbrev AM (F : FTy → Type) := (cc1_scratch1 : Ref sig .tc).ty.Contents (Elt F)

def rdHead (h : Fin 8) (f : AO F) : Vec F S256x128 .f32 := aO.view.readAt (Elt F) (rHead h).toLoadRect f
def wrHead (h : Fin 8) (f : AO F) (w : Vec F S256x128 .f32) : AO F := (aO.access (rHead h)).write (Elt F) f w Finset.univ
def rdPlane (k : Fin 2) (f : AM F) : Vec F S1x256x8 .f32 := aM.view.readAt (Elt F) (rPlane k).toLoadRect f
def wrPlane (k : Fin 2) (f : AM F) (w : Vec F S1x256x8 .f32) : AM F := (aM.access (rPlane k)).write (Elt F) f w Finset.univ

/-- What a hop reads from its slots. -/
def yO (c : Dev nD) (j : Fin 7) : Vec F S1x256x1024 .bf16 := rO.view.readAt (Elt F) (rSlotO j).toLoadRect (sO m c j)
def yM (c : Dev nD) (j : Fin 7) : Vec F S1x1x256x8 .f32 := rM.view.readAt (Elt F) (rSlotM j 0).toLoadRect (sM m c j)
def yL (c : Dev nD) (j : Fin 7) : Vec F S1x1x256x8 .f32 := rM.view.readAt (Elt F) (rSlotM j 1).toLoadRect (sL m c j)

/-- A head of a hop, of the accumulated values; a hop, of both accumulators. -/
def stepHead (al ar : FVec F S256x8 .f32) (y : Vec F S1x256x1024 .bf16) (f : AO F) (h : Fin 8) : AO F :=
  wrHead h f (headVal h al ar (rdHead h f) y)
def stepHop (c : Dev nD) (s : AO F × AM F) (j : Fin 7) : AO F × AM F :=
  (L8.foldl (stepHead (scaleA (rdPlane 0 s.2) (yM m c j)) (scaleR (rdPlane 0 s.2) (yM m c j)) (yO m c j)) s.1,
    wrPlane 1 (wrPlane 0 s.2 (newM (rdPlane 0 s.2) (yM m c j))) (newL (rdPlane 0 s.2) (yM m c j) (rdPlane 1 s.2) (yL m c j)))

/-- The device's own chunk, as the accumulators first hold it. -/
def ownO (c : Dev nD) : AO F :=
  k1_pay1 (bO.view.readAt (Elt F) (Rect.unit (s := S2112x1024) (k1_off3 c) S256x1024.size (k1_off3_inb c)).toLoadRect (inO m c))
def ownM (c : Dev nD) : Vec F S1x256x8 .f32 :=
  k1_pay2 (bM.view.readAt (Elt F) (Rect.unit (s := S2112x8) (k1_off4 c) S256x8.size (k1_off4_inb c)).toLoadRect (inM m c))
def ownL (c : Dev nD) : Vec F S1x256x8 .f32 :=
  k1_pay2 (bL.view.readAt (Elt F) (Rect.unit (s := S2112x8) (k1_off4 c) S256x8.size (k1_off4_inb c)).toLoadRect (inL m c))
def own (c : Dev nD) : AO F × AM F := (ownO m c, wrPlane 1 (wrPlane 0 aM.view.junk (ownM m c)) (ownL m c))

/-- The accumulators after the seven hops, and the rows of the result that they give. -/
def accs (c : Dev nD) : AO F × AM F := L7.foldl (stepHop m c) (own m c)
def rows (c : Dev nD) : FVec F S256x1024 .bf16 :=
  finVal (rdPlane 1 (accs m c).2) (fun h => rdHead h (accs m c).1)
    (bW.view.readAt (Elt F) (Rect.unit (s := S1024x1024) ![0, 0] S1024x1024.size inb_S1024x1024_S1024x1024_0_0).toLoadRect (inW m c))

abbrev AG (F : FTy → Type) := (cc1_scratch4 : Ref sig .tc).ty.Contents (Elt F)
abbrev rRows (c : Dev nD) : Rect S2048x1024 := Rect.unit (s := S2048x1024) (k1_off5 c) S256x1024.size (k1_off5_inb c)
def wrRows (c : Dev nD) (f : AG F) (w : FVec F S256x1024 .bf16) : AG F := (gB.access (rRows c)).write (Elt F) f w Finset.univ

/-- The device whose rows hold an element of the gathered array. -/
def rowDev (i : S2048x1024.Idx) : Dev nD := ⟨(i 0).val / 256, Nat.div_lt_of_lt_mul (i 0).isLt⟩

/-- The gathered array, the same on every device. -/
def agV : AG F := fun i => wrRows (rowDev i) gB.view.junk (rows m (rowDev i)) i

abbrev OU (F : FTy → Type) := (cc1_stg4_0 : Ref sig .tc).ty.Contents (Elt F)
abbrev rSrc (b : Fin 32) : Rect S2048x1024 := Rect.unit (s := S2048x1024) ![64 * srcBlk b, 0] S64x1024.size (inb_src b)
abbrev rDst (b : Fin 32) : Rect S1x2048x1024 := Rect.unit (s := S1x2048x1024) ![0, 64 * b.val, 0] S1x64x1024.size (inb_dst b)
def rdSrc (b : Fin 32) (f : AG F) : Vec F S64x1024 .bf16 := gB.view.readAt (Elt F) (rSrc b).toLoadRect f
def stepOut (g : AG F) (f : OU F) (b : Fin 32) : OU F := (bOut.access (rDst b)).write (Elt F) f (outVal (rdSrc b g)) Finset.univ

/-- The result, the same on every device. -/
def outV : OU F := L32.foldl (stepOut (agV m)) bOut.view.junk

/-! ## What the payments hand over -/

/-- A view of device `c`'s memory held at a share. -/
abbrev held {sp : Space} {s : Shape} {e : EltTy} (c : Dev nD) (v : Memref sig .tc sp s e) (q : PosShare TreeShare)
    (f : Buf (Elt F) (v.view.loc (c : Thread nD τ))) : sProp 𝕄 :=
  v.view.loc (c : Thread nD τ) ↦[v.view.set]{q} f

/-- The index of a distance in the lists over seven. -/
def pr (d : Fin 8) : Fin 7 := ⟨d.val - 1, by omega⟩
def cap (d : Fin 8) : Fin 7 := ⟨min d.val 6, by omega⟩
theorem pr_up1 (d : Fin 7) : pr (up1 d) = d := by revert d; decide
theorem cap_lo1 (d : Fin 7) : cap (lo1 d) = d := by revert d; decide

/-- The share of the gathered rows lent to the send at a distance. -/
def tok (d : Fin 7) : PosShare TreeShare := Transfers.shareTok fullShare.right 7 d

/-- What `q`'s signal hands `p`: `q`'s slots for `p`'s chunks, `q`'s rows for `p`'s result. -/
def bundle (q p : Dev nD) : sProp 𝕄 :=
  iprop((∃ f, held q (slotO (gap q p)) fullShare f) ∗ (∃ f, held q (slotML (gap q p) 0) fullShare f)
    ∗ (∃ f, held q (slotML (gap q p) 1) fullShare f) ∗ ∃ f, held q (gOwn p) fullShare f)

/-- Every cell of `q` is open. -/
def opened (q : Dev nD) : sProp 𝕄 := bigSep Finset.univ fun k : K => reached ER (cell q k) 0

instance opened_persistent (q : Dev nD) : BI.Persistent (opened (F := F) q) := by unfold opened; infer_instance

/-- A chunk that `c` sent, back. -/
def back (c : Dev nD) (k : Fin 3) (d : Fin 7) : sProp 𝕄 :=
  match k with
  | 0 => held c (srcO c d) fullShare (inO m c)
  | 1 => held c (srcM c d) fullShare (inM m c)
  | 2 => held c (srcL c d) fullShare (inL m c)

/-- A chunk that arrived at `c`. -/
def arrived (c : Dev nD) (k : Fin 3) (j : Fin 7) : sProp 𝕄 :=
  match k with
  | 0 => held c (slotO j) fullShare (sO m c j)
  | 1 => held c (slotML j 0) fullShare (sM m c j)
  | 2 => held c (slotML j 1) fullShare (sL m c j)

/-- The payload of a cell. -/
def pay (c : Dev nD) (k : K) (q : Dev nD) : sProp 𝕄 :=
  match k with
  | .bar => iprop(bundle q c ∗ opened q)
  | .rsS k d => back m c k (pr d)
  | .rsR k j => arrived m c k (cap j)
  | .agS d => held c (gOwn c) (tok (pr d)) (agV m)
  | .agR q => held c (gOwn q) fullShare (agV m)

set_option synthInstance.maxHeartbeats 400000 in
instance bundle_storable (q p : Dev nD) : BI.Storable (upEmb : UEmb _ 𝕄) (bundle (F := F) q p) := by unfold bundle; infer_instance
instance opened_storable (q : Dev nD) : BI.Storable (upEmb : UEmb _ 𝕄) (opened (F := F) q) := by unfold opened; infer_instance
instance back_storable (c : Dev nD) (k : Fin 3) (d : Fin 7) : BI.Storable (upEmb : UEmb _ 𝕄) (back m c k d) := by
  unfold back; split <;> infer_instance
instance arrived_storable (c : Dev nD) (k : Fin 3) (d : Fin 7) : BI.Storable (upEmb : UEmb _ 𝕄) (arrived m c k d) := by
  unfold arrived; split <;> infer_instance
instance pay_storable (c : Dev nD) (k : K) (q : Dev nD) : BI.Storable (upEmb : UEmb _ 𝕄) (pay m c k q) := by
  unfold pay; split <;> infer_instance

/-! ## The schedule -/

/-- The units of a payment. -/
def amt : K → ℕ
  | .bar => 1
  | .rsS k _ => if k = 0 then creditO else creditM
  | .rsR k _ => if k = 0 then creditO else creditM
  | .agS _ => creditG
  | .agR _ => creditG

theorem amt_pos (k : K) : 0 < amt k := by
  cases k with
  | bar => exact Nat.one_pos
  | rsS k _ => show 0 < if k = 0 then creditO else creditM; split_ifs <;> first | exact creditO_pos | exact creditM_pos
  | rsR k _ => show 0 < if k = 0 then creditO else creditM; split_ifs <;> first | exact creditO_pos | exact creditM_pos
  | agS _ => exact creditG_pos
  | agR _ => exact creditG_pos

/-- Who pays a cell: the barrier every other device; the others one duty, called 0, or none. -/
def dutySet (c : Dev nD) : K → Finset (Dev nD)
  | .bar => Finset.univ.erase c
  | .rsS _ d => if d = 0 then ∅ else {0}
  | .rsR _ j => if j = 7 then ∅ else {0}
  | .agS d => if d = 0 then ∅ else {0}
  | .agR q => if q = c then ∅ else {0}

def ringRd : Rounds.Schedule (GSem nD τ sig) (Dev nD) 𝕄 where
  duties g r := if r = 0 ∧ g.1.2 = .tc then (match kindOf g.2 with | some k => dutySet g.1.1 k | none => ∅) else ∅
  unitless _ := False
  amount g _ _ := match kindOf g.2 with | some k => amt k | none => 1
  payload g _ d := match kindOf g.2 with | some k => pay m g.1.1 k d | none => iprop(emp)
  amount_pos g _ _ _ := by
    show 0 < (match kindOf g.2 with | some k => amt k | none => 1)
    split
    · exact amt_pos _
    · exact Nat.one_pos

instance ringRd_payload_storable (g : GSem nD τ sig) (r : ℕ) (d : Dev nD) :
    BI.Storable (upEmb : UEmb _ 𝕄) ((ringRd (F := F) m).payload g r d) := by
  show BI.Storable upEmb (match kindOf g.2 with | some k => pay m g.1.1 k d | none => iprop(emp))
  split <;> infer_instance

theorem duties_cell (c : Dev nD) (k : K) : (ringRd m).duties (cell c k) 0 = dutySet c k := by
  dsimp only [ringRd]; rw [if_pos ⟨rfl, rfl⟩, kindOf_csem]
theorem duties_later (g : GSem nD τ sig) : ∀ r, 1 ≤ r → (ringRd m).duties g r = ∅ :=
  fun r hr => by dsimp only [ringRd]; rw [if_neg fun h => by omega]
theorem amount_cell (c : Dev nD) (k : K) (d : Dev nD) : (ringRd m).amount (cell c k) 0 d = amt k := by
  dsimp only [ringRd]; rw [kindOf_csem]
theorem payload_cell (c : Dev nD) (k : K) (d : Dev nD) : (ringRd m).payload (cell c k) 0 d = pay m c k d := by
  dsimp only [ringRd]; rw [kindOf_csem]

theorem expect_bar (c : Dev nD) : (ringRd m).expect (cell c .bar) 0 = 7 := by
  unfold Schedule.expect Schedule.amountOf
  rw [duties_cell, Finset.sum_congr rfl fun d _ => amount_cell m c .bar d, Finset.sum_const]
  show (Finset.univ.erase c).card • 1 = 7
  rw [Finset.card_erase_of_mem (Finset.mem_univ c), Finset.card_univ, Fintype.card_fin]; rfl
theorem expect_one {c : Dev nD} {k : K} (h : dutySet c k = {0}) : (ringRd m).expect (cell c k) 0 = amt k := by
  unfold Schedule.expect Schedule.amountOf; rw [duties_cell, h, Finset.sum_singleton, amount_cell]
theorem rest_one {c : Dev nD} {k : K} (h : dutySet c k = {0}) :
    bigSep ((ringRd m).duties (cell c k) 0 \ ∅) (fun d => (ringRd m).payload (cell c k) 0 d) = pay m c k 0 := by
  rw [Finset.sdiff_empty, duties_cell, h, bigSep_singleton, payload_cell]

end Cert.KernelIdeal.Hand

end
-- ==== Proof.Steps.lean ====
/- What a device owes at each point, the order of the waits, and the rules of the kernel's signals, waits and remote copies
   in the exchange's protocol, each stated once for any cell. -/
module

public import proofs.«01_k».proof.Proof.Proto

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

/-! ## Debts -/

/-- A payment owed to each cell of the list. -/
def owe : List (Dev nD × K) → CellTallies nD τ sig Unit
  | [] => 0
  | a :: l => owe l + tallyAt (kcell a) () (amt a.2)

theorem owe_append (l l' : List (Dev nD × K)) : owe (l ++ l') = owe l + owe l' := by
  induction l with
  | nil => exact (zero_add _).symm
  | cons a l ih => show owe (l ++ l') + _ = owe l + _ + owe l'; rw [ih, add_right_comm]

theorem owe_pos {l : List (Dev nD × K)} {g : GSem nD τ sig} {u : Unit} (h : 0 < owe l g u) : ∃ a ∈ l, g = kcell a := by
  induction l with
  | nil => exact absurd h (Nat.lt_irrefl 0)
  | cons a l ih =>
    have h' : 0 < owe l g u + tallyAt (kcell a) () (amt a.2) g u := h
    rw [tallyAt_apply] at h'
    by_cases hg : g = kcell a ∧ u = ()
    · exact ⟨a, List.mem_cons_self, hg.1⟩
    · rw [if_neg hg, add_zero] at h'
      obtain ⟨b, hb, e⟩ := ih h'
      exact ⟨b, List.mem_cons_of_mem _ hb, e⟩

/-- The debt to a cell is its payment times its places in the list. -/
theorem owe_apply (l : List (Dev nD × K)) (a : Dev nD × K) : owe l (kcell a) () = l.count a * amt a.2 := by
  induction l with
  | nil => rw [List.count_nil, Nat.zero_mul]; rfl
  | cons b l ih =>
    show owe l (kcell a) () + tallyAt (kcell b) () (amt b.2) (kcell a) () = _
    rw [ih, tallyAt_apply, List.count_cons, Nat.add_mul]
    by_cases h : b = a
    · subst h; rw [if_pos ⟨rfl, rfl⟩, if_pos (beq_self_eq_true b), Nat.one_mul]
    · rw [if_neg fun h' => h (kcell_injective h'.1).symm, if_neg (by rw [beq_iff_eq]; exact h), Nat.zero_mul]

/-- What `c` still owes: a signal to each peer; the three arrivals of each chunk; the arrivals of its rows. -/
def sigItem (c : Dev nD) (d : Fin 7) : Dev nD × K := (up c d, .bar)
def rsItem (c : Dev nD) (d : Fin 7) : List (Dev nD × K) :=
  [(dn c d, .rsR 0 (lo1 d)), (dn c d, .rsR 1 (lo1 d)), (dn c d, .rsR 2 (lo1 d))]
def agItem (c : Dev nD) (d : Fin 7) : Dev nD × K := (up c d, .agR c)

/-! ## Levels -/

/-- The order of the waits: staging and sends, the barrier, the chunks' arrivals, the gathered rows' arrivals. -/
def klev : K → ℕ
  | .bar => 1
  | .rsS _ _ => 0
  | .rsR _ _ => 2
  | .agS _ => 0
  | .agR _ => 3

def L (g : GSem nD τ sig) : Finset Unit := if g.1.2 = .tc then {()} else ∅
def lv (g : GSem nD τ sig) (_ : Unit) : ℕ := match kindOf g.2 with | some k => klev k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : K) : lv (cell c k) () = klev k := by dsimp only [lv]; rw [kindOf_csem]

variable {F : FTy → Type} [FloatOps F] [Named F]

local notation "𝕄" => MT nD τ sig Unit (Elt F) ℕ UU ℕ

/-- A wait below everything that the list owes may be made. -/
theorem mayWait_cut (c : Dev nD) (sm : SemLoc sig) (n : ℕ) (l : List (Dev nD × K)) (hs : lv ((c : Thread nD τ), sm) () ≤ n)
    (hl : ∀ a ∈ l, n < klev a.2) : (levAts L lv : sProp 𝕄) ⊢ MayWait (c : Thread nD τ) sm () (owe l) :=
  MayOwe.of_cut (L := L) (lev := lv) n (fun p hp => by rw [Finset.mem_singleton.mp hp, L_tc]; exact Finset.mem_singleton_self _)
    (fun g u hg => by obtain ⟨a, _, rfl⟩ := owe_pos hg; exact Finset.mem_singleton_self _)
    (fun p hp => by rw [Finset.mem_singleton.mp hp]; exact hs)
    (fun g u hg => by obtain ⟨a, ha, rfl⟩ := owe_pos hg; rw [lv_cell]; exact hl a ha)

variable (m : (ℓ : Loc nD τ sig) → Buf (Elt F) ℓ)

/-! ## What every device may read of the protocol -/

/-- Every cell's invariant, at some name; every cell's first round is reached; the levels. -/
def Rec (κ : Dev nD × K → ℕ) : sProp 𝕄 :=
  iprop((bigSep Finset.univ fun ck => cellInv ER (ringRd m) (κ ck) (kcell ck))
    ∗ (bigSep Finset.univ fun ck : Dev nD × K => reached ER (kcell ck) 0) ∗ levAts L lv)

variable (κ : Dev nD × K → ℕ)

instance Rec_persistent : BI.Persistent (Rec m κ) := by unfold Rec; infer_instance

theorem Rec_inv (c : Dev nD) (k : K) : Rec m κ ⊢ cellInv ER (ringRd m) (κ (c, k)) (cell c k) := by
  have h : Rec m κ ⊢ bigSep Finset.univ fun ck => cellInv ER (ringRd m) (κ ck) (kcell ck) := by
    unfold Rec
    iintro ⟨H, -, -⟩
    iexact H
  exact h.trans (bigSep_elim (Φ := fun ck => cellInv ER (ringRd m) (κ ck) (kcell ck)) (Finset.mem_univ (c, k)))

theorem Rec_reached (c : Dev nD) (k : K) : Rec m κ ⊢ reached ER (cell c k) 0 := by
  have h : Rec m κ ⊢ bigSep Finset.univ fun ck : Dev nD × K => reached ER (kcell ck) 0 := by
    unfold Rec
    iintro ⟨-, H, -⟩
    iexact H
  exact h.trans (bigSep_elim (Φ := fun ck : Dev nD × K => (reached ER (kcell ck) 0 : sProp 𝕄)) (Finset.mem_univ (c, k)))

theorem Rec_lev : Rec m κ ⊢ levAts L lv := by
  unfold Rec
  iintro ⟨-, -, H⟩
  iexact H

/-- What every device may read from the launch on: every cell's invariant; that the barriers are open; the levels. -/
def Rec0 : sProp 𝕄 :=
  iprop((bigSep Finset.univ fun ck => cellInv ER (ringRd m) (κ ck) (kcell ck))
    ∗ (bigSep Finset.univ fun c : Dev nD => reached ER (cell c .bar) 0) ∗ levAts L lv)

instance Rec0_persistent : BI.Persistent (Rec0 m κ) := by unfold Rec0; infer_instance

theorem Rec0_inv (c : Dev nD) (k : K) : Rec0 m κ ⊢ cellInv ER (ringRd m) (κ (c, k)) (cell c k) := by
  have h : Rec0 m κ ⊢ bigSep Finset.univ fun ck => cellInv ER (ringRd m) (κ ck) (kcell ck) := by
    unfold Rec0
    iintro ⟨H, -, -⟩
    iexact H
  exact h.trans (bigSep_elim (Φ := fun ck => cellInv ER (ringRd m) (κ ck) (kcell ck)) (Finset.mem_univ (c, k)))

theorem Rec0_reached (c : Dev nD) : Rec0 m κ ⊢ reached ER (cell c .bar) 0 := by
  have h : Rec0 m κ ⊢ bigSep Finset.univ fun c : Dev nD => reached ER (cell c .bar) 0 := by
    unfold Rec0
    iintro ⟨-, H, -⟩
    iexact H
  exact h.trans (bigSep_elim (Φ := fun c : Dev nD => (reached ER (cell c .bar) 0 : sProp 𝕄)) (Finset.mem_univ c))

theorem Rec0_lev : Rec0 m κ ⊢ levAts L lv := by
  unfold Rec0
  iintro ⟨-, -, H⟩
  iexact H

/-- Once every device's cells are known to be open, all may be read. -/
theorem Rec_of (c : Dev nD) : iprop(Rec0 m κ ∗ opened c ∗ bigSep (Finset.univ.erase c) fun q : Dev nD => opened q) ⊢ Rec m κ := by
  have h : (bigSep Finset.univ fun ck : Dev nD × K => reached ER (kcell ck) 0)
      = (iprop(opened c ∗ bigSep (Finset.univ.erase c) fun q : Dev nD => opened q) : sProp 𝕄) := by
    rw [bigSep_univ_prod]
    exact bigSep_erase (Φ := fun q : Dev nD => (opened q : sProp 𝕄)) (Finset.mem_univ c)
  unfold Rec Rec0
  rw [h]
  iintro ⟨⟨HI, -, HL⟩, HR⟩
  isplitl [HI]; · iexact HI
  isplitl [HR]; · iexact HR
  iexact HL

/-- What `c` owes, whatever it has waited for. -/
def debt (c : Dev nD) (O : CellTallies nD τ sig Unit) : sProp 𝕄 := iprop(∃ W, owes (c : Thread nD τ) O W)

/-! ## The rules -/

/-- A step, then the rest. -/
theorem wp_step {α β : Type} {c : Dev nD} {p : PG F α} {k : α → PG F β} {P R : sProp 𝕄} {Q : α → sProp 𝕄} {Q' : β → sProp 𝕄}
    (h : P ⊢ WP c p Q) (h' : ∀ a, iprop(Q a ∗ R) ⊢ WP c (k a) Q') : iprop(P ∗ R) ⊢ WP c (p >>= k) Q' := by
  rw [WP, wp_bind]
  iintro ⟨HP, HR⟩
  ihave H := h $$ HP
  iapply (wp_wand _ _ _) $$ H
  iintro %a HQ
  iapply (h' a)
  isplitl [HQ] <;> iassumption

/-- A signal to a peer's barrier hands it this device's slots and rows for it. -/
theorem wp_signal_peer (c : Dev nD) (d : Fin 7) (O : CellTallies nD τ sig Unit) :
    iprop(Rec0 m κ ∗ debt c (O + tallyAt (cell (up c d) .bar) () (amt .bar)) ∗ bundle c (up c d) ∗ opened c
        ∗ dutyTok ER (cell (up c d) .bar) 0 c)
      ⊢ WP c (signal c d) (fun _ => debt c O) := by
  unfold signal debt
  rw [sigDev_eq]
  simp only [semSignalWord]
  iintro ⟨#HR, ⟨%W, HO⟩, Hb, #Hq, Ht⟩
  iapply (Rounds.wp_signal Variants.none ER (ringRd m) (c : Thread nD τ) none (dst := (up c d : Thread nD τ)) (κ := κ (up c d, .bar))
      (d := c) (by rw [duties_cell m (up c d) .bar]; exact Finset.mem_erase.mpr ⟨(up_ne c d).symm, Finset.mem_univ _⟩)
      ((amount_cell m (up c d) .bar c).trans (by decide)) () O (by rfl)) $$ [HO Hb Ht]
  · isplitr; · iapply (Rec0_inv m κ (up c d) .bar); iexact HR
    isplitl [HO]; · iexact HO
    isplitl [Ht]; · iexact Ht
    isplitl [Hb]; · rw [payload_cell m (up c d) .bar]; unfold pay; dsimp only; isplitl [Hb]; · iexact Hb
                    iexact Hq
    iapply (Rec0_reached m κ (up c d)); iexact HR
  iintro HO
  rw [wp_ret]; imodintro
  iexists W; iexact HO

theorem rest_bar (c : Dev nD) :
    bigSep ((ringRd m).duties (cell c .bar) 0 \ ∅) (fun d => (ringRd m).payload (cell c .bar) 0 d)
      = bigSep (Finset.univ.erase c) fun q => iprop(bundle q c ∗ opened q) := by
  rw [Finset.sdiff_empty, duties_cell m c .bar, bigSep_congr fun q _ => payload_cell m c .bar q]
  rfl

/-- The barrier: every peer's slots and rows for this device. -/
theorem wp_barrier (c : Dev nD) (l : List (Dev nD × K)) (hl : ∀ a ∈ l, 1 < klev a.2) :
    iprop(Rec0 m κ ∗ debt c (owe l) ∗ cred (tallyAt (cell c .bar) () 7) ∗ atPos ER (cell c .bar) 0 ∅ 0)
      ⊢ WP c (semWaitWord (Λ := Λ₀) barS 7#32) (fun _ => iprop(debt c (owe l) ∗ atPos ER (cell c .bar) 1 ∅ 0
          ∗ bigSep (Finset.univ.erase c) fun q => iprop(bundle q c ∗ opened q))) := by
  unfold debt
  simp only [semWaitWord]
  iintro ⟨#HR, ⟨%W, HO⟩, Hc, Hat⟩
  iapply (Rounds.wp_wait_rest_token Variants.none ER (ringRd m) (c : Thread nD τ) none (κ := κ (c, .bar))
      (wpE_semWait_eq Variants.none (c : Thread nD τ) none Set.univ) (Set.mem_univ _) () (O := owe l) (W := W) (R := 0) (m := 0) (T := ∅)
      (by rw [expect_bar m c]; decide)) $$ [Hc HO Hat]
  · isplitr; · iapply (Rec0_inv m κ c .bar); iexact HR
    isplitl [Hc]; · iexact Hc
    isplitl [HO]; · iexact HO
    isplitr
    · iapply (mayWait_cut c (csem .bar) 1 l (le_of_eq (lv_cell c .bar)) hl)
      iapply (Rec0_lev m κ); iexact HR
    iexact Hat
  iintro ⟨HO, Hat, -, Hpay⟩
  ihave Hpay := (Entails.of_eq (rest_bar m c)) $$ Hpay
  rw [wp_ret]; imodintro
  isplitl [HO]; · iexists _; iexact HO
  isplitl [Hat]; · iexact Hat
  iexact Hpay

/-- A wait on a cell with one duty: what its payer handed over. -/
theorem wp_wait_one (c : Dev nD) (k : K) (w : TpuEff nD τ sig (Elt F) Λ₀ .tc PUnit)
    (hw : ∀ Q : PUnit → sProp 𝕄, wpE (defs₀ (F := F)) Variants.none (c : Thread nD τ) none Set.univ w Q
      = waitSpec (c : Thread nD τ) Set.univ (csem k) (amt k) Q)
    (hk : dutySet c k = {0}) (l : List (Dev nD × K)) (hl : ∀ a ∈ l, klev k < klev a.2) :
    iprop(Rec m κ ∗ debt c (owe l) ∗ cred (tallyAt (cell c k) () (amt k)) ∗ atPos ER (cell c k) 0 ∅ 0)
      ⊢ WP c (Prog.lift w) (fun _ => iprop(debt c (owe l) ∗ atPos ER (cell c k) 1 ∅ 0 ∗ pay m c k 0)) := by
  unfold debt
  simp only [Prog.lift]
  iintro ⟨#HR, ⟨%W, HO⟩, Hc, Hat⟩
  iapply (Rounds.wp_wait_rest_token Variants.none ER (ringRd m) (c : Thread nD τ) none (κ := κ (c, k))
      hw (Set.mem_univ _) () (O := owe l) (W := W) (R := 0) (m := 0) (T := ∅)
      (by rw [expect_one m hk, Nat.zero_add])) $$ [Hc HO Hat]
  · isplitr; · iapply (Rec_inv m κ c k); iexact HR
    isplitl [Hc]; · iexact Hc
    isplitl [HO]; · iexact HO
    isplitr
    · iapply (mayWait_cut c (csem k) (klev k) l (le_of_eq (lv_cell c k)) hl)
      iapply (Rec_lev m κ); iexact HR
    iexact Hat
  iintro ⟨HO, Hat, -, Hpay⟩
  ihave Hpay := (Entails.of_eq (rest_one m hk)) $$ Hpay
  rw [wp_ret]; imodintro
  isplitl [HO]; · iexists _; iexact HO
  isplitl [Hat]; · iexact Hat
  iexact Hpay

/-- A remote copy: the source goes to the send cell, the written destination to the arrival cell of the peer. -/
theorem wp_send_one {s : Shape} {e : EltTy} (c n c' : Dev nD) (hn : n = c') (src dst : Memref sig .tc .vmem s e) (kS kR : K)
    {hsc : (dst : Memref sig (Dev.tc n : Thread nD τ).2.kind .vmem s e).view.ref.isScScratch = false}
    {hsrc : src.view.WordExact} {hdst : dst.view.WordExact}
    {hsem : DmaTarget.Typed .vmem (csem kR) (.remote (Dev.tc n : Thread nD τ) dst (csem kS) hsc)}
    (q : PosShare TreeShare) (fs : Buf (Elt F) (src.view.loc (c : Thread nD τ)))
    (hS : dutySet c kS = {0}) (hR : dutySet c' kR = {0}) (hN : dst.view.amount (csem kR) = amt kR) (hA : amt kS = amt kR)
    (hpS : held c src q fs ⊢ pay m c kS 0)
    (hpR : ∀ fd : Buf (Elt F) (dst.view.loc (c' : Thread nD τ)),
      held c' dst fullShare (dst.view.write (Elt F) fd (src.view.read (Elt F) fs) Finset.univ) ⊢ pay m c' kR 0)
    (O : CellTallies nD τ sig Unit) :
    iprop(Rec m κ ∗ debt c (O + tallyAt (cell c' kR) () (amt kR)) ∗ held c src q fs ∗ (∃ fd, held c' dst fullShare fd)
        ∗ dutyTok ER (cell c kS) 0 0 ∗ dutyTok ER (cell c' kR) 0 0)
      ⊢ WP c (Prog.lift (.enqueueDma src (.remote (Dev.tc n : Thread nD τ) dst (csem kS) hsc) (csem kR) hsrc hdst hsem))
          (fun _ => iprop(debt c O ∗ cred (tallyAt (cell c kS) () (amt kS)))) := by
  subst hn
  unfold debt
  simp only [Prog.lift]
  iintro ⟨#HR, ⟨%W, HO⟩, Hs, ⟨%fd, Hd⟩, Ht, Ht'⟩
  iapply (Rounds.wp_send_pointsTo Variants.none ER (ringRd m) (c : Thread nD τ) none (κ₁ := κ (c, kS)) (κ₂ := κ (n, kR))
    (r₁ := 0) (r₂ := 0) (d₁ := 0) (d₂ := 0) (fd := fd)
    (by rw [duties_cell m c kS, hS]; exact Finset.mem_singleton_self _) (by rw [duties_cell m n kR, hR]; exact Finset.mem_singleton_self _)
    () () (amt kR) hN ((amount_cell m c kS 0).trans hA) (amount_cell m n kR 0) O rfl (W := W)
    (by rw [payload_cell m c kS]; exact hpS) (by rw [payload_cell m n kR]; exact hpR fd)) $$ [HO Hs Hd Ht Ht']
  · isplitr; · iapply (Rec_inv m κ c kS); iexact HR
    isplitr; · iapply (Rec_inv m κ n kR); iexact HR
    isplitl [Hs]; · iexact Hs
    isplitl [Hd]; · iexact Hd
    isplitl [HO]; · iexact HO
    isplitl [Ht]; · iexact Ht
    isplitr; · iapply (Rec_reached m κ c kS); iexact HR
    isplitl [Ht']; · iexact Ht'
    iapply (Rec_reached m κ n kR); iexact HR
  iintro ⟨Hc, HO⟩
  rw [wp_ret]; imodintro
  isplitl [HO]; · iexists W; iexact HO
  rw [hA]; iexact Hc

/-- A cell whose rounds are over gives its counter back, at zero. -/
theorem close_cell (c : Dev nD) (k : K) (R : ℕ) (h : R = 1 ∨ dutySet c k = ∅ ∧ R = 0) :
    iprop(Rec m κ ∗ atPos ER (cell c k) R ∅ 0) ⊢ fupd frame Set.univ Set.univ (semVal (cell c k) 0) := by
  iintro ⟨#HR, Hat⟩
  iapply (Rounds.cell_close ER (ringRd m) (Set.mem_univ (κ (c, k))) (fun h => h) (R := R) (by
    rcases h with rfl | ⟨h, rfl⟩
    · exact duties_later m (cell c k)
    · intro r _
      rcases Nat.eq_zero_or_pos r with rfl | hr
      · rw [duties_cell m c k, h]
      · exact duties_later m (cell c k) r hr))
  isplitr; · iapply (Rec_inv m κ c k); iexact HR
  iexact Hat

end Cert.KernelIdeal.Hand

end
-- ==== Proof.Talk.lean ====
/- The phases of the body in which devices meet: the signals, the sends of the chunks, the arrivals, the sends of the
   gathered rows, and the waits for what was sent. -/
module

public import proofs.«01_k».proof.Proof.Steps

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (m : (ℓ : Loc nD τ sig) → Buf (Elt F) ℓ) (κ : Dev nD × K → ℕ)

/-! ## Who pays which cell -/

theorem duty_rsS (c : Dev nD) (k : Fin 3) (d : Fin 7) : dutySet c (.rsS k (up1 d)) = {0} :=
  (show (if up1 d = 0 then ∅ else {0} : Finset (Dev nD)) = {0} from if_neg (by revert d; decide))
theorem duty_rsR (c : Dev nD) (k : Fin 3) (j : Fin 7) : dutySet c (.rsR k (lo1 j)) = {0} :=
  (show (if lo1 j = 7 then ∅ else {0} : Finset (Dev nD)) = {0} from if_neg (by revert j; decide))
theorem duty_agS (c : Dev nD) (d : Fin 7) : dutySet c (.agS (up1 d)) = {0} :=
  (show (if up1 d = 0 then ∅ else {0} : Finset (Dev nD)) = {0} from if_neg (by revert d; decide))
theorem duty_agR {c q : Dev nD} (h : q ≠ c) : dutySet c (.agR q) = {0} := if_neg h

/-! ## The signals -/

/-- What the signal at distance `d` needs. -/
def sigPart (c : Dev nD) (d : Fin 7) : sProp 𝕄 :=
  iprop(bundle c (up c d) ∗ dutyTok ER (cell (up c d) .bar) 0 c)

theorem signals_phase (c : Dev nD) (R : CellTallies nD τ sig Unit) :
    iprop(((Rec0 m κ ∗ opened c) ∗ debt c (owe (L7.map (sigItem c)) + R)) ∗ sepL (sigPart c) L7)
      ⊢ WP c (forEach (signal c) L7) (fun _ => iprop(((Rec0 m κ ∗ opened c) ∗ debt c (owe [] + R)) ∗ sepL (fun _ => iprop(emp)) L7)) :=
  wp_forEach (σ := Unit) c (fun l _ => iprop((Rec0 m κ ∗ opened c) ∗ debt c (owe (l.map (sigItem c)) + R))) (fun _ _ => ()) (sigPart c) (fun _ => iprop(emp)) (signal c)
    (fun d l _ => by
      have e : owe ((d :: l).map (sigItem c)) + R = (owe (l.map (sigItem c)) + R) + tallyAt (cell (up c d) .bar) () (amt .bar) :=
        add_right_comm _ _ _
      rw [e]
      unfold sigPart
      iintro ⟨⟨⟨#HR, #Hq⟩, HO⟩, Hb, Ht⟩
      ihave H := (wp_signal_peer m κ c d (owe (l.map (sigItem c)) + R)) $$ [HO Hb Ht]
      · isplitr; · iexact HR
        isplitl [HO]; · iexact HO
        isplitl [Hb]; · iexact Hb
        isplitr; · iexact Hq
        iexact Ht
      iapply (wp_wand _ _ _) $$ H
      iintro %u HO
      isplitl [HO]
      · isplitr
        · isplitr; · iexact HR
          iexact Hq
        iexact HO
      iempintro) L7 ()

/-! ## The sends of the chunks -/

/-- What the sends at distance `d` need: the chunk, the peer's slots, and the right to pay. -/
def chunkPart (c : Dev nD) (d : Fin 7) : sProp 𝕄 :=
  iprop((back m c 0 d ∗ (∃ f, held (dn c d) (slotO d) fullShare f)
      ∗ dutyTok ER (cell c (.rsS 0 (up1 d))) 0 0 ∗ dutyTok ER (cell (dn c d) (.rsR 0 (lo1 d))) 0 0)
    ∗ (back m c 1 d ∗ (∃ f, held (dn c d) (slotML d 0) fullShare f)
      ∗ dutyTok ER (cell c (.rsS 1 (up1 d))) 0 0 ∗ dutyTok ER (cell (dn c d) (.rsR 1 (lo1 d))) 0 0)
    ∗ (back m c 2 d ∗ (∃ f, held (dn c d) (slotML d 1) fullShare f)
      ∗ dutyTok ER (cell c (.rsS 2 (up1 d))) 0 0 ∗ dutyTok ER (cell (dn c d) (.rsR 2 (lo1 d))) 0 0))

/-- The right to wait for the sends at distance `d`. -/
def sentPart (c : Dev nD) (d : Fin 7) : sProp 𝕄 :=
  iprop(cred (tallyAt (cell c (.rsS 0 (up1 d))) () (amt (.rsS 0 (up1 d)))) ∗ cred (tallyAt (cell c (.rsS 1 (up1 d))) () (amt (.rsS 1 (up1 d))))
    ∗ cred (tallyAt (cell c (.rsS 2 (up1 d))) () (amt (.rsS 2 (up1 d)))))

theorem pay_rsS (c : Dev nD) (k : Fin 3) (d : Fin 7) : pay m c (.rsS k (up1 d)) 0 = back m c k d := by
  show back m c k (pr (up1 d)) = _; rw [pr_up1]
theorem pay_rsR (c : Dev nD) (k : Fin 3) (j : Fin 7) : pay m c (.rsR k (lo1 j)) 0 = arrived m c k j := by
  show arrived m c k (cap (lo1 j)) = _; rw [cap_lo1]
theorem pay_agS (c : Dev nD) (d : Fin 7) : pay m c (.agS (up1 d)) 0 = held c (gOwn c) (tok d) (agV m) := by
  show held c (gOwn c) (tok (pr (up1 d))) (agV m) = _; rw [pr_up1]

theorem land_O (c : Dev nD) (d : Fin 7) (fd : Buf (Elt F) ((slotO d).view.loc (dn c d : Thread nD τ))) :
    held (dn c d) (slotO d) fullShare ((slotO d).view.write (Elt F) fd ((srcO c d).view.read (Elt F) (inO m c)) Finset.univ)
      ⊢ pay m (dn c d) (.rsR 0 (lo1 d)) 0 := by
  rw [pay_rsR]
  show _ ⊢ held (dn c d) (slotO d) fullShare ((slotO d).view.rep (xO m (up (dn c d) d) d))
  rw [up_dn]
  exact pointsTo_rep_of_read (dn c d : Thread nD τ) (slotO d) _ fullShare (xO m c d) (View.read_write_univ _ _)
theorem land_M (c : Dev nD) (d : Fin 7) (fd : Buf (Elt F) ((slotML d 0).view.loc (dn c d : Thread nD τ))) :
    held (dn c d) (slotML d 0) fullShare ((slotML d 0).view.write (Elt F) fd ((srcM c d).view.read (Elt F) (inM m c)) Finset.univ)
      ⊢ pay m (dn c d) (.rsR 1 (lo1 d)) 0 := by
  rw [pay_rsR]
  show _ ⊢ held (dn c d) (slotML d 0) fullShare ((slotML d 0).view.rep (xM m (up (dn c d) d) d))
  rw [up_dn]
  exact pointsTo_rep_of_read (dn c d : Thread nD τ) (slotML d 0) _ fullShare (xM m c d) (View.read_write_univ _ _)
theorem land_L (c : Dev nD) (d : Fin 7) (fd : Buf (Elt F) ((slotML d 1).view.loc (dn c d : Thread nD τ))) :
    held (dn c d) (slotML d 1) fullShare ((slotML d 1).view.write (Elt F) fd ((srcL c d).view.read (Elt F) (inL m c)) Finset.univ)
      ⊢ pay m (dn c d) (.rsR 2 (lo1 d)) 0 := by
  rw [pay_rsR]
  show _ ⊢ held (dn c d) (slotML d 1) fullShare ((slotML d 1).view.rep (xL m (up (dn c d) d) d))
  rw [up_dn]
  exact pointsTo_rep_of_read (dn c d : Thread nD τ) (slotML d 1) _ fullShare (xL m c d) (View.read_write_univ _ _)

theorem chunk_step (c : Dev nD) (d : Fin 7) (O : CellTallies nD τ sig Unit) :
    iprop((Rec m κ ∗ debt c (owe (rsItem c d) + O)) ∗ chunkPart m c d)
      ⊢ WP c (sendChunk c d) (fun _ => iprop((Rec m κ ∗ debt c O) ∗ sentPart c d)) := by
  have e : owe (rsItem c d) + O = O + tallyAt (cell (dn c d) (.rsR 2 (lo1 d))) () (amt (.rsR 2 (lo1 d)))
      + tallyAt (cell (dn c d) (.rsR 1 (lo1 d))) () (amt (.rsR 1 (lo1 d)))
      + tallyAt (cell (dn c d) (.rsR 0 (lo1 d))) () (amt (.rsR 0 (lo1 d))) := by
    show 0 + _ + _ + _ + O = _
    rw [zero_add, add_comm, ← add_assoc, ← add_assoc]
  rw [e]
  unfold sendChunk chunkPart sentPart
  iintro ⟨⟨#HR, HO⟩, ⟨Hs0, Hd0, Ht0, Hu0⟩, ⟨Hs1, Hd1, Ht1, Hu1⟩, Hs2, Hd2, Ht2, Hu2⟩
  rw [WP, wp_bind]
  ihave H := (wp_send_one m κ c _ (dn c d) (oDev_eq c d) (srcO c d) (slotO d) (.rsS 0 (up1 d)) (.rsR 0 (lo1 d)) fullShare (inO m c)
    (duty_rsS c 0 d) (duty_rsR _ 0 d) rfl rfl (Entails.of_eq (pay_rsS m c 0 d).symm) (land_O m c d) _) $$ [HO Hs0 Hd0 Ht0 Hu0]
  · isplitr; · iexact HR
    isplitl [HO]; · iexact HO
    isplitl [Hs0]; · unfold back; iexact Hs0
    isplitl [Hd0]; · iexact Hd0
    isplitl [Ht0] <;> iassumption
  iapply (wp_wand _ _ _) $$ H
  iintro %u ⟨HO, Hc0⟩
  rw [wp_bind]
  ihave H := (wp_send_one m κ c _ (dn c d) (mDev_eq c d) (srcM c d) (slotML d 0) (.rsS 1 (up1 d)) (.rsR 1 (lo1 d)) fullShare (inM m c)
    (duty_rsS c 1 d) (duty_rsR _ 1 d) rfl rfl (Entails.of_eq (pay_rsS m c 1 d).symm) (land_M m c d) _) $$ [HO Hs1 Hd1 Ht1 Hu1]
  · isplitr; · iexact HR
    isplitl [HO]; · iexact HO
    isplitl [Hs1]; · unfold back; iexact Hs1
    isplitl [Hd1]; · iexact Hd1
    isplitl [Ht1] <;> iassumption
  iapply (wp_wand _ _ _) $$ H
  iintro %u ⟨HO, Hc1⟩
  ihave H := (wp_send_one m κ c _ (dn c d) (lDev_eq c d) (srcL c d) (slotML d 1) (.rsS 2 (up1 d)) (.rsR 2 (lo1 d)) fullShare (inL m c)
    (duty_rsS c 2 d) (duty_rsR _ 2 d) rfl rfl (Entails.of_eq (pay_rsS m c 2 d).symm) (land_L m c d) O) $$ [HO Hs2 Hd2 Ht2 Hu2]
  · isplitr; · iexact HR
    isplitl [HO]; · iexact HO
    isplitl [Hs2]; · unfold back; iexact Hs2
    isplitl [Hd2]; · iexact Hd2
    isplitl [Ht2] <;> iassumption
  iapply (wp_wand _ _ _) $$ H
  iintro %u ⟨HO, Hc2⟩
  isplitl [HO]
  · isplitr; · iexact HR
    iexact HO
  isplitl [Hc0]; · iexact Hc0
  isplitl [Hc1] <;> iassumption

theorem chunks_phase (c : Dev nD) (R : CellTallies nD τ sig Unit) :
    iprop((Rec m κ ∗ debt c (owe (L7.flatMap (rsItem c)) + R)) ∗ sepL (chunkPart m c) L7)
      ⊢ WP c (forEach (sendChunk c) L7) (fun _ => iprop((Rec m κ ∗ debt c (owe [] + R)) ∗ sepL (sentPart c) L7)) :=
  wp_forEach (σ := Unit) c (fun l _ => iprop(Rec m κ ∗ debt c (owe (l.flatMap (rsItem c)) + R))) (fun _ _ => ()) (chunkPart m c) (sentPart c) (sendChunk c)
    (fun d l _ => by
      rw [List.flatMap_cons, owe_append, add_assoc]
      exact chunk_step m κ c d _) L7 ()

/-! ## The arrivals of a hop -/

/-- The right to wait for slot `j`'s chunks, and its position. -/
def duePart (c : Dev nD) (j : Fin 7) : sProp 𝕄 :=
  iprop((cred (tallyAt (cell c (.rsR 0 (lo1 j))) () (amt (.rsR 0 (lo1 j)))) ∗ atPos ER (cell c (.rsR 0 (lo1 j))) 0 ∅ 0)
    ∗ (cred (tallyAt (cell c (.rsR 1 (lo1 j))) () (amt (.rsR 1 (lo1 j)))) ∗ atPos ER (cell c (.rsR 1 (lo1 j))) 0 ∅ 0)
    ∗ (cred (tallyAt (cell c (.rsR 2 (lo1 j))) () (amt (.rsR 2 (lo1 j)))) ∗ atPos ER (cell c (.rsR 2 (lo1 j))) 0 ∅ 0))

/-- The arrived chunks. -/
def gotPart (c : Dev nD) (j : Fin 7) : sProp 𝕄 :=
  iprop((held c (slotO j) fullShare (sO m c j) ∗ atPos ER (cell c (.rsR 0 (lo1 j))) 1 ∅ 0)
    ∗ (held c (slotML j 0) fullShare (sM m c j) ∗ atPos ER (cell c (.rsR 1 (lo1 j))) 1 ∅ 0)
    ∗ (held c (slotML j 1) fullShare (sL m c j) ∗ atPos ER (cell c (.rsR 2 (lo1 j))) 1 ∅ 0))

theorem hopWait_step (c : Dev nD) (j : Fin 7) (l : List (Dev nD × K)) (hl : ∀ a ∈ l, 2 < klev a.2) :
    iprop((Rec m κ ∗ debt c (owe l)) ∗ duePart c j)
      ⊢ WP c (hopWait c j) (fun _ => iprop((Rec m κ ∗ debt c (owe l)) ∗ gotPart m c j)) := by
  unfold hopWait duePart gotPart
  iintro ⟨⟨#HR, HO⟩, ⟨Hc0, Ha0⟩, ⟨Hc1, Ha1⟩, Hc2, Ha2⟩
  rw [WP, wp_bind]
  ihave H := (wp_wait_one m κ c (.rsR 0 (lo1 j)) (.waitDma2 (smR 0 (lo1 j)) (srcO c j) (slotO j) (wx_srcO c j) (wx_slotO j))
    (wpE_waitDma2_eq Variants.none (c : Thread nD τ) none Set.univ) (duty_rsR c 0 j) l hl) $$ [HO Hc0 Ha0]
  · isplitr; · iexact HR
    isplitl [HO]; · iexact HO
    isplitl [Hc0] <;> iassumption
  iapply (wp_wand _ _ _) $$ H
  iintro %u ⟨HO, Ha0, Hp0⟩
  ihave Hp0 := (Entails.of_eq (pay_rsR m c 0 j)) $$ Hp0
  rw [wp_bind]
  ihave H := (wp_wait_one m κ c (.rsR 1 (lo1 j)) (.waitDma2 (smR 1 (lo1 j)) (srcM c j) (slotML j 0) (View.wordExact_bits rfl) (wx_slotML j 0))
    (wpE_waitDma2_eq Variants.none (c : Thread nD τ) none Set.univ) (duty_rsR c 1 j) l hl) $$ [HO Hc1 Ha1]
  · isplitr; · iexact HR
    isplitl [HO]; · iexact HO
    isplitl [Hc1] <;> iassumption
  iapply (wp_wand _ _ _) $$ H
  iintro %u ⟨HO, Ha1, Hp1⟩
  ihave Hp1 := (Entails.of_eq (pay_rsR m c 1 j)) $$ Hp1
  ihave H := (wp_wait_one m κ c (.rsR 2 (lo1 j)) (.waitDma2 (smR 2 (lo1 j)) (srcL c j) (slotML j 1) (View.wordExact_bits rfl) (wx_slotML j 1))
    (wpE_waitDma2_eq Variants.none (c : Thread nD τ) none Set.univ) (duty_rsR c 2 j) l hl) $$ [HO Hc2 Ha2]
  · isplitr; · iexact HR
    isplitl [HO]; · iexact HO
    isplitl [Hc2] <;> iassumption
  iapply (wp_wand _ _ _) $$ H
  iintro %u ⟨HO, Ha2, Hp2⟩
  ihave Hp2 := (Entails.of_eq (pay_rsR m c 2 j)) $$ Hp2
  unfold arrived
  isplitl [HO]
  · isplitr; · iexact HR
    iexact HO
  isplitl [Hp0 Ha0]
  · isplitl [Hp0] <;> iassumption
  isplitl [Hp1 Ha1]
  · isplitl [Hp1] <;> iassumption
  isplitl [Hp2] <;> iassumption

/-! ## The sends of the gathered rows -/

def rowsPart (c : Dev nD) (d : Fin 7) : sProp 𝕄 :=
  iprop(held c (gOwn c) (tok d) (agV m) ∗ (∃ f, held (up c d) (gOwn c) fullShare f)
    ∗ dutyTok ER (cell c (.agS (up1 d))) 0 0 ∗ dutyTok ER (cell (up c d) (.agR c)) 0 0)

def rowsSent (c : Dev nD) (d : Fin 7) : sProp 𝕄 :=
  cred (tallyAt (cell c (.agS (up1 d))) () (amt (.agS (up1 d))))

/-- Contents written with what a view reads from others are those others on the view. -/
theorem write_read_on {s : Shape} {e : EltTy} {sp : Space} (v : View sig .tc sp s e) (fd f : v.ty.Contents (Elt F)) {i : v.ty.shape.Idx}
    (h : i ∈ v.set) : v.write (Elt F) fd (v.read (Elt F) f) Finset.univ i = f i := by
  rw [View.write_read_eq_piecewise]
  exact Finset.piecewise_eq_of_mem _ _ _ (by rw [View.setOn_univ]; exact h)

theorem land_G (c : Dev nD) (d : Fin 7) (fd : Buf (Elt F) ((gOwn c).view.loc (up c d : Thread nD τ))) :
    held (up c d) (gOwn c) fullShare ((gOwn c).view.write (Elt F) fd ((gOwn c).view.read (Elt F) (agV m)) Finset.univ)
      ⊢ pay m (up c d) (.agR c) 0 := by
  refine Entails.of_eq (pointsTo_congr fun i hi => ?_)
  exact write_read_on (gOwn c).view fd (agV m) hi

theorem rows_step (c : Dev nD) (d : Fin 7) (O : CellTallies nD τ sig Unit) :
    iprop((Rec m κ ∗ debt c (O + tallyAt (cell (up c d) (.agR c)) () (amt (.agR c)))) ∗ rowsPart m c d)
      ⊢ WP c (gSend c d) (fun _ => iprop((Rec m κ ∗ debt c O) ∗ rowsSent c d)) := by
  unfold gSend rowsPart rowsSent
  iintro ⟨⟨#HR, HO⟩, Hs, Hd, Ht, Hu⟩
  ihave H := (wp_send_one m κ c _ (up c d) (gDev_eq c d) (gOwn c) (gOwn c) (.agS (up1 d)) (.agR c) (tok d) (agV m)
    (duty_agS c d) (duty_agR (up_ne c d).symm) rfl rfl (Entails.of_eq (pay_agS m c d).symm) (land_G m c d) O) $$ [HO Hs Hd Ht Hu]
  · isplitr; · iexact HR
    isplitl [HO]; · iexact HO
    isplitl [Hs]; · iexact Hs
    isplitl [Hd]; · iexact Hd
    isplitl [Ht] <;> iassumption
  iapply (wp_wand _ _ _) $$ H
  iintro %u ⟨HO, Hc⟩
  isplitl [HO]
  · isplitr; · iexact HR
    iexact HO
  iexact Hc

theorem rows_phase (c : Dev nD) (R : CellTallies nD τ sig Unit) :
    iprop((Rec m κ ∗ debt c (owe (L7.map (agItem c)) + R)) ∗ sepL (rowsPart m c) L7)
      ⊢ WP c (forEach (gSend c) L7) (fun _ => iprop((Rec m κ ∗ debt c (owe [] + R)) ∗ sepL (rowsSent c) L7)) :=
  wp_forEach (σ := Unit) c (fun l _ => iprop(Rec m κ ∗ debt c (owe (l.map (agItem c)) + R))) (fun _ _ => ()) (rowsPart m c) (rowsSent c) (gSend c)
    (fun d l _ => by
      have e : owe ((d :: l).map (agItem c)) + R = (owe (l.map (agItem c)) + R) + tallyAt (cell (up c d) (.agR c)) () (amt (.agR c)) :=
        add_right_comm _ _ _
      rw [e]
      exact rows_step m κ c d _) L7 ()

/-! ## The arrivals of the gathered rows -/

def rowsDue (c : Dev nD) (d : Fin 7) : sProp 𝕄 :=
  iprop(cred (tallyAt (cell c (.agR (up c d))) () (amt (.agR (up c d)))) ∗ atPos ER (cell c (.agR (up c d))) 0 ∅ 0)
def rowsGot (c : Dev nD) (d : Fin 7) : sProp 𝕄 :=
  iprop(held c (gOwn (up c d)) fullShare (agV m) ∗ atPos ER (cell c (.agR (up c d))) 1 ∅ 0)

theorem gWait_phase (c : Dev nD) :
    iprop((Rec m κ ∗ debt c (owe [])) ∗ sepL (rowsDue c) L7)
      ⊢ WP c (forEach (gWait c) L7) (fun _ => iprop((Rec m κ ∗ debt c (owe [])) ∗ sepL (rowsGot m c) L7)) :=
  wp_forEach (σ := Unit) c (fun _ _ => iprop(Rec m κ ∗ debt c (owe []))) (fun _ _ => ()) (rowsDue c) (rowsGot m c) (gWait c)
    (fun d l _ => by
      unfold gWait rowsDue rowsGot
      iintro ⟨⟨#HR, HO⟩, Hc, Ha⟩
      ihave H := (wp_wait_one m κ c (.agR (up c d)) (.waitDma2 (smHf c d) (gFrom c d) (gFrom c d) (wx_gFrom c d) (wx_gFrom c d))
        (fun Q => (wpE_waitDma2_eq Variants.none (c : Thread nD τ) none Set.univ Q).trans (by rw [smHf_eq]; rfl))
        (duty_agR (up_ne c d)) [] (fun _ h => absurd h List.not_mem_nil)) $$ [HO Hc Ha]
      · isplitr; · iexact HR
        isplitl [HO]; · iexact HO
        isplitl [Hc] <;> iassumption
      iapply (wp_wand _ _ _) $$ H
      iintro %u ⟨HO, Ha, Hp⟩
      isplitl [HO]
      · isplitr; · iexact HR
        iexact HO
      isplitl [Hp]; · unfold pay; iexact Hp
      iexact Ha) L7 ()

/-! ## The waits for what was sent -/

/-- The right to wait for the sends at distance `d`, and the positions. -/
def sentDue (c : Dev nD) (d : Fin 7) : sProp 𝕄 :=
  iprop(sentPart c d ∗ atPos ER (cell c (.rsS 0 (up1 d))) 0 ∅ 0 ∗ atPos ER (cell c (.rsS 1 (up1 d))) 0 ∅ 0
    ∗ atPos ER (cell c (.rsS 2 (up1 d))) 0 ∅ 0)
def sentBack (c : Dev nD) (d : Fin 7) : sProp 𝕄 :=
  iprop((back m c 0 d ∗ back m c 1 d ∗ back m c 2 d) ∗ atPos ER (cell c (.rsS 0 (up1 d))) 1 ∅ 0 ∗ atPos ER (cell c (.rsS 1 (up1 d))) 1 ∅ 0
    ∗ atPos ER (cell c (.rsS 2 (up1 d))) 1 ∅ 0)

theorem sendWait_phase (c : Dev nD) :
    iprop((Rec m κ ∗ debt c (owe [])) ∗ sepL (sentDue c) L7)
      ⊢ WP c (forEach (sendWait c) L7) (fun _ => iprop((Rec m κ ∗ debt c (owe [])) ∗ sepL (sentBack m c) L7)) :=
  wp_forEach (σ := Unit) c (fun _ _ => iprop(Rec m κ ∗ debt c (owe []))) (fun _ _ => ()) (sentDue c) (sentBack m c) (sendWait c)
    (fun d l _ => by
      unfold sendWait sentDue sentBack sentPart
      iintro ⟨⟨#HR, HO⟩, ⟨Hc0, Hc1, Hc2⟩, Ha0, Ha1, Ha2⟩
      rw [WP, wp_bind]
      ihave H := (wp_wait_one m κ c (.rsS 0 (up1 d)) (.waitDma2 (smS 0 (up1 d)) (slotO d) (srcO c d) (wx_slotO d) (wx_srcO c d))
        (wpE_waitDma2_eq Variants.none (c : Thread nD τ) none Set.univ)
        (duty_rsS c 0 d) [] (fun _ h => absurd h List.not_mem_nil)) $$ [HO Hc0 Ha0]
      · isplitr; · iexact HR
        isplitl [HO]; · iexact HO
        isplitl [Hc0] <;> iassumption
      iapply (wp_wand _ _ _) $$ H
      iintro %u ⟨HO, Ha0, Hp0⟩
      ihave Hp0 := (Entails.of_eq (pay_rsS m c 0 d)) $$ Hp0
      rw [wp_bind]
      ihave H := (wp_wait_one m κ c (.rsS 1 (up1 d)) (.waitDma2 (smS 1 (up1 d)) (slotML d 0) (srcM c d) (wx_slotML d 0) (View.wordExact_bits rfl))
        (wpE_waitDma2_eq Variants.none (c : Thread nD τ) none Set.univ)
        (duty_rsS c 1 d) [] (fun _ h => absurd h List.not_mem_nil)) $$ [HO Hc1 Ha1]
      · isplitr; · iexact HR
        isplitl [HO]; · iexact HO
        isplitl [Hc1] <;> iassumption
      iapply (wp_wand _ _ _) $$ H
      iintro %u ⟨HO, Ha1, Hp1⟩
      ihave Hp1 := (Entails.of_eq (pay_rsS m c 1 d)) $$ Hp1
      ihave H := (wp_wait_one m κ c (.rsS 2 (up1 d)) (.waitDma2 (smS 2 (up1 d)) (slotML d 1) (srcL c d) (wx_slotML d 1) (View.wordExact_bits rfl))
        (wpE_waitDma2_eq Variants.none (c : Thread nD τ) none Set.univ)
        (duty_rsS c 2 d) [] (fun _ h => absurd h List.not_mem_nil)) $$ [HO Hc2 Ha2]
      · isplitr; · iexact HR
        isplitl [HO]; · iexact HO
        isplitl [Hc2] <;> iassumption
      iapply (wp_wand _ _ _) $$ H
      iintro %u ⟨HO, Ha2, Hp2⟩
      ihave Hp2 := (Entails.of_eq (pay_rsS m c 2 d)) $$ Hp2
      isplitl [HO]
      · isplitr; · iexact HR
        iexact HO
      isplitl [Hp0 Hp1 Hp2]
      · isplitl [Hp0]; · iexact Hp0
        isplitl [Hp1] <;> iassumption
      isplitl [Ha0]; · iexact Ha0
      isplitl [Ha1] <;> iassumption) L7 ()

def rowsSentDue (c : Dev nD) (d : Fin 7) : sProp 𝕄 := iprop(rowsSent c d ∗ atPos ER (cell c (.agS (up1 d))) 0 ∅ 0)
def rowsBack (c : Dev nD) (d : Fin 7) : sProp 𝕄 :=
  iprop(held c (gOwn c) (tok d) (agV m) ∗ atPos ER (cell c (.agS (up1 d))) 1 ∅ 0)

theorem gSendWait_phase (c : Dev nD) :
    iprop((Rec m κ ∗ debt c (owe [])) ∗ sepL (rowsSentDue c) L7)
      ⊢ WP c (forEach (gSendWait c) L7) (fun _ => iprop((Rec m κ ∗ debt c (owe [])) ∗ sepL (rowsBack m c) L7)) :=
  wp_forEach (σ := Unit) c (fun _ _ => iprop(Rec m κ ∗ debt c (owe []))) (fun _ _ => ()) (rowsSentDue c) (rowsBack m c) (gSendWait c)
    (fun d l _ => by
      unfold gSendWait rowsSentDue rowsBack rowsSent
      iintro ⟨⟨#HR, HO⟩, Hc, Ha⟩
      ihave H := (wp_wait_one m κ c (.agS (up1 d)) (.waitDma2 (smG (up1 d)) (gOwn c) (gOwn c) (wx_gOwn c) (wx_gOwn c))
        (wpE_waitDma2_eq Variants.none (c : Thread nD τ) none Set.univ)
        (duty_agS c d) [] (fun _ h => absurd h List.not_mem_nil)) $$ [HO Hc Ha]
      · isplitr; · iexact HR
        isplitl [HO]; · iexact HO
        isplitl [Hc] <;> iassumption
      iapply (wp_wand _ _ _) $$ H
      iintro %u ⟨HO, Ha, Hp⟩
      ihave Hp := (Entails.of_eq (pay_agS m c d)) $$ Hp
      isplitl [HO]
      · isplitr; · iexact HR
        iexact HO
      isplitl [Hp] <;> iassumption) L7 ()

end Cert.KernelIdeal.Hand

end
-- ==== Proof.Compute.lean ====
/- The phases of the body in which a device works alone: its own chunk, the merge of a hop, its rows of the result, the
   blocks of the output. -/
module

public import proofs.«01_k».proof.Proof.Talk

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (m : (ℓ : Loc nD τ sig) → Buf (Elt F) ℓ) (κ : Dev nD × K → ℕ)

/-- A whole buffer of device `c`. -/
abbrev pt (c : Dev nD) (b : Ref sig .tc) (f : b.ty.Contents (Elt F)) : sProp 𝕄 := ((c : Thread nD τ).loc b) ↦{fullShare} f

theorem setOn_slice_le {sp : Space} {s : Shape} {e : EltTy} (v : View sig .tc sp s e) (r : Rect s) : v.setOn r.set ⊆ (v.slice r).set := by
  rw [View.set_slice]; exact Finset.Subset.refl _

theorem slotO_le (j : Fin 7) : rO.view.setOn (rSlotO j).toLoadRect.set ⊆ (slotO j).view.set :=
  (setOn_slice_le rO.view (rSlotO j)).trans (View.set_reshape (rO.view.slice (rSlotO j)) squeezes_S1x256x1024_S256x1024.numel_eq).symm.subset
theorem slotML_le (j : Fin 7) (k : Fin 2) : rM.view.setOn (rSlotM j k).toLoadRect.set ⊆ (slotML j k).view.set :=
  (setOn_slice_le rM.view (rSlotM j k)).trans (View.set_reshape (rM.view.slice (rSlotM j k)) squeezes_S1x1x256x8_S256x8.numel_eq).symm.subset

theorem hz2 : (![0, 0] : Fin 2 → Nat) = fun _ => 0 := funext fun a => by fin_cases a <;> rfl

/-! ## Loads and stores of the accumulators, by the names of what they read and write -/

theorem ld_head {α : Type} {c : Dev nD} {Q : α → sProp 𝕄} (h : Fin 8) (f : AO F) {hl : aO.view.LoadsAt (rHead h).toLoadRect} {k : Vec F S256x128 .f32 → PG F α} :
    (pt c cc1_scratch0 f : sProp 𝕄) ⊢ iprop((pt c cc1_scratch0 f -∗ WP c (k (rdHead h f)) Q) -∗ WP c (.op (.load aO (rHead h).toLoadRect hl) k) Q) :=
  wp_load Variants.none (c : Thread nD τ) none Set.univ (m := aO) (Finset.subset_univ _)

theorem st_head {α : Type} {c : Dev nD} {Q : α → sProp 𝕄} (h : Fin 8) (f : AO F) (w : Vec F S256x128 .f32) {hx : (aO.access (rHead h)).Stores Finset.univ}
    {hm : Finset.univ = Finset.univ ∨ ∀ a, (rHead h).stride a = 1} {k : PUnit → PG F α} :
    (pt c cc1_scratch0 f : sProp 𝕄) ⊢ iprop((pt c cc1_scratch0 (wrHead h f w) -∗ WP c (k ⟨⟩) Q)
      -∗ WP c (.op (.store aO (rHead h) w Finset.univ hx hm) k) Q) :=
  wp_store Variants.none (c : Thread nD τ) none Set.univ (m := aO) (r := rHead h) (Mk := Finset.univ) (Finset.subset_univ _)

theorem ld_plane {α : Type} {c : Dev nD} {Q : α → sProp 𝕄} (p : Fin 2) (f : AM F) {hl : aM.view.LoadsAt (rPlane p).toLoadRect} {k : Vec F S1x256x8 .f32 → PG F α} :
    (pt c cc1_scratch1 f : sProp 𝕄) ⊢ iprop((pt c cc1_scratch1 f -∗ WP c (k (rdPlane p f)) Q) -∗ WP c (.op (.load aM (rPlane p).toLoadRect hl) k) Q) :=
  wp_load Variants.none (c : Thread nD τ) none Set.univ (m := aM) (Finset.subset_univ _)

theorem st_plane {α : Type} {c : Dev nD} {Q : α → sProp 𝕄} (p : Fin 2) (f : AM F) (w : Vec F S1x256x8 .f32) {hx : (aM.access (rPlane p)).Stores Finset.univ}
    {hm : Finset.univ = Finset.univ ∨ ∀ a, (rPlane p).stride a = 1} {k : PUnit → PG F α} :
    (pt c cc1_scratch1 f : sProp 𝕄) ⊢ iprop((pt c cc1_scratch1 (wrPlane p f w) -∗ WP c (k ⟨⟩) Q)
      -∗ WP c (.op (.store aM (rPlane p) w Finset.univ hx hm) k) Q) :=
  wp_store Variants.none (c : Thread nD τ) none Set.univ (m := aM) (r := rPlane p) (Mk := Finset.univ) (Finset.subset_univ _)

abbrev rAll : Rect S256x1024 := Rect.unit (s := S256x1024) ![0, 0] S256x1024.size inb_S256x1024_S256x1024_0_0

theorem wr_all (f w : AO F) : (aO.access rAll).write (Elt F) f w Finset.univ = w :=
  Memref.write_access_unit_zero_univ (Elt F) cc1_scratch0 hz2 _ f w

theorem st_all {α : Type} {c : Dev nD} {Q : α → sProp 𝕄} (f : AO F) (w : AO F) {hx : (aO.access rAll).Stores Finset.univ}
    {hm : Finset.univ = Finset.univ ∨ ∀ a, rAll.stride a = 1} {k : PUnit → PG F α} :
    (pt c cc1_scratch0 f : sProp 𝕄) ⊢ iprop((pt c cc1_scratch0 w -∗ WP c (k ⟨⟩) Q) -∗ WP c (.op (.store aO rAll w Finset.univ hx hm) k) Q) := by
  have e : (pt c cc1_scratch0 w : sProp 𝕄) = pt c cc1_scratch0 ((aO.access rAll).write (Elt F) f w Finset.univ) := by rw [wr_all]
  rw [e]
  exact wp_store Variants.none (c : Thread nD τ) none Set.univ (m := aO) (r := rAll) (Mk := Finset.univ) (Finset.subset_univ _)

theorem ld_slotO {α : Type} {c : Dev nD} {Q : α → sProp 𝕄} (j : Fin 7) {hl : rO.view.LoadsAt (rSlotO j).toLoadRect} {k : Vec F S1x256x1024 .bf16 → PG F α} :
    (held c (slotO j) fullShare (sO m c j) : sProp 𝕄)
      ⊢ iprop((held c (slotO j) fullShare (sO m c j) -∗ WP c (k (yO m c j)) Q) -∗ WP c (.op (.load rO (rSlotO j).toLoadRect hl) k) Q) :=
  wp_load Variants.none (c : Thread nD τ) none Set.univ (m := rO) (slotO_le j)

theorem ld_slotM {α : Type} {c : Dev nD} {Q : α → sProp 𝕄} (j : Fin 7) {hl : rM.view.LoadsAt (rSlotM j 0).toLoadRect} {k : Vec F S1x1x256x8 .f32 → PG F α} :
    (held c (slotML j 0) fullShare (sM m c j) : sProp 𝕄)
      ⊢ iprop((held c (slotML j 0) fullShare (sM m c j) -∗ WP c (k (yM m c j)) Q) -∗ WP c (.op (.load rM (rSlotM j 0).toLoadRect hl) k) Q) :=
  wp_load Variants.none (c : Thread nD τ) none Set.univ (m := rM) (slotML_le j 0)

theorem ld_slotL {α : Type} {c : Dev nD} {Q : α → sProp 𝕄} (j : Fin 7) {hl : rM.view.LoadsAt (rSlotM j 1).toLoadRect} {k : Vec F S1x1x256x8 .f32 → PG F α} :
    (held c (slotML j 1) fullShare (sL m c j) : sProp 𝕄)
      ⊢ iprop((held c (slotML j 1) fullShare (sL m c j) -∗ WP c (k (yL m c j)) Q) -∗ WP c (.op (.load rM (rSlotM j 1).toLoadRect hl) k) Q) :=
  wp_load Variants.none (c : Thread nD τ) none Set.univ (m := rM) (slotML_le j 1)

theorem ld_block {α : Type} {c : Dev nD} {Q : α → sProp 𝕄} (b : Fin 32) (q : PosShare TreeShare) (g : AG F) {hl : gB.view.LoadsAt (rSrc b).toLoadRect} {k : Vec F S64x1024 .bf16 → PG F α} :
    ((((c : Thread nD τ).loc cc1_scratch4) ↦{q} g) : sProp 𝕄)
      ⊢ iprop(((((c : Thread nD τ).loc cc1_scratch4) ↦{q} g) -∗ WP c (k (rdSrc b g)) Q) -∗ WP c (.op (.load gB (rSrc b).toLoadRect hl) k) Q) :=
  wp_load Variants.none (c : Thread nD τ) none Set.univ (m := gB) (Finset.subset_univ _)

theorem st_out {α : Type} {c : Dev nD} {Q : α → sProp 𝕄} (b : Fin 32) (g : AG F) (f : OU F) {hx : (bOut.access (rDst b)).Stores Finset.univ}
    {hm : Finset.univ = Finset.univ ∨ ∀ a, (rDst b).stride a = 1} {k : PUnit → PG F α} :
    (pt c cc1_stg4_0 f : sProp 𝕄) ⊢ iprop((pt c cc1_stg4_0 (stepOut g f b) -∗ WP c (k ⟨⟩) Q)
      -∗ WP c (.op (.store bOut (rDst b) (outVal (rdSrc b g)) Finset.univ hx hm) k) Q) :=
  wp_store Variants.none (c : Thread nD τ) none Set.univ (m := bOut) (r := rDst b) (Mk := Finset.univ) (Finset.subset_univ _)

/-! ## The device's own chunk -/

abbrev ownSO (c : Dev nD) : Memref sig .tc .vmem S256x1024 .bf16 :=
  bO.slice (Rect.unit (s := S2112x1024) (k1_off3 c) S256x1024.size (k1_off3_inb c)) (fun _ => rfl)
abbrev ownSM (c : Dev nD) : Memref sig .tc .vmem S256x8 .f32 :=
  bM.slice (Rect.unit (s := S2112x8) (k1_off4 c) S256x8.size (k1_off4_inb c)) (fun _ => rfl)
abbrev ownSL (c : Dev nD) : Memref sig .tc .vmem S256x8 .f32 :=
  bL.slice (Rect.unit (s := S2112x8) (k1_off4 c) S256x8.size (k1_off4_inb c)) (fun _ => rfl)

abbrev rOwnO (c : Dev nD) : Rect S2112x1024 := Rect.unit (s := S2112x1024) (k1_off3 c) S256x1024.size (k1_off3_inb c)
abbrev rOwnM (c : Dev nD) : Rect S2112x8 := Rect.unit (s := S2112x8) (k1_off4 c) S256x8.size (k1_off4_inb c)

theorem ld_ownO {α : Type} {c : Dev nD} {Q : α → sProp 𝕄} {hl : bO.view.LoadsAt (rOwnO c).toLoadRect} {k : Vec F S256x1024 .bf16 → PG F α} :
    (held c (ownSO c) fullShare (inO m c) : sProp 𝕄) ⊢ iprop((held c (ownSO c) fullShare (inO m c)
      -∗ WP c (k (bO.view.readAt (Elt F) (rOwnO c).toLoadRect (inO m c))) Q) -∗ WP c (.op (.load bO (rOwnO c).toLoadRect hl) k) Q) :=
  wp_load Variants.none (c : Thread nD τ) none Set.univ (m := bO) (setOn_slice_le bO.view (rOwnO c))
theorem ld_ownM {α : Type} {c : Dev nD} {Q : α → sProp 𝕄} {hl : bM.view.LoadsAt (rOwnM c).toLoadRect} {k : Vec F S256x8 .f32 → PG F α} :
    (held c (ownSM c) fullShare (inM m c) : sProp 𝕄) ⊢ iprop((held c (ownSM c) fullShare (inM m c)
      -∗ WP c (k (bM.view.readAt (Elt F) (rOwnM c).toLoadRect (inM m c))) Q) -∗ WP c (.op (.load bM (rOwnM c).toLoadRect hl) k) Q) :=
  wp_load Variants.none (c : Thread nD τ) none Set.univ (m := bM) (setOn_slice_le bM.view (rOwnM c))
theorem ld_ownL {α : Type} {c : Dev nD} {Q : α → sProp 𝕄} {hl : bL.view.LoadsAt (rOwnM c).toLoadRect} {k : Vec F S256x8 .f32 → PG F α} :
    (held c (ownSL c) fullShare (inL m c) : sProp 𝕄) ⊢ iprop((held c (ownSL c) fullShare (inL m c)
      -∗ WP c (k (bL.view.readAt (Elt F) (rOwnM c).toLoadRect (inL m c))) Q) -∗ WP c (.op (.load bL (rOwnM c).toLoadRect hl) k) Q) :=
  wp_load Variants.none (c : Thread nD τ) none Set.univ (m := bL) (setOn_slice_le bL.view (rOwnM c))

/-- A plane of maxima or denominators covers its own indices. -/
theorem mem_plane (k : Fin 2) {i : S2x256x8.Idx} (h : (i 0).val = k.val) : i ∈ (aM.access (rPlane k)).setOn Finset.univ := by
  rw [View.setOn_univ, View.set_slice_whole, Rect.mem_set_unit]
  intro a
  have h0 := (i 0).isLt; have h1 := (i 1).isLt; have h2 := (i 2).isLt
  fin_cases a
  · exact ⟨le_of_eq h.symm, by show (i 0).val < k.val + 1; omega⟩
  · exact ⟨Nat.zero_le _, by show (i 1).val < 0 + 256; rw [Nat.zero_add]; exact h1⟩
  · exact ⟨Nat.zero_le _, by show (i 2).val < 0 + 8; rw [Nat.zero_add]; exact h2⟩

/-- Both planes written: what was there before does not matter. -/
theorem planes_cover (f g : AM F) (a b : Vec F S1x256x8 .f32) : wrPlane 1 (wrPlane 0 f a) b = wrPlane 1 (wrPlane 0 g a) b := by
  funext i
  refine View.write_congr (fun _ _ _ => rfl) fun h1 => View.write_congr (fun _ _ _ => rfl) fun h0 => ?_
  have hi : (i 0).val < 2 := (i 0).isLt
  rcases (show (i 0).val = 0 ∨ (i 0).val = 1 by omega) with h | h
  · exact absurd (mem_plane 0 h) h0
  · exact absurd (mem_plane 1 h) h1

def ownHeld (c : Dev nD) : sProp 𝕄 :=
  iprop(held c (ownSO c) fullShare (inO m c) ∗ held c (ownSM c) fullShare (inM m c) ∗ held c (ownSL c) fullShare (inL m c))

theorem own_phase (c : Dev nD) (fa : AO F) (fm : AM F) :
    iprop(ownHeld m c ∗ pt c cc1_scratch0 fa ∗ pt c cc1_scratch1 fm)
      ⊢ WP c (ownChunk c) (fun _ => iprop(ownHeld m c ∗ pt c cc1_scratch0 (own m c).1 ∗ pt c cc1_scratch1 (own m c).2)) := by
  unfold ownChunk ownHeld
  simp only [Prog.lift, Prog.bind_op, Prog.bind_ret, Prog.pure_eq_ret]
  iintro ⟨⟨HO, HM, HL⟩, Ha, Hm⟩
  iapply (ld_ownO m) $$ HO; iintro HO
  iapply (wp_load Variants.none (c : Thread nD τ) none Set.univ (m := aO) (Finset.subset_univ _)) $$ Ha; iintro Ha
  iapply (st_all _ (ownO m c)) $$ Ha; iintro Ha
  iapply (ld_ownM m) $$ HM; iintro HM
  iapply (wp_load Variants.none (c : Thread nD τ) none Set.univ (m := aM) (Finset.subset_univ _)) $$ Hm; iintro Hm
  iapply (st_plane 0 fm (ownM m c)) $$ Hm; iintro Hm
  iapply (ld_ownL m) $$ HL; iintro HL
  iapply (wp_load Variants.none (c : Thread nD τ) none Set.univ (m := aM) (Finset.subset_univ _)) $$ Hm; iintro Hm
  iapply (st_plane 1 _ (ownL m c)) $$ Hm; iintro Hm
  rw [WP, wp_ret]; imodintro
  isplitl [HO HM HL]
  · isplitl [HO]; · iexact HO
    isplitl [HM] <;> iassumption
  isplitl [Ha]
  · rw [show (own m c).1 = ownO m c from rfl]
    iexact Ha
  · rw [show (own m c).2 = wrPlane 1 (wrPlane 0 fm (ownM m c)) (ownL m c) from planes_cover _ _ _ _]
    iexact Hm

/-! ## A hop -/

/-- The heads of a hop. -/
theorem heads_phase (c : Dev nD) (j : Fin 7) (al ar : FVec F S256x8 .f32) (fa : AO F) :
    iprop((held c (slotO j) fullShare (sO m c j) ∗ pt c cc1_scratch0 fa) ∗ sepL (fun _ => iprop(emp)) L8)
      ⊢ WP c (forEach (head j al ar) L8) (fun _ => iprop((held c (slotO j) fullShare (sO m c j)
          ∗ pt c cc1_scratch0 (L8.foldl (stepHead al ar (yO m c j)) fa)) ∗ sepL (fun _ => iprop(emp)) L8)) :=
  wp_forEach c (fun _ f => iprop(held c (slotO j) fullShare (sO m c j) ∗ pt c cc1_scratch0 f)) (stepHead al ar (yO m c j))
    (fun _ => iprop(emp)) (fun _ => iprop(emp)) (head j al ar) (fun h l f => by
      unfold head
      simp only [Prog.lift, Prog.bind_op, Prog.bind_ret, Prog.pure_eq_ret]
      iintro ⟨⟨HS, Ha⟩, -⟩
      iapply (ld_head h _) $$ Ha; iintro Ha
      iapply (ld_slotO m j) $$ HS; iintro HS
      iapply (ld_head h _) $$ Ha; iintro Ha
      iapply (st_head h _ _) $$ Ha; iintro Ha
      rw [WP, wp_ret]; imodintro
      isplitl [HS Ha]
      · isplitl [HS]; · iexact HS
        unfold stepHead; iexact Ha
      iempintro) L8 fa

theorem sepL_emp {α : Type} (l : List α) : sepL (M := 𝕄) (fun _ => iprop(emp)) l = iprop(emp) := by
  induction l with
  | nil => rfl
  | cons a l ih => rw [sepL_cons, ih, emp_sep_eq]

theorem merge_phase (c : Dev nD) (j : Fin 7) (s : AO F × AM F) :
    iprop((pt c cc1_scratch0 s.1 ∗ pt c cc1_scratch1 s.2) ∗ gotPart m c j)
      ⊢ WP c (hopMerge j) (fun _ => iprop((pt c cc1_scratch0 (stepHop m c s j).1 ∗ pt c cc1_scratch1 (stepHop m c s j).2) ∗ gotPart m c j)) := by
  unfold hopMerge gotPart
  simp only [Prog.lift, Prog.bind_op, Prog.bind_ret, Prog.pure_eq_ret]
  iintro ⟨⟨Ha, Hm⟩, ⟨HO, HaO⟩, ⟨HM, HaM⟩, HL, HaL⟩
  iapply (ld_plane 0 _) $$ Hm; iintro Hm
  iapply (ld_plane 1 _) $$ Hm; iintro Hm
  iapply (ld_slotM m j) $$ HM; iintro HM
  iapply (ld_slotL m j) $$ HL; iintro HL
  rw [WP, wp_bind]
  ihave H := (heads_phase m c j (scaleA (rdPlane 0 s.2) (yM m c j)) (scaleR (rdPlane 0 s.2) (yM m c j)) s.1) $$ [HO Ha]
  · isplitl [HO Ha]
    · isplitl [HO] <;> iassumption
    rw [sepL_emp]; iempintro
  iapply (wp_wand _ _ _) $$ H
  iintro %u ⟨⟨HO, Ha⟩, -⟩
  iapply (ld_plane 0 _) $$ Hm; iintro Hm
  iapply (st_plane 0 _ _) $$ Hm; iintro Hm
  iapply (ld_plane 1 _) $$ Hm; iintro Hm
  iapply (st_plane 1 _ _) $$ Hm; iintro Hm
  rw [WP, wp_ret]; imodintro
  unfold stepHop
  isplitl [Ha Hm]
  · isplitl [Ha]
    · iexact Ha
    · iexact Hm
  isplitl [HO HaO]
  · isplitl [HO] <;> iassumption
  isplitl [HM HaM]
  · isplitl [HM] <;> iassumption
  isplitl [HL] <;> iassumption

theorem hops_phase (c : Dev nD) (l : List (Dev nD × K)) (hl : ∀ a ∈ l, 2 < klev a.2) :
    ∀ s : AO F × AM F, iprop((Rec m κ ∗ debt c (owe l) ∗ pt c cc1_scratch0 s.1 ∗ pt c cc1_scratch1 s.2) ∗ sepL (duePart c) L7)
      ⊢ WP c (forEach (hop c) L7) (fun _ => iprop((Rec m κ ∗ debt c (owe l) ∗ pt c cc1_scratch0 (L7.foldl (stepHop m c) s).1
          ∗ pt c cc1_scratch1 (L7.foldl (stepHop m c) s).2) ∗ sepL (gotPart m c) L7)) :=
  wp_forEach c (fun _ (s : AO F × AM F) => iprop(Rec m κ ∗ debt c (owe l) ∗ pt c cc1_scratch0 s.1 ∗ pt c cc1_scratch1 s.2)) (stepHop m c)
    (duePart c) (gotPart m c) (hop c) (fun j _ s => by
      unfold hop
      rw [WP, wp_bind]
      iintro ⟨⟨#HR, HO, Ha, Hm⟩, HP⟩
      ihave H := (hopWait_step m κ c j l hl) $$ [HO HP]
      · isplitl [HO]
        · isplitr; · iexact HR
          iexact HO
        iexact HP
      iapply (wp_wand _ _ _) $$ H
      iintro %u ⟨⟨-, HO⟩, HP⟩
      ihave H := (merge_phase m c j s) $$ [Ha Hm HP]
      · isplitl [Ha Hm]
        · isplitl [Ha] <;> iassumption
        iexact HP
      iapply (wp_wand _ _ _) $$ H
      iintro %u ⟨⟨Ha, Hm⟩, HP⟩
      isplitl [HO Ha Hm]
      · isplitr; · iexact HR
        isplitl [HO]; · iexact HO
        isplitl [Ha] <;> iassumption
      iexact HP) L7

/-! ## The device's rows -/

theorem gOwn_set (c : Dev nD) : (gOwn c).view.set = (Rect.unit (s := S2048x1024) (k1_off7 c) S256x1024.size (k1_off7_inb c)).set :=
  View.set_slice_whole _ _

theorem mem_rows {c : Dev nD} {i : S2048x1024.Idx} : Iff (i ∈ (gOwn c).view.set) (rowDev i = c) := by
  rw [gOwn_set, Rect.mem_set_unit, k1_off7_eq]
  have h0 : (i 0).val < 2048 := (i 0).isLt; have h1 : (i 1).val < 1024 := (i 1).isLt
  have hc := c.isLt
  constructor
  · intro h
    have := h 0
    refine Fin.ext ?_
    show (i 0).val / 256 = c.val
    have h1 : 256 * c.val ≤ (i 0).val := this.1
    have h2 : (i 0).val < 256 * c.val + 256 := this.2
    omega
  · rintro rfl a
    fin_cases a
    · show 256 * ((i 0).val / 256) ≤ (i 0).val ∧ (i 0).val < 256 * ((i 0).val / 256) + 256
      omega
    · show 0 ≤ (i 1).val ∧ (i 1).val < 0 + 1024
      omega

theorem off5_eq_off7 (c : Dev nD) : k1_off5 c = k1_off7 c := by rw [k1_off5_eq, k1_off7_eq]

theorem rRows_set (c : Dev nD) : (gB.access (rRows c)).set = (gOwn c).view.set := by
  rw [gOwn_set]
  refine (View.set_slice_whole _ _).trans ?_
  ext (i : S2048x1024.Idx)
  rw [Rect.mem_set_unit, Rect.mem_set_unit, off5_eq_off7]
  exact Iff.rfl

/-- The rows as the device writes them are the gathered array's there. -/
theorem wrRows_on (c : Dev nD) (f : AG F) {i : S2048x1024.Idx} (h : i ∈ (gOwn c).view.set) : wrRows c f (rows m c) i = agV m i := by
  have e := mem_rows.mp h
  unfold agV
  rw [e]
  exact View.write_congr (fun _ _ _ => rfl) fun hn => absurd (by rw [View.setOn_univ, rRows_set]; exact h) hn

/-- The rows computed from accumulators. -/
def rowsOf (c : Dev nD) (fa : AO F) (fm : AM F) (fw : (cc1_stg3_0 : Ref sig .tc).ty.Contents (Elt F)) : FVec F S256x1024 .bf16 :=
  finVal (rdPlane 1 fm) (fun h => rdHead h fa)
    (bW.view.readAt (Elt F) (Rect.unit (s := S1024x1024) ![0, 0] S1024x1024.size inb_S1024x1024_S1024x1024_0_0).toLoadRect fw)

theorem finVal_eta (l : Vec F S1x256x8 .f32) (x : Fin 8 → Vec F S256x128 .f32) (w : Vec F S1024x1024 .f32) :
    finVal l ![x ⟨0, by decide⟩, x ⟨1, by decide⟩, x ⟨2, by decide⟩, x ⟨3, by decide⟩, x ⟨4, by decide⟩, x ⟨5, by decide⟩,
      x ⟨6, by decide⟩, x ⟨7, by decide⟩] w = finVal l x w := by
  congr 1; funext h; fin_cases h <;> rfl

theorem finish_any (c : Dev nD) (fa : AO F) (fm : AM F) (fw : (cc1_stg3_0 : Ref sig .tc).ty.Contents (Elt F)) (f : AG F) :
    iprop(pt c cc1_scratch0 fa ∗ pt c cc1_scratch1 fm ∗ pt c cc1_stg3_0 fw ∗ held c (gOwn c) fullShare f)
      ⊢ WP c (finish c) (fun _ => iprop(pt c cc1_scratch0 fa ∗ pt c cc1_scratch1 fm ∗ pt c cc1_stg3_0 fw
          ∗ held c (gOwn c) fullShare (wrRows c f (rowsOf c fa fm fw)))) := by
  have hle : (gB.access (rRows c)).set ⊆ (gOwn c).view.set := (rRows_set c).subset
  have e := finVal_eta (rdPlane 1 fm) (fun h => rdHead h fa)
    (bW.view.readAt (Elt F) (Rect.unit (s := S1024x1024) ![0, 0] S1024x1024.size inb_S1024x1024_S1024x1024_0_0).toLoadRect fw)
  unfold rowsOf
  rw [← e]
  unfold finish loadHead rdPlane rdHead
  simp only [Prog.lift, Prog.bind_op, Prog.bind_ret, Prog.pure_eq_ret]
  iintro ⟨Ha, Hm, Hw, Hg⟩
  iapply (wp_load Variants.none (c : Thread nD τ) none Set.univ (m := aM) (Finset.subset_univ _)) $$ Hm; iintro Hm
  iapply (wp_load Variants.none (c : Thread nD τ) none Set.univ (m := aO) (Finset.subset_univ _)) $$ Ha; iintro Ha
  iapply (wp_load Variants.none (c : Thread nD τ) none Set.univ (m := aO) (Finset.subset_univ _)) $$ Ha; iintro Ha
  iapply (wp_load Variants.none (c : Thread nD τ) none Set.univ (m := aO) (Finset.subset_univ _)) $$ Ha; iintro Ha
  iapply (wp_load Variants.none (c : Thread nD τ) none Set.univ (m := aO) (Finset.subset_univ _)) $$ Ha; iintro Ha
  iapply (wp_load Variants.none (c : Thread nD τ) none Set.univ (m := aO) (Finset.subset_univ _)) $$ Ha; iintro Ha
  iapply (wp_load Variants.none (c : Thread nD τ) none Set.univ (m := aO) (Finset.subset_univ _)) $$ Ha; iintro Ha
  iapply (wp_load Variants.none (c : Thread nD τ) none Set.univ (m := aO) (Finset.subset_univ _)) $$ Ha; iintro Ha
  iapply (wp_load Variants.none (c : Thread nD τ) none Set.univ (m := aO) (Finset.subset_univ _)) $$ Ha; iintro Ha
  iapply (wp_load Variants.none (c : Thread nD τ) none Set.univ (m := bW) (Finset.subset_univ _)) $$ Hw; iintro Hw
  iapply (wp_load_rect Variants.none (c : Thread nD τ) none Set.univ (m := gB) (r := rRows c) hle) $$ Hg; iintro Hg
  iapply (wp_store Variants.none (c : Thread nD τ) none Set.univ (m := gB) (r := rRows c) (Mk := Finset.univ) hle) $$ Hg; iintro Hg
  rw [wp_ret]; imodintro
  isplitl [Ha]; · iexact Ha
  isplitl [Hm]; · iexact Hm
  isplitl [Hw]; · iexact Hw
  unfold wrRows
  iexact Hg

theorem finish_phase (c : Dev nD) (s : AO F × AM F) (hs : s = accs m c) :
    iprop(pt c cc1_scratch0 s.1 ∗ pt c cc1_scratch1 s.2 ∗ pt c cc1_stg3_0 (inW m c) ∗ ∃ f, held c (gOwn c) fullShare f)
      ⊢ WP c (finish c) (fun _ => iprop(pt c cc1_scratch0 s.1 ∗ pt c cc1_scratch1 s.2 ∗ pt c cc1_stg3_0 (inW m c)
          ∗ held c (gOwn c) fullShare (agV m))) := by
  have h (f : AG F) : (held c (gOwn c) fullShare (wrRows c f (rowsOf c s.1 s.2 (inW m c))) : sProp 𝕄) = held c (gOwn c) fullShare (agV m) :=
    pointsTo_congr fun i hi => by
      have e : rowsOf c s.1 s.2 (inW m c) = rows m c := by rw [hs]; rfl
      rw [e]; exact wrRows_on m c f hi
  iintro ⟨Ha, Hm, Hw, %f, Hg⟩
  ihave H := (finish_any c s.1 s.2 (inW m c) f) $$ [Ha Hm Hw Hg]
  · isplitl [Ha]; · iexact Ha
    isplitl [Hm]; · iexact Hm
    isplitl [Hw] <;> iassumption
  iapply (wp_wand _ _ _) $$ H
  iintro %u ⟨Ha, Hm, Hw, Hg⟩
  isplitl [Ha]; · iexact Ha
  isplitl [Hm]; · iexact Hm
  isplitl [Hw]; · iexact Hw
  iapply (Entails.of_eq (h f)); iexact Hg

/-! ## The output -/

theorem mem_dst (b : Fin 32) {i : S1x2048x1024.Idx} (h : (i 1).val / 64 = b.val) : i ∈ (bOut.access (rDst b)).setOn Finset.univ := by
  rw [View.setOn_univ, View.set_slice_whole, Rect.mem_set_unit]
  have h0 : (i 0).val < 1 := (i 0).isLt; have h1 : (i 1).val < 2048 := (i 1).isLt; have h2 : (i 2).val < 1024 := (i 2).isLt
  intro a
  fin_cases a
  · show 0 ≤ (i 0).val ∧ (i 0).val < 0 + 1
    omega
  · show 64 * b.val ≤ (i 1).val ∧ (i 1).val < 64 * b.val + 64
    omega
  · show 0 ≤ (i 2).val ∧ (i 2).val < 0 + 1024
    omega

theorem foldl_out_congr (g : AG F) (i : S1x2048x1024.Idx) (l : List (Fin 32)) : ∀ f f' : OU F,
    (f i = f' i ∨ ∃ b ∈ l, (i 1).val / 64 = b.val) → l.foldl (stepOut g) f i = l.foldl (stepOut g) f' i := by
  induction l with
  | nil =>
    rintro f f' (h | ⟨b, hb, _⟩)
    · exact h
    · exact absurd hb List.not_mem_nil
  | cons b l ih =>
    intro f f' h
    rw [List.foldl_cons, List.foldl_cons]
    apply ih
    by_cases hb : (i 1).val / 64 = b.val
    · exact Or.inl (View.write_congr (fun _ _ _ => rfl) fun hn => absurd (mem_dst b hb) hn)
    · rcases h with h | ⟨b', hb', e⟩
      · exact Or.inl (View.write_congr (fun _ _ _ => rfl) fun _ => h)
      · rcases List.mem_cons.mp hb' with rfl | hb'
        · exact absurd e hb
        · exact Or.inr ⟨b', hb', e⟩

theorem out_any (f : OU F) : L32.foldl (stepOut (agV m)) f = outV m := by
  funext i
  refine foldl_out_congr (agV m) i L32 f _ (Or.inr ⟨⟨(i 1).val / 64, Nat.div_lt_of_lt_mul (i 1).isLt⟩, ?_, rfl⟩)
  have : ∀ b : Fin 32, b ∈ L32 := by decide
  exact this _

theorem out_phase (c : Dev nD) (q : PosShare TreeShare) (f : OU F) :
    iprop(((((c : Thread nD τ).loc cc1_scratch4) ↦{q} agV m) ∗ pt c cc1_stg4_0 f) ∗ sepL (fun _ => iprop(emp)) L32)
      ⊢ WP c (forEach outBlk L32) (fun _ => iprop(((((c : Thread nD τ).loc cc1_scratch4) ↦{q} agV m)
          ∗ pt c cc1_stg4_0 (L32.foldl (stepOut (agV m)) f)) ∗ sepL (fun _ => iprop(emp)) L32)) :=
  wp_forEach c (fun _ f => iprop((((c : Thread nD τ).loc cc1_scratch4) ↦{q} agV m) ∗ pt c cc1_stg4_0 f)) (stepOut (agV m))
    (fun _ => iprop(emp)) (fun _ => iprop(emp)) outBlk (fun b l f => by
      unfold outBlk
      simp only [Prog.lift, Prog.bind_op, Prog.bind_ret, Prog.pure_eq_ret]
      iintro ⟨⟨Hg, Ho⟩, -⟩
      iapply (ld_block b q (agV m)) $$ Hg; iintro Hg
      iapply (wp_load Variants.none (c : Thread nD τ) none Set.univ (m := bOut) (Finset.subset_univ _)) $$ Ho; iintro Ho
      iapply (st_out b (agV m) _) $$ Ho; iintro Ho
      rw [WP, wp_ret]; imodintro
      isplitl [Hg Ho]
      · isplitl [Hg] <;> iassumption
      iempintro) L32 f

end Cert.KernelIdeal.Hand

end
-- ==== Proof.AWp.lean ====
/- The attention body run on one device: what its buffers hold afterwards, as functions of what they held. -/
module

public import proofs.«01_k».proof.Proof.AProg
public import proofs.«01_k».proof.Proof.Compute
public import Idealize.ShloMosaic.Lib.Pipeline.Value
public import Idealize.ShloMosaic.Lib.VecWindow
public import Idealize.ShloMosaic.Lib.ValueIdx
public import Idealize.ShloMosaic.Lib.ValueLayout

@[expose] public section

noncomputable section

namespace Cert.KernelIdeal.Att

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal.Gen Cert.KernelIdeal.Hand

variable {F : FTy → Type} [FloatOps F] [Named F]

local notation "𝕄" => MT nD τ sig Unit (Elt F) ℕ UU ℕ

/-- A memref of a device's core owned at contents `X`. -/
abbrev ow (c : Dev nD) {s : Shape} {e : EltTy} (M : Memref sig .tc .vmem s e) (X : s.Idx → Elt F e) : sProp 𝕄 := owns (c : Thread nD τ) M fullShare X

/-! ## Loads, stores and loops -/

theorem ld {α : Type} {c : Dev nD} {Q : α → sProp 𝕄} {s : Shape} {e : EltTy} (M : Memref sig .tc .vmem s e) (r : Rect s) (X : s.Idx → Elt F e)
    {hl : M.view.LoadsAt r.toLoadRect} {k : (r.shape.Idx → Elt F e) → PG F α} :
    (ow c M X : sProp 𝕄) ⊢ iprop((ow c M X -∗ WP c (k (View.ld X r)) Q) -∗ WP c (.op (.load M r.toLoadRect hl) k) Q) := by
  unfold ow owns
  iintro ⟨%f, %hf, H⟩ HK
  iapply (wp_load Variants.none (c : Thread nD τ) none Set.univ (m := M)
    (View.setOn_subset_set M.view r.toLoadRect.set)) $$ H
  iintro H
  rw [View.readAt_eq_ld, hf]
  iapply HK
  iexists f; isplitr; · ipureintro; exact hf
  iexact H

theorem st {α : Type} {c : Dev nD} {Q : α → sProp 𝕄} {s : Shape} {e : EltTy} (M : Memref sig .tc .vmem s e) {off size : Fin s.rank → ℕ}
    (inb : ∀ a, off a + size a ≤ s.size a) (w : (Rect.unit off size inb).shape.Idx → Elt F e) (X : s.Idx → Elt F e)
    {hx : (M.access (Rect.unit off size inb)).Stores Finset.univ} {hm : Finset.univ = Finset.univ ∨ ∀ a, (Rect.unit off size inb).stride a = 1}
    {k : PUnit → PG F α} :
    (ow c M X : sProp 𝕄) ⊢ iprop((ow c M (VecWindow.put X off size w) -∗ WP c (k ⟨⟩) Q)
      -∗ WP c (.op (.store M (Rect.unit off size inb) w Finset.univ hx hm) k) Q) := by
  unfold ow owns
  iintro ⟨%f, %hf, H⟩ HK
  iapply (wp_store Variants.none (c : Thread nD τ) none Set.univ (m := M) (r := Rect.unit off size inb) (Mk := Finset.univ)
    ((View.setOn_subset_set _ _).trans (View.set_slice_subset M.view (Rect.unit off size inb)))) $$ H
  iintro H
  iapply HK
  iexists _; isplitr
  · ipureintro
    have h := View.read_writes_cons_put M.view f inb w [] (rfl : off = off)
    rw [View.writes_nil, hf] at h
    exact h
  iexact H

theorem loop {σ α : Type} (c : Dev nD) (I : σ → sProp 𝕄) (step : σ → α → σ) (f : α → PG F PUnit)
    (h : ∀ (a : α) (s : σ), I s ⊢ WP c (f a) (fun _ => I (step s a))) (l : List α) :
    ∀ s : σ, I s ⊢ WP c (forEach f l) (fun _ => I (l.foldl step s)) := by
  induction l with
  | nil =>
    intro s
    show _ ⊢ WP c (Prog.ret PUnit.unit) _
    rw [WP, wp_ret, List.foldl_nil]
    iintro H; imodintro; iexact H
  | cons a l ih =>
    intro s
    show _ ⊢ WP c (f a >>= fun _ => forEach f l) _
    rw [WP, wp_bind]
    iintro H
    ihave H := (h a s) $$ H
    iapply (wp_wand _ _ _) $$ H
    iintro %u H
    iapply (ih (step s a)) $$ H

/-! ## What a list of puts leaves -/

/-- Where some put of a list lands, the list leaves what that put writes there, if all of them write the same. -/
theorem puts_at {s : Shape} {α β : Type} (off size : β → Fin s.rank → ℕ) (w : (p : β) → ((a : Fin s.rank) → Fin (size p a)) → α) (G : s.Idx → α)
    (hG : ∀ p (X : s.Idx → α) i, (∀ a, off p a ≤ (i a).val ∧ (i a).val < off p a + size p a) → VecWindow.put X (off p) (size p) (w p) i = G i)
    (i : s.Idx) : ∀ (l : List β) (X : s.Idx → α), (X i = G i ∨ ∃ p ∈ l, ∀ a, off p a ≤ (i a).val ∧ (i a).val < off p a + size p a) →
      l.foldl (fun X p => VecWindow.put X (off p) (size p) (w p)) X i = G i
  | [], X, h => by
    rcases h with h | ⟨p, hp, -⟩
    · exact h
    · exact absurd hp List.not_mem_nil
  | p :: l, X, h => by
    rw [List.foldl_cons]
    refine puts_at off size w G hG i l _ ?_
    by_cases hp : ∀ a, off p a ≤ (i a).val ∧ (i a).val < off p a + size p a
    · exact Or.inl (hG p X i hp)
    · rcases h with h | ⟨p', hp', hi⟩
      · refine Or.inl ?_
        unfold VecWindow.put
        rw [dif_neg hp]; exact h
      · rcases List.mem_cons.1 hp' with rfl | hl
        · exact absurd hi hp
        · exact Or.inr ⟨p', hl, hi⟩

/-- The regrouped rows. -/
def xpV (x : Vec F S1x2048x1024 .f32) : Vec F S2112x1024 .f32 := fun i =>
  x (ix3 (0 : Fin 1) (⟨64 * qBlk ⟨(i 0).val / 64, by have : (i 0).val < 2112 := (i 0).isLt; omega⟩ + (i 0).val % 64, by
    have : (i 0).val < 2112 := (i 0).isLt
    unfold qBlk
    omega⟩ : Fin 2048) (⟨(i 1).val, (i 1).isLt⟩ : Fin 1024))

/-- The first row of a gathered block of keys. -/
def kRow (c : Dev nD) (r : Fin 3) (j : Fin 11) : ℕ := k0_off1 c (BitVec.ofNat 32 (clsI r).val) (BitVec.ofNat 32 (192 * j.val)) 0

theorem kRow_lt (c : Dev nD) (r : Fin 3) (j : Fin 11) : kRow c r j + 64 ≤ 2048 := k0_off1_inb c (clsI r) j 0
theorem kRow_one (c : Dev nD) (r : Fin 3) (j : Fin 11) : k0_off1 c (BitVec.ofNat 32 (clsI r).val) (BitVec.ofNat 32 (192 * j.val)) 1 = 0 := rfl

/-- The gathered keys, or values. -/
def gV (c : Dev nD) (r : Fin 3) (k : Vec F S2048x128 .f32) : Vec F S704x128 .f32 := fun i =>
  k (ix2 (⟨kRow c r ⟨(i 0).val / 64, by have : (i 0).val < 704 := (i 0).isLt; omega⟩ + (i 0).val % 64, by
    have := kRow_lt c r ⟨(i 0).val / 64, by have : (i 0).val < 704 := (i 0).isLt; omega⟩
    omega⟩ : Fin 2048) (⟨(i 1).val, (i 1).isLt⟩ : Fin 128))

theorem rowsV_apply (x : Vec F S1x64x1024 .f32) (a : Fin 64) (b : Fin 1024) : rowsV x (ix2 a b) = x (ix3 (0 : Fin 1) a b) := by
  unfold rowsV
  rw [Idealize.ShloMosaic.shapeCast_self]
  exact shapeCast_1ab_ab_apply x _ a b

theorem blkV_eq (x : Vec F S64x128 .f32) : blkV x = x := by
  unfold blkV
  rw [Idealize.ShloMosaic.shapeCast_self, Idealize.ShloMosaic.shapeCast_self]

theorem xp_all (x : Vec F S1x2048x1024 .f32) (X : Vec F S2112x1024 .f32) :
    L33.foldl (fun (X : Vec F S2112x1024 .f32) p => VecWindow.put X ![64 * p.val, 0] S64x1024.size (rowsV (View.ld x (rQsrc p)))) X = xpV x := by
  funext i
  have h0 : (i 0).val < 2112 := (i 0).isLt
  have h1 : (i 1).val < 1024 := (i 1).isLt
  refine puts_at (s := S2112x1024) (fun p : Fin 33 => ![64 * p.val, 0]) (fun _ => S64x1024.size) (fun p => rowsV (View.ld x (rQsrc p))) (xpV x) ?_ i L33 X ?_
  · intro p X i hi
    have a0 := hi 0
    have a1 := hi 1
    unfold VecWindow.put
    rw [dif_pos hi]
    have e0 : 64 * p.val ≤ (i 0).val ∧ (i 0).val < 64 * p.val + 64 := a0
    have hp : (i 0).val / 64 = p.val := by omega
    refine (congrArg _ (eq_ix2 (n0 := 64) (n1 := 1024) _)).trans ((rowsV_apply _ _ _).trans ?_)
    unfold xpV View.ld
    refine congrArg x (funext fun a => Fin.ext ?_)
    fin_cases a
    · rfl
    · show 64 * qBlk p + 1 * ((i 0).val - 64 * p.val) = 64 * qBlk ⟨(i 0).val / 64, _⟩ + (i 0).val % 64
      unfold qBlk
      dsimp only
      rw [hp]
      omega
    · show 0 + 1 * ((i 1).val - 0) = (i 1).val
      omega
  · refine Or.inr ⟨⟨(i 0).val / 64, by omega⟩, ?_, fun a => ?_⟩
    · have : ∀ p : Fin 33, p ∈ L33 := by decide
      exact this _
    · fin_cases a
      · show 64 * ((i 0).val / 64) ≤ (i 0).val ∧ (i 0).val < 64 * ((i 0).val / 64) + 64
        omega
      · show 0 ≤ (i 1).val ∧ (i 1).val < 0 + 1024
        omega

theorem g_all (c : Dev nD) (r : Fin 3) (k : Vec F S2048x128 .f32) (X : Vec F S704x128 .f32) :
    L11.foldl (fun (X : Vec F S704x128 .f32) j => VecWindow.put X ![64 * j.val, 0] S64x128.size (blkV (View.ld k (rKg c r j)))) X = gV c r k := by
  funext i
  have h0 : (i 0).val < 704 := (i 0).isLt
  have h1 : (i 1).val < 128 := (i 1).isLt
  refine puts_at (s := S704x128) (fun p : Fin 11 => ![64 * p.val, 0]) (fun _ => S64x128.size) (fun p => blkV (View.ld k (rKg c r p))) (gV c r k) ?_ i L11 X ?_
  · intro p X i hi
    have a0 := hi 0
    have a1 := hi 1
    unfold VecWindow.put
    rw [dif_pos hi, blkV_eq]
    have e0 : 64 * p.val ≤ (i 0).val ∧ (i 0).val < 64 * p.val + 64 := a0
    have hp : (⟨(i 0).val / 64, by omega⟩ : Fin 11) = p := Fin.ext (by show (i 0).val / 64 = p.val; omega)
    unfold gV View.ld
    refine congrArg k (funext fun a => Fin.ext ?_)
    fin_cases a
    · show kRow c r p + 1 * ((i 0).val - 64 * p.val) = kRow c r ⟨(i 0).val / 64, _⟩ + (i 0).val % 64
      rw [hp]
      omega
    · show k0_off1 c (BitVec.ofNat 32 (clsI r).val) (BitVec.ofNat 32 (192 * p.val)) 1 + 1 * ((i 1).val - 0) = (i 1).val
      rw [kRow_one]
      omega
  · refine Or.inr ⟨⟨(i 0).val / 64, by omega⟩, ?_, fun a => ?_⟩
    · have : ∀ p : Fin 11, p ∈ L11 := by decide
      exact this _
    · fin_cases a
      · show 64 * ((i 0).val / 64) ≤ (i 0).val ∧ (i 0).val < 64 * ((i 0).val / 64) + 64
        omega
      · show 0 ≤ (i 1).val ∧ (i 1).val < 0 + 128
        omega

/-! ## The values of a class -/

section
variable (c : Dev nD) (w : Vec F S1024x128 .f32) (k v : Vec F S2048x128 .f32) (xp : Vec F S2112x1024 .f32)

def qC (r : Fin 3) : FVec F S704x128 .f32 := qV (View.ld xp (rSeg r)) (View.ld w rAllW)
def kC (r : Fin 3) : Vec F S704x128 .f32 := View.ld (gV c r k) rAllK
def kdC (r : Fin 3) : Fin 11 → Vec F S64x128 .f32 := fun j => View.ld k (rKd r j)

/-- The rows of the weighted sums, the maxima and the denominators of a class. -/
def oC (r : Fin 3) : FVec F S704x128 .bf16 :=
  if r = 0 then o0 (qC w xp r) (kC c k r) (nvW c r) (kC c v r)
  else o1 (firstW c) (qC w xp r) (kC c k r) (nvW c r) (View.ld k rK0) (kdC k r) (kC c v r) (View.ld v rK0) (kdC v r)
def mC (r : Fin 3) : FVec F S704x1 .f32 :=
  if r = 0 then m0 (qC w xp r) (kC c k r) (nvW c r)
  else m1 (firstW c) (qC w xp r) (kC c k r) (nvW c r) (View.ld k rK0) (kdC k r)
def lC (r : Fin 3) : FVec F S704x1 .f32 :=
  if r = 0 then l0 (qC w xp r) (kC c k r) (nvW c r)
  else l1 (firstW c) (qC w xp r) (kC c k r) (nvW c r) (View.ld k rK0) (kdC k r)

def putOV (r : Fin 3) (X : Vec F S2112x128 .bf16) (o : FVec F S704x128 .bf16) : Vec F S2112x128 .bf16 :=
  VecWindow.put X ![704 * r.val, 0] S704x128.size o
def putMV (h : BitVec 32) (r : Fin 3) (X : Vec F S2112x8 .f32) (m : FVec F S704x1 .f32) : Vec F S2112x8 .f32 :=
  VecWindow.put X ![704 * r.val, 0] S704x8.size (laneV h m (View.ld X (rSegM r)))
end

section
variable (arg1 : Memref sig .tc .vmem S1x2048x1024 .f32) (arg2 : Memref sig .tc .vmem S1024x128 .f32)
  (arg3 arg4 : Memref sig .tc .vmem S2048x128 .f32) (arg5 : Memref sig .tc .vmem S2112x128 .bf16) (harg5 : arg5.IsWhole)
  (arg6 arg7 : Memref sig .tc .vmem S2112x8 .f32) (arg8 arg9 : Memref sig .tc .vmem S704x128 .f32)
  (arg10 : Memref sig .tc .vmem S2112x1024 .f32)
  (c : Dev nD) (x : Vec F S1x2048x1024 .f32) (w : Vec F S1024x128 .f32) (k v : Vec F S2048x128 .f32)

theorem fillX_all (X : Vec F S2112x1024 .f32) :
    (iprop(ow c arg1 x ∗ ow c arg10 X) : sProp 𝕄) ⊢ WP c (forEach (fillX arg1 arg10) L33) (fun _ => iprop(ow c arg1 x ∗ ow c arg10 (xpV x))) := by
  rw [← xp_all x X]
  refine loop c (fun X => iprop(ow c arg1 x ∗ ow c arg10 X)) _ (fillX arg1 arg10) (fun p X => ?_) L33 X
  unfold fillX
  simp only [Prog.lift, Prog.bind_op, Prog.bind_ret, Prog.pure_eq_ret]
  iintro ⟨H1, H⟩
  iapply (ld arg1 (rQsrc p) x) $$ H1; iintro H1
  iapply (ld arg10 (rQdst p) X) $$ H; iintro H
  iapply (st arg10 (inb_qdst p) _ X) $$ H; iintro H
  rw [WP, wp_ret]; imodintro
  isplitl [H1] <;> iassumption

theorem fillKV_all (r : Fin 3) (X Y : Vec F S704x128 .f32) :
    (iprop(ow c arg3 k ∗ ow c arg4 v ∗ ow c arg8 X ∗ ow c arg9 Y) : sProp 𝕄) ⊢ WP c (forEach (fillKV arg3 arg4 arg8 arg9 c r) L11)
      (fun _ => iprop(ow c arg3 k ∗ ow c arg4 v ∗ ow c arg8 (gV c r k) ∗ ow c arg9 (gV c r v))) := by
  rw [← g_all c r k X, ← g_all c r v Y]
  have hp : ∀ (l : List (Fin 11)) (X Y : Vec F S704x128 .f32),
      l.foldl (fun (s : Vec F S704x128 .f32 × Vec F S704x128 .f32) j => (VecWindow.put s.1 ![64 * j.val, 0] S64x128.size (blkV (View.ld k (rKg c r j))),
          VecWindow.put s.2 ![64 * j.val, 0] S64x128.size (blkV (View.ld v (rKg c r j))))) (X, Y)
        = (l.foldl (fun (X : Vec F S704x128 .f32) j => VecWindow.put X ![64 * j.val, 0] S64x128.size (blkV (View.ld k (rKg c r j)))) X,
          l.foldl (fun (X : Vec F S704x128 .f32) j => VecWindow.put X ![64 * j.val, 0] S64x128.size (blkV (View.ld v (rKg c r j)))) Y) := by
    intro l
    induction l with
    | nil => intro X Y; rfl
    | cons a l ih => intro X Y; rw [List.foldl_cons, List.foldl_cons, List.foldl_cons, ih]
  have h := loop c (fun s : Vec F S704x128 .f32 × Vec F S704x128 .f32 => iprop(ow c arg3 k ∗ ow c arg4 v ∗ ow c arg8 s.1 ∗ ow c arg9 s.2))
    (fun s j => (VecWindow.put s.1 ![64 * j.val, 0] S64x128.size (blkV (View.ld k (rKg c r j))),
      VecWindow.put s.2 ![64 * j.val, 0] S64x128.size (blkV (View.ld v (rKg c r j))))) (fillKV arg3 arg4 arg8 arg9 c r) (fun j s => by
    unfold fillKV fillB
    simp only [Prog.lift, Prog.bind_op, Prog.bind_ret, Prog.pure_eq_ret]
    iintro ⟨H3, H4, H8, H9⟩
    iapply (ld arg3 (rKg c r j) k) $$ H3; iintro H3
    iapply (ld arg8 (rKc j) s.1) $$ H8; iintro H8
    iapply (st arg8 (inb_kc j) _ s.1) $$ H8; iintro H8
    iapply (ld arg4 (rKg c r j) v) $$ H4; iintro H4
    iapply (ld arg9 (rKc j) s.2) $$ H9; iintro H9
    iapply (st arg9 (inb_kc j) _ s.2) $$ H9; iintro H9
    rw [WP, wp_ret]; imodintro
    isplitl [H3]; · iexact H3
    isplitl [H4]; · iexact H4
    isplitl [H8] <;> iassumption) L11 (X, Y)
  rw [hp] at h
  exact h

theorem putO_wp (r : Fin 3) (X : Vec F S2112x128 .bf16) (o : FVec F S704x128 .bf16) :
    (ow c arg5 X : sProp 𝕄) ⊢ WP c (putO arg5 harg5 r o) (fun _ => ow c arg5 (putOV r X o)) := by
  unfold putO
  simp only [Prog.lift, Prog.bind_op, Prog.bind_ret, Prog.pure_eq_ret]
  iintro H
  iapply (ld arg5 (rSegO r) X) $$ H; iintro H
  iapply (st arg5 (inb_segO r) o X) $$ H; iintro H
  rw [WP, wp_ret]; imodintro
  iexact H

theorem putM_wp (h : BitVec 32) (r : Fin 3) (X : Vec F S2112x8 .f32) (m : FVec F S704x1 .f32) :
    (ow c arg6 X : sProp 𝕄) ⊢ WP c (putM arg6 h r m) (fun _ => ow c arg6 (putMV h r X m)) := by
  unfold putM
  simp only [Prog.lift, Prog.bind_op, Prog.bind_ret, Prog.pure_eq_ret]
  iintro H
  iapply (ld arg6 (rSegM r) X) $$ H; iintro H
  iapply (ld arg6 (rSegM r) X) $$ H; iintro H
  iapply (st arg6 (inb_segM r) _ X) $$ H; iintro H
  rw [WP, wp_ret]; imodintro
  iexact H

/-- What the buffers hold between the classes. -/
def held (xp : Vec F S2112x1024 .f32) (X5 : Vec F S2112x128 .bf16) (X6 X7 : Vec F S2112x8 .f32) : sProp 𝕄 :=
  iprop(ow c arg2 w ∗ ow c arg3 k ∗ ow c arg4 v ∗ ow c arg10 xp ∗ ow c arg5 X5 ∗ ow c arg6 X6 ∗ ow c arg7 X7
    ∗ (∃ X, ow c arg8 X) ∗ ∃ X, ow c arg9 X)

theorem class0_wp (h : BitVec 32) (xp : Vec F S2112x1024 .f32) (X5 : Vec F S2112x128 .bf16) (X6 X7 : Vec F S2112x8 .f32) :
    held arg2 arg3 arg4 arg5 arg6 arg7 arg8 arg9 arg10 c w k v xp X5 X6 X7
      ⊢ WP c (class0 arg2 arg3 arg4 arg5 harg5 arg6 arg7 arg8 arg9 arg10 h c) (fun _ =>
        held arg2 arg3 arg4 arg5 arg6 arg7 arg8 arg9 arg10 c w k v xp (putOV 0 X5 (oC c w k v xp 0)) (putMV h 0 X6 (mC c w k xp 0))
          (putMV h 0 X7 (lC c w k xp 0))) := by
  unfold class0 loadQ held
  simp only [Prog.lift, Prog.bind_op, Prog.bind_ret, Prog.pure_eq_ret]
  iintro ⟨H2, H3, H4, Hx, H5, H6, H7, ⟨%Y8, H8⟩, %Y9, H9⟩
  iapply (ld arg10 (rSeg 0) xp) $$ Hx; iintro Hx
  iapply (ld arg2 rAllW w) $$ H2; iintro H2
  rw [WP, wp_bind]
  ihave H := (fillKV_all arg3 arg4 arg8 arg9 c k v 0 Y8 Y9) $$ [H3 H4 H8 H9]
  · isplitl [H3]; · iexact H3
    isplitl [H4]; · iexact H4
    isplitl [H8] <;> iassumption
  iapply (wp_wand _ _ _) $$ H
  iintro %u ⟨H3, H4, H8, H9⟩
  iapply (ld arg8 rAllK _) $$ H8; iintro H8
  iapply (ld arg9 rAllK _) $$ H9; iintro H9
  rw [WP, wp_bind]
  ihave H := (putO_wp arg5 harg5 c 0 X5 (oC c w k v xp 0)) $$ H5
  iapply (wp_wand _ _ _) $$ H
  iintro %u H5
  rw [wp_bind]
  ihave H := (putM_wp arg6 c h 0 X6 (mC c w k xp 0)) $$ H6
  iapply (wp_wand _ _ _) $$ H
  iintro %u H6
  ihave H := (putM_wp arg7 c h 0 X7 (lC c w k xp 0)) $$ H7
  iapply (wp_wand _ _ _) $$ H
  iintro %u H7
  isplitl [H2]; · iexact H2
  isplitl [H3]; · iexact H3
  isplitl [H4]; · iexact H4
  isplitl [Hx]; · iexact Hx
  isplitl [H5]; · iexact H5
  isplitl [H6]; · iexact H6
  isplitl [H7]; · iexact H7
  isplitl [H8] <;> (iexists _; iassumption)

theorem ldOwn_wp (a : Memref sig .tc .vmem S2048x128 .f32) (r : Fin 3) :
    (ow c a k : sProp 𝕄) ⊢ WP c (ldOwn a r) (fun y => iprop(⌜y = kdC k r⌝ ∗ ow c a k)) := by
  unfold ldOwn
  simp only [Prog.lift, Prog.bind_op, Prog.bind_ret, Prog.pure_eq_ret]
  iintro H
  iapply (ld a (rKd r 0) k) $$ H; iintro H
  iapply (ld a (rKd r 1) k) $$ H; iintro H
  iapply (ld a (rKd r 2) k) $$ H; iintro H
  iapply (ld a (rKd r 3) k) $$ H; iintro H
  iapply (ld a (rKd r 4) k) $$ H; iintro H
  iapply (ld a (rKd r 5) k) $$ H; iintro H
  iapply (ld a (rKd r 6) k) $$ H; iintro H
  iapply (ld a (rKd r 7) k) $$ H; iintro H
  iapply (ld a (rKd r 8) k) $$ H; iintro H
  iapply (ld a (rKd r 9) k) $$ H; iintro H
  iapply (ld a (rKd r 10) k) $$ H; iintro H
  rw [WP, wp_ret]; imodintro
  isplitr
  · ipureintro
    funext j
    fin_cases j <;> rfl
  iexact H

theorem class1_wp (h : BitVec 32) (r : Fin 3) (hr : r ≠ 0) (xp : Vec F S2112x1024 .f32) (X5 : Vec F S2112x128 .bf16) (X6 X7 : Vec F S2112x8 .f32) :
    held arg2 arg3 arg4 arg5 arg6 arg7 arg8 arg9 arg10 c w k v xp X5 X6 X7
      ⊢ WP c (class1 arg2 arg3 arg4 arg5 harg5 arg6 arg7 arg8 arg9 arg10 h c r) (fun _ =>
        held arg2 arg3 arg4 arg5 arg6 arg7 arg8 arg9 arg10 c w k v xp (putOV r X5 (oC c w k v xp r)) (putMV h r X6 (mC c w k xp r))
          (putMV h r X7 (lC c w k xp r))) := by
  have eo : oC c w k v xp r = o1 (firstW c) (qC w xp r) (kC c k r) (nvW c r) (View.ld k rK0) (kdC k r) (kC c v r) (View.ld v rK0) (kdC v r) := if_neg hr
  have em : mC c w k xp r = m1 (firstW c) (qC w xp r) (kC c k r) (nvW c r) (View.ld k rK0) (kdC k r) := if_neg hr
  have el : lC c w k xp r = l1 (firstW c) (qC w xp r) (kC c k r) (nvW c r) (View.ld k rK0) (kdC k r) := if_neg hr
  rw [eo, em, el]
  unfold class1 loadQ held
  simp only [Prog.lift, Prog.bind_op, Prog.bind_ret, Prog.pure_eq_ret]
  iintro ⟨H2, H3, H4, Hx, H5, H6, H7, ⟨%Y8, H8⟩, %Y9, H9⟩
  iapply (ld arg10 (rSeg r) xp) $$ Hx; iintro Hx
  iapply (ld arg2 rAllW w) $$ H2; iintro H2
  rw [WP, wp_bind]
  ihave H := (fillKV_all arg3 arg4 arg8 arg9 c k v r Y8 Y9) $$ [H3 H4 H8 H9]
  · isplitl [H3]; · iexact H3
    isplitl [H4]; · iexact H4
    isplitl [H8] <;> iassumption
  iapply (wp_wand _ _ _) $$ H
  iintro %u ⟨H3, H4, H8, H9⟩
  iapply (ld arg8 rAllK _) $$ H8; iintro H8
  iapply (ld arg3 rK0 k) $$ H3; iintro H3
  rw [WP, wp_bind]
  ihave H := (ldOwn_wp c k arg3 r) $$ H3
  iapply (wp_wand _ _ _) $$ H
  iintro %kd ⟨%hkd, H3⟩
  subst hkd
  rw [wp_bind]
  ihave H := (ldOwn_wp c v arg4 r) $$ H4
  iapply (wp_wand _ _ _) $$ H
  iintro %vd ⟨%hvd, H4⟩
  subst hvd
  iapply (ld arg9 rAllK _) $$ H9; iintro H9
  iapply (ld arg4 rK0 v) $$ H4; iintro H4
  rw [WP, wp_bind]
  ihave H := (putO_wp arg5 harg5 c r X5 _) $$ H5
  iapply (wp_wand _ _ _) $$ H
  iintro %u H5
  rw [wp_bind]
  ihave H := (putM_wp arg6 c h r X6 _) $$ H6
  iapply (wp_wand _ _ _) $$ H
  iintro %u H6
  ihave H := (putM_wp arg7 c h r X7 _) $$ H7
  iapply (wp_wand _ _ _) $$ H
  iintro %u H7
  isplitl [H2]; · iexact H2
  isplitl [H3]; · iexact H3
  isplitl [H4]; · iexact H4
  isplitl [Hx]; · iexact Hx
  isplitl [H5]; · iexact H5
  isplitl [H6]; · iexact H6
  isplitl [H7]; · iexact H7
  isplitl [H8] <;> (iexists _; iassumption)

/-- The regrouped rows after the body: written at the first head, kept at the others. -/
def xpN (h : BitVec 32) (x : Vec F S1x2048x1024 .f32) (X : Vec F S2112x1024 .f32) : Vec F S2112x1024 .f32 := if headFirst h = 1#1 then xpV x else X

/-- What the outputs hold after the body. -/
def oEnd (xp : Vec F S2112x1024 .f32) (X : Vec F S2112x128 .bf16) : Vec F S2112x128 .bf16 :=
  putOV 2 (putOV 1 (putOV 0 X (oC c w k v xp 0)) (oC c w k v xp 1)) (oC c w k v xp 2)
def mEnd (h : BitVec 32) (xp : Vec F S2112x1024 .f32) (X : Vec F S2112x8 .f32) : Vec F S2112x8 .f32 :=
  putMV h 2 (putMV h 1 (putMV h 0 X (mC c w k xp 0)) (mC c w k xp 1)) (mC c w k xp 2)
def lEnd (h : BitVec 32) (xp : Vec F S2112x1024 .f32) (X : Vec F S2112x8 .f32) : Vec F S2112x8 .f32 :=
  putMV h 2 (putMV h 1 (putMV h 0 X (lC c w k xp 0)) (lC c w k xp 1)) (lC c w k xp 2)

theorem attFill_wp (h : BitVec 32) (X : Vec F S2112x1024 .f32) :
    (iprop(ow c arg1 x ∗ ow c arg10 X) : sProp 𝕄) ⊢ WP c (attFill arg1 arg10 h) (fun _ => iprop(ow c arg1 x ∗ ow c arg10 (xpN h x X))) := by
  unfold attFill xpN
  by_cases hh : headFirst h = 1#1
  · rw [if_pos hh, if_pos hh]
    exact fillX_all arg1 arg10 c x X
  · rw [if_neg hh, if_neg hh, Prog.pure_eq_ret, WP, wp_ret]
    iintro H; imodintro; iexact H

theorem attRest_wp (h : BitVec 32) (xp : Vec F S2112x1024 .f32) (X5 : Vec F S2112x128 .bf16) (X6 X7 : Vec F S2112x8 .f32) :
    held arg2 arg3 arg4 arg5 arg6 arg7 arg8 arg9 arg10 c w k v xp X5 X6 X7
      ⊢ WP c (attRest arg2 arg3 arg4 arg5 harg5 arg6 arg7 arg8 arg9 arg10 h c) (fun _ =>
        held arg2 arg3 arg4 arg5 arg6 arg7 arg8 arg9 arg10 c w k v xp (oEnd c w k v xp X5) (mEnd c w k h xp X6) (lEnd c w k h xp X7)) := by
  unfold attRest
  rw [WP, wp_bind]
  iintro H
  ihave H := (class0_wp arg2 arg3 arg4 arg5 harg5 arg6 arg7 arg8 arg9 arg10 c w k v h xp X5 X6 X7) $$ H
  iapply (wp_wand _ _ _) $$ H
  iintro %u H
  rw [wp_bind]
  ihave H := (class1_wp arg2 arg3 arg4 arg5 harg5 arg6 arg7 arg8 arg9 arg10 c w k v h 1 (by decide) xp _ _ _) $$ H
  iapply (wp_wand _ _ _) $$ H
  iintro %u H
  ihave H := (class1_wp arg2 arg3 arg4 arg5 harg5 arg6 arg7 arg8 arg9 arg10 c w k v h 2 (by decide) xp _ _ _) $$ H
  iapply (wp_wand _ _ _) $$ H
  iintro %u H
  iexact H

theorem att_wp (h : BitVec 32) (X : Vec F S2112x1024 .f32) (X5 : Vec F S2112x128 .bf16) (X6 X7 : Vec F S2112x8 .f32) :
    iprop(ow c arg1 x ∗ held arg2 arg3 arg4 arg5 arg6 arg7 arg8 arg9 arg10 c w k v X X5 X6 X7)
      ⊢ WP c (attBody arg1 arg2 arg3 arg4 arg5 harg5 arg6 arg7 arg8 arg9 arg10 h c) (fun _ =>
        iprop(ow c arg1 x ∗ held arg2 arg3 arg4 arg5 arg6 arg7 arg8 arg9 arg10 c w k v (xpN h x X) (oEnd c w k v (xpN h x X) X5)
          (mEnd c w k h (xpN h x X) X6) (lEnd c w k h (xpN h x X) X7))) := by
  unfold attBody
  rw [WP, wp_bind]
  unfold held
  iintro ⟨H1, H2, H3, H4, Hx, Hr⟩
  ihave H := (attFill_wp arg1 arg10 c x h X) $$ [H1 Hx]
  · isplitl [H1] <;> iassumption
  iapply (wp_wand _ _ _) $$ H
  iintro %u ⟨H1, Hx⟩
  ihave H := (attRest_wp arg2 arg3 arg4 arg5 harg5 arg6 arg7 arg8 arg9 arg10 c w k v h (xpN h x X) X5 X6 X7) $$ [H2 H3 H4 Hx Hr]
  · unfold held
    isplitl [H2]; · iexact H2
    isplitl [H3]; · iexact H3
    isplitl [H4]; · iexact H4
    isplitl [Hx]; · iexact Hx
    iexact Hr
  iapply (wp_wand _ _ _) $$ H
  unfold held
  iintro %u H
  isplitl [H1]; · iexact H1
  iexact H

end

end Cert.KernelIdeal.Att

end
-- ==== Proof.AVals.lean ====
/- What the attention body leaves in its outputs, element by element. -/
module

public import proofs.«01_k».proof.Proof.AWp

@[expose] public section

noncomputable section

namespace Cert.KernelIdeal.Att

open Idealize.ShloMosaic Idealize.ShloMosaic.TcCoe Idealize.ShloMosaic.ValueIdx
open Cert.KernelIdeal.Gen Cert.KernelIdeal.Hand

variable {F : FTy → Type} [FloatOps F] [Named F]

/-- The class of a row, and the row's place in its class. -/
def rowC (a : Fin 2112) : Fin 3 := ⟨a.val / 704, by omega⟩
def rowI (a : Fin 2112) : Fin 704 := ⟨a.val % 704, by omega⟩

/-- A class's rows put into the whole, element by element. -/
theorem put_at {α : Type} {n : ℕ} (r : Fin 3) (X : (⟨2, ![2112, n]⟩ : Shape).Idx → α) (w : (⟨2, ![704, n]⟩ : Shape).Idx → α)
    (a : Fin 2112) (b : Fin n) :
    VecWindow.put (s := ⟨2, ![2112, n]⟩) X ![704 * r.val, 0] ![704, n] w (ix2 a b) = if rowC a = r then w (ix2 (rowI a) b) else X (ix2 a b) := by
  have hr : rowC a = r ↔ (704 * r.val ≤ a.val ∧ a.val < 704 * r.val + 704) := by
    unfold rowC; rw [Fin.ext_iff]; dsimp only; omega
  unfold VecWindow.put
  by_cases h : rowC a = r
  · have h' := hr.1 h
    rw [if_pos h, dif_pos (fun x => by
      fin_cases x
      · exact h'
      · exact ⟨Nat.zero_le _, by show b.val < 0 + n; omega⟩)]
    refine congrArg w (funext fun x => Fin.ext ?_)
    fin_cases x
    · show a.val - 704 * r.val = a.val % 704
      omega
    · show b.val - 0 = b.val
      omega
  · rw [if_neg h, dif_neg (fun hh => h (hr.2 (hh 0)))]

section
variable (c : Dev nD) (w : Vec F S1024x128 .f32) (k v : Vec F S2048x128 .f32) (xp : Vec F S2112x1024 .f32)

/-- The weighted sums after the body. -/
def oFin : Vec F S2112x128 .bf16 := fun i =>
  oC c w k v xp (rowC (⟨(i 0).val, (i 0).isLt⟩ : Fin 2112)) (ix2 (rowI (⟨(i 0).val, (i 0).isLt⟩ : Fin 2112)) (⟨(i 1).val, (i 1).isLt⟩ : Fin 128))

theorem oEnd_eq (X : Vec F S2112x128 .bf16) : oEnd c w k v xp X = oFin c w k v xp := by
  funext i
  obtain ⟨a, b, rfl⟩ : ∃ (a : Fin 2112) (b : Fin 128), i = ix2 a b := ⟨_, _, eq_ix2 (n0 := 2112) (n1 := 128) i⟩
  unfold oEnd putOV
  refine (put_at (n := 128) 2 _ _ a b).trans ?_
  show _ = oC c w k v xp (rowC a) (ix2 (rowI a) b)
  by_cases h2 : rowC a = 2
  · rw [if_pos h2, h2]
  rw [if_neg h2]
  refine (put_at (n := 128) 1 _ _ a b).trans ?_
  by_cases h1 : rowC a = 1
  · rw [if_pos h1, h1]
  rw [if_neg h1]
  refine (put_at (n := 128) 0 _ _ a b).trans ?_
  have h0 : rowC a = 0 := by
    revert h1 h2; generalize rowC a = r; revert r; decide
  rw [if_pos h0, h0]

theorem lane_word (h : Fin 8) (b : Fin 8) : (Scalar.cmpi .eq (BitVec.ofNat 32 b.val) (BitVec.ofNat 32 h.val) = 1#1) ↔ b = h := by
  revert h b; decide

theorem eq_zero_of_ne_one {b : BitVec 1} (h : b ≠ 1#1) : b = 0#1 := by revert b; decide

theorem laneV_apply (h : Fin 8) (x : FVec F S704x1 .f32) (y : Vec F S704x8 .f32) (a : Fin 704) (b : Fin 8) :
    laneV (BitVec.ofNat 32 h.val) x y (ix2 a b) = if b = h then x (ix2 a (0 : Fin 1)) else y (ix2 a b) := by
  unfold laneV
  rw [Idealize.ShloMosaic.shapeCast_self, Idealize.ShloMosaic.shapeCast_self]
  have hw : (cmpi .eq (iota .tc S704x8 32 [1] iota_S704x8_d1_w32) (broadcast S704x8 (BitVec.ofNat 32 h.val)) : IVec S704x8 1) (ix2 a b)
      = Scalar.cmpi .eq (BitVec.ofNat 32 b.val) (BitVec.ofNat 32 h.val) :=
    congrArg (fun z => Scalar.cmpi .eq z (BitVec.ofNat 32 h.val)) (iota_single_apply .tc S704x8 32 1 iota_S704x8_d1_w32 (ix2 a b))
  by_cases hb : b = h
  · rw [if_pos hb]
    refine (select_apply _ _ _ _).trans ?_
    rw [hw, (lane_word h b).2 hb, select_one]
    refine broadcastTo_apply x broadcasts_S704x1_S704x8 (ix2 a b) (ix2 a (0 : Fin 1)) fun ax => ?_
    fin_cases ax <;> rfl
  · rw [if_neg hb]
    refine (select_apply _ _ _ _).trans ?_
    rw [hw, eq_zero_of_ne_one (fun hh => hb ((lane_word h b).1 hh)), select_zero]

theorem ld_segM (r : Fin 3) (X : Vec F S2112x8 .f32) (a : Fin 2112) (b : Fin 8) (h : rowC a = r) :
    View.ld X (rSegM r) (ix2 (rowI a) b) = X (ix2 a b) := by
  unfold View.ld
  refine congrArg X (funext fun x => Fin.ext ?_)
  have hr : r.val = a.val / 704 := by rw [← h]; rfl
  fin_cases x
  · show 704 * r.val + 1 * (a.val % 704) = a.val
    omega
  · show 0 + 1 * b.val = b.val
    omega

theorem putMV_apply (h : Fin 8) (r : Fin 3) (X : Vec F S2112x8 .f32) (m : FVec F S704x1 .f32) (a : Fin 2112) (b : Fin 8) :
    putMV (BitVec.ofNat 32 h.val) r X m (ix2 a b) = if rowC a = r ∧ b = h then m (ix2 (rowI a) (0 : Fin 1)) else X (ix2 a b) := by
  unfold putMV
  refine (put_at (n := 8) r X _ a b).trans ?_
  by_cases hr : rowC a = r
  · rw [if_pos hr]
    refine (laneV_apply h m _ (rowI a) b).trans ?_
    by_cases hb : b = h
    · rw [if_pos hb, if_pos ⟨hr, hb⟩]
    · rw [if_neg hb, if_neg (fun x => hb x.2)]
      exact ld_segM r X a b hr
  · rw [if_neg hr, if_neg (fun x => hr x.1)]

/-- A column of every class put in the lane of a head. -/
theorem col_apply (h : Fin 8) (col : Fin 3 → FVec F S704x1 .f32) (X : Vec F S2112x8 .f32) (a : Fin 2112) (b : Fin 8) :
    putMV (BitVec.ofNat 32 h.val) 2 (putMV (BitVec.ofNat 32 h.val) 1 (putMV (BitVec.ofNat 32 h.val) 0 X (col 0)) (col 1)) (col 2) (ix2 a b)
      = if b = h then col (rowC a) (ix2 (rowI a) (0 : Fin 1)) else X (ix2 a b) := by
  rw [putMV_apply, putMV_apply, putMV_apply]
  by_cases hb : b = h
  · simp only [hb, and_true, if_true]
    have : rowC a = 0 ∨ rowC a = 1 ∨ rowC a = 2 := by generalize rowC a = r; revert r; decide
    rcases this with h | h | h <;> rw [h] <;> rfl
  · simp only [hb, and_false, if_false]

theorem mEnd_apply (h : Fin 8) (X : Vec F S2112x8 .f32) (a : Fin 2112) (b : Fin 8) :
    mEnd c w k (BitVec.ofNat 32 h.val) xp X (ix2 a b) = if b = h then mC c w k xp (rowC a) (ix2 (rowI a) (0 : Fin 1)) else X (ix2 a b) :=
  col_apply h (mC c w k xp) X a b
theorem lEnd_apply (h : Fin 8) (X : Vec F S2112x8 .f32) (a : Fin 2112) (b : Fin 8) :
    lEnd c w k (BitVec.ofNat 32 h.val) xp X (ix2 a b) = if b = h then lC c w k xp (rowC a) (ix2 (rowI a) (0 : Fin 1)) else X (ix2 a b) :=
  col_apply h (lC c w k xp) X a b

end

end Cert.KernelIdeal.Att

end
-- ==== Proof.AProgEq.lean ====
/- The printed body of the attention call is the structured one. -/
module

public import proofs.«01_k».proof.Proof.AProg

@[expose] public section

noncomputable section

namespace Cert.KernelIdeal.Att

open Idealize.ShloMosaic Idealize.SL.Sem
open Cert.KernelIdeal.Gen Cert.KernelIdeal.Hand

variable {F : FTy → Type} [FloatOps F] [Named F]

/-- Two programs that test alike and go on alike. -/
theorem cond_bind {α β : Type} {p : Prop} {dp : Decidable p} (A B : PG F α) (K : α → PG F β) (A' B' : PG F β) (hA : A.bind K = A')
    (hB : B.bind K = B') : (dite p (fun _ => A) (fun _ => B)).bind K = ite p A' B' := by
  by_cases h : p
  · rw [dif_pos h, if_pos h]; exact hA
  · rw [dif_neg h, if_neg h]; exact hB

theorem attBody_split (arg1 : Memref sig .tc .vmem S1x2048x1024 .f32) (arg2 : Memref sig .tc .vmem S1024x128 .f32) (arg3 arg4 : Memref sig .tc .vmem S2048x128 .f32)
    (arg5 : Memref sig .tc .vmem S2112x128 .bf16) (harg5 : arg5.IsWhole) (arg6 arg7 : Memref sig .tc .vmem S2112x8 .f32)
    (arg8 arg9 : Memref sig .tc .vmem S704x128 .f32) (arg10 : Memref sig .tc .vmem S2112x1024 .f32) (h : BitVec 32) (c : Dev nD) :
    attBody (F := F) arg1 arg2 arg3 arg4 arg5 harg5 arg6 arg7 arg8 arg9 arg10 h c
      = ite (headFirst h = 1#1)
        ((forEach (fillX arg1 arg10) L33).bind fun _ => attRest arg2 arg3 arg4 arg5 harg5 arg6 arg7 arg8 arg9 arg10 h c)
        (attRest arg2 arg3 arg4 arg5 harg5 arg6 arg7 arg8 arg9 arg10 h c) := by
  unfold attBody attFill
  by_cases hh : headFirst h = 1#1
  · rw [if_pos hh, if_pos hh]; rfl
  · rw [if_neg hh, if_neg hh]; rfl

set_option maxRecDepth 65536 in
set_option maxHeartbeats 8000000 in
/-- The printed body is `attStructured`: both are the same operations one after another, whichever way the first head's test goes. -/
theorem att_eq (i : grid0.Coords) (arg1 : Memref sig .tc .vmem S1x2048x1024 .f32) (harg1 : arg1.IsWhole) (arg2 : Memref sig .tc .vmem S1024x128 .f32)
    (harg2 : arg2.IsWhole) (arg3 : Memref sig .tc .vmem S2048x128 .f32) (harg3 : arg3.IsWhole) (arg4 : Memref sig .tc .vmem S2048x128 .f32)
    (harg4 : arg4.IsWhole) (arg5 : Memref sig .tc .vmem S2112x128 .bf16) (harg5 : arg5.IsWhole) (arg6 : Memref sig .tc .vmem S2112x8 .f32)
    (harg6 : arg6.IsWhole) (arg7 : Memref sig .tc .vmem S2112x8 .f32) (harg7 : arg7.IsWhole) (arg8 : Memref sig .tc .vmem S704x128 .f32)
    (harg8 : arg8.IsWhole) (arg9 : Memref sig .tc .vmem S704x128 .f32) (harg9 : arg9.IsWhole) (arg10 : Memref sig .tc .vmem S2112x1024 .f32)
    (harg10 : arg10.IsWhole) :
    cc0__attn_body (F := F) i arg1 harg1 arg2 harg2 arg3 harg3 arg4 harg4 arg5 harg5 arg6 harg6 arg7 harg7 arg8 harg8 arg9 harg9 arg10 harg10
      = attStructured arg1 arg2 arg3 arg4 arg5 harg5 arg6 arg7 arg8 arg9 arg10 (BitVec.ofNat 32 (i 0).val) := by
  refine op_congr _ _ _ fun c => ?_
  refine Eq.trans ?_ (attBody_split arg1 arg2 arg3 arg4 arg5 harg5 arg6 arg7 arg8 arg9 arg10 (BitVec.ofNat 32 (i 0).val) c).symm
  refine cond_bind (F := F) (p := headFirst (BitVec.ofNat 32 (i 0).val) = 1#1) _ _ _ _ _ ?_ ?_
  · repeat (refine op_congr _ _ _ fun x => ?_)
    rfl
  · repeat (refine op_congr _ _ _ fun x => ?_)
    rfl

end Cert.KernelIdeal.Att

end
-- ==== Proof.Parts.lean ====
/- The buffers cut into the pieces that travel: an array is its pieces by a key of its indices and a rest, and pieces with
   any contents make an array again. -/
module

public import proofs.«01_k».proof.Proof.Compute

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

/-! ## Pieces by a key -/

section
variable {ℓ : Loc nD τ sig} (key : Idx ℓ → ℕ)

/-- The indices with a key, and those with none of a list of keys. -/
def piece (r : ℕ) : Finset (Idx ℓ) := Finset.univ.filter fun i => key i = r
def rest (l : List ℕ) : Finset (Idx ℓ) := Finset.univ.filter fun i => key i ∉ l

theorem mem_piece {r : ℕ} {i : Idx ℓ} : Iff (i ∈ piece key r) (key i = r) := by
  unfold piece; rw [Finset.mem_filter]; exact ⟨fun h => h.2, fun h => ⟨Finset.mem_univ _, h⟩⟩
theorem mem_rest {l : List ℕ} {i : Idx ℓ} : Iff (i ∈ rest key l) (key i ∉ l) := by
  unfold rest; rw [Finset.mem_filter]; exact ⟨fun h => h.2, fun h => ⟨Finset.mem_univ _, h⟩⟩

theorem eq_piece {r : ℕ} {S : Finset (Idx ℓ)} (h : ∀ i, Iff (i ∈ S) (key i = r)) : S = piece key r :=
  Finset.ext fun i => (h i).trans (mem_piece key).symm

theorem rest_nil : rest key [] = Finset.univ := Finset.ext fun i => by
  rw [mem_rest]; exact ⟨fun _ => Finset.mem_univ _, fun _ => List.not_mem_nil⟩

theorem rest_union {a : ℕ} {l : List ℕ} (h : a ∉ l) : rest key l = piece key a ∪ rest key (a :: l) := Finset.ext fun i => by
  rw [Finset.mem_union, mem_rest, mem_piece, mem_rest, List.mem_cons, not_or]
  constructor
  · intro hi
    by_cases e : key i = a
    · exact Or.inl e
    · exact Or.inr ⟨e, hi⟩
  · rintro (e | ⟨_, hi⟩)
    · rw [e]; exact h
    · exact hi

theorem rest_disj (a : ℕ) (l : List ℕ) : Disjoint (piece key a) (rest key (a :: l)) :=
  Finset.disjoint_left.mpr fun i h h' => (mem_rest key).mp h' (by rw [(mem_piece key).mp h]; exact List.mem_cons_self)

/-- An array is its pieces and the rest. -/
theorem cut (q : PosShare TreeShare) (f : Buf (Elt F) ℓ) {l : List ℕ} (h : l.Nodup) :
    (ℓ ↦{q} f : sProp 𝕄) = iprop(sepL (fun r => (ℓ ↦[piece key r]{q} f : sProp 𝕄)) l ∗ ℓ ↦[rest key l]{q} f) := by
  induction l with
  | nil => rw [rest_nil, sepL_nil, emp_sep_eq]
  | cons a l ih =>
    have ha := List.nodup_cons.mp h
    have e : (ℓ ↦[rest key l]{q} f : sProp 𝕄) = iprop((ℓ ↦[piece key a]{q} f) ∗ ℓ ↦[rest key (a :: l)]{q} f) := by
      rw [rest_union key ha.1]
      exact eq_of_both (pointsTo_union (rest_disj key a l)).1 (pointsTo_union (rest_disj key a l)).2
    rw [ih ha.2, e, sepL_cons]
    refine eq_of_both ?_ ?_
    · iintro ⟨H1, H2, H3⟩
      isplitl [H1 H2]
      · isplitl [H2] <;> iassumption
      iexact H3
    · iintro ⟨⟨H2, H1⟩, H3⟩
      isplitl [H1]; · iexact H1
      isplitl [H2] <;> iassumption

/-- Pieces and a rest, whatever they hold, are an array. -/
theorem glue (q : PosShare TreeShare) {l : List ℕ} (h : l.Nodup) :
    iprop(sepL (fun r => iprop(∃ f : Buf (Elt F) ℓ, ℓ ↦[piece key r]{q} f)) l ∗ ∃ f : Buf (Elt F) ℓ, ℓ ↦[rest key l]{q} f)
      ⊢ (iprop(∃ f : Buf (Elt F) ℓ, ℓ ↦{q} f) : sProp 𝕄) := by
  induction l with
  | nil => rw [rest_nil, sepL_nil, emp_sep_eq]
  | cons a l ih =>
    have ha := List.nodup_cons.mp h
    rw [sepL_cons]
    iintro ⟨⟨⟨%f, H1⟩, H2⟩, %g, H3⟩
    iapply (ih ha.2)
    isplitl [H2]; · iexact H2
    iexists _
    rw [rest_union key ha.1]
    iapply (pointsTo_join (rest_disj key a l) (f := f) (g := g))
    isplitl [H1] <;> iassumption

end

/-! ## The keys of the views -/

theorem nodup_up (c : Dev nD) : (c.val :: L7.map fun d => (up c d).val).Nodup := by revert c; decide
theorem nodup_dn (c : Dev nD) : (c.val :: L7.map fun d => (dn c d).val).Nodup := by revert c; decide

/-- The key of rows in chunks of 256. -/
abbrev kRow {a b : ℕ} (i : (⟨2, ![a, b]⟩ : Shape).Idx) : ℕ := (i 0).val / 256
abbrev kO (i : S7x256x1024.Idx) : ℕ := (i 0).val
abbrev kM (i : S7x2x256x8.Idx) : ℕ := 2 * (i 0).val + (i 1).val

theorem mem_chunk {a b r : ℕ} {off : Fin 2 → ℕ} (e : off = ![256 * r, 0]) {inb : ∀ x, off x + (![256, b] : Fin 2 → ℕ) x ≤ (⟨2, ![a, b]⟩ : Shape).size x}
    (i : (⟨2, ![a, b]⟩ : Shape).Idx) :
    Iff (i ∈ (Rect.unit (s := ⟨2, ![a, b]⟩) off ![256, b] inb).set) (kRow i = r) := by
  subst e
  rw [Rect.mem_set_unit]
  have h1 : (i 1).val < b := (i 1).isLt
  constructor
  · intro h
    have h0 : 256 * r ≤ (i 0).val ∧ (i 0).val < 256 * r + 256 := h 0
    show (i 0).val / 256 = r
    omega
  · intro h x
    have h' : (i 0).val / 256 = r := h
    fin_cases x
    · show 256 * r ≤ (i 0).val ∧ (i 0).val < 256 * r + 256
      omega
    · show 0 ≤ (i 1).val ∧ (i 1).val < 0 + b
      omega

theorem off1_dn (c : Dev nD) (d : Fin 7) : k1_off1 c (dw d) = ![256 * (dn c d).val, 0] := by
  rw [k1_off1_eq c d]; rfl
theorem off2_dn (c : Dev nD) (d : Fin 7) : k1_off2 c (dw d) = ![256 * (dn c d).val, 0] := by
  rw [k1_off2_eq c d]; rfl

theorem set_srcO (c : Dev nD) (d : Fin 7) : (srcO c d).view.set = piece (ℓ := (c : Thread nD τ).loc cc1_stg0_0) (kRow (a := 2112) (b := 1024)) (dn c d).val :=
  (View.set_slice_whole _ _).trans (eq_piece (ℓ := (c : Thread nD τ).loc cc1_stg0_0) (kRow (a := 2112) (b := 1024)) fun i => mem_chunk (off1_dn c d) i)
theorem set_srcM (c : Dev nD) (d : Fin 7) : (srcM c d).view.set = piece (ℓ := (c : Thread nD τ).loc cc1_stg1_0) (kRow (a := 2112) (b := 8)) (dn c d).val :=
  (View.set_slice_whole _ _).trans (eq_piece (ℓ := (c : Thread nD τ).loc cc1_stg1_0) (kRow (a := 2112) (b := 8)) fun i => mem_chunk (off2_dn c d) i)
theorem set_srcL (c : Dev nD) (d : Fin 7) : (srcL c d).view.set = piece (ℓ := (c : Thread nD τ).loc cc1_stg2_0) (kRow (a := 2112) (b := 8)) (dn c d).val :=
  (View.set_slice_whole _ _).trans (eq_piece (ℓ := (c : Thread nD τ).loc cc1_stg2_0) (kRow (a := 2112) (b := 8)) fun i => mem_chunk (off2_dn c d) i)
theorem set_ownSO (c : Dev nD) : (ownSO c).view.set = piece (ℓ := (c : Thread nD τ).loc cc1_stg0_0) (kRow (a := 2112) (b := 1024)) c.val :=
  (View.set_slice_whole _ _).trans (eq_piece (ℓ := (c : Thread nD τ).loc cc1_stg0_0) (kRow (a := 2112) (b := 1024)) fun i => mem_chunk (k1_off3_eq c) i)
theorem set_ownSM (c : Dev nD) : (ownSM c).view.set = piece (ℓ := (c : Thread nD τ).loc cc1_stg1_0) (kRow (a := 2112) (b := 8)) c.val :=
  (View.set_slice_whole _ _).trans (eq_piece (ℓ := (c : Thread nD τ).loc cc1_stg1_0) (kRow (a := 2112) (b := 8)) fun i => mem_chunk (k1_off4_eq c) i)
theorem set_ownSL (c : Dev nD) : (ownSL c).view.set = piece (ℓ := (c : Thread nD τ).loc cc1_stg2_0) (kRow (a := 2112) (b := 8)) c.val :=
  (View.set_slice_whole _ _).trans (eq_piece (ℓ := (c : Thread nD τ).loc cc1_stg2_0) (kRow (a := 2112) (b := 8)) fun i => mem_chunk (k1_off4_eq c) i)
theorem set_gOwn (c p : Dev nD) : (gOwn p).view.set = piece (ℓ := (c : Thread nD τ).loc cc1_scratch4) (kRow (a := 2048) (b := 1024)) p.val :=
  (View.set_slice_whole _ _).trans (eq_piece (ℓ := (c : Thread nD τ).loc cc1_scratch4) (kRow (a := 2048) (b := 1024)) fun i => mem_chunk (k1_off7_eq p) i)

theorem set_slotO (c : Dev nD) (j : Fin 7) : (slotO j).view.set = piece (ℓ := (c : Thread nD τ).loc cc1_scratch2) kO j.val :=
  ((View.set_reshape (rO.view.slice (rSlotO j)) squeezes_S1x256x1024_S256x1024.numel_eq).trans (View.set_slice_whole _ _)).trans
    (eq_piece (ℓ := (c : Thread nD τ).loc cc1_scratch2) kO fun (i : S7x256x1024.Idx) => by
    rw [Rect.mem_set_unit]
    have h1 : (i 1).val < 256 := (i 1).isLt
    have h2 : (i 2).val < 1024 := (i 2).isLt
    constructor
    · intro h
      have h0 : j.val ≤ (i 0).val ∧ (i 0).val < j.val + 1 := h 0
      show (i 0).val = j.val
      omega
    · intro h x
      have h' : (i 0).val = j.val := h
      fin_cases x
      · show j.val ≤ (i 0).val ∧ (i 0).val < j.val + 1
        omega
      · show 0 ≤ (i 1).val ∧ (i 1).val < 0 + 256
        omega
      · show 0 ≤ (i 2).val ∧ (i 2).val < 0 + 1024
        omega)

theorem set_slotML (c : Dev nD) (j : Fin 7) (k : Fin 2) :
    (slotML j k).view.set = piece (ℓ := (c : Thread nD τ).loc cc1_scratch3) kM (2 * j.val + k.val) :=
  ((View.set_reshape (rM.view.slice (rSlotM j k)) squeezes_S1x1x256x8_S256x8.numel_eq).trans (View.set_slice_whole _ _)).trans
    (eq_piece (ℓ := (c : Thread nD τ).loc cc1_scratch3) kM fun (i : S7x2x256x8.Idx) => by
    rw [Rect.mem_set_unit]
    have h1 : (i 1).val < 2 := (i 1).isLt
    have h2 : (i 2).val < 256 := (i 2).isLt
    have h3 : (i 3).val < 8 := (i 3).isLt
    have hk := k.isLt
    constructor
    · intro h
      have h0 : j.val ≤ (i 0).val ∧ (i 0).val < j.val + 1 := h 0
      have h1 : k.val ≤ (i 1).val ∧ (i 1).val < k.val + 1 := h 1
      show 2 * (i 0).val + (i 1).val = 2 * j.val + k.val
      omega
    · intro h x
      have h' : 2 * (i 0).val + (i 1).val = 2 * j.val + k.val := h
      fin_cases x
      · show j.val ≤ (i 0).val ∧ (i 0).val < j.val + 1
        omega
      · show k.val ≤ (i 1).val ∧ (i 1).val < k.val + 1
        omega
      · show 0 ≤ (i 2).val ∧ (i 2).val < 0 + 256
        omega
      · show 0 ≤ (i 3).val ∧ (i 3).val < 0 + 8
        omega)

/-! ## The inputs -/

variable (m : (ℓ : Loc nD τ sig) → Buf (Elt F) ℓ)

/-- What of the inputs belongs to no chunk. -/
def spare (c : Dev nD) : sProp 𝕄 :=
  iprop((((c : Thread nD τ).loc cc1_stg0_0) ↦[rest (kRow (a := 2112) (b := 1024)) (c.val :: L7.map fun d => (dn c d).val)]{fullShare} inO m c)
    ∗ (((c : Thread nD τ).loc cc1_stg1_0) ↦[rest (kRow (a := 2112) (b := 8)) (c.val :: L7.map fun d => (dn c d).val)]{fullShare} inM m c)
    ∗ (((c : Thread nD τ).loc cc1_stg2_0) ↦[rest (kRow (a := 2112) (b := 8)) (c.val :: L7.map fun d => (dn c d).val)]{fullShare} inL m c))

theorem cut_O (c : Dev nD) : (pt c cc1_stg0_0 (inO m c) : sProp 𝕄) = iprop((held c (ownSO c) fullShare (inO m c) ∗ sepL (fun d => back m c 0 d) L7)
    ∗ (((c : Thread nD τ).loc cc1_stg0_0) ↦[rest (kRow (a := 2112) (b := 1024)) (c.val :: L7.map fun d => (dn c d).val)]{fullShare} inO m c)) := by
  rw [pt, cut (ℓ := (c : Thread nD τ).loc cc1_stg0_0) (kRow (a := 2112) (b := 1024)) fullShare (inO m c) (nodup_dn c), sepL_cons, sepL_map]
  rw [show (held c (ownSO c) fullShare (inO m c) : sProp 𝕄) = _ from by rw [held, set_ownSO]]
  rw [sepL_congr fun d _ => show (back m c 0 d : sProp 𝕄) = _ from by rw [back, held, set_srcO]]
theorem cut_M (c : Dev nD) : (pt c cc1_stg1_0 (inM m c) : sProp 𝕄) = iprop((held c (ownSM c) fullShare (inM m c) ∗ sepL (fun d => back m c 1 d) L7)
    ∗ (((c : Thread nD τ).loc cc1_stg1_0) ↦[rest (kRow (a := 2112) (b := 8)) (c.val :: L7.map fun d => (dn c d).val)]{fullShare} inM m c)) := by
  rw [pt, cut (ℓ := (c : Thread nD τ).loc cc1_stg1_0) (kRow (a := 2112) (b := 8)) fullShare (inM m c) (nodup_dn c), sepL_cons, sepL_map]
  rw [show (held c (ownSM c) fullShare (inM m c) : sProp 𝕄) = _ from by rw [held, set_ownSM]]
  rw [sepL_congr fun d _ => show (back m c 1 d : sProp 𝕄) = _ from by rw [back, held, set_srcM]]
theorem cut_L (c : Dev nD) : (pt c cc1_stg2_0 (inL m c) : sProp 𝕄) = iprop((held c (ownSL c) fullShare (inL m c) ∗ sepL (fun d => back m c 2 d) L7)
    ∗ (((c : Thread nD τ).loc cc1_stg2_0) ↦[rest (kRow (a := 2112) (b := 8)) (c.val :: L7.map fun d => (dn c d).val)]{fullShare} inL m c)) := by
  rw [pt, cut (ℓ := (c : Thread nD τ).loc cc1_stg2_0) (kRow (a := 2112) (b := 8)) fullShare (inL m c) (nodup_dn c), sepL_cons, sepL_map]
  rw [show (held c (ownSL c) fullShare (inL m c) : sProp 𝕄) = _ from by rw [held, set_ownSL]]
  rw [sepL_congr fun d _ => show (back m c 2 d : sProp 𝕄) = _ from by rw [back, held, set_srcL]]

/-- The inputs are the own chunk, the chunks to send, and a spare part. -/
theorem cut_inputs (c : Dev nD) :
    (iprop(pt c cc1_stg0_0 (inO m c) ∗ pt c cc1_stg1_0 (inM m c) ∗ pt c cc1_stg2_0 (inL m c)) : sProp 𝕄)
      = iprop(ownHeld m c ∗ sepL (fun d => iprop(back m c 0 d ∗ back m c 1 d ∗ back m c 2 d)) L7 ∗ spare m c) := by
  rw [cut_O, cut_M, cut_L, sepL_sep, sepL_sep]
  unfold ownHeld spare
  refine eq_of_both ?_ ?_
  · iintro ⟨⟨⟨A0, B0⟩, C0⟩, ⟨⟨A1, B1⟩, C1⟩, ⟨A2, B2⟩, C2⟩
    isplitl [A0 A1 A2]
    · isplitl [A0]; · iexact A0
      isplitl [A1] <;> iassumption
    isplitl [B0 B1 B2]
    · isplitl [B0]; · iexact B0
      isplitl [B1] <;> iassumption
    isplitl [C0]; · iexact C0
    isplitl [C1] <;> iassumption
  · iintro ⟨⟨A0, A1, A2⟩, ⟨B0, B1, B2⟩, C0, C1, C2⟩
    isplitl [A0 B0 C0]
    · isplitl [A0 B0]
      · isplitl [A0] <;> iassumption
      iexact C0
    isplitl [A1 B1 C1]
    · isplitl [A1 B1]
      · isplitl [A1] <;> iassumption
      iexact C1
    isplitl [A2 B2]
    · isplitl [A2] <;> iassumption
    iexact C2

/-! ## The slots -/

/-- Slots with any contents. -/
def slotsAny (c : Dev nD) (j : Fin 7) : sProp 𝕄 :=
  iprop((∃ f, held c (slotO j) fullShare f) ∗ (∃ f, held c (slotML j 0) fullShare f) ∗ (∃ f, held c (slotML j 1) fullShare f))

def lO : List ℕ := L7.map fun j => j.val
def lM : List ℕ := L7.flatMap fun j => [2 * j.val + (0 : Fin 2).val, 2 * j.val + (1 : Fin 2).val]

/-- What of the slots' buffers is no slot (nothing). -/
def slotRest (c : Dev nD) : sProp 𝕄 :=
  iprop((∃ f : Buf (Elt F) ((c : Thread nD τ).loc cc1_scratch2), ((c : Thread nD τ).loc cc1_scratch2) ↦[rest kO lO]{fullShare} f)
    ∗ (∃ f : Buf (Elt F) ((c : Thread nD τ).loc cc1_scratch3), ((c : Thread nD τ).loc cc1_scratch3) ↦[rest kM lM]{fullShare} f))

theorem cut_slots (c : Dev nD) :
    iprop((∃ f, pt c cc1_scratch2 f) ∗ ∃ f, pt c cc1_scratch3 f) ⊢ (iprop(sepL (slotsAny c) L7 ∗ slotRest c) : sProp 𝕄) := by
  unfold slotsAny slotRest
  rw [sepL_sep, sepL_sep]
  iintro ⟨⟨%f, HO⟩, %g, HM⟩
  ihave HO := (Entails.of_eq (cut (ℓ := (c : Thread nD τ).loc cc1_scratch2) kO fullShare f (l := lO) (by decide))) $$ HO
  ihave HM := (Entails.of_eq (cut (ℓ := (c : Thread nD τ).loc cc1_scratch3) kM fullShare g (l := lM) (by decide))) $$ HM
  icases HO with ⟨HO, HO'⟩
  icases HM with ⟨HM, HM'⟩
  have hO : sepL (fun r => ((c : Thread nD τ).loc cc1_scratch2 ↦[piece kO r]{fullShare} f : sProp 𝕄)) lO
      ⊢ sepL (fun j => iprop(∃ f, held c (slotO j) fullShare f)) L7 := by
    unfold lO; rw [sepL_map]
    refine sepL_mono fun j _ => ?_
    rw [← set_slotO c j]
    iintro H; iexists f; iexact H
  have hM : sepL (fun r => ((c : Thread nD τ).loc cc1_scratch3 ↦[piece kM r]{fullShare} g : sProp 𝕄)) lM
      ⊢ iprop(sepL (fun j => iprop(∃ f, held c (slotML j 0) fullShare f)) L7 ∗ sepL (fun j => iprop(∃ f, held c (slotML j 1) fullShare f)) L7) := by
    unfold lM; rw [sepL_flatMap, ← sepL_sep]
    refine sepL_mono fun j _ => ?_
    rw [sepL_cons, sepL_cons, sepL_nil, sep_emp_eq, ← set_slotML c j 0, ← set_slotML c j 1]
    iintro ⟨H0, H1⟩
    isplitl [H0]
    · iexists g; iexact H0
    · iexists g; iexact H1
  ihave HO := hO $$ HO
  ihave HM := hM $$ HM
  icases HM with ⟨HM, HL⟩
  isplitl [HO HM HL]
  · isplitl [HO]; · iexact HO
    isplitl [HM] <;> iassumption
  isplitl [HO']
  · iexists f; iexact HO'
  · iexists g; iexact HM'

theorem glue_slots (c : Dev nD) :
    iprop(sepL (slotsAny c) L7 ∗ slotRest c) ⊢ (iprop((∃ f, pt c cc1_scratch2 f) ∗ ∃ f, pt c cc1_scratch3 f) : sProp 𝕄) := by
  unfold slotsAny slotRest
  rw [sepL_sep, sepL_sep]
  have hO : sepL (fun j => (iprop(∃ f, held c (slotO j) fullShare f) : sProp 𝕄)) L7
      ⊢ sepL (fun r => iprop(∃ f : Buf (Elt F) ((c : Thread nD τ).loc cc1_scratch2), ((c : Thread nD τ).loc cc1_scratch2) ↦[piece kO r]{fullShare} f)) lO := by
    unfold lO; rw [sepL_map]
    refine sepL_mono fun j _ => ?_
    rw [← set_slotO c j]
  have hM : (iprop(sepL (fun j => iprop(∃ f, held c (slotML j 0) fullShare f)) L7 ∗ sepL (fun j => iprop(∃ f, held c (slotML j 1) fullShare f)) L7) : sProp 𝕄)
      ⊢ sepL (fun r => iprop(∃ f : Buf (Elt F) ((c : Thread nD τ).loc cc1_scratch3), ((c : Thread nD τ).loc cc1_scratch3) ↦[piece kM r]{fullShare} f)) lM := by
    unfold lM; rw [sepL_flatMap, ← sepL_sep]
    refine sepL_mono fun j _ => ?_
    rw [sepL_cons, sepL_cons, sepL_nil, sep_emp_eq, ← set_slotML c j 0, ← set_slotML c j 1]
  iintro ⟨⟨HO, HM, HL⟩, HO', HM'⟩
  ihave HO := hO $$ HO
  ihave HM := hM $$ [HM HL]
  · isplitl [HM] <;> iassumption
  isplitl [HO HO']
  · iapply (glue (ℓ := (c : Thread nD τ).loc cc1_scratch2) kO fullShare (l := lO) (by decide))
    isplitl [HO] <;> iassumption
  · iapply (glue (ℓ := (c : Thread nD τ).loc cc1_scratch3) kM fullShare (l := lM) (by decide))
    isplitl [HM] <;> iassumption

/-! ## The gathered rows -/

/-- What of the gathered rows is no device's (nothing), with any contents, at a share. -/
def rowRest (c : Dev nD) (q : PosShare TreeShare) (f : AG F) : sProp 𝕄 :=
  ((c : Thread nD τ).loc cc1_scratch4) ↦[rest (kRow (a := 2048) (b := 1024)) (c.val :: L7.map fun d => (up c d).val)]{q} f

theorem cut_rows (c : Dev nD) (q : PosShare TreeShare) (f : AG F) :
    ((((c : Thread nD τ).loc cc1_scratch4) ↦{q} f) : sProp 𝕄)
      = iprop((held c (gOwn c) q f ∗ sepL (fun d => held c (gOwn (up c d)) q f) L7) ∗ rowRest c q f) := by
  rw [cut (ℓ := (c : Thread nD τ).loc cc1_scratch4) (kRow (a := 2048) (b := 1024)) q f (nodup_up c), sepL_cons, sepL_map]
  rw [show (held c (gOwn c) q f : sProp 𝕄) = _ from by rw [held, set_gOwn c c]]
  rw [sepL_congr fun d _ => show (held c (gOwn (up c d)) q f : sProp 𝕄) = _ from by rw [held, set_gOwn c (up c d)]]
  rfl

theorem key_mem (c : Dev nD) (k : Fin 8) : k.val ∈ c.val :: L7.map fun d => (up c d).val := by revert c k; decide

theorem rowRest_any (c : Dev nD) (q : PosShare TreeShare) (f g : AG F) : (rowRest c q f : sProp 𝕄) = rowRest c q g :=
  pointsTo_congr fun i hi => absurd (key_mem c (rowDev i)) ((mem_rest _).mp hi)

theorem half (c : Dev nD) (S : Finset (Idx ((c : Thread nD τ).loc cc1_scratch4))) (f : AG F) :
    ((((c : Thread nD τ).loc cc1_scratch4) ↦[S]{fullShare} f) : sProp 𝕄)
      = iprop((((c : Thread nD τ).loc cc1_scratch4) ↦[S]{fullShare.left} f) ∗ (((c : Thread nD τ).loc cc1_scratch4) ↦[S]{fullShare.right} f)) :=
  eq_of_both (pointsTo_share (PosShare.mem_left_op_right _)).1 (pointsTo_share (PosShare.mem_left_op_right _)).2

theorem toks_eq (c : Dev nD) (f : AG F) :
    (held c (gOwn c) fullShare.right f : sProp 𝕄)
      = iprop(held c (gOwn c) (Transfers.shareDrop fullShare.right 7) f ∗ sepL (fun d => held c (gOwn c) (tok d) f) L7) := by
  have e : bigSep Finset.univ (fun i : Fin 7 => (held c (gOwn c) (tok i) f : sProp 𝕄)) = sepL (fun d => held c (gOwn c) (tok d) f) L7 :=
    bigSep_eq_sepL _ (by decide) (by decide)
  rw [← e]
  exact eq_of_both (Transfers.pointsTo_toks fullShare.right 7).1 (Transfers.pointsTo_toks fullShare.right 7).2

end Cert.KernelIdeal.Hand

end
-- ==== Proof.Body.lean ====
/- The body of one device, whole: what it needs at its start, what it leaves, and that its phases lead from the one to the
   other. -/
module

public import proofs.«01_k».proof.Proof.Parts

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (m : (ℓ : Loc nD τ sig) → Buf (Elt F) ℓ) (κ : Dev nD × K → ℕ)

/-! ## The cells of a device, in order of use -/

def kR (j : Fin 7) : List K := [.rsR 0 (lo1 j), .rsR 1 (lo1 j), .rsR 2 (lo1 j)]
def kS (d : Fin 7) : List K := [.rsS 0 (up1 d), .rsS 1 (up1 d), .rsS 2 (up1 d)]
def kG (c : Dev nD) (d : Fin 7) : K := .agR (up c d)
def kH (d : Fin 7) : K := .agS (up1 d)

/-- The cells that others pay, the barrier apart; the cells paid by the device's own sends; those that nobody pays. -/
def dueK (c : Dev nD) : List K := L7.flatMap kR ++ L7.map (kG c)
def sendK : List K := L7.flatMap kS ++ L7.map kH
def idleK (c : Dev nD) : List K := [.rsS 0 0, .rsS 1 0, .rsS 2 0, .rsR 0 7, .rsR 1 7, .rsR 2 7, .agS 0, .agR c]
def allK (c : Dev nD) : List K := .bar :: (dueK c ++ sendK ++ idleK c)

theorem allK_nodup (c : Dev nD) : (allK c).Nodup := by revert c; decide +kernel
theorem allK_all (c : Dev nD) : Finset.univ = (allK c).toFinset := by revert c; decide +kernel

theorem allK_eq (c : Dev nD) (Φ : K → sProp 𝕄) :
    bigSep Finset.univ Φ = iprop(Φ .bar ∗ (sepL Φ (dueK c) ∗ sepL Φ sendK) ∗ sepL Φ (idleK c)) := by
  rw [bigSep_eq_sepL Φ (allK_nodup c) (allK_all c)]
  unfold allK
  rw [sepL_cons, sepL_append, sepL_append]

theorem idle_duty (c : Dev nD) : ∀ k ∈ idleK c, dutySet c k = ∅ := by revert c; decide +kernel

/-! ## What a device may pay -/

/-- The duties of the device: to signal its peers; of each chunk's sends and arrivals; of its rows' sends and arrivals. -/
def payBar (c : Dev nD) (d : Fin 7) : GSem nD τ sig × ℕ × Dev nD := (cell (up c d) .bar, 0, c)
def payRs (c : Dev nD) (d : Fin 7) : List (GSem nD τ sig × ℕ × Dev nD) :=
  [(cell c (.rsS 0 (up1 d)), 0, 0), (cell (dn c d) (.rsR 0 (lo1 d)), 0, 0), (cell c (.rsS 1 (up1 d)), 0, 0),
    (cell (dn c d) (.rsR 1 (lo1 d)), 0, 0), (cell c (.rsS 2 (up1 d)), 0, 0), (cell (dn c d) (.rsR 2 (lo1 d)), 0, 0)]
def payAg (c : Dev nD) (d : Fin 7) : List (GSem nD τ sig × ℕ × Dev nD) :=
  [(cell c (.agS (up1 d)), 0, 0), (cell (up c d) (.agR c), 0, 0)]
def payList (c : Dev nD) : List (GSem nD τ sig × ℕ × Dev nD) := L7.map (payBar c) ++ (L7.flatMap (payRs c) ++ L7.flatMap (payAg c))

/-- The token of a duty. -/
def dtok (x : GSem nD τ sig × ℕ × Dev nD) : sProp 𝕄 := dutyTok ER x.1 x.2.1 x.2.2

/-- What the device owes at its start. -/
def sigList (c : Dev nD) : List (Dev nD × K) := L7.map (sigItem c)
def rsList (c : Dev nD) : List (Dev nD × K) := L7.flatMap (rsItem c)
def agList (c : Dev nD) : List (Dev nD × K) := L7.map (agItem c)
def O₀ (c : Dev nD) : CellTallies nD τ sig Unit := owe (sigList c) + owe (rsList c ++ agList c)

def due (c : Dev nD) (k : K) : sProp 𝕄 := cred (tallyAt (cell c k) () (amt k))
def at0 (c : Dev nD) (k : K) : sProp 𝕄 := atPos ER (cell c k) 0 ∅ 0
def at1 (c : Dev nD) (k : K) : sProp 𝕄 := atPos ER (cell c k) 1 ∅ 0

/-- The rights of a device at its start. -/
def rights (c : Dev nD) : sProp 𝕄 :=
  iprop((cred (tallyAt (cell c .bar) () 7) ∗ sepL (due c) (dueK c)) ∗ bigSep Finset.univ (at0 c) ∗ sepL dtok (payList c))

/-! ## From the rights to what the phases need -/

theorem to_sig (c : Dev nD) :
    iprop(sepL (slotsAny c) L7 ∗ sepL (fun d => iprop(∃ f, held c (gOwn (up c d)) fullShare f)) L7 ∗ sepL dtok (L7.map (payBar c)))
      ⊢ (sepL (sigPart c) L7 : sProp 𝕄) := by
  rw [sepL_map, ← sepL_sep, ← sepL_sep]
  refine sepL_mono fun d _ => ?_
  unfold slotsAny sigPart bundle dtok payBar
  rw [gap_up]
  iintro ⟨⟨H0, H1, H2⟩, H3, H4⟩
  isplitl [H0 H1 H2 H3]
  · isplitl [H0]; · iexact H0
    isplitl [H1]; · iexact H1
    isplitl [H2] <;> iassumption
  iexact H4

theorem peers_dn (c : Dev nD) : (L7.map (dn c)).Nodup ∧ Finset.univ.erase c = (L7.map (dn c)).toFinset := by revert c; decide
theorem peers_up (c : Dev nD) : (L7.map (up c)).Nodup ∧ Finset.univ.erase c = (L7.map (up c)).toFinset := by revert c; decide

theorem bundles (c : Dev nD) :
    bigSep (Finset.univ.erase c) (fun q => bundle q c)
      ⊢ (iprop(sepL (fun d => slotsAny (dn c d) d) L7 ∗ sepL (fun d => iprop(∃ f, held (up c d) (gOwn c) fullShare f)) L7) : sProp 𝕄) := by
  have e : ∀ q : Dev nD, (bundle q c : sProp 𝕄) = iprop(slotsAny q (gap q c) ∗ ∃ f, held q (gOwn c) fullShare f) := fun q => by
    unfold bundle slotsAny; rw [sep_assoc_eq, sep_assoc_eq]
  have e1 : bigSep (Finset.univ.erase c) (fun q => (slotsAny q (gap q c) : sProp 𝕄)) = sepL (fun d => slotsAny (dn c d) d) L7 := by
    rw [bigSep_eq_sepL (l := L7.map (dn c)) _ (peers_dn c).1 (peers_dn c).2, sepL_map]
    exact sepL_congr fun d _ => by rw [gap_dn]
  have e2 : bigSep (Finset.univ.erase c) (fun q => (iprop(∃ f, held q (gOwn c) fullShare f) : sProp 𝕄))
      = sepL (fun d => iprop(∃ f, held (up c d) (gOwn c) fullShare f)) L7 := by
    rw [bigSep_eq_sepL (l := L7.map (up c)) _ (peers_up c).1 (peers_up c).2, sepL_map]
  rw [bigSep_congr fun q _ => e q, bigSep_sep', e1, e2]

theorem to_chunks (c : Dev nD) :
    iprop(sepL (fun d => iprop(back m c 0 d ∗ back m c 1 d ∗ back m c 2 d)) L7 ∗ sepL (fun d => slotsAny (dn c d) d) L7
        ∗ sepL dtok (L7.flatMap (payRs c)))
      ⊢ (sepL (chunkPart m c) L7 : sProp 𝕄) := by
  rw [sepL_flatMap, ← sepL_sep, ← sepL_sep]
  refine sepL_mono fun d _ => ?_
  unfold slotsAny chunkPart payRs
  simp only [sepL_cons, sepL_nil, sep_emp_eq]
  unfold dtok
  iintro ⟨⟨B0, B1, B2⟩, ⟨S0, S1, S2⟩, T0, U0, T1, U1, T2, U2⟩
  isplitl [B0 S0 T0 U0]
  · isplitl [B0]; · iexact B0
    isplitl [S0]; · iexact S0
    isplitl [T0] <;> iassumption
  isplitl [B1 S1 T1 U1]
  · isplitl [B1]; · iexact B1
    isplitl [S1]; · iexact S1
    isplitl [T1] <;> iassumption
  isplitl [B2]; · iexact B2
  isplitl [S2]; · iexact S2
  isplitl [T2] <;> iassumption

theorem to_due (c : Dev nD) :
    iprop(sepL (due c) (dueK c) ∗ sepL (at0 c) (dueK c)) ⊢ (iprop(sepL (duePart c) L7 ∗ sepL (rowsDue c) L7) : sProp 𝕄) := by
  unfold dueK
  rw [sepL_append, sepL_append, sepL_flatMap, sepL_flatMap, sepL_map, sepL_map]
  have h1 : iprop(sepL (fun j => sepL (due c) (kR j)) L7 ∗ sepL (fun j => sepL (at0 c) (kR j)) L7) ⊢ (sepL (duePart c) L7 : sProp 𝕄) := by
    rw [← sepL_sep]
    refine sepL_mono fun j _ => ?_
    unfold kR duePart
    simp only [sepL_cons, sepL_nil, sep_emp_eq]
    unfold due at0
    iintro ⟨⟨D0, D1, D2⟩, A0, A1, A2⟩
    isplitl [D0 A0]
    · isplitl [D0] <;> iassumption
    isplitl [D1 A1]
    · isplitl [D1] <;> iassumption
    isplitl [D2] <;> iassumption
  have h2 : iprop(sepL (fun d => due c (kG c d)) L7 ∗ sepL (fun d => at0 c (kG c d)) L7) ⊢ (sepL (rowsDue c) L7 : sProp 𝕄) := by
    rw [← sepL_sep]
    refine sepL_mono fun j _ => ?_
    unfold due at0 kG rowsDue
    exact BI.Entails.refl _
  iintro ⟨⟨H1, H2⟩, H3, H4⟩
  isplitl [H1 H3]
  · iapply h1; isplitl [H1] <;> iassumption
  · iapply h2; isplitl [H2] <;> iassumption

theorem from_got (c : Dev nD) :
    sepL (gotPart m c) L7 ⊢ (iprop(sepL (slotsAny c) L7 ∗ sepL (at1 c) (L7.flatMap kR)) : sProp 𝕄) := by
  rw [sepL_flatMap, ← sepL_sep]
  refine sepL_mono fun j _ => ?_
  unfold gotPart slotsAny kR
  simp only [sepL_cons, sepL_nil, sep_emp_eq]
  unfold at1
  iintro ⟨⟨H0, A0⟩, ⟨H1, A1⟩, H2, A2⟩
  isplitl [H0 H1 H2]
  · isplitl [H0]; · iexists _; iexact H0
    isplitl [H1]; · iexists _; iexact H1
    iexists _; iexact H2
  isplitl [A0]; · iexact A0
  isplitl [A1] <;> iassumption

theorem to_rows (c : Dev nD) :
    iprop(sepL (fun d => held c (gOwn c) (tok d) (agV m)) L7 ∗ sepL (fun d => iprop(∃ f, held (up c d) (gOwn c) fullShare f)) L7
        ∗ sepL dtok (L7.flatMap (payAg c)))
      ⊢ (sepL (rowsPart m c) L7 : sProp 𝕄) := by
  rw [sepL_flatMap, ← sepL_sep, ← sepL_sep]
  refine sepL_mono fun d _ => ?_
  unfold rowsPart payAg
  simp only [sepL_cons, sepL_nil, sep_emp_eq]
  unfold dtok
  exact BI.Entails.refl _

theorem from_rowsGot (c : Dev nD) :
    sepL (rowsGot m c) L7 = (iprop(sepL (fun d => held c (gOwn (up c d)) fullShare (agV m)) L7 ∗ sepL (at1 c) (L7.map (kG c))) : sProp 𝕄) := by
  rw [sepL_map, ← sepL_sep]; rfl

theorem to_sent (c : Dev nD) :
    iprop(sepL (sentPart c) L7 ∗ sepL (at0 c) (L7.flatMap kS)) ⊢ (sepL (sentDue c) L7 : sProp 𝕄) := by
  rw [sepL_flatMap, ← sepL_sep]
  refine sepL_mono fun d _ => ?_
  unfold sentDue kS
  simp only [sepL_cons, sepL_nil, sep_emp_eq]
  unfold at0
  exact BI.Entails.refl _

theorem from_sent (c : Dev nD) :
    sepL (sentBack m c) L7
      ⊢ (iprop(sepL (fun d => iprop(back m c 0 d ∗ back m c 1 d ∗ back m c 2 d)) L7 ∗ sepL (at1 c) (L7.flatMap kS)) : sProp 𝕄) := by
  rw [sepL_flatMap, ← sepL_sep]
  refine sepL_mono fun d _ => ?_
  unfold sentBack kS
  simp only [sepL_cons, sepL_nil, sep_emp_eq]
  unfold at1
  exact BI.Entails.refl _

theorem to_rowsSent (c : Dev nD) :
    iprop(sepL (rowsSent c) L7 ∗ sepL (at0 c) (L7.map kH)) ⊢ (sepL (rowsSentDue c) L7 : sProp 𝕄) := by
  rw [sepL_map, ← sepL_sep]; exact BI.Entails.refl _

theorem from_rowsBack (c : Dev nD) :
    sepL (rowsBack m c) L7 = (iprop(sepL (fun d => held c (gOwn c) (tok d) (agV m)) L7 ∗ sepL (at1 c) (L7.map kH)) : sProp 𝕄) := by
  rw [sepL_map, ← sepL_sep]; rfl

/-- The gathered array, all of it there: half of it to read whole, and of the other half the own rows in tokens. -/
theorem gathered (c : Dev nD) (f : AG F) :
    (iprop((held c (gOwn c) fullShare (agV m) ∗ sepL (fun d => held c (gOwn (up c d)) fullShare (agV m)) L7) ∗ rowRest c fullShare f) : sProp 𝕄)
      = (((c : Thread nD τ).loc cc1_scratch4) ↦{fullShare} agV m) := by
  rw [rowRest_any c fullShare f (agV m), ← cut_rows]

/-! ## Closing -/

theorem close_list (c : Dev nD) (R : ℕ) (l : List K) (h : ∀ k ∈ l, R = 1 ∨ dutySet c k = ∅ ∧ R = 0) :
    iprop(Rec m κ ∗ sepL (fun k => atPos ER (cell c k) R ∅ 0) l) ⊢ fupd frame Set.univ Set.univ (sepL (fun k => (semVal (cell c k) 0 : sProp 𝕄)) l) := by
  induction l with
  | nil => rw [sepL_nil, sepL_nil]; iintro -; imodintro; iempintro
  | cons k l ih =>
    rw [sepL_cons, sepL_cons]
    iintro ⟨#HR, H1, H2⟩
    imod (close_cell m κ c k R (h k List.mem_cons_self)) $$ [H1] with H1
    · isplitr; · iexact HR
      iexact H1
    imod (ih fun k' hk => h k' (List.mem_cons_of_mem _ hk)) $$ [H2] with H2
    · isplitr; · iexact HR
      iexact H2
    imodintro
    isplitl [H1] <;> iassumption

theorem close_all (c : Dev nD) :
    iprop(Rec m κ ∗ at1 c .bar ∗ sepL (at1 c) (dueK c) ∗ sepL (at1 c) sendK ∗ sepL (at0 c) (idleK c))
      ⊢ fupd frame Set.univ Set.univ (bigSep Finset.univ fun k => (semVal (cell c k) 0 : sProp 𝕄)) := by
  rw [allK_eq c]
  iintro ⟨#HR, H0, H1, H2, H3⟩
  unfold at1 at0
  imod (close_cell m κ c .bar 1 (Or.inl rfl)) $$ [H0] with H0
  · isplitr; · iexact HR
    iexact H0
  imod (close_list m κ c 1 (dueK c) fun _ _ => Or.inl rfl) $$ [H1] with H1
  · isplitr; · iexact HR
    iexact H1
  imod (close_list m κ c 1 sendK fun _ _ => Or.inl rfl) $$ [H2] with H2
  · isplitr; · iexact HR
    iexact H2
  imod (close_list m κ c 0 (idleK c) fun k hk => Or.inr ⟨idle_duty c k hk, rfl⟩) $$ [H3] with H3
  · isplitr; · iexact HR
    iexact H3
  imodintro
  isplitl [H0]; · iexact H0
  isplitl [H1 H2]
  · isplitl [H1] <;> iassumption
  iexact H3

/-! ## The body -/

/-- A device's memory at its start, and at its end. -/
def scr (c : Dev nD) : sProp 𝕄 :=
  iprop((∃ f, pt c cc1_scratch0 f) ∗ (∃ f, pt c cc1_scratch1 f) ∗ (∃ f, pt c cc1_scratch2 f) ∗ (∃ f, pt c cc1_scratch3 f) ∗ (∃ f, pt c cc1_scratch4 f))
def ins (c : Dev nD) : sProp 𝕄 :=
  iprop((pt c cc1_stg0_0 (inO m c) ∗ pt c cc1_stg1_0 (inM m c) ∗ pt c cc1_stg2_0 (inL m c)) ∗ pt c cc1_stg3_0 (inW m c))

theorem sig_lev (c : Dev nD) : ∀ a ∈ rsList c ++ agList c, 1 < klev a.2 := by revert c; decide +kernel
theorem ag_lev (c : Dev nD) : ∀ a ∈ agList c, 2 < klev a.2 := by revert c; decide +kernel

theorem body_phases (c : Dev nD) :
    iprop((Rec0 m κ ∗ opened c) ∗ debt c (O₀ c) ∗ rights c ∗ ins m c ∗ (∃ f, pt c cc1_stg4_0 f) ∗ scr c)
      ⊢ WP c (phases c) (fun _ => iprop(debt c (owe []) ∗ ins m c ∗ pt c cc1_stg4_0 (outV m) ∗ scr c
          ∗ bigSep Finset.univ fun k => semVal (cell c k) 0)) := by
  have hz (l : List (Dev nD × K)) : owe [] + owe l = owe l := zero_add _
  unfold rights ins scr payList
  rw [allK_eq c, sepL_append, sepL_append, cut_inputs]
  iintro ⟨⟨#HR0, #Hq⟩, HO, ⟨⟨Hcb, Hdue⟩, ⟨Hab, ⟨Had, Has⟩, Hai⟩, Htb, Htr, Hta⟩, ⟨⟨Hown, Hback, Hspare⟩, HW⟩, ⟨%fo, Hout⟩, ⟨%f0, Hs0⟩, ⟨%f1, Hs1⟩, Hs2, Hs3, ⟨%f4, Hs4⟩⟩
  ihave Hsl := (cut_slots (F := F) c) $$ [Hs2 Hs3]
  · isplitl [Hs2] <;> iassumption
  icases Hsl with ⟨Hsl, Hslr⟩
  ihave Hs4 := (Entails.of_eq (cut_rows c fullShare f4)) $$ Hs4
  icases Hs4 with ⟨⟨Hg, Hgp⟩, Hgr⟩
  have hgp : sepL (fun d => held c (gOwn (up c d)) fullShare f4) L7
      ⊢ (sepL (fun d => iprop(∃ f, held c (gOwn (up c d)) fullShare f)) L7 : sProp 𝕄) :=
    sepL_mono fun d _ => by iintro H; iexists f4; iexact H
  ihave Hgp := hgp $$ Hgp
  unfold phases
  -- the signals
  rw [WP, wp_bind]
  ihave H := (signals_phase m κ c (owe (rsList c ++ agList c))) $$ [HO Hsl Hgp Htb]
  · isplitl [HO]
    · isplitr
      · isplitr; · iexact HR0
        iexact Hq
      unfold O₀ sigList; iexact HO
    iapply (to_sig (F := F) c)
    isplitl [Hsl]; · iexact Hsl
    isplitl [Hgp] <;> iassumption
  iapply (wp_wand _ _ _) $$ H
  iintro %u0 ⟨⟨-, HO⟩, -⟩
  rw [hz]
  -- the barrier
  rw [wp_bind]
  ihave H := (wp_barrier m κ c (rsList c ++ agList c) (sig_lev c)) $$ [HO Hcb Hab]
  · isplitr; · iexact HR0
    isplitl [HO]; · iexact HO
    isplitl [Hcb]; · iexact Hcb
    unfold at0; iexact Hab
  iapply (wp_wand _ _ _) $$ H
  iintro %u1 ⟨HO, Hab, Hbun⟩
  ihave Hbun := (Entails.of_eq (bigSep_sep' (Finset.univ.erase c) (fun q => bundle q c) (fun q => opened q))) $$ Hbun
  icases Hbun with ⟨Hbun, Hqs⟩
  ihave HR := (Rec_of m κ c) $$ [Hqs]
  · isplitr; · iexact HR0
    isplitr; · iexact Hq
    iexact Hqs
  icases HR with #HR
  ihave Hbun := (bundles (F := F) c) $$ Hbun
  icases Hbun with ⟨Hps, Hpr⟩
  -- the chunks
  rw [wp_bind, owe_append]
  ihave H := (chunks_phase m κ c (owe (agList c))) $$ [HO Hback Hps Htr]
  · isplitl [HO]
    · isplitr; · iexact HR
      unfold rsList; iexact HO
    iapply (to_chunks m c)
    isplitl [Hback]; · iexact Hback
    isplitl [Hps] <;> iassumption
  iapply (wp_wand _ _ _) $$ H
  iintro %u2 ⟨⟨-, HO⟩, Hsent⟩
  rw [hz]
  -- the own chunk
  rw [wp_bind]
  ihave H := (own_phase m c f0 f1) $$ [Hown Hs0 Hs1]
  · isplitl [Hown]; · iexact Hown
    isplitl [Hs0] <;> iassumption
  iapply (wp_wand _ _ _) $$ H
  iintro %u3 ⟨Hown, Hs0, Hs1⟩
  -- the hops
  ihave Hd := (to_due (F := F) c) $$ [Hdue Had]
  · isplitl [Hdue] <;> iassumption
  icases Hd with ⟨Hd, Hrd⟩
  rw [wp_bind]
  ihave H := (hops_phase m κ c (agList c) (ag_lev c) (own m c)) $$ [HO Hs0 Hs1 Hd]
  · isplitl [HO Hs0 Hs1]
    · isplitr; · iexact HR
      isplitl [HO]; · iexact HO
      isplitl [Hs0] <;> iassumption
    iexact Hd
  iapply (wp_wand _ _ _) $$ H
  iintro %u4 ⟨⟨-, HO, Hs0, Hs1⟩, Hgot⟩
  ihave Hgot := (from_got m c) $$ Hgot
  icases Hgot with ⟨Hsl, Hat⟩
  -- the rows
  rw [wp_bind]
  ihave H := (finish_phase m c (L7.foldl (stepHop m c) (own m c)) rfl) $$ [Hs0 Hs1 HW Hg]
  · isplitl [Hs0]; · iexact Hs0
    isplitl [Hs1]; · iexact Hs1
    isplitl [HW]; · iexact HW
    iexists f4; iexact Hg
  iapply (wp_wand _ _ _) $$ H
  iintro %u5 ⟨Hs0, Hs1, HW, Hg⟩
  ihave Hg := (Entails.of_eq (half c _ (agV m))) $$ Hg
  icases Hg with ⟨Hgl, Hgt⟩
  ihave Hgt := (Entails.of_eq (toks_eq c (agV m))) $$ Hgt
  icases Hgt with ⟨Hgk, Hgt⟩
  rw [wp_bind]
  ihave H := (rows_phase m κ c (owe [])) $$ [HO Hgt Hpr Hta]
  · isplitl [HO]
    · isplitr; · iexact HR
      rw [show owe (L7.map (agItem c)) + owe [] = owe (agList c) from add_zero _]
      iexact HO
    iapply (to_rows m c)
    isplitl [Hgt]; · iexact Hgt
    isplitl [Hpr] <;> iassumption
  iapply (wp_wand _ _ _) $$ H
  iintro %u6 ⟨⟨-, HO⟩, Hrs⟩
  rw [hz]
  -- the others' rows
  rw [wp_bind]
  ihave H := (gWait_phase m κ c) $$ [HO Hrd]
  · isplitl [HO]
    · isplitr; · iexact HR
      iexact HO
    iexact Hrd
  iapply (wp_wand _ _ _) $$ H
  iintro %u7 ⟨⟨-, HO⟩, Hgot⟩
  ihave Hgot := (Entails.of_eq (from_rowsGot m c)) $$ Hgot
  icases Hgot with ⟨Hgp, Hat'⟩
  have hp : sepL (fun d => held c (gOwn (up c d)) fullShare (agV m)) L7
      ⊢ (iprop(sepL (fun d => held c (gOwn (up c d)) fullShare.left (agV m)) L7
        ∗ sepL (fun d => held c (gOwn (up c d)) fullShare.right (agV m)) L7) : sProp 𝕄) := by
    rw [← sepL_sep]; exact sepL_mono fun d _ => Entails.of_eq (half c _ (agV m))
  ihave Hgp := hp $$ Hgp
  icases Hgp with ⟨Hgpl, Hgpr⟩
  ihave Hgr := (Entails.of_eq ((rowRest_any c fullShare f4 (agV m)).trans (half c _ (agV m)))) $$ Hgr
  icases Hgr with ⟨Hgrl, Hgrr⟩
  ihave Hwhole := (Entails.of_eq (cut_rows c fullShare.left (agV m)).symm) $$ [Hgl Hgpl Hgrl]
  · isplitl [Hgl Hgpl]
    · isplitl [Hgl] <;> iassumption
    unfold rowRest; iexact Hgrl
  -- the output
  rw [wp_bind]
  ihave H := (out_phase m c fullShare.left fo) $$ [Hwhole Hout]
  · isplitl [Hwhole Hout]
    · isplitl [Hwhole] <;> iassumption
    rw [sepL_emp]; iempintro
  iapply (wp_wand _ _ _) $$ H
  iintro %u8 ⟨⟨Hwhole, Hout⟩, -⟩
  rw [out_any]
  -- the waits for what was sent
  ihave Has := (Entails.of_eq (show sepL (at0 c) sendK = (iprop(sepL (at0 c) (L7.flatMap kS) ∗ sepL (at0 c) (L7.map kH)) : sProp 𝕄) from
    by unfold sendK; rw [sepL_append])) $$ Has
  icases Has with ⟨Has, Hag⟩
  ihave Hsd := (to_sent (F := F) c) $$ [Hsent Has]
  · isplitl [Hsent] <;> iassumption
  rw [wp_bind]
  ihave H := (sendWait_phase m κ c) $$ [HO Hsd]
  · isplitl [HO]
    · isplitr; · iexact HR
      iexact HO
    iexact Hsd
  iapply (wp_wand _ _ _) $$ H
  iintro %u9 ⟨⟨-, HO⟩, Hsb⟩
  ihave Hsb := (from_sent m c) $$ Hsb
  icases Hsb with ⟨Hback, Has⟩
  ihave Hsd := (to_rowsSent (F := F) c) $$ [Hrs Hag]
  · isplitl [Hrs] <;> iassumption
  iapply (wp_fupd _ _ _)
  ihave H := (gSendWait_phase m κ c) $$ [HO Hsd]
  · isplitl [HO]
    · isplitr; · iexact HR
      iexact HO
    iexact Hsd
  iapply (wp_wand _ _ _) $$ H
  iintro %u10 ⟨⟨-, HO⟩, Hsb⟩
  ihave Hsb := (Entails.of_eq (from_rowsBack m c)) $$ Hsb
  icases Hsb with ⟨Hgt, Hag⟩
  -- everything back
  imod (close_all m κ c) $$ [Hab Hat Hat' Has Hag Hai] with Hsem
  · isplitr; · iexact HR
    isplitl [Hab]; · unfold at1; iexact Hab
    isplitl [Hat Hat']
    · unfold dueK; rw [sepL_append]
      isplitl [Hat] <;> iassumption
    isplitl [Has Hag]
    · unfold sendK; rw [sepL_append]
      isplitl [Has] <;> iassumption
    iexact Hai
  imodintro
  ihave Hgt := (Entails.of_eq (toks_eq c (agV m)).symm) $$ [Hgk Hgt]
  · isplitl [Hgk] <;> iassumption
  ihave Hright := (Entails.of_eq (cut_rows c fullShare.right (agV m)).symm) $$ [Hgt Hgpr Hgrr]
  · isplitl [Hgt Hgpr]
    · isplitl [Hgt] <;> iassumption
    unfold rowRest; iexact Hgrr
  ihave Hs4 := (Entails.of_eq (half c Finset.univ (agV m)).symm) $$ [Hwhole Hright]
  · isplitl [Hwhole] <;> iassumption
  ihave Hsl := (glue_slots (F := F) c) $$ [Hsl Hslr]
  · isplitl [Hsl] <;> iassumption
  icases Hsl with ⟨Hs2, Hs3⟩
  isplitl [HO]; · iexact HO
  isplitl [Hown Hback Hspare HW]
  · isplitl [Hown Hback Hspare]
    · isplitl [Hown]; · iexact Hown
      isplitl [Hback] <;> iassumption
    iexact HW
  isplitl [Hout]; · iexact Hout
  isplitr [Hsem]
  · isplitl [Hs0]; · iexists _; iexact Hs0
    isplitl [Hs1]; · iexists _; iexact Hs1
    isplitl [Hs2]; · iexact Hs2
    isplitl [Hs3]; · iexact Hs3
    iexists _; iexact Hs4
  iexact Hsem

end Cert.KernelIdeal.Hand

end
-- ==== Proof.AData.lean ====
/- The attention call's data on one device: what its windows hold at each head, and what its result arrays hold at the end. -/
module

public import proofs.«01_k».proof.Proof.AVals
public import proofs.«01_k».proof.Proof.AProgEq
public import proofs.«01_k».proof.Proof.Body
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.FrameBody
public import Idealize.ShloMosaic.Lib.Pipeline.ArrRel
public import Idealize.ShloMosaic.Lib.Pipeline.ValueKit.Geometry

@[expose] public section

noncomputable section

namespace Cert.KernelIdeal.Hand

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)
open Cert.KernelIdeal.Gen Cert.KernelIdeal.Att

variable {F : FTy → Type} [FloatOps F] [Named F]

local notation "𝕄" => MT nD τ sig Unit (Elt F) ℕ UU ℕ

variable (m : (ℓ : Loc nD τ sig) → Buf (Elt F) ℓ)

/-! ## What the windows hold -/

/-- The rows; a head's columns of the projection, the keys and the values. -/
def xA (c : Dev nD) : Vec F S1x2048x1024 .f32 := V1 m c main_arg0
def colA (f : Vec F S1024x1024 .f32) (t : Fin 8) : Vec F S1024x128 .f32 := fun i =>
  f (ix2 (⟨(i 0).val, (i 0).isLt⟩ : Fin 1024) (⟨128 * t.val + (i 1).val, by have : (i 1).val < 128 := (i 1).isLt; omega⟩ : Fin 1024))
def colB (f : Vec F S2048x1024 .f32) (t : Fin 8) : Vec F S2048x128 .f32 := fun i =>
  f (ix2 (⟨(i 0).val, (i 0).isLt⟩ : Fin 2048) (⟨128 * t.val + (i 1).val, by have : (i 1).val < 128 := (i 1).isLt; omega⟩ : Fin 1024))
def wA (c : Dev nD) (t : Fin 8) : Vec F S1024x128 .f32 := colA (V1 m c main_arg1) t
def kA (c : Dev nD) (t : Fin 8) : Vec F S2048x128 .f32 := colB (V1 m c main_v1) t
def vA (c : Dev nD) (t : Fin 8) : Vec F S2048x128 .f32 := colB (V1 m c main_v2) t

/-- A head's block of the weighted sums. -/
def oT (c : Dev nD) (t : Fin 8) : Vec F S2112x128 .bf16 := oFin c (wA m c t) (kA m c t) (vA m c t) (xpV (xA m c))

/-- The weighted sums, maxima and denominators of every head. -/
def oA (c : Dev nD) : Vec F S2112x1024 .bf16 := fun i =>
  oT m c ⟨(i 1).val / 128, by have : (i 1).val < 1024 := (i 1).isLt; omega⟩
    (ix2 (⟨(i 0).val, (i 0).isLt⟩ : Fin 2112) (⟨(i 1).val % 128, Nat.mod_lt _ (by decide)⟩ : Fin 128))
def mA (c : Dev nD) : Vec F S2112x8 .f32 := fun i =>
  mC c (wA m c ⟨(i 1).val, (i 1).isLt⟩) (kA m c ⟨(i 1).val, (i 1).isLt⟩) (xpV (xA m c)) (rowC (⟨(i 0).val, (i 0).isLt⟩ : Fin 2112))
    (ix2 (rowI (⟨(i 0).val, (i 0).isLt⟩ : Fin 2112)) (0 : Fin 1))
def lA (c : Dev nD) : Vec F S2112x8 .f32 := fun i =>
  lC c (wA m c ⟨(i 1).val, (i 1).isLt⟩) (kA m c ⟨(i 1).val, (i 1).isLt⟩) (xpV (xA m c)) (rowC (⟨(i 0).val, (i 0).isLt⟩ : Fin 2112))
    (ix2 (rowI (⟨(i 0).val, (i 0).isLt⟩ : Fin 2112)) (0 : Fin 1))

/-- A point as a head. -/
def hd (t : Fin cfg0.N) : Fin 8 := ⟨t.val, N_0 ▸ t.isLt⟩

/-- One lane written, the others kept. -/
def lane (t : Fin 8) (A Y X : Vec F S2112x8 .f32) : Prop := ∀ (a : Fin 2112) (b : Fin 8), X (ix2 a b) = if b = t then A (ix2 a b) else Y (ix2 a b)

/-! ## The scoped buffers no window stages -/

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : b.ty.Contents (Elt F), ⌜f = X⌝ ∗ pt c b f) := by
  unfold owns; simp only [Memref.view_whole, View.read_whole, View.set_whole]

abbrev anyOf (c : Dev nD) (b : Ref sig .tc) : sProp 𝕄 := iprop(∃ f : b.ty.Contents (Elt F), pt c b f)

theorem any_ow (c : Dev nD) (b : Ref sig .tc) :
    (iprop(∃ X : b.ty.Contents (Elt F), owns (Ix := Unit) (Name := ℕ) (U := UU) (Lvl := ℕ) (c : Thread nD τ) (Memref.whole b) fullShare X) : sProp 𝕄) ⊢ anyOf c b := by
  simp only [owns_whole]
  iintro ⟨%X, %f, %h, H⟩
  iexists f
  iexact H
theorem ow_any (c : Dev nD) (b : Ref sig .tc) :
    (anyOf c b : sProp 𝕄) ⊢ iprop(∃ X : b.ty.Contents (Elt F), owns (Ix := Unit) (Name := ℕ) (U := UU) (Lvl := ℕ) (c : Thread nD τ) (Memref.whole b) fullShare X) := by
  simp only [owns_whole]
  iintro ⟨%f, H⟩
  iexists f; iexists f
  isplitr; · ipureintro; rfl
  iexact H

/-- The other call's scoped buffers. -/
def others (c : Dev nD) : sProp 𝕄 :=
  iprop(anyOf c cc1_stg0_0 ∗ anyOf c cc1_stg1_0 ∗ anyOf c cc1_stg2_0 ∗ anyOf c cc1_stg3_0 ∗ anyOf c cc1_stg4_0
    ∗ anyOf c cc1_scratch0 ∗ anyOf c cc1_scratch1 ∗ anyOf c cc1_scratch2 ∗ anyOf c cc1_scratch3 ∗ anyOf c cc1_scratch4)

/-- Before a head: the regrouped rows, from the second head on, and the rest at some contents. -/
def scr0 (c : Dev nD) (n : ℕ) : sProp 𝕄 :=
  iprop((∃ X, ow c (Memref.whole cc0_scratch0) X) ∗ (∃ X, ow c (Memref.whole cc0_scratch1) X)
    ∗ (∃ X : Vec F S2112x1024 .f32, ⌜0 < n → X = xpV (xA m c)⌝ ∗ ow c (Memref.whole cc0_scratch2) X) ∗ others c)

theorem scr0_in (c : Dev nD) :
    Pipeline.scopedRest (Ix := Unit) (Name := ℕ) (U := UU) (Lvl := ℕ) (Val := Elt F) spec0 c ⊢ (scr0 m c 0 : sProp 𝕄) := by
  rw [scopedRest0_eq]
  unfold scr0 others
  iintro ⟨H0, H1, H2, Hr⟩
  isplitl [H0]; · iapply (ow_any c cc0_scratch0); iexact H0
  isplitl [H1]; · iapply (ow_any c cc0_scratch1); iexact H1
  isplitl [H2]
  · ihave H := (ow_any c cc0_scratch2) $$ H2
    icases H with ⟨%X, H⟩
    iexists X
    isplitr; · ipureintro; exact fun h => absurd h (Nat.lt_irrefl 0)
    iexact H
  iexact Hr

theorem scr0_out (c : Dev nD) (n : ℕ) :
    (scr0 m c n : sProp 𝕄) ⊢ Pipeline.scopedRest (Ix := Unit) (Name := ℕ) (U := UU) (Lvl := ℕ) (Val := Elt F) spec0 c := by
  rw [scopedRest0_eq]
  unfold scr0 others
  iintro ⟨H0, H1, ⟨%X, -, H2⟩, Hr⟩
  isplitl [H0]; · iapply (any_ow c cc0_scratch0); iexact H0
  isplitl [H1]; · iapply (any_ow c cc0_scratch1); iexact H1
  isplitl [H2]; · iapply (any_ow c cc0_scratch2); iexists X; iexact H2
  iexact Hr

/-! ## The pipeline's data -/

/-- The attention call: its inputs stay as fetched, the sums are the head's block, the maxima and denominators gain the head's
    lane. The device owes the ring's payments throughout. -/
def rd0 (c : Dev nD) : RDat τ (Elt F) Unit ℕ UU ℕ cfg0 c where
  A w := V1 m c (Proc.devRef .tc (Pipeline.arrRef cfg0.spec w))
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun _ X => X = oT m c (hd t)
    | ⟨5, _⟩ => fun Y X => lane (hd t) (mA m c) Y X
    | ⟨6, _⟩ => fun Y X => lane (hd t) (lA m c) Y X
  Φ t := scr0 m c t.val
  q _ := fullShare
  owed _ := O₀ c

theorem index0_1 : ∀ t : Fin cfg0.N, win0_1.index t = ![0, t.val] := by decide +kernel
theorem index0_2 : ∀ t : Fin cfg0.N, win0_2.index t = ![0, t.val] := by decide +kernel
theorem index0_3 : ∀ t : Fin cfg0.N, win0_3.index t = ![0, t.val] := by decide +kernel
theorem index0_4 : ∀ t : Fin cfg0.N, win0_4.index t = ![0, t.val] := by decide +kernel
theorem index0_0 : ∀ t : Fin cfg0.N, win0_0.index t = ![0, 0, 0] := by decide +kernel
theorem coords0 : ∀ t : Fin cfg0.N, (grid0.coords t 0).val = t.val := by decide +kernel

end Cert.KernelIdeal.Hand

end
-- ==== Proof.ABody.lean ====
/- The attention call's body at one head, from what the windows hold to what they hold next. -/
module

public import proofs.«01_k».proof.Proof.AData

@[expose] public section

noncomputable section

namespace Cert.KernelIdeal.Hand

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)
open Cert.KernelIdeal.Gen Cert.KernelIdeal.Att

variable {F : FTy → Type} [FloatOps F] [Named F]

local notation "𝕄" => MT nD τ sig Unit (Elt F) ℕ UU ℕ

variable (m : (ℓ : Loc nD τ sig) → Buf (Elt F) ℓ)

/-! ## The inputs at a head -/

/-- A fetch of an uncut block reads the array under the block's index. -/
theorem fetched_apply {c : Dev nD} (rd : RDat τ (Elt F) Unit ℕ UU ℕ cfg0 c) (w : Fin cfg0.W) (t : Fin cfg0.N)
    (d : (cfg0.win w).block.Idx → Elt F (cfg0.win w).elt) (h : ∀ a, (cfg0.win w).clip (cfg0.grid.coords t) a = none) (y : (cfg0.win w).block.Idx) :
    ∃ y' : ((cfg0.win w).xblock (cfg0.grid.coords t)).Idx, (∀ a, (y' a).val = (y a).val) ∧ rd.fetched w t d y = rd.blockOf w t y' := by
  have hm : (cfg0.win w).moved (cfg0.grid.coords t) y = true :=
    ((cfg0.win w).moved_iff _ y).mpr fun a => by have := (y a).isLt; unfold Pipeline.Window.xsize; rw [h a]; exact this
  refine ⟨fun a => ⟨(y a).val, ((cfg0.win w).moved_iff _ y).mp hm a⟩, fun a => rfl, ?_⟩
  unfold RDat.fetched Pipeline.Window.fill; rw [dif_pos hm]

theorem fetched0_0 (c : Dev nD) (t : Fin cfg0.N) (d : Vec F S1x2048x1024 .f32) : (rd0 m c).fetched 0 t d = xA m c := by
  funext y
  have e := index0_0 t
  obtain ⟨y', hy, h⟩ := fetched_apply (rd0 m c) 0 t d (fun _ => rfl) y
  rw [h]
  show V1 m c main_arg0 ((win0_0.blk t).view.emb y') = V1 m c main_arg0 y
  congr 1
  funext a
  have h0 := hy a
  apply Fin.ext
  revert h0
  fin_cases a <;> intro h0 <;> blk_simp [e] <;> simp only [Nat.zero_mul, Nat.zero_add] <;> exact h0

theorem fetched0_1 (c : Dev nD) (t : Fin cfg0.N) (d : Vec F S1024x128 .f32) : (rd0 m c).fetched 1 t d = wA m c (hd t) := by
  funext y
  have e := index0_1 t
  obtain ⟨y', hy, h⟩ := fetched_apply (rd0 m c) 1 t d (fun _ => rfl) y
  rw [h]
  show V1 m c main_arg1 ((win0_1.blk t).view.emb y') = V1 m c main_arg1 (ix2 _ _)
  congr 1
  funext a
  have h0 := hy a
  apply Fin.ext
  revert h0
  fin_cases a <;> intro h0 <;> blk_simp [e]
  · exact h0
  · show t.val * 128 + (y' 1).val = 128 * t.val + (y 1).val
    have h1 : (y' 1).val = (y 1).val := h0
    omega

theorem fetched0_2 (c : Dev nD) (t : Fin cfg0.N) (d : Vec F S2048x128 .f32) : (rd0 m c).fetched 2 t d = kA m c (hd t) := by
  funext y
  have e := index0_2 t
  obtain ⟨y', hy, h⟩ := fetched_apply (rd0 m c) 2 t d (fun _ => rfl) y
  rw [h]
  show V1 m c main_v1 ((win0_2.blk t).view.emb y') = V1 m c main_v1 (ix2 _ _)
  congr 1
  funext a
  have h0 := hy a
  apply Fin.ext
  revert h0
  fin_cases a <;> intro h0 <;> blk_simp [e]
  · exact h0
  · show t.val * 128 + (y' 1).val = 128 * t.val + (y 1).val
    have h1 : (y' 1).val = (y 1).val := h0
    omega

theorem fetched0_3 (c : Dev nD) (t : Fin cfg0.N) (d : Vec F S2048x128 .f32) : (rd0 m c).fetched 3 t d = vA m c (hd t) := by
  funext y
  have e := index0_3 t
  obtain ⟨y', hy, h⟩ := fetched_apply (rd0 m c) 3 t d (fun _ => rfl) y
  rw [h]
  show V1 m c main_v2 ((win0_3.blk t).view.emb y') = V1 m c main_v2 (ix2 _ _)
  congr 1
  funext a
  have h0 := hy a
  apply Fin.ext
  revert h0
  fin_cases a <;> intro h0 <;> blk_simp [e]
  · exact h0
  · show t.val * 128 + (y' 1).val = 128 * t.val + (y 1).val
    have h1 : (y' 1).val = (y 1).val := h0
    omega

/-- What the body finds in the windows it only reads. -/
theorem clip0 : ∀ (w : Fin cfg0.W) (t t' : Fin cfg0.N), (cfg0.win w).index t = (cfg0.win w).index t' →
    (cfg0.win w).clip (cfg0.grid.coords t) = (cfg0.win w).clip (cfg0.grid.coords t') := by
  intro w; fin_cases w <;> intro _ _ _ <;> rfl

theorem finds0_0 (c : Dev nD) (t : Fin cfg0.N) (Y : Vec F S1x2048x1024 .f32) (h : (rd0 m c).Finds 0 t Y) : Y = xA m c := by
  obtain ⟨d, hd⟩ := RDat.finds_in_eq_fetched (rd0 m c) 0 rfl (clip0 0) (fun t Y X h => h) t Y h
  rw [hd]; exact fetched0_0 m c t d
theorem finds0_1 (c : Dev nD) (t : Fin cfg0.N) (Y : Vec F S1024x128 .f32) (h : (rd0 m c).Finds 1 t Y) : Y = wA m c (hd t) := by
  obtain ⟨d, hd⟩ := RDat.finds_in_eq_fetched (rd0 m c) 1 rfl (clip0 1) (fun t Y X h => h) t Y h
  rw [hd]; exact fetched0_1 m c t d
theorem finds0_2 (c : Dev nD) (t : Fin cfg0.N) (Y : Vec F S2048x128 .f32) (h : (rd0 m c).Finds 2 t Y) : Y = kA m c (hd t) := by
  obtain ⟨d, hd⟩ := RDat.finds_in_eq_fetched (rd0 m c) 2 rfl (clip0 2) (fun t Y X h => h) t Y h
  rw [hd]; exact fetched0_2 m c t d
theorem finds0_3 (c : Dev nD) (t : Fin cfg0.N) (Y : Vec F S2048x128 .f32) (h : (rd0 m c).Finds 3 t Y) : Y = vA m c (hd t) := by
  obtain ⟨d, hd⟩ := RDat.finds_in_eq_fetched (rd0 m c) 3 rfl (clip0 3) (fun t Y X h => h) t Y h
  rw [hd]; exact fetched0_3 m c t d

/-! ## The body at a head -/

/-- The device's number is its own. -/
theorem wp_device {α : Type} (c : Dev nD) (k : Dev nD → PG F α) (Q : α → sProp 𝕄) :
    WP c (Prog.lift .deviceId >>= k) Q = WP c (k c) Q :=
  wp_deviceId (Lvl := ℕ) (Ix := Unit) (Name := ℕ) (U := UU) (k := k) Variants.none (c : Thread nD τ) none Set.univ

theorem headFirst_val : ∀ t : Fin 8, headFirst (BitVec.ofNat 32 t.val) = 1#1 ↔ t.val = 0 := by decide

/-- The rows are regrouped at the first head and stay. -/
theorem xpN_eq (t : Fin 8) (x : Vec F S1x2048x1024 .f32) (X : Vec F S2112x1024 .f32) (h : 0 < t.val → X = xpV x) :
    xpN (BitVec.ofNat 32 t.val) x X = xpV x := by
  unfold xpN
  by_cases hh : headFirst (BitVec.ofNat 32 t.val) = 1#1
  · rw [if_pos hh]
  · rw [if_neg hh]; exact h (Nat.pos_of_ne_zero fun e => hh ((headFirst_val t).mpr e))

theorem lane_m (c : Dev nD) (t : Fin 8) (Y : Vec F S2112x8 .f32) :
    lane t (mA m c) Y (mEnd c (wA m c t) (kA m c t) (BitVec.ofNat 32 t.val) (xpV (xA m c)) Y) := by
  intro a b
  rw [mEnd_apply]
  by_cases h : b = t
  · subst h; rw [if_pos rfl, if_pos rfl]; rfl
  · rw [if_neg h, if_neg h]

theorem lane_l (c : Dev nD) (t : Fin 8) (Y : Vec F S2112x8 .f32) :
    lane t (lA m c) Y (lEnd c (wA m c t) (kA m c t) (BitVec.ofNat 32 t.val) (xpV (xA m c)) Y) := by
  intro a b
  rw [lEnd_apply]
  by_cases h : b = t
  · subst h; rw [if_pos rfl, if_pos rfl]; rfl
  · rw [if_neg h, if_neg h]

theorem body0_wp (arg1 : Memref sig .tc .vmem S1x2048x1024 .f32) (arg2 : Memref sig .tc .vmem S1024x128 .f32) (arg3 arg4 : Memref sig .tc .vmem S2048x128 .f32)
    (arg5 : Memref sig .tc .vmem S2112x128 .bf16) (harg5 : arg5.IsWhole) (arg6 arg7 : Memref sig .tc .vmem S2112x8 .f32)
    (c : Dev nD) (t : Fin 8) (Y4 : Vec F S2112x128 .bf16) (Y5 Y6 : Vec F S2112x8 .f32) :
    iprop(scr0 m c t.val ∗ ow c arg1 (xA m c) ∗ ow c arg2 (wA m c t) ∗ ow c arg3 (kA m c t) ∗ ow c arg4 (vA m c t)
        ∗ ow c arg5 Y4 ∗ ow c arg6 Y5 ∗ ow c arg7 Y6)
      ⊢ WP c (attStructured arg1 arg2 arg3 arg4 arg5 harg5 arg6 arg7 (Memref.whole cc0_scratch0) (Memref.whole cc0_scratch1)
          (Memref.whole cc0_scratch2) (BitVec.ofNat 32 t.val)) (fun _ =>
        iprop(scr0 m c (t.val + 1) ∗ ow c arg1 (xA m c) ∗ ow c arg2 (wA m c t) ∗ ow c arg3 (kA m c t) ∗ ow c arg4 (vA m c t)
        ∗ ow c arg5 (oT m c t) ∗ (∃ X, ⌜lane t (mA m c) Y5 X⌝ ∗ ow c arg6 X) ∗ (∃ X, ⌜lane t (lA m c) Y6 X⌝ ∗ ow c arg7 X))) := by
  rw [show WP c (attStructured arg1 arg2 arg3 arg4 arg5 harg5 arg6 arg7 (Memref.whole cc0_scratch0) (Memref.whole cc0_scratch1)
          (Memref.whole cc0_scratch2) (BitVec.ofNat 32 t.val)) _ = _ from wp_device c _ _]
  unfold scr0
  iintro ⟨⟨H8, H9, ⟨%X, %hX, Hx⟩, Hr⟩, H1, H2, H3, H4, H5, H6, H7⟩
  ihave H := (att_wp arg1 arg2 arg3 arg4 arg5 harg5 arg6 arg7 (Memref.whole cc0_scratch0) (Memref.whole cc0_scratch1) (Memref.whole cc0_scratch2)
    c (xA m c) (wA m c t) (kA m c t) (vA m c t) (BitVec.ofNat 32 t.val) X Y4 Y5 Y6) $$ [H8 H9 Hx H1 H2 H3 H4 H5 H6 H7]
  · unfold Att.held
    isplitl [H1]; · iexact H1
    isplitl [H2]; · iexact H2
    isplitl [H3]; · iexact H3
    isplitl [H4]; · iexact H4
    isplitl [Hx]; · iexact Hx
    isplitl [H5]; · iexact H5
    isplitl [H6]; · iexact H6
    isplitl [H7]; · iexact H7
    isplitl [H8] <;> iassumption
  iapply (wp_wand _ _ _) $$ H
  rw [xpN_eq t (xA m c) X hX, oEnd_eq]
  unfold Att.held
  iintro %u ⟨H1, H2, H3, H4, Hx, H5, H6, H7, H8, H9⟩
  isplitl [H8 H9 Hx Hr]
  · isplitl [H8]; · iexact H8
    isplitl [H9]; · iexact H9
    isplitl [Hx]
    · iexists (xpV (xA m c))
      isplitr; · ipureintro; exact fun _ => rfl
      iexact Hx
    iexact Hr
  isplitl [H1]; · iexact H1
  isplitl [H2]; · iexact H2
  isplitl [H3]; · iexact H3
  isplitl [H4]; · iexact H4
  isplitl [H5]; · iexact H5
  isplitl [H6]
  · iexists _
    isplitr; · ipureintro; exact lane_m m c t Y5
    iexact H6
  iexists _
  isplitr; · ipureintro; exact lane_l m c t Y6
  iexact H7

set_option maxRecDepth 32768 in
theorem body0 (c : Dev nD) : (rd0 (F := F) m c).BodyObligation (defs₀ (F := F)) Variants.none () Set.univ := fun t Y hY => by
  rw [bigSep_W0, bigSep_W0]
  obtain ⟨e0, e1, e2, e3⟩ := And.intro (finds0_0 m c t _ (hY 0)) (And.intro (finds0_1 m c t _ (hY 1))
    (And.intro (finds0_2 m c t _ (hY 2)) (finds0_3 m c t _ (hY 3))))
  show _ ⊢ wp frame (wpE (defs₀ (F := F)) Variants.none c none) Set.univ (bodyAt0 (F := F) t) _
  unfold bodyAt0
  rw [att_eq, coords0 t, e0, e1, e2, e3]
  rw [show (rd0 m c).Φ t.castSucc = scr0 m c (hd t).val from rfl, show (rd0 m c).Φ t.succ = scr0 m c ((hd t).val + 1) from rfl]
  iintro ⟨HΦ, HO, H⟩
  ihave H := (body0_wp m _ _ _ _ _ (hstage0_4 ((cfg0.slots t 4).cast nbuf0_4)) _ _ c (hd t) (Y 4) (Y 5) (Y 6)) $$ [HΦ H]
  · isplitl [HΦ]; · iexact HΦ
    iexact H
  iapply (wp_wand _ _ _) $$ H
  iintro %u ⟨HΦ, H0, H1, H2, H3, H4, H5, H6⟩
  isplitl [HΦ]; · iexact HΦ
  isplitl [HO]; · iexact HO
  isplitl [H0]
  · iexists (xA m c); isplitr; · ipureintro; exact (rfl : xA m c = xA m c)
    iexact H0
  isplitl [H1]
  · iexists (wA m c (hd t)); isplitr; · ipureintro; exact (rfl : wA m c (hd t) = wA m c (hd t))
    iexact H1
  isplitl [H2]
  · iexists (kA m c (hd t)); isplitr; · ipureintro; exact (rfl : kA m c (hd t) = kA m c (hd t))
    iexact H2
  isplitl [H3]
  · iexists (vA m c (hd t)); isplitr; · ipureintro; exact (rfl : vA m c (hd t) = vA m c (hd t))
    iexact H3
  isplitl [H4]
  · iexists (oT m c (hd t)); isplitr; · ipureintro; exact (rfl : oT m c (hd t) = oT m c (hd t))
    iexact H4
  isplitl [H5]; · iexact H5
  iexact H6

end Cert.KernelIdeal.Hand

end
-- ==== Proof.ProgEq.lean ====
/- The printed body is the program over its phases. -/
module

public import proofs.«01_k».proof.Proof.Prog

@[expose] public section

noncomputable section

namespace Cert.KernelIdeal.Hand

open Idealize.ShloMosaic Idealize.SL.Sem
open Cert.KernelIdeal.Gen

variable {F : FTy → Type} [FloatOps F] [Named F]

set_option maxRecDepth 65536 in
set_option maxHeartbeats 4000000 in
/-- The kernel's printed body is `structured`: both are the same operations one after another. -/
theorem body_eq : bodyAt1 (F := F) t1_0 = structured := by
  repeat (refine op_congr _ _ _ fun x => ?_)
  rfl

end Cert.KernelIdeal.Hand

end
-- ==== Proof.Launch.lean ====
/- The ring call on one device: its pipeline's data and its body, from what the device holds before the call to what it holds after it. -/
module

public import proofs.«01_k».proof.Proof.ABody
public import proofs.«01_k».proof.Proof.Gen.KernelIdeal.Launch
public import proofs.«01_k».proof.Proof.ProgEq
public import Idealize.ShloMosaic.Lib.Pipeline.Launch
public import Idealize.ShloMosaic.Lib.Pipeline.Kit
public import Idealize.ShloMosaic.Lib.Pipeline.RegionArraysF

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F] [Named F]

local notation "𝕄" => MT nD τ sig Unit (Elt F) ℕ UU ℕ

variable (m : (ℓ : Loc nD τ sig) → Buf (Elt F) ℓ)

/-! ## All that a device owes, as one list -/

def oweList (c : Dev nD) : List (Dev nD × K) := sigList c ++ (rsList c ++ agList c)
theorem O₀_eq (c : Dev nD) : O₀ c = owe (oweList c) := (owe_append _ _).symm
theorem oweList_lev (c : Dev nD) : ∀ a ∈ oweList c, 0 < klev a.2 := by revert c; decide +kernel

/-- Over all devices: seven units to a barrier, one payment to each cell that is due. -/
theorem owed_bar (c : Dev nD) : ∑ d : Dev nD, (oweList d).count (c, K.bar) = 7 := by revert c; decide +kernel
theorem owed_due (c : Dev nD) : ∀ k ∈ dueK c, ∑ d : Dev nD, (oweList d).count (c, k) = 1 := by revert c; decide +kernel

/-! ## The pipeline's proof data -/

/-- The other call's scoped buffers. -/
def others1 (c : Dev nD) : sProp 𝕄 :=
  iprop(anyOf c cc0_stg0_0 ∗ anyOf c cc0_stg1_0 ∗ anyOf c cc0_stg1_1 ∗ anyOf c cc0_stg2_0 ∗ anyOf c cc0_stg2_1 ∗ anyOf c cc0_stg3_0
    ∗ anyOf c cc0_stg3_1 ∗ anyOf c cc0_stg4_0 ∗ anyOf c cc0_stg4_1 ∗ anyOf c cc0_stg5_0 ∗ anyOf c cc0_stg6_0
    ∗ anyOf c cc0_scratch0 ∗ anyOf c cc0_scratch1 ∗ anyOf c cc0_scratch2)

def start (c : Dev nD) : sProp 𝕄 := iprop((∃ κ, Rec0 m κ ∗ opened c) ∗ rights c)
def Φ₀ (c : Dev nD) : sProp 𝕄 := iprop(start m c ∗ scr c ∗ others1 c)
def Φ₁ (c : Dev nD) : sProp 𝕄 := iprop((scr c ∗ others1 c) ∗ bigSep Finset.univ fun k => semVal (cell c k) 0)

def dats1 (c : Dev nD) : Dat τ (Elt F) Unit ℕ UU ℕ cfg1 c where
  A w := m ((cfg1.win w).arr.view.loc (c : Thread nD τ))
  after w _ := match w with
    | ⟨0, _⟩ => inO m c
    | ⟨1, _⟩ => inM m c
    | ⟨2, _⟩ => inL m c
    | ⟨3, _⟩ => inW m c
    | ⟨4, _⟩ => outV m
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

theorem fetch_at (t : Fin cfg1.N) : (cfg1.win (0 : Fin 5)).fetch t = true ∧ (cfg1.win (1 : Fin 5)).fetch t = true
    ∧ (cfg1.win (2 : Fin 5)).fetch t = true ∧ (cfg1.win (3 : Fin 5)).fetch t = true := by
  rw [show t = t1_0 from fin_N1 t]; exact ⟨rfl, rfl, rfl, rfl⟩

/-! ## The body -/

abbrev stg (c : Dev nD) (b : Ref sig .tc) (X : b.ty.Contents (Elt F)) : sProp 𝕄 := iprop(∃ f : b.ty.Contents (Elt F), ⌜f = X⌝ ∗ pt c b f)

theorem stg_elim (c : Dev nD) (b : Ref sig .tc) (X : b.ty.Contents (Elt F)) : stg c b X ⊢ (pt c b X : sProp 𝕄) := by
  iintro ⟨%f, %h, H⟩
  subst h
  iexact H
theorem stg_intro (c : Dev nD) (b : Ref sig .tc) (X : b.ty.Contents (Elt F)) : (pt c b X : sProp 𝕄) ⊢ stg c b X := by
  iintro H
  iexists X
  isplitr
  · ipureintro; rfl
  iexact H
theorem stg_at {c : Dev nD} {b : Ref sig .tc} {α : Type} {g : α → b.ty.Contents (Elt F)} {X : b.ty.Contents (Elt F)} (h : ∀ d, g d = X) :
    iprop(∃ d, stg c b (g d)) ⊢ (pt c b X : sProp 𝕄) := by
  iintro ⟨%d, H⟩
  ihave H := (stg_elim c b (g d)) $$ H
  ihave H := (Entails.of_eq (congrArg (fun Y => (pt c b Y : sProp 𝕄)) (h d))) $$ H
  iexact H
theorem stg_any {c : Dev nD} {b : Ref sig .tc} {α : Type} {g : α → b.ty.Contents (Elt F)} :
    iprop(∃ d, stg c b (g d)) ⊢ (iprop(∃ f, pt c b f) : sProp 𝕄) := by
  iintro ⟨%d, H⟩
  iexists (g d)
  iapply (stg_elim c b (g d)); iexact H

set_option maxRecDepth 4000 in
def bodyPre (c : Dev nD) : sProp 𝕄 :=
  iprop(Φ₀ m c ∗ (dats1 m c).owesAt () t1_0.castSucc
    ∗ (∃ d, stg c cc1_stg0_0 ((dats1 m c).before (0 : Fin 5) t1_0 d))
    ∗ (∃ d, stg c cc1_stg1_0 ((dats1 m c).before (1 : Fin 5) t1_0 d))
    ∗ (∃ d, stg c cc1_stg2_0 ((dats1 m c).before (2 : Fin 5) t1_0 d))
    ∗ (∃ d, stg c cc1_stg3_0 ((dats1 m c).before (3 : Fin 5) t1_0 d))
    ∗ (∃ d, stg c cc1_stg4_0 ((dats1 m c).before (4 : Fin 5) t1_0 d)))

def bodyPost (c : Dev nD) : sProp 𝕄 :=
  iprop(Φ₁ c ∗ (dats1 m c).owesAt () t1_0.succ ∗ stg c cc1_stg0_0 (inO m c) ∗ stg c cc1_stg1_0 (inM m c)
    ∗ stg c cc1_stg2_0 (inL m c) ∗ stg c cc1_stg3_0 (inW m c) ∗ stg c cc1_stg4_0 (outV m))

theorem before_0 (c : Dev nD) (d) : (dats1 m c).before (0 : Fin 5) t1_0 d = inO m c := by
  unfold Dat.before; rw [if_pos (fetch_at t1_0).1]; rfl
theorem before_1 (c : Dev nD) (d) : (dats1 m c).before (1 : Fin 5) t1_0 d = inM m c := by
  unfold Dat.before; rw [if_pos (fetch_at t1_0).2.1]; rfl
theorem before_2 (c : Dev nD) (d) : (dats1 m c).before (2 : Fin 5) t1_0 d = inL m c := by
  unfold Dat.before; rw [if_pos (fetch_at t1_0).2.2.1]; rfl
theorem before_3 (c : Dev nD) (d) : (dats1 m c).before (3 : Fin 5) t1_0 d = inW m c := by
  unfold Dat.before; rw [if_pos (fetch_at t1_0).2.2.2]; rfl

theorem owes_before (c : Dev nD) : (dats1 m c).owesAt () t1_0.castSucc ⊢ (debt c (O₀ c) : sProp 𝕄) := by
  unfold Dat.owesAt Pipeline.owesWithin debt
  rw [show (dats1 m c).owed t1_0.castSucc = O₀ c from rfl]
  iintro ⟨%W, -, H⟩
  iexists W
  iexact H
theorem owes_after (c : Dev nD) : (debt c (owe []) : sProp 𝕄) ⊢ (dats1 m c).owesAt () t1_0.succ := by
  unfold Dat.owesAt Pipeline.owesWithin debt
  rw [show (dats1 m c).owed t1_0.succ = owe [] from rfl]
  iintro ⟨%W, H⟩
  iexists W
  isplitr
  · ipureintro; exact fun _ _ => Or.inl trivial
  iexact H

theorem after_intro (c : Dev nD) :
    iprop((debt c (owe []) ∗ ins m c ∗ pt c cc1_stg4_0 (outV m) ∗ scr c ∗ bigSep Finset.univ fun k => semVal (cell c k) 0) ∗ others1 c)
      ⊢ bodyPost m c := by
  unfold ins bodyPost Φ₁
  iintro ⟨⟨HO, ⟨⟨H0, H1, H2⟩, H3⟩, H4, Hs, Hv⟩, Hx⟩
  isplitl [Hs Hv Hx]
  · isplitl [Hs Hx]
    · isplitl [Hs] <;> iassumption
    iexact Hv
  isplitl [HO]; · iapply (owes_after m c); iexact HO
  isplitl [H0]; · iapply (stg_intro c _ _); iexact H0
  isplitl [H1]; · iapply (stg_intro c _ _); iexact H1
  isplitl [H2]; · iapply (stg_intro c _ _); iexact H2
  isplitl [H3]; · iapply (stg_intro c _ _); iexact H3
  iapply (stg_intro c _ _); iexact H4

theorem sound_body (c : Dev nD) :
    bodyPre m c ⊢ WP c (structured (F := F)) (fun _ => bodyPost m c) := by
  have hs : WP c (structured (F := F)) (fun _ => bodyPost m c) = WP c (phases c) (fun _ => bodyPost m c) := by
    unfold structured; exact wp_device c phases _
  rw [hs]
  unfold bodyPre Φ₀ start
  iintro ⟨⟨⟨⟨%κ, HR⟩, Hr⟩, Hs, Hx⟩, HO, H0, H1, H2, H3, H4⟩
  ihave HO := (owes_before m c) $$ HO
  ihave H0 := (stg_at (before_0 m c)) $$ H0
  ihave H1 := (stg_at (before_1 m c)) $$ H1
  ihave H2 := (stg_at (before_2 m c)) $$ H2
  ihave H3 := (stg_at (before_3 m c)) $$ H3
  ihave H4 := (stg_any (c := c) (b := cc1_stg4_0)) $$ H4
  ihave H := (body_phases m κ c) $$ [HR HO Hr H0 H1 H2 H3 H4 Hs]
  rotate_left
  · iapply (wp_wand _ _ _) $$ H
    iintro %u H
    iapply (after_intro m c)
    isplitl [H] <;> iassumption
  unfold ins
  isplitl [HR]; · iexact HR
  isplitl [HO]; · iexact HO
  isplitl [Hr]; · iexact Hr
  isplitl [H0 H1 H2 H3]
  · isplitl [H0 H1 H2]
    · isplitl [H0]; · iexact H0
      isplitl [H1] <;> iassumption
    iexact H3
  isplitl [H4] <;> iassumption

set_option maxRecDepth 32768 in
theorem body_obligation (c : Dev nD) : BodyObligation (dats1 (F := F) m c) (defs₀ (F := F)) 𝒱₀ () Set.univ := fun t => by
  rw [show t = t1_0 from fin_N1 t]
  rw [bigSep_W1, bigSep_W1]
  simp only [owns_whole]
  show bodyPre m c ⊢ wp frame (wpE (defs₀ (F := F)) 𝒱₀ c none) Set.univ (bodyAt1 (F := F) t1_0) (fun _ => bodyPost m c)
  rw [body_eq]
  exact sound_body m c

end Cert.KernelIdeal.Hand

end
-- ==== Proof.Deal.lean ====
/- How the initial state deals every device its part in the ring call's protocol: the barriers' cells open, the others dormant until the
   call is entered. -/
module

public import proofs.«01_k».proof.Proof.Launch
public import Idealize.ShloMosaic.Lib.Rounds.Family

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F] [Named F]

local notation "𝕄" => MT nD τ sig Unit (Elt F) ℕ UU ℕ

variable (m : (ℓ : Loc nD τ sig) → Buf (Elt F) ℓ)

/-! ## The semaphores of a device -/

/-- The kernel's own semaphores: all but the barrier, which belongs to the run. -/
abbrev Own : Type := {k : K // k ≠ K.bar}
abbrev osem (k : Own) : SemLoc sig := csem k.1

theorem ownSemFacts : Pipeline.OwnSemFacts cfg1.spec osem := by decide +kernel

theorem unscoped_eq (c : Dev nD) : (unscopedSems0 c : sProp 𝕄) = semVal (cell c .bar) 0 := by
  unfold unscopedSems0; rw [bigSep_eq_bigSepL_of_eq [SemLoc.reg barS] (by decide +kernel) (by decide)]; rfl

theorem sems_eq (c : Dev nD) :
    (bigSep Finset.univ fun k => (semVal (cell c k) 0 : sProp 𝕄))
      = iprop(unscopedSems0 c ∗ Pipeline.ownSems0 (Ix := Unit) (Name := ℕ) (U := UU) (Lvl := ℕ) (Val := Elt F) (τ := τ) osem c) := by
  rw [unscoped_eq, bigSep_erase (Finset.mem_univ K.bar), ← bigSep_subtype_ne]
  rfl

/-! ## The tokens, by the device that pays with them -/

/-- The device that holds a duty. -/
def payer (x : GSem nD τ sig × ℕ × Dev nD) : Dev nD :=
  match kindOf x.1.2 with
  | some .bar => x.2.2
  | some (.rsS _ _) => x.1.1.1
  | some (.rsR _ j) => up x.1.1.1 (cap j)
  | some (.agS _) => x.1.1.1
  | some (.agR q) => q
  | none => 0

theorem payer_payList (c : Dev nD) : ∀ x ∈ payList c, payer x = c := by revert c; decide +kernel
theorem payList_nodup (c : Dev nD) : (payList c).Nodup := by revert c; decide +kernel

def ringToks : Finset (GSem nD τ sig × ℕ × Dev nD) := Finset.univ.biUnion fun c => (payList c).toFinset

theorem toks_split (s : Finset (Dev nD)) (Φ : GSem nD τ sig × ℕ × Dev nD → sProp 𝕄) :
    bigSep (s.biUnion fun c => (payList c).toFinset) Φ = bigSep s fun c => sepL Φ (payList c) := by
  induction s using Finset.induction_on with
  | empty => rfl
  | insert c s hc ih =>
    have hd : Disjoint (payList c).toFinset (s.biUnion fun c => (payList c).toFinset) := by
      rw [Finset.disjoint_left]
      intro x hx hx'
      obtain ⟨c', hc', hx'⟩ := Finset.mem_biUnion.mp hx'
      have h1 := payer_payList c x (List.mem_toFinset.mp hx)
      have h2 := payer_payList c' x (List.mem_toFinset.mp hx')
      exact hc (h1.symm.trans h2 ▸ hc')
    rw [bigSep_insert hc, Finset.biUnion_insert, bigSep_union hd, ih, bigSep_toFinset _ (payList_nodup c)]

/-! ## The initial ghost state -/

theorem bar_inj : Function.Injective fun c : Dev nD => cell c K.bar := fun a b h => (Prod.ext_iff.mp (@kcell_injective (a, K.bar) (b, K.bar) h)).1
theorem rest_inj : Function.Injective fun ck : Dev nD × Own => cell ck.1 ck.2.1 := fun a b h => by
  have e := Prod.ext_iff.mp (@kcell_injective (a.1, a.2.1) (b.1, b.2.1) h)
  exact Prod.ext e.1 (Subtype.ext e.2)

/-- The barriers; the cells of the call's own semaphores. -/
def barCells : Finset (GSem nD τ sig) := Finset.univ.map ⟨fun c : Dev nD => cell c K.bar, bar_inj⟩
def restCells : Finset (GSem nD τ sig) := Finset.univ.map ⟨fun ck : Dev nD × Own => cell ck.1 ck.2.1, rest_inj⟩

theorem cells_disjoint : Disjoint barCells restCells := by
  rw [Finset.disjoint_left]
  intro g h h'
  obtain ⟨c, -, rfl⟩ := Finset.mem_map.mp h
  obtain ⟨ck, -, e⟩ := Finset.mem_map.mp h'
  exact ck.2.2 (Prod.ext_iff.mp (@kcell_injective (ck.1, ck.2.1) (c, K.bar) e)).2

theorem bar_split (Φ : GSem nD τ sig → sProp 𝕄) : bigSep barCells Φ = bigSep Finset.univ fun c : Dev nD => Φ (cell c .bar) := by
  unfold barCells; rw [bigSep_map]; rfl
theorem rest_split (Φ : GSem nD τ sig → sProp 𝕄) :
    bigSep restCells Φ = bigSep Finset.univ fun c : Dev nD => bigSep Finset.univ fun k : Own => Φ (cell c k.1) := by
  unfold restCells; rw [bigSep_map, bigSep_univ_prod]; rfl
theorem all_split (Φ : GSem nD τ sig → sProp 𝕄) :
    bigSep (barCells ∪ restCells) Φ = bigSep Finset.univ fun ck : Dev nD × K => Φ (kcell ck) := by
  rw [bigSep_union cells_disjoint, bar_split, rest_split, bigSep_univ_prod]
  refine (bigSep_sep' Finset.univ (fun c : Dev nD => Φ (cell c .bar)) fun c => bigSep Finset.univ fun k : Own => Φ (cell c k.1)).symm.trans ?_
  refine bigSep_congr fun c _ => ?_
  rw [bigSep_erase (Φ := fun k => Φ (kcell (c, k))) (Finset.mem_univ K.bar), ← bigSep_subtype_ne]
  rfl

/-- The protocol's launch element. -/
def u₁ : UB := launchOf barCells restCells ringToks

def u₀ : UU := (initOf (Pipeline.cells cfgs cellOf_inj) (Pipeline.launchToks cfgs cellOf_inj), u₁)

/-- The first device carries the launch element to the point where the barriers' counters are at hand. -/
def G (c : Dev nD) : sProp 𝕄 := if c = 0 then BI.own (ER u₁) else iprop(emp)

theorem G_intro : (BI.own (ER u₁) : sProp 𝕄) ⊢ bigSep Finset.univ (G (F := F)) := by
  rw [bigSep_erase (Φ := G (F := F)) (Finset.mem_univ (0 : Dev nD))]
  have h : (iprop(emp) : sProp 𝕄) ⊢ bigSep (Finset.univ.erase (0 : Dev nD)) (G (F := F)) :=
    BI.bigSep_intro_persistent fun c hc => by unfold G; rw [if_neg (Finset.ne_of_mem_erase hc)]
  show _ ⊢ iprop(G 0 ∗ bigSep (Finset.univ.erase (0 : Dev nD)) (G (F := F)))
  iintro H
  isplitl [H]
  · unfold G; rw [if_pos rfl]; iexact H
  iapply h; iempintro

theorem G_elim : bigSep Finset.univ (G (F := F)) ⊢ (BI.own (ER u₁) : sProp 𝕄) := by
  have h : bigSep Finset.univ (G (F := F)) ⊢ G (F := F) 0 := bigSep_elim (Finset.mem_univ 0)
  refine h.trans ?_
  unfold G; rw [if_pos rfl]

/-! ## The cells' invariants -/

/-- A device's part before the ring call is entered: the records, the rights to open its cells, its place at its barrier, its credits,
    its tokens. -/
def kept (c : Dev nD) : sProp 𝕄 :=
  iprop(∃ κ, Rec0 m κ ∗ (bigSep Finset.univ fun k : Own => openTok ER (cell c k.1)) ∗ at0 c .bar
    ∗ (cred (tallyAt (cell c .bar) () 7) ∗ sepL (due c) (dueK c)) ∗ sepL dtok (payList c))

/-- A persistent fact beside a family is a fact beside each member. -/
theorem with_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  have h1 : iprop(bigSep S (fun _ => R) ∗ bigSep S Φ) ⊢ bigSep S Ψ := by rw [← bigSep_sep']; exact bigSep_mono h
  exact (sep_mono_left (BI.bigSep_of_persistent S R)).trans h1

theorem four_sep {ι : Type} [Fintype ι] (A B C D : ι → sProp 𝕄) : (bigSep Finset.univ fun i => iprop(A i ∗ B i ∗ C i ∗ D i))
    = iprop(bigSep Finset.univ A ∗ bigSep Finset.univ B ∗ bigSep Finset.univ C ∗ bigSep Finset.univ D) := by
  rw [bigSep_sep', bigSep_sep', bigSep_sep']

/-- The barriers' counters and the launch element make every device's part. -/
theorem deal :
    iprop((bigSep Finset.univ fun c : Dev nD => iprop(semVal (cell c .bar) 0 ∗ cred (tallyAt (cell c .bar) () 7) ∗ sepL (due c) (dueK c)))
        ∗ BI.own (ER u₁) ∗ levAts L lv)
      ⊢ (|={Set.univ}=> bigSep Finset.univ (kept m) : sProp 𝕄) := by
  rw [bigSep_sep', bigSep_sep']
  iintro ⟨⟨Hv, Hv2, Hc⟩, Hu, #HL⟩
  imod (fund_launch ER (ringRd m) cells_disjoint (fun _ _ h => h) ringToks) $$ [Hv Hu] with ⟨%κ, -, #HI, #HR, Hat, Ho, Htok⟩
  · isplitl [Hv]
    · rw [bar_split]; iexact Hv
    iexact Hu
  imodintro
  ihave #HI' := (Entails.of_eq (all_split fun g => cellInv ER (ringRd m) (κ g) g)) $$ HI
  ihave #HR' := (Entails.of_eq (bar_split fun g => (reached ER g 0 : sProp 𝕄))) $$ HR
  ihave Hat := (Entails.of_eq (bar_split fun g => (atPos ER g 0 ∅ 0 : sProp 𝕄))) $$ Hat
  ihave Ho := (Entails.of_eq (rest_split fun g => (openTok ER g : sProp 𝕄))) $$ Ho
  ihave Htok := (Entails.of_eq (show bigSep ringToks (fun x => (dutyTok ER x.1 x.2.1 x.2.2 : sProp 𝕄)) = _ from toks_split Finset.univ _)) $$ Htok
  have hc (c : Dev nD) : iprop(Rec0 m (fun ck => κ (kcell ck)) ∗ ((bigSep Finset.univ fun k : Own => openTok ER (cell c k.1)) ∗ at0 c .bar
      ∗ (cred (tallyAt (cell c .bar) () 7) ∗ sepL (due c) (dueK c)) ∗ sepL dtok (payList c))) ⊢ (kept m c : sProp 𝕄) := by
    unfold kept
    iintro H
    iexists _
    iexact H
  iapply (with_each (R := Rec0 m (fun ck => κ (kcell ck))) fun c _ => hc c)
  isplitr
  · unfold Rec0
    isplitl; · iexact HI'
    isplitl; · iexact HR'
    iexact HL
  · iapply (Entails.of_eq (four_sep (fun c : Dev nD => (bigSep Finset.univ fun k : Own => (openTok ER (cell c k.1) : sProp 𝕄))) (fun c => at0 c .bar)
      (fun c => iprop(cred (tallyAt (cell c .bar) () 7) ∗ sepL (due c) (dueK c))) (fun c => sepL dtok (payList c))).symm)
    isplitl [Ho]; · iexact Ho
    isplitl [Hat]; · iexact Hat
    isplitl [Hv2 Hc]
    · iapply (Entails.of_eq (bigSep_sep' Finset.univ (fun c : Dev nD => (cred (tallyAt (cell c .bar) () 7) : sProp 𝕄)) fun c => sepL (due c) (dueK c)).symm)
      isplitl [Hv2] <;> iassumption
    iexact Htok

/-- A family over a device's semaphores, from the barrier's member and the own ones'. -/
theorem own_join (_c : Dev nD) (Φ : K → sProp 𝕄) : iprop(Φ .bar ∗ bigSep Finset.univ fun k : Own => Φ k.1) ⊢ bigSep Finset.univ Φ := by
  rw [bigSep_erase (Φ := Φ) (Finset.mem_univ K.bar), ← bigSep_subtype_ne]
  exact .rfl

theorem opened_join (c : Dev nD) :
    iprop(reached ER (cell c .bar) 0 ∗ bigSep Finset.univ fun k : Own => (reached ER (cell c k.1) 0 : sProp 𝕄)) ⊢ opened c :=
  own_join c fun k => (reached ER (cell c k) 0 : sProp 𝕄)

/-- At the ring call's entry a device opens its cells. -/
theorem start_of_kept (c : Dev nD) :
    iprop(kept m c ∗ Pipeline.ownSems0 (Ix := Unit) (Name := ℕ) (U := UU) (Lvl := ℕ) (Val := Elt F) (τ := τ) osem c)
      ⊢ |={Set.univ}=> start m c := by
  unfold kept start
  iintro ⟨⟨%κ, #HR, Ho, Hb, Hc, Htok⟩, Hv⟩
  have hI : Rec0 m κ ⊢ bigSep Finset.univ fun k : Own => cellInv ER (ringRd m) (κ (c, k.1)) (cell c k.1) :=
    BI.bigSep_intro_persistent fun k _ => Rec0_inv m κ c k.1
  imod (cells_open ER (ringRd m) Finset.univ (fun k : Own => cell c k.1) (fun k : Own => κ (c, k.1)) (fun _ _ => Set.mem_univ _)) $$ [Ho Hv] with H
  · rw [bigSep_sep']
    isplitl [Ho]
    · isplitr
      · iapply hI; iexact HR
      iexact Ho
    ihave Hv := (Entails.of_eq (show (Pipeline.ownSems0 (Ix := Unit) (Name := ℕ) (U := UU) (Lvl := ℕ) (Val := Elt F) (τ := τ) osem c : sProp 𝕄)
      = bigSep Finset.univ fun k : Own => semVal (cell c k.1) 0 from rfl)) $$ Hv
    iexact Hv
  ihave Hr := (Rec0_reached m κ c) $$ HR
  ihave H := (Entails.of_eq (bigSep_sep' Finset.univ (fun k : Own => (atPos ER (cell c k.1) 0 ∅ 0 : sProp 𝕄)) fun k => reached ER (cell c k.1) 0)) $$ H
  icases H with ⟨Hat, Hre⟩
  imodintro
  isplitl [Hr Hre]
  · iexists κ
    isplitr; · iexact HR
    iapply (opened_join (F := F) c)
    isplitl [Hr]; · iexact Hr
    iexact Hre
  unfold rights
  isplitl [Hc]; · iexact Hc
  isplitl [Hb Hat]
  · iapply (own_join c fun k => (at0 c k : sProp 𝕄))
    isplitl [Hb]; · iexact Hb
    iexact Hat
  iexact Htok

/-! ## The credits -/

theorem owed_cell (c : Dev nD) (k : K) (n : ℕ) (h : ∑ d : Dev nD, (oweList d).count (c, k) = n) :
    tallyOn (cell c k) (launchCredit (Pipeline.owing O₀) 0 (cell c k)) = (tallyAt (cell c k) () (n * amt k) : CellTallies nD τ sig Unit) := by
  unfold tallyAt; refine congrArg _ (Finsupp.ext fun u => ?_); cases u
  rw [Pipeline.launchCredit_owing, Finsupp.single_eq_same, ← h, Finset.sum_mul]
  exact Finset.sum_congr rfl fun d _ => by rw [O₀_eq]; exact owe_apply (oweList d) (c, k)

/-- A cell's credit at the launch. -/
def lent (c : Dev nD) (sm : SemLoc sig) : sProp 𝕄 :=
  cred (tallyOn ((c : Thread nD τ), sm) (launchCredit (Pipeline.owing O₀) 0 ((c : Thread nD τ), sm)))

theorem creds (c : Dev nD) : (Pipeline.launchCred O₀ c : sProp 𝕄) ⊢ iprop(cred (tallyAt (cell c .bar) () 7) ∗ sepL (due c) (dueK c)) := by
  have h : (Pipeline.launchCred O₀ c : sProp 𝕄) ⊢ bigSep Finset.univ fun k => lent c (csem k) := by
    have := bigSep_subset (Φ := fun sm => (lent c sm : sProp 𝕄)) (Finset.subset_univ ((Finset.univ : Finset K).map ⟨csem, csem_injective⟩))
    rw [bigSep_map] at this
    exact this
  refine h.trans ?_
  rw [allK_eq c]
  iintro ⟨Hb, ⟨Hd, -⟩, -⟩
  isplitl [Hb]
  · ihave H := (Entails.of_eq (show (lent c (csem .bar) : sProp 𝕄) = cred (tallyAt (cell c .bar) () 7) from
      congrArg cred (owed_cell c .bar 7 (owed_bar c)))) $$ Hb
    iexact H
  · ihave H := (Entails.of_eq (sepL_congr (Φ := fun k => lent c (csem k)) (Ψ := due (F := F) c) fun k hk =>
      congrArg cred ((owed_cell c k 1 (owed_due c k hk)).trans (by rw [Nat.one_mul])))) $$ Hd
    iexact H

end Cert.KernelIdeal.Hand

end
-- ==== Proof.AFinal.lean ====
/- What the attention call's result arrays hold when every head has been written back. -/
module

public import proofs.«01_k».proof.Proof.ABody

@[expose] public section

noncomputable section

namespace Cert.KernelIdeal.Hand

open Idealize.ShloMosaic Idealize.ShloMosaic.TcCoe Idealize.ShloMosaic.ValueIdx
open Idealize.SL Idealize.SL.RA Idealize.SL.BI
open Idealize.ShloMosaic.Pipeline (Dat RDat)
open Cert.KernelIdeal.Gen Cert.KernelIdeal.Att

variable {F : FTy → Type} [FloatOps F] [Named F]

variable (m : (ℓ : Loc nD τ sig) → Buf (Elt F) ℓ)

/-- Every head up to a point has its lane written. -/
theorem lanes_upto (c : Dev nD) (w : Fin cfg0.W) (A : Vec F S2112x8 .f32) (hcast : Vec F S2112x8 .f32 = ((cfg0.win w).block.Idx → Elt F (cfg0.win w).elt))
    (hfetch : ∀ t : Fin cfg0.N, (cfg0.win w).fetch t = false) (hflush : ∀ t : Fin cfg0.N, t.val < 7 → (cfg0.win w).flush t = false)
    (hafter : ∀ t (Y X : (cfg0.win w).block.Idx → Elt F (cfg0.win w).elt), (rd0 m c).after w t Y X → lane (hd t) A (hcast ▸ Y) (hcast ▸ X)) :
    ∀ (n : ℕ) (h : n < cfg0.N) (X : (cfg0.win w).block.Idx → Elt F (cfg0.win w).elt), (rd0 m c).Leaves w ⟨n, h⟩ X →
      ∀ (a : Fin 2112) (b : Fin 8), b.val ≤ n → (hcast ▸ X : Vec F S2112x8 .f32) (ix2 a b) = A (ix2 a b) := by
  intro n
  induction n with
  | zero =>
    rintro h X ⟨Y, -, hX⟩ a b hb
    have := hafter _ _ _ hX a b
    rw [this, if_pos (Fin.ext (by show b.val = 0; omega))]
  | succ n ih =>
    rintro h X ⟨Y, hY, hX⟩ a b hb
    have h8 : n + 1 < 8 := N_0 ▸ h
    rw [hafter _ _ _ hX a b]
    split
    · rfl
    · next hne =>
      have hb' : b.val ≤ n := by
        have : b.val ≠ n + 1 := fun e => hne (Fin.ext e)
        omega
      rcases ((rd0 m c).finds_of_pos (hfetch _) (Nat.succ_ne_zero n) Y).mp hY with hf | hL
      · have := hflush ⟨n, by omega⟩ (by show n < 7; omega)
        exact absurd (hf.symm.trans this) (by decide)
      · exact ih (by omega) Y hL a b hb'

theorem fetch0_5 : ∀ t : Fin cfg0.N, (cfg0.win 5).fetch t = false := by decide +kernel
theorem fetch0_6 : ∀ t : Fin cfg0.N, (cfg0.win 6).fetch t = false := by decide +kernel
theorem noflush0_5 : ∀ t : Fin cfg0.N, t.val < 7 → (cfg0.win 5).flush t = false := by decide +kernel
theorem noflush0_6 : ∀ t : Fin cfg0.N, t.val < 7 → (cfg0.win 6).flush t = false := by decide +kernel

theorem leaves0_5 (c : Dev nD) (X : Vec F S2112x8 .f32) (h : (rd0 m c).Leaves 5 t0_7 X) : X = mA m c := by
  funext i
  obtain ⟨a, b, rfl⟩ : ∃ a b, i = ix2 (n0 := 2112) (n1 := 8) a b := ⟨i 0, i 1, eq_ix2 i⟩
  exact lanes_upto m c 5 (mA m c) rfl fetch0_5 noflush0_5 (fun t Y X h => h) 7 t0_7.isLt X h a b (by omega)

theorem leaves0_6 (c : Dev nD) (X : Vec F S2112x8 .f32) (h : (rd0 m c).Leaves 6 t0_7 X) : X = lA m c := by
  funext i
  obtain ⟨a, b, rfl⟩ : ∃ a b, i = ix2 (n0 := 2112) (n1 := 8) a b := ⟨i 0, i 1, eq_ix2 i⟩
  exact lanes_upto m c 6 (lA m c) rfl fetch0_6 noflush0_6 (fun t Y X h => h) 7 t0_7.isLt X h a b (by omega)

theorem arrAt0_5 (c : Dev nD) (G : main_v3_1.ty.Contents (Elt F)) (hG : (rd0 m c).ArrAt 5 cfg0.N G) : G = mA m c := by
  obtain ⟨X, hX, h⟩ := RDat.ArrAt.emb_eq_of_wholeAt hG (t₀ := t0_7) (by decide +kernel)
  rw [leaves0_5 m c X hX] at h
  funext i
  exact h i

theorem arrAt0_6 (c : Dev nD) (G : main_v3_2.ty.Contents (Elt F)) (hG : (rd0 m c).ArrAt 6 cfg0.N G) : G = lA m c := by
  obtain ⟨X, hX, h⟩ := RDat.ArrAt.emb_eq_of_wholeAt hG (t₀ := t0_7) (by decide +kernel)
  rw [leaves0_6 m c X hX] at h
  funext i
  exact h i

theorem arrAt0_4 (c : Dev nD) (G : main_v3_0.ty.Contents (Elt F)) (hG : (rd0 m c).ArrAt 4 cfg0.N G) : G = oA m c := by
  obtain ⟨X, hX, h⟩ := RDat.ArrAt.exists_exact hG
  rw [h (Function.update (fun _ _ _ => Classical.arbitrary _) 4 X) fun u _ _ => by rw [Function.update_self]]
  refine Dat.arrAt_eq_of_covers _ 4 _ (by decide +kernel) fun t hf y => ?_
  obtain ⟨Y, -, hY⟩ := hX t t.isLt hf
  have hY' : X t = oT m c (hd t) := hY
  have e := index0_4 t
  rw [RDat.withAfter_after, Function.update_self, hY']
  have e0 : ((((win0_4.blk t).view.emb y) 0 : Fin _) : ℕ) = (y 0).val := by blk_simp [e]
  have e1 : ((((win0_4.blk t).view.emb y) 1 : Fin _) : ℕ) = t.val * 128 + (y 1).val := by blk_simp [e]
  have h1 : (y 1).val < 128 := ((cfg0.win 4).xinj (cfg0.grid.coords t) y 1).isLt
  show oT m c (hd t) ((cfg0.win 4).xinj (cfg0.grid.coords t) y) = oT m c _ (ix2 _ _)
  refine congr (congrArg (oT m c) (Fin.ext ?_)) (funext fun a => Fin.ext ?_)
  · show t.val = (((win0_4.blk t).view.emb y) 1).val / 128
    rw [e1]; omega
  · revert a
    intro a
    fin_cases a
    · exact e0.symm
    · show (y 1).val = (((win0_4.blk t).view.emb y) 1).val % 128
      rw [e1]; omega

end Cert.KernelIdeal.Hand

end
-- ==== Proof.Run.lean ====
/- The run of the whole program: the host's reshapes, the attention call, the ring call. -/
module

public import proofs.«01_k».proof.Proof.Deal
public import proofs.«01_k».proof.Proof.AFinal

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligation)
open Cert.KernelIdeal.Gen

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The unscoped buffers between the calls -/

/-- After the attention call. -/
def W2 (c : Dev nD) : Valuation τ sig (Elt F) :=
  Function.update (Function.update (Function.update (V1 m c) main_v3_0 (oA m c)) main_v3_1 (mA m c)) main_v3_2 (lA m c)
/-- The memory the ring call finds. -/
def m2 : (ℓ : Loc nD τ sig) → Buf (Elt F) ℓ := fun ℓ => W2 m ℓ.1 ℓ.2
/-- What the ring call leaves of its result. -/
def outA (c : Dev nD) : main_v4.ty.Contents (Elt F) := (dats1 (m2 m) c).arrAt (4 : Fin 5) cfg1.N
/-- After the ring call. -/
def W3 (c : Dev nD) : Valuation τ sig (Elt F) := Function.update (W2 m c) main_v4 (outA m c)

theorem dref_ne {r r' : Ref sig .tc} (h : r ≠ r') : (Proc.devRef .tc r : DevRef τ sig) ≠ Proc.devRef .tc r' := StableHlo.devRef_ne_of_ne h

theorem W2_of (c : Dev nD) (r : Ref sig .tc) (h0 : r ≠ main_v3_0) (h1 : r ≠ main_v3_1) (h2 : r ≠ main_v3_2) : W2 m c r = V1 m c r := by
  unfold W2
  rw [Function.update_of_ne (dref_ne h2), Function.update_of_ne (dref_ne h1), Function.update_of_ne (dref_ne h0)]
theorem W2_o (c : Dev nD) : W2 m c main_v3_0 = oA m c := by
  unfold W2
  rw [Function.update_of_ne (dref_ne (by decide)), Function.update_of_ne (dref_ne (by decide)), Function.update_self]
theorem W2_m (c : Dev nD) : W2 m c main_v3_1 = mA m c := by
  unfold W2
  rw [Function.update_of_ne (dref_ne (by decide)), Function.update_self]
theorem W2_l (c : Dev nD) : W2 m c main_v3_2 = lA m c := by
  unfold W2
  rw [Function.update_self]
theorem W3_of (c : Dev nD) (r : Ref sig .tc) (h : r ≠ main_v4) : W3 m c r = W2 m c r := by
  unfold W3
  rw [Function.update_of_ne (dref_ne h)]
theorem W3_out (c : Dev nD) : W3 m c main_v4 = outA m c := by
  unfold W3
  rw [Function.update_self]

/-- Nothing writes an argument. -/
theorem W3_arg (c : Dev nD) (r : Ref sig .tc) (h : r ≠ main_v4) (h0 : r ≠ main_v3_0) (h1 : r ≠ main_v3_1) (h2 : r ≠ main_v3_2)
    (hh : r ∉ hostOps0_W) : W3 m c r = m ((c.tc : Thread nD τ).loc r) :=
  (W3_of m c r h).trans <| (W2_of m c r h0 h1 h2).trans <| V1_of m c r hh

/-! ## The calls' data -/

def rdats (p : Fin 2) (c : Dev nD) : RDat τ (Elt F) Unit ℕ UU ℕ (Pipeline.pin (pcfgs (F := F)) adm p) c :=
  match p with
  | ⟨0, _⟩ => rd0 m c
  | ⟨1, _⟩ => (dats1 (m2 m) c).toR

theorem share0 (c : Dev nD) (w : Fin 7) : (rdats m 0 c).share w = fullShare := by
  show (rd0 m c).share w = fullShare
  unfold RDat.share; split <;> rfl
theorem share1 (c : Dev nD) (w : Fin 5) : (rdats m 1 c).share w = fullShare := by
  show (dats1 (m2 m) c).toR.share w = fullShare
  unfold RDat.share; split <;> rfl

theorem waits0 (c : Dev nD) : (levAts L lv : sProp 𝕄) ⊢ Pipeline.RDat.cellsWaits (Pipeline.pin (pcfgs (F := F)) adm) (rdats m) () 0 c :=
  Pipeline.RDat.cellsWaits_intro (Pipeline.pin (pcfgs (F := F)) adm) (rdats m) () 0 c fun w s t => by
    have hs : lv ((c : Thread nD τ), SemLoc.dma (((cfgs 0).win w).sem s)) () ≤ 0 := by
      revert c; fin_cases w <;> fin_cases s <;> exact fun _ => Nat.le_refl 0
    show (levAts L lv : sProp 𝕄) ⊢ MayWait (c : Thread nD τ) _ () (O₀ c)
    rw [O₀_eq]
    exact mayWait_cut c _ 0 (oweList c) hs (oweList_lev c)

theorem waits1 (c : Dev nD) : (levAts L lv : sProp 𝕄) ⊢ Pipeline.RDat.cellsWaits (Pipeline.pin (pcfgs (F := F)) adm) (rdats m) () 1 c :=
  Pipeline.RDat.cellsWaits_intro (Pipeline.pin (pcfgs (F := F)) adm) (rdats m) () 1 c fun w s t => by
    have hs : lv ((c : Thread nD τ), SemLoc.dma (((cfgs 1).win w).sem s)) () ≤ 0 := by
      revert c; fin_cases w <;> fin_cases s <;> exact fun _ => Nat.le_refl 0
    rcases t with ⟨_ | _, ht⟩
    · show (levAts L lv : sProp 𝕄) ⊢ MayWait (c : Thread nD τ) _ () (O₀ c)
      rw [O₀_eq]
      exact mayWait_cut c _ 0 (oweList c) hs (oweList_lev c)
    · exact mayWait_cut c _ 0 [] hs (fun _ h => absurd h (List.not_mem_nil))

/-! ## What a device holds between the items -/

abbrev heldAt (c : Dev nD) (W : Valuation τ sig (Elt F)) : sProp 𝕄 := StableHlo.held (c : Thread nD τ) (Pipeline.ucRefs τ sig) W

/-- Beside the buffers: its part of the ring's protocol, and all its payments still due. -/
def E (c : Dev nD) : sProp 𝕄 := iprop(kept (m2 m) c ∗ debt c (O₀ c))

theorem bufs_eq (c : Dev nD) (W : Valuation τ sig (Elt F)) :
    (heldAt c W : sProp 𝕄) = unscopedBufs (Ix := Unit) (Name := ℕ) (U := UU) (Lvl := ℕ) c fun b => W b :=
  (Pipeline.unscopedBufs_held (Ix := Unit) (Name := ℕ) (U := UU) (Lvl := ℕ) c W).symm

/-! ## The attention call's region -/

theorem entry0 (c : Dev nD) : (heldAt c (V1 m c) : sProp 𝕄)
    ⊢ iprop((rdats m 0 c).arrays (rdats m 0 c).A ∗ Pipeline.unscopedRest spec0 c fun b => V1 m c b) := by
  rw [bufs_eq]
  exact Pipeline.RDat.arrays_of_unscopedBufs (pcfgs (F := F)) adm (rdats m) (p := 0) winFacts0 arr_whole0 c (share0 m c) (fun b => V1 m c b) fun _ => rfl

theorem rest0_eq (c : Dev nD) :
    (Pipeline.unscopedRest spec0 c (fun b => V1 m c b) : sProp 𝕄) = Pipeline.unscopedRest spec0 c fun b => W2 m c b := by
  rw [unscopedRest0_eq, unscopedRest0_eq, W2_of m c main_arg2 (by decide) (by decide) (by decide), W2_of m c main_arg3 (by decide) (by decide) (by decide),
    W2_of m c main_arg4 (by decide) (by decide) (by decide), W2_of m c main_v4 (by decide) (by decide) (by decide)]

theorem final0 (c : Dev nD) (w : Fin 7) (G : Buf (Elt F) ((c.tc : Thread nD τ).loc (Pipeline.arrRef spec0 w)))
    (hG : (rd0 m c).ArrAt w cfg0.N G) : G = W2 m c (Pipeline.arrRef spec0 w) := by
  match w with
  | ⟨0, _⟩ =>
    have h : G = (rd0 m c).A (0 : Fin 7) := (congrFun (RDat.ArrAt_in (rd := rd0 m c) (0 : Fin 7) rfl cfg0.N) G).mp hG
    exact h.trans (W2_of m c main_arg0 (by decide) (by decide) (by decide)).symm
  | ⟨1, _⟩ =>
    have h : G = (rd0 m c).A (1 : Fin 7) := (congrFun (RDat.ArrAt_in (rd := rd0 m c) (1 : Fin 7) rfl cfg0.N) G).mp hG
    exact h.trans (W2_of m c main_arg1 (by decide) (by decide) (by decide)).symm
  | ⟨2, _⟩ =>
    have h : G = (rd0 m c).A (2 : Fin 7) := (congrFun (RDat.ArrAt_in (rd := rd0 m c) (2 : Fin 7) rfl cfg0.N) G).mp hG
    exact h.trans (W2_of m c main_v1 (by decide) (by decide) (by decide)).symm
  | ⟨3, _⟩ =>
    have h : G = (rd0 m c).A (3 : Fin 7) := (congrFun (RDat.ArrAt_in (rd := rd0 m c) (3 : Fin 7) rfl cfg0.N) G).mp hG
    exact h.trans (W2_of m c main_v2 (by decide) (by decide) (by decide)).symm
  | ⟨4, _⟩ => exact (arrAt0_4 m c G hG).trans (W2_o m c).symm
  | ⟨5, _⟩ => exact (arrAt0_5 m c G hG).trans (W2_m m c).symm
  | ⟨6, _⟩ => exact (arrAt0_6 m c G hG).trans (W2_l m c).symm

theorem known0 (c : Dev nD) (w : Fin 7) :
    iprop(∃ G, ⌜(rd0 m c).ArrAt w cfg0.N G⌝ ∗ (((c.tc : Thread nD τ).loc (Pipeline.arrRef spec0 w)) ↦{fullShare} G : sProp 𝕄))
      ⊢ ((c.tc : Thread nD τ).loc (Pipeline.arrRef spec0 w)) ↦{fullShare} W2 m c (Pipeline.arrRef spec0 w) := by
  iintro ⟨%G, %hG, H⟩
  ihave H := (Entails.of_eq (congrArg (fun X => (((c.tc : Thread nD τ).loc (Pipeline.arrRef spec0 w)) ↦{fullShare} X : sProp 𝕄)) (final0 m c w G hG))) $$ H
  iexact H

theorem exit0 (c : Dev nD) :
    iprop((rdats m 0 c).arraysAt cfg0.N ∗ Pipeline.unscopedRest spec0 c fun b => V1 m c b) ⊢ (heldAt c (W2 m c) : sProp 𝕄) := by
  rw [bufs_eq, rest0_eq, Pipeline.unscopedBufs_split cfgs 0 winFacts0.arr_unscoped winFacts0.arr_inj c (fun b => W2 m c b),
    Pipeline.RDat.arraysAt_eq (pcfgs (F := F)) adm (rdats m) 0 c arr_whole0 (share0 m c) cfg0.N]
  exact sep_mono (bigSep_mono fun w _ => known0 m c w) .rfl

/-! ## The ring call's region -/

theorem entry1 (c : Dev nD) : (heldAt c (W2 m c) : sProp 𝕄)
    ⊢ iprop((rdats m 1 c).arrays (rdats m 1 c).A ∗ Pipeline.unscopedRest spec1 c fun b => W2 m c b) := by
  rw [bufs_eq]
  exact Pipeline.RDat.arrays_of_unscopedBufs (pcfgs (F := F)) adm (rdats m) (p := 1) winFacts1 arr_whole1 c (share1 m c) (fun b => W2 m c b) fun _ => rfl

theorem rest1_eq (c : Dev nD) :
    (Pipeline.unscopedRest spec1 c (fun b => W2 m c b) : sProp 𝕄) = Pipeline.unscopedRest spec1 c fun b => W3 m c b := by
  rw [unscopedRest1_eq, unscopedRest1_eq, W3_of m c main_arg0 (by decide), W3_of m c main_arg1 (by decide), W3_of m c main_arg2 (by decide),
    W3_of m c main_arg3 (by decide), W3_of m c main_v1 (by decide), W3_of m c main_v2 (by decide)]

theorem final1 (c : Dev nD) (w : Fin 5) : (dats1 (m2 m) c).arrAt w cfg1.N = W3 m c (Pipeline.arrRef spec1 w) := by
  match w with
  | ⟨0, _⟩ => exact ((dats1 (m2 m) c).arrAt_in (0 : Fin 5) rfl _).trans (W3_of m c main_v3_0 (by decide)).symm
  | ⟨1, _⟩ => exact ((dats1 (m2 m) c).arrAt_in (1 : Fin 5) rfl _).trans (W3_of m c main_v3_1 (by decide)).symm
  | ⟨2, _⟩ => exact ((dats1 (m2 m) c).arrAt_in (2 : Fin 5) rfl _).trans (W3_of m c main_v3_2 (by decide)).symm
  | ⟨3, _⟩ => exact ((dats1 (m2 m) c).arrAt_in (3 : Fin 5) rfl _).trans (W3_of m c main_arg4 (by decide)).symm
  | ⟨4, _⟩ => exact (W3_out m c).symm

theorem known1 (c : Dev nD) (w : Fin 5) :
    iprop(∃ G, ⌜(dats1 (m2 m) c).toR.ArrAt w cfg1.N G⌝ ∗ (((c.tc : Thread nD τ).loc (Pipeline.arrRef spec1 w)) ↦{fullShare} G : sProp 𝕄))
      ⊢ ((c.tc : Thread nD τ).loc (Pipeline.arrRef spec1 w)) ↦{fullShare} W3 m c (Pipeline.arrRef spec1 w) := by
  iintro ⟨%G, %hG, H⟩
  have e : G = W3 m c (Pipeline.arrRef spec1 w) := (((dats1 (m2 m) c).toR_arrAt_iff w _ _).mp hG).trans (final1 m c w)
  ihave H := (Entails.of_eq (congrArg (fun X => (((c.tc : Thread nD τ).loc (Pipeline.arrRef spec1 w)) ↦{fullShare} X : sProp 𝕄)) e)) $$ H
  iexact H

theorem exit1 (c : Dev nD) :
    iprop((rdats m 1 c).arraysAt cfg1.N ∗ Pipeline.unscopedRest spec1 c fun b => W2 m c b) ⊢ (heldAt c (W3 m c) : sProp 𝕄) := by
  rw [bufs_eq, rest1_eq, Pipeline.unscopedBufs_split cfgs 1 winFacts1.arr_unscoped winFacts1.arr_inj c (fun b => W3 m c b),
    Pipeline.RDat.arraysAt_eq (pcfgs (F := F)) adm (rdats m) 1 c arr_whole1 (share1 m c) cfg1.N]
  exact sep_mono (bigSep_mono fun w _ => known1 m c w) .rfl

theorem phi_in (c : Dev nD) :
    iprop(start (m2 m) c ∗ Pipeline.scopedRest (Ix := Unit) (Name := ℕ) (U := UU) (Lvl := ℕ) (Val := Elt F) spec1 c) ⊢ (Φ₀ (m2 m) c : sProp 𝕄) := by
  rw [scopedRest1_eq]
  unfold Φ₀ scr others1
  iintro ⟨Hs, ⟨A0, A1, A2, A3, A4, A5, A6, A7, A8, A9, A10, A11, A12, A13, R⟩⟩
  isplitl [Hs]; · iexact Hs
  isplitl [R]; · iexact R
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  iexact A13

theorem phi_out (c : Dev nD) :
    (Φ₁ c : sProp 𝕄) ⊢ iprop(unscopedSems0 c ∗ Pipeline.ownSems0 (Ix := Unit) (Name := ℕ) (U := UU) (Lvl := ℕ) (Val := Elt F) (τ := τ) osem c
      ∗ Pipeline.scopedRest (Ix := Unit) (Name := ℕ) (U := UU) (Lvl := ℕ) (Val := Elt F) spec1 c) := by
  unfold Φ₁ scr others1
  rw [sems_eq, scopedRest1_eq]
  iintro ⟨⟨R, A0, A1, A2, A3, A4, A5, A6, A7, A8, A9, A10, A11, A12, A13⟩, Hu, Ho⟩
  isplitl [Hu]; · iexact Hu
  isplitl [Ho]; · iexact Ho
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  iexact R

end Cert.KernelIdeal.Hand

end
-- ==== Proof.RunMain.lean ====
/- Every run of the program ends with the two calls' results in memory and every counter at zero. -/
module

public import proofs.«01_k».proof.Proof.Run
public import Idealize.ShloMosaic.Lib.Pipeline.CollectiveSegs

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligation HostSeg)
open Cert.KernelIdeal.Gen

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The regions -/

abbrev own0 (c : Dev nD) : sProp 𝕄 :=
  Pipeline.ownSems0 (Ix := Unit) (Name := ℕ) (U := UU) (Lvl := ℕ) (Val := Elt F) (τ := τ) (fun k : PEmpty => (k.elim : SemLoc sig)) c
abbrev own1 (c : Dev nD) : sProp 𝕄 := Pipeline.ownSems0 (Ix := Unit) (Name := ℕ) (U := UU) (Lvl := ℕ) (Val := Elt F) (τ := τ) osem c

theorem own0_intro (c : Dev nD) : (iprop(emp) : sProp 𝕄) ⊢ own0 c := by
  unfold own0 Pipeline.ownSems0; rw [Finset.univ_eq_empty, BI.bigSep_empty]; exact .rfl

theorem debt_at0 (c : Dev nD) (t : Fin (cfg0.N + 1)) : (debt c (O₀ c) : sProp 𝕄) ⊢ (rd0 m c).owesAt () t := by
  unfold RDat.owesAt Pipeline.owesWithin debt
  rw [show (rd0 m c).owed t = O₀ c from rfl]
  iintro ⟨%W, H⟩
  iexists W
  isplitr
  · ipureintro; exact fun _ _ => Or.inl trivial
  iexact H
theorem at0_debt (c : Dev nD) (t : Fin (cfg0.N + 1)) : (rd0 m c).owesAt () t ⊢ (debt c (O₀ c) : sProp 𝕄) := by
  unfold RDat.owesAt Pipeline.owesWithin debt
  rw [show (rd0 m c).owed t = O₀ c from rfl]
  iintro ⟨%W, -, H⟩
  iexists W
  iexact H
theorem debt_at1 (c : Dev nD) : (debt c (O₀ c) : sProp 𝕄) ⊢ (dats1 (m2 m) c).toR.owesAt () 0 := by
  unfold RDat.owesAt Pipeline.owesWithin debt
  rw [show (dats1 (m2 m) c).toR.owed 0 = O₀ c from rfl]
  iintro ⟨%W, H⟩
  iexists W
  isplitr
  · ipureintro; exact fun _ _ => Or.inl trivial
  iexact H
theorem at1_debt (c : Dev nD) : (dats1 (m2 m) c).toR.owesAt () (Fin.last cfg1.N) ⊢ (debt c 0 : sProp 𝕄) := by
  unfold RDat.owesAt Pipeline.owesWithin debt
  rw [show (dats1 (m2 m) c).toR.owed (Fin.last cfg1.N) = 0 from rfl]
  iintro ⟨%W, -, H⟩
  iexists W
  iexact H

def st (c : Dev nD) (W : Valuation τ sig (Elt F)) : sProp 𝕄 := iprop(heldAt c W ∗ E m c)

theorem pref_none0 (c : Dev nD) : (iprop(emp) : sProp 𝕄) ⊢ Pipeline.prefHeld ((pcfgs (F := F)) 0).pre c (fun _ => fullShare) (adm 0).1 :=
  Entails.of_eq (Pipeline.prefHeld_of_none ((pcfgs (F := F)) 0).pre rfl c (fun _ => fullShare) (adm 0).1).symm
theorem pref_none1 (c : Dev nD) : (iprop(emp) : sProp 𝕄) ⊢ Pipeline.prefHeld ((pcfgs (F := F)) 1).pre c (fun _ => fullShare) (adm 1).1 :=
  Entails.of_eq (Pipeline.prefHeld_of_none ((pcfgs (F := F)) 1).pre rfl c (fun _ => fullShare) (adm 1).1).symm

theorem enter0 (c : Dev nD) : iprop(st m c (V1 m c) ∗ own0 c ∗ levAts L lv)
    ⊢ (|={Set.univ}=> iprop((rdats m 0 c).arrays (rdats m 0 c).A ∗ Pipeline.prefHeld ((pcfgs (F := F)) 0).pre c (fun _ => fullShare) (adm 0).1
        ∗ (rd0 m c).owesAt () 0 ∗ emp ∗ (Pipeline.unscopedRest spec0 c fun b => V1 m c b) ∗ kept (m2 m) c) : sProp 𝕄) := by
  unfold st E
  iintro ⟨⟨Hh, Hk, Hd⟩, -, -⟩
  ihave H := (entry0 m c) $$ Hh
  icases H with ⟨Ha, Hr⟩
  ihave Hd := (debt_at0 m c 0) $$ Hd
  imodintro
  isplitl [Ha]; · iexact Ha
  isplitr; · iapply (pref_none0 c); iempintro
  isplitl [Hd]; · iexact Hd
  isplitr; · iempintro
  isplitl [Hr]; · iexact Hr
  iexact Hk

theorem leave0 (c : Dev nD) : iprop((rdats m 0 c).arraysAt cfg0.N ∗ (rd0 m c).owesAt () (Fin.last cfg0.N) ∗ emp
        ∗ (Pipeline.unscopedRest spec0 c fun b => V1 m c b) ∗ kept (m2 m) c)
    ⊢ (|={Set.univ}=> st m c (W2 m c) : sProp 𝕄) := by
  unfold st E
  iintro ⟨Ha, Hd, -, Hr, Hk⟩
  ihave Hd := (at0_debt m c (Fin.last cfg0.N)) $$ Hd
  imodintro
  isplitl [Ha Hr]
  · iapply (exit0 m c)
    isplitl [Ha] <;> iassumption
  isplitl [Hk]; · iexact Hk
  iexact Hd

theorem enter1 (c : Dev nD) : iprop(st m c (W2 m c) ∗ own1 c ∗ levAts L lv)
    ⊢ (|={Set.univ}=> iprop((rdats m 1 c).arrays (rdats m 1 c).A ∗ Pipeline.prefHeld ((pcfgs (F := F)) 1).pre c (fun _ => fullShare) (adm 1).1
        ∗ (dats1 (m2 m) c).toR.owesAt () 0 ∗ start (m2 m) c ∗ Pipeline.unscopedRest spec1 c fun b => W2 m c b) : sProp 𝕄) := by
  unfold st E
  iintro ⟨⟨Hh, Hk, Hd⟩, Ho, -⟩
  ihave H := (entry1 m c) $$ Hh
  icases H with ⟨Ha, Hr⟩
  ihave Hd := (debt_at1 m c) $$ Hd
  imod (start_of_kept (m2 m) c) $$ [Hk Ho] with Hs
  · isplitl [Hk] <;> iassumption
  imodintro
  isplitl [Ha]; · iexact Ha
  isplitr; · iapply (pref_none1 c); iempintro
  isplitl [Hd]; · iexact Hd
  isplitl [Hs]; · iexact Hs
  iexact Hr

/-- A device at the end: its buffers, its barrier's counter at zero. -/
def fin (c : Dev nD) : sProp 𝕄 := iprop(heldAt c (W3 m c) ∗ unscopedSems0 c)

theorem leave1 (c : Dev nD) : iprop((rdats m 1 c).arraysAt cfg1.N ∗ (dats1 (m2 m) c).toR.owesAt () (Fin.last cfg1.N) ∗ unscopedSems0 c
        ∗ Pipeline.unscopedRest spec1 c fun b => W2 m c b)
    ⊢ (|={Set.univ}=> iprop(fin m c ∗ debt c 0) : sProp 𝕄) := by
  unfold fin
  iintro ⟨Ha, Hd, Hu, Hr⟩
  ihave Hd := (at1_debt m c) $$ Hd
  imodintro
  isplitr [Hd]
  · isplitl [Ha Hr]
    · iapply (exit1 m c)
      isplitl [Ha] <;> iassumption
    iexact Hu
  iexact Hd

theorem into0 (c : Dev nD) : iprop(emp ∗ Pipeline.prefHeld ((pcfgs (F := F)) 0).pre c (fun _ => fullShare) (adm 0).1
    ∗ Pipeline.scopedRest (Ix := Unit) (Name := ℕ) (U := UU) (Lvl := ℕ) (Val := Elt F) spec0 c) ⊢ (scr0 m c 0 : sProp 𝕄) := by
  iintro ⟨-, -, H⟩
  iapply (scr0_in m c); iexact H
theorem outof0 (c : Dev nD) : (scr0 m c cfg0.N : sProp 𝕄)
    ⊢ iprop(emp ∗ own0 c ∗ Pipeline.scopedRest (Ix := Unit) (Name := ℕ) (U := UU) (Lvl := ℕ) (Val := Elt F) spec0 c) := by
  iintro H
  isplitr; · iempintro
  isplitr
  · iapply (own0_intro c); iempintro
  iapply (scr0_out m c cfg0.N); iexact H
theorem into1 (c : Dev nD) : iprop(start (m2 m) c ∗ Pipeline.prefHeld ((pcfgs (F := F)) 1).pre c (fun _ => fullShare) (adm 1).1
    ∗ Pipeline.scopedRest (Ix := Unit) (Name := ℕ) (U := UU) (Lvl := ℕ) (Val := Elt F) spec1 c) ⊢ (Φ₀ (m2 m) c : sProp 𝕄) := by
  iintro ⟨Hs, -, H⟩
  iapply (phi_in m c)
  isplitl [Hs] <;> iassumption

def R0 : Pipeline.RDat.RegionSeg (pcfgs (F := F)) adm (rdats m) () defs₀ 𝒱₀ L lv 0 where
  win := winFacts0.to₀
  block_pos w := by fin_cases w <;> exact Nat.succ_pos _
  stage_whole := stage_whole0
  K := PEmpty
  osem k := k.elim
  ho := ⟨fun k => k.elim, fun k => k.elim, fun k => k.elim⟩
  hbody := body0 m
  hwaits := waits0 m
  pre c := st m c (V1 m c)
  post c := st m c (W2 m c)
  X _ := iprop(emp)
  Y _ := iprop(emp)
  Z c := iprop((Pipeline.unscopedRest spec0 c fun b => V1 m c b) ∗ kept (m2 m) c)
  hentry := enter0 m
  hin := into0 m
  hout := outof0 m
  hexit := leave0 m

def R1 : Pipeline.RDat.RegionSeg (pcfgs (F := F)) adm (rdats m) () defs₀ 𝒱₀ L lv 1 where
  win := winFacts1.to₀
  block_pos w := by fin_cases w <;> exact Nat.succ_pos _
  stage_whole := stage_whole1
  K := Own
  osem := osem
  ho := ownSemFacts
  hbody c := (body_obligation (m2 m) c).toR
  hwaits := waits1 m
  pre c := st m c (W2 m c)
  post c := iprop(fin m c ∗ debt c 0)
  X := start (m2 m)
  Y c := unscopedSems0 c
  Z c := Pipeline.unscopedRest spec1 c fun b => W2 m c b
  hentry := enter1 m
  hin := into1 m
  hout := phi_out
  hexit := leave1 m

def items : List (Pipeline.RDat.Seg (pcfgs (F := F)) adm (rdats m) () defs₀ 𝒱₀ L lv) :=
  [.host (seg0 m 𝒱₀ L lv fun _ c => E m c), .region (R0 m), .region (R1 m)]

/-! ## The launch -/

theorem three_sep {ι : Type} [Fintype ι] (A B C : ι → sProp 𝕄) : (bigSep Finset.univ fun i => iprop(A i ∗ B i ∗ C i))
    = iprop(bigSep Finset.univ A ∗ bigSep Finset.univ B ∗ bigSep Finset.univ C) := by
  rw [bigSep_sep', bigSep_sep']

theorem launch_one (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ G c)
      ⊢ (iprop(heldAt c (V0 m c) ∗ debt c (O₀ c)
          ∗ (semVal (cell c .bar) 0 ∗ cred (tallyAt (cell c .bar) () 7) ∗ sepL (due c) (dueK c)) ∗ G c) : sProp 𝕄) := by
  iintro ⟨Hb, Hs, Ho, Hc, -, HG⟩
  ihave Hs := (Entails.of_eq (unscoped_eq c)) $$ Hs
  ihave Hc := (creds c) $$ Hc
  ihave Hb := (Entails.of_eq (bufs_eq c (V0 m c)).symm) $$ Hb
  isplitl [Hb]; · iexact Hb
  isplitl [Ho]
  · unfold debt
    iexists _; iexact Ho
  isplitl [Hs Hc]
  · isplitl [Hs] <;> iassumption
  iexact HG

theorem launch : iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ fun c => st m c (V0 m c) : sProp 𝕄) := by
  have hsplit : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ G c))
      ⊢ (bigSep Finset.univ fun c : Dev nD => iprop(heldAt c (V0 m c) ∗ debt c (O₀ c)
          ∗ (semVal (cell c .bar) 0 ∗ cred (tallyAt (cell c .bar) () 7) ∗ sepL (due c) (dueK c)) ∗ G c) : sProp 𝕄) :=
    bigSep_mono fun c _ => launch_one m ρ c
  refine (sep_mono hsplit .rfl).trans ?_
  rw [four_sep]
  iintro ⟨⟨Hh, Hd, Hc, HG⟩, Hla⟩
  ihave HG := G_elim $$ HG
  imod (deal (m2 m)) $$ [Hc HG Hla] with Hk
  · isplitl [Hc]; · iexact Hc
    isplitl [HG] <;> iassumption
  imodintro
  unfold st E
  iapply (Entails.of_eq (three_sep (fun c : Dev nD => (heldAt c (V0 m c) : sProp 𝕄)) (fun c => kept (m2 m) c) fun c => debt c (O₀ c)).symm)
  isplitl [Hh]; · iexact Hh
  isplitl [Hk] <;> iassumption

/-! ## The run -/

/-- What a run ends with. -/
def QC : PUnit × MemSt nD τ sig (Elt F) → Prop := fun r => ∀ c : Dev nD, ∀ b ∈ Pipeline.ucRefs τ sig, r.2.mem (c, b) = W3 m c b

theorem read_end (c : Dev nD) (s' : Phys nD τ sig (Elt F)) : iprop(fin m c ∗ SI s')
    ⊢ (|={Set.univ}=> iprop(⌜(∀ b ∈ Pipeline.ucRefs τ sig, s'.mem.mem (c, b) = W3 m c b)
        ∧ ∀ sm : SemLoc sig, sm.isScoped .tc = false → s'.mem.sem ((c.tc : Thread nD τ), sm) = 0⌝ ∗ SI s') : sProp 𝕄) := by
  unfold fin heldAt StableHlo.held
  iintro ⟨⟨Hh, Hu⟩, HSI⟩
  ihave Hr := (pointsTo_read_all (Pipeline.ucRefs τ sig) (fun b => ((c : Thread nD τ).1, b)) (W3 m c) s') $$ [Hh HSI]
  · isplitl [Hh] <;> iassumption
  icases Hr with ⟨%h, HSI⟩
  imod (Pipeline.unscopedSems0_read (X := unscopedSems0 c) (c := c) fupd_intro s') $$ [Hu HSI] with ⟨%h', HSI⟩
  · isplitl [Hu] <;> iassumption
  imodintro
  isplitr
  · ipureintro; exact ⟨h, h'⟩
  iexact HSI

set_option maxRecDepth 32768 in
set_option backward.isDefEq.respectTransparency.types false in
/-- From any memory with every counter at zero, every fair execution on the eight devices terminates; it ends with the
    buffers at `W3` and every counter at zero. -/
theorem run_main : θ_run defs (onTc (τ := τ) (main (F := F))) ⟨m, fun _ => 0, ρ⟩ (fun r => QC m r ∧ r.2.sem = fun _ => 0) := by
  refine Pipeline.RDat.θ_run_regions_kit_sems (pcfgs (F := F)) adm (rdats m) () cellOf_inj EP defs₀ 𝒱₀ L lv m ρ main (items m)
    (fun c Q => by
      rewrite [main_chain c, Pipeline.RDat.Seg.run_eq_chain,
        show (items m).map Pipeline.RDat.Seg.prog = [
          StableHlo.seq hostOps0,
          Prog.lift (.customCall (Pipeline.entry 0) ()),
          Prog.lift (.customCall (Pipeline.entry 1) ()) ] from rfl]
      exact .rfl)
    (by simp only [items, Pipeline.RDat.Seg.pipes_host, Pipeline.RDat.Seg.pipes_region, Pipeline.RDat.Seg.pipes_nil]; decide) O₀ L_of_ne G u₀ ?_
    (T₀ := fun c => st m c (V0 m c)) (Tₙ := fin m)
    (hch := ⟨fun _ => .rfl, fun _ => .rfl, fun _ => .rfl, fun _ => .rfl⟩)
    (hinit := launch m ρ) (QY := fun c s => (∀ b ∈ Pipeline.ucRefs τ sig, s.mem (c, b) = W3 m c b)
      ∧ ∀ sm : SemLoc sig, sm.isScoped .tc = false → s.sem ((c.tc : Thread nD τ), sm) = 0)
    (hfin := read_end m)
    (hQ := fun s h hs => ⟨fun c => (h c).1, sem_eq_zero hs fun c => (h c).2⟩)
  unfold u₀
  iintro Hu
  ihave H := (ownU_pair _ _) $$ Hu
  icases H with ⟨HP, HX⟩
  ihave HX := G_intro $$ HX
  imodintro
  isplitl [HP] <;> iassumption

end Cert.KernelIdeal.Hand

end
-- ==== Proof.Frames.lean ====
/- The frames: the kernel's run leaves its arguments as they were and every counter at zero, at any float values. -/
module

public import proofs.«01_k».proof.Defs
public import proofs.«01_k».proof.Proof.RunMain
public import proofs.«01_k».proof.Proof.Gen.Kernel

@[expose] public section

noncomputable section

namespace Cert.KernelIdeal.Hand

open Idealize.ShloMosaic Idealize.ShloMosaic.TcCoe Idealize.SL.Sem
open Cert.KernelIdeal.Gen

section
variable {F : FTy → Type} [FloatOps F] [Named F]
variable (m : (ℓ : Loc nD τ sig) → Buf (Elt F) ℓ) (ρ : Dev nD → PrngReg)

/-- A buffer no call writes, after the run. -/
theorem kept_of (r : PUnit × MemSt nD τ sig (Elt F)) (h : QC m r) (c : Dev nD) (b : Ref sig .tc) (hb : (Proc.devRef .tc b : DevRef τ sig) ∈ Pipeline.ucRefs τ sig) (h4 : b ≠ main_v4)
    (h0 : b ≠ main_v3_0) (h1 : b ≠ main_v3_1) (h2 : b ≠ main_v3_2) (hh : b ∉ hostOps0_W) :
    r.2.mem ((c.tc : Thread nD τ).loc b) = m ((c.tc : Thread nD τ).loc b) :=
  (h c (Proc.devRef .tc b) hb).trans (W3_arg m c b h4 h0 h1 h2 hh)

theorem mem_uc (b : Ref sig .tc) (h : ¬ b.isScoped) : (Proc.devRef .tc b : DevRef τ sig) ∈ Pipeline.ucRefs τ sig :=
  Finset.mem_filter.mpr ⟨StableHlo.devRef_mem_tcRefs b, h⟩

/-- The arguments after the run. -/
theorem args_kept (r : PUnit × MemSt nD τ sig (Elt F)) (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨kept_of m r h c main_arg0 (mem_uc _ (by decide)) (by decide) (by decide) (by decide) (by decide) (by decide),
    kept_of m r h c main_arg1 (mem_uc _ (by decide)) (by decide) (by decide) (by decide) (by decide) (by decide),
    kept_of m r h c main_arg2 (mem_uc _ (by decide)) (by decide) (by decide) (by decide) (by decide) (by decide),
    kept_of m r h c main_arg3 (mem_uc _ (by decide)) (by decide) (by decide) (by decide) (by decide) (by decide),
    kept_of m r h c main_arg4 (mem_uc _ (by decide)) (by decide) (by decide) (by decide) (by decide) (by decide)⟩

theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨args_kept m r h.1, h.2⟩) (run_main m ρ)
end

theorem frame_ideal : Cert.quiescent_KernelIdeal := fun m ρ _ => run_frame m ρ

/-- At the machine's floats a named constant is read as the bits printed. -/
local instance : Named Bits where
  named _ _ {φ} bits := Scalar.ofBits φ bits

/-- The two printed programs have the same body table there. -/
theorem bodies_eq : Cert.Kernel.defs₀ (F := Bits) = Cert.KernelIdeal.defs₀ (F := Bits) := by
  refine congrArg Defs.onTc (funext fun l => funext fun a => ?_)
  match l, a with
  | 0, (t, s) => rfl
  | 1, (t, s) => rfl
  | ⟨_ + 2, h⟩, _ => exact absurd h (Nat.not_lt.2 (Nat.le_add_left _ _))
theorem defs_eq : Cert.Kernel.defs (F := Bits) = Cert.KernelIdeal.defs (F := Bits) := by
  unfold Cert.Kernel.defs Cert.KernelIdeal.defs
  exact congrArg (Pipeline.defs Cert.Kernel.pcfgs) bodies_eq

/-- The kernel as printed is the same text, read at the machine's floats. -/
theorem frame_kernel : Cert.quiescent_Kernel := fun m ρ _ => by
  rw [defs_eq]
  exact run_frame (F := Bits) m ρ

end Cert.KernelIdeal.Hand

end
-- ==== Proof.Inputs.lean ====
/- What the attention call reads: the arguments, the keys and the values with their heads laid side by side. -/
module

public import proofs.«01_k».proof.Proof.Run
public import Idealize.ShloMosaic.Lib.Claim

@[expose] public section

noncomputable section

namespace Cert.KernelIdeal.Hand

open Idealize.ShloMosaic Idealize.ShloMosaic.TcCoe Idealize.ShloMosaic.ValueIdx Idealize.SL.Sem Idealize.ShloMosaic.StableHlo
open Cert.KernelIdeal.Gen Cert.KernelIdeal.Att

variable {F : FTy → Type} [FloatOps F] [Named F]
variable (m : (ℓ : Loc nD τ sig) → Buf (Elt F) ℓ)

theorem V1_keys (c : Dev nD) : V1 m c main_v1 = shapeCast S2048x1024 (m ((c.tc : Thread nD τ).loc main_arg2)) shapeCasts_S1x2048x8x128_S2048x1024 := by
  unfold_abbrev_sides
  after_results
  rfl
theorem V1_vals (c : Dev nD) : V1 m c main_v2 = shapeCast S2048x1024 (m ((c.tc : Thread nD τ).loc main_arg3)) shapeCasts_S1x2048x8x128_S2048x1024 := by
  unfold_abbrev_sides
  after_results
  rfl

theorem flat_apply {α : Type} (x : S1x2048x8x128.Idx → α) (j : Fin 2048) (h : Fin 8) (t : Fin 128) (hl) :
    shapeCast S2048x1024 x shapeCasts_S1x2048x8x128_S2048x1024 (ix2 j (⟨128 * h.val + t.val, hl⟩ : Fin 1024)) = x (ix4 (0 : Fin 1) j h t) :=
  shapeCast_apply x _ (ix2 j (⟨128 * h.val + t.val, hl⟩ : Fin 1024)) (ix4 (0 : Fin 1) j h t) (by
    rw [Shape.rowMajor_val_two, Shape.rowMajor_val_four]
    show ((0 * 2048 + j.val) * 8 + h.val) * 128 + t.val = j.val * 1024 + (128 * h.val + t.val)
    omega)

theorem kA_apply (c : Dev nD) (h : Fin 8) (j : Fin 2048) (t : Fin 128) :
    kA m c h (ix2 j t) = m ((c.tc : Thread nD τ).loc main_arg2) (ix4 (0 : Fin 1) j h t) := by
  unfold kA
  rw [V1_keys]
  exact flat_apply _ j h t _
theorem vA_apply (c : Dev nD) (h : Fin 8) (j : Fin 2048) (t : Fin 128) :
    vA m c h (ix2 j t) = m ((c.tc : Thread nD τ).loc main_arg3) (ix4 (0 : Fin 1) j h t) := by
  unfold vA
  rw [V1_vals]
  exact flat_apply _ j h t _

theorem wA_apply (c : Dev nD) (h : Fin 8) (k : Fin 1024) (t : Fin 128) (hl) :
    wA m c h (ix2 k t) = m ((c.tc : Thread nD τ).loc main_arg1) (ix2 k (⟨128 * h.val + t.val, hl⟩ : Fin 1024)) := by
  unfold wA
  rw [V1_of m c main_arg1 (by decide)]
  rfl
theorem xA_eq (c : Dev nD) : xA m c = m ((c.tc : Thread nD τ).loc main_arg0) := by
  unfold xA
  rw [V1_of m c main_arg0 (by decide)]

end Cert.KernelIdeal.Hand

end
-- ==== Proof.Finite.lean ====
/- What the precondition says: the rows, the projection and the keys are real numbers. -/
module

public import proofs.«01_k».proof.Pre_finite_KernelIdeal
public import proofs.«01_k».proof.Proof.Gen.Pre_finite_KernelIdeal
public import Idealize.ShloMosaic.Lib.ReduceAll
public import Idealize.ShloMosaic.Lib.IdealHost
public import Idealize.ShloMosaic.Lib.ValueIdx

@[expose] public section

noncomputable section

namespace Cert.Finite

open Idealize.ShloMosaic Idealize.ShloMosaic.ValueIdx

/-- A number of the extended reals that is a real. -/
abbrev Real' (x : EReal) : Prop := ∃ r : ℝ, x = (r : EReal)

theorem real_of_ne {x : EReal} (h : x ≠ ⊤) (h' : x ≠ ⊥) : Real' x := ⟨x.toReal, (EReal.coe_toReal h h').symm⟩

theorem real_mul {x y : EReal} : Real' x → Real' y → Real' (x * y) := fun ⟨a, ha⟩ ⟨b, hb⟩ => ⟨a * b, by rw [ha, hb, EReal.coe_mul]⟩
theorem real_add {x y : EReal} : Real' x → Real' y → Real' (x + y) := fun ⟨a, ha⟩ ⟨b, hb⟩ => ⟨a + b, by rw [ha, hb, EReal.coe_add]⟩
theorem real_sum {n : ℕ} (f : Fin n → EReal) (h : ∀ k, Real' (f k)) : Real' (∑ k, f k) := by
  refine Finset.induction_on (Finset.univ : Finset (Fin n)) ?_ fun a S ha ih => ?_
  · exact ⟨0, by rw [Finset.sum_empty]; rfl⟩
  · rw [Finset.sum_insert ha]
    exact real_add (h a) ih

theorem bits_inf : Ideal.ofBits .f32 0x7F800000#32 = ⊤ := by simp [Ideal.ofBits, Ideal.ieee]

/-- An absolute value below infinity. -/
theorem real_of_lt (x : EReal) (h : Ideal.cmp .olt (max x (-x)) (Ideal.ofBits .f32 0x7F800000#32) = 1#1) : Real' x := by
  rw [bits_inf] at h
  have hlt : max x (-x) < ⊤ := by
    by_contra hc
    rw [show Ideal.cmp .olt (max x (-x)) ⊤ = BitVec.ofBool (decide (max x (-x) < ⊤)) from rfl, decide_eq_false hc] at h
    exact absurd h (by decide)
  refine real_of_ne (fun e => ?_) (fun e => ?_) <;> subst e <;> simp at hlt

variable (x : FVec Ideal Cert.Pre_finite_KernelIdeal.S1x2048x1024 .f32) (w : FVec Ideal Cert.Pre_finite_KernelIdeal.S1024x1024 .f32)
  (k v : FVec Ideal Cert.Pre_finite_KernelIdeal.S1x2048x8x128 .f32) (wo : FVec Ideal Cert.Pre_finite_KernelIdeal.S1024x1024 .f32)

/-- The precondition, read entry by entry. -/
theorem pre_real (h : Cert.Pre_finite_KernelIdeal.fn (F := Ideal) x w k v wo = fun _ => 1#1) :
    (∀ i, Real' (x i)) ∧ (∀ i, Real' (w i)) ∧ ∀ i, Real' (k i) := by
  have e := congrFun h (fun a => a.elim0)
  obtain ⟨e1, e3⟩ := IntOp.andi_eq_one.mp e
  obtain ⟨e1, e2⟩ := IntOp.andi_eq_one.mp e1
  have : Subsingleton (Cert.Pre_finite_KernelIdeal.S_).Idx := ⟨fun a b => funext fun i => i.elim0⟩
  exact ⟨fun i => real_of_lt _ (Host.reduce_andi_all _ _ _ _ _ e1 i), fun i => real_of_lt _ (Host.reduce_andi_all _ _ _ _ _ e2 i),
    fun i => real_of_lt _ (Host.reduce_andi_all _ _ _ _ _ e3 i)⟩

end Cert.Finite

end
-- ==== Proof.DotAt.lean ====
/- Products with one contracted axis, read at an index over the extended reals, their operands' places given. -/
module

public import Idealize.ShloMosaic.Lib.ValueIdx
public import Idealize.ShloMosaic.Lib.KernelVsHost
public import Idealize.ShloMosaic.Lib.StackMember
public import Idealize.ShloMosaic.Lib.IdealHost
public import Idealize.ShloMosaic.Lib.Pipeline.Value

@[expose] public section

noncomputable section

namespace Cert.DotAt

open Idealize.ShloMosaic Idealize.ShloMosaic.ValueIdx

variable {sl sr so : Shape} {φ₁ φ₂ : FTy}

/-- The host's product at an index. -/
theorem dot_at (D : DotDims sl sr so) {K : ℕ} (hr : D.contr.rank = 1) (hs : D.contr.size ⟨0, by omega⟩ = K)
    (A : FVec Ideal sl φ₁) (B : FVec Ideal sr φ₂) (j : so.Idx) (L : Fin K → sl.Idx) (R : Fin K → sr.Idx)
    (hL : ∀ k, D.lhsIdx j ((contrEquiv1 D K hr hs).symm k) = L k) (hR : ∀ k, D.rhsIdx j ((contrEquiv1 D K hr hs).symm k) = R k) :
    (Host.dotGeneral D none A B j : EReal) = ∑ k : Fin K, (A (L k) : EReal) * (B (R k) : EReal) := by
  show FloatOps.dotGeneral D none _ A B j = _
  rw [Ideal.dotGeneral_apply, ← Equiv.sum_comp (contrEquiv1 D K hr hs).symm]
  exact Finset.sum_congr rfl fun k _ => by rw [hL, hR]

/-- The kernel's product into zero at an index. -/
theorem matmul_at (D : DotDims sl sr so) {K : ℕ} (hr : D.contr.rank = 1) (hs : D.contr.size ⟨0, by omega⟩ = K)
    (A : FVec Ideal sl φ₁) (B : FVec Ideal sr φ₂) (j : so.Idx) (L : Fin K → sl.Idx) (R : Fin K → sr.Idx)
    (hL : ∀ k, D.lhsIdx j ((contrEquiv1 D K hr hs).symm k) = L k) (hR : ∀ k, D.rhsIdx j ((contrEquiv1 D K hr hs).symm k) = R k) :
    (matmul D none A B (constant so .f32 0x00000000#32) j : EReal) = ∑ k : Fin K, (A (L k) : EReal) * (B (R k) : EReal) := by
  rw [matmul_zero_eq_dotGeneral]
  exact dot_at D hr hs A B j L R hL hR

/-- The contracted coordinate is the one summed over. -/
theorem contr_val (D : DotDims sl sr so) {K : ℕ} (hr : D.contr.rank = 1) (hs : D.contr.size ⟨0, by omega⟩ = K) (k : Fin K) :
    (((contrEquiv1 D K hr hs).symm k) ⟨0, by omega⟩ : ℕ) = k.val := contrEquiv1_symm_val D K hr hs k

end Cert.DotAt

end
-- ==== Proof.Merge.lean ====
/- Merging weighted sums by a running maximum, over the extended reals: what a chain of merges computes is the sum of all
   terms, each weighted by the exponential of its own exponent less the largest one. No exponent is excluded. -/
module

public import Idealize.ShloMosaic.PureOps.Ideal

@[expose] public section

noncomputable section

namespace Cert.Merge

open Idealize.ShloMosaic

theorem coe_sub_top (r : ℝ) : (r : EReal) - ⊤ = ⊥ := by rw [sub_eq_add_neg, EReal.neg_top, EReal.add_bot]

theorem exp_nonneg (x : EReal) : 0 ≤ Ideal.exp x := by
  induction x with
  | bot => exact le_refl _
  | top => exact le_top
  | coe r => exact EReal.coe_nonneg.2 (Real.exp_pos r).le

/-- An exponent less one that is at least as large has a finite exponential. -/
theorem exp_ne_top {s M : EReal} (h : s ≤ M) : Ideal.exp (s - M) ≠ ⊤ := by
  induction s with
  | bot => rw [EReal.bot_sub]; exact EReal.zero_ne_top
  | top => obtain rfl := top_le_iff.1 h; exact EReal.zero_ne_top
  | coe r =>
    induction M with
    | bot => exact absurd h (not_le.2 (EReal.bot_lt_coe r))
    | top => rw [coe_sub_top]; exact EReal.zero_ne_top
    | coe M => rw [← EReal.coe_sub]; exact EReal.coe_ne_top _

/-- Two rescalings in a row are one. -/
theorem exp_chain {s M M' : EReal} (h : s ≤ M) (h' : M ≤ M') :
    Ideal.exp (s - M) * Ideal.exp (M - M') = Ideal.exp (s - M') := by
  have z : Ideal.exp ⊥ = 0 := rfl
  induction s with
  | bot => rw [EReal.bot_sub, EReal.bot_sub, z, zero_mul]
  | top =>
    obtain rfl := top_le_iff.1 h
    obtain rfl := top_le_iff.1 h'
    rw [show (⊤ - ⊤ : EReal) = ⊥ from rfl, z, zero_mul]
  | coe r =>
    induction M with
    | bot => exact absurd h (not_le.2 (EReal.bot_lt_coe r))
    | top =>
      obtain rfl := top_le_iff.1 h'
      rw [coe_sub_top, z, zero_mul]
    | coe M =>
      induction M' with
      | bot => exact absurd h' (not_le.2 (EReal.bot_lt_coe M))
      | top => rw [coe_sub_top, coe_sub_top, z, mul_zero]
      | coe M' =>
        rw [← EReal.coe_sub, ← EReal.coe_sub, ← EReal.coe_sub]
        show ((Real.exp (r - M) : ℝ) : EReal) * ((Real.exp (M - M') : ℝ) : EReal) = ((Real.exp (r - M') : ℝ) : EReal)
        rw [← EReal.coe_mul, ← Real.exp_add, sub_add_sub_cancel]

/-- One merge: an accumulated pair of maximum and sum with an arriving pair of exponent and term. -/
def step (a p : EReal × EReal) : EReal × EReal :=
  (max a.1 p.1, a.2 * Ideal.exp (a.1 - max a.1 p.1) + p.2 * Ideal.exp (p.1 - max a.1 p.1))

/-- The terms of a list, weighted against an exponent. -/
def weighted (M : EReal) (l : List (EReal × EReal)) : EReal := (l.map fun p => Ideal.exp (p.1 - M) * p.2).sum

/-- A finite rescaling goes into a weighted sum. -/
theorem weighted_rescale {M M' : EReal} (h' : M ≤ M') : ∀ l : List (EReal × EReal), (∀ p ∈ l, p.1 ≤ M) →
    weighted M l * Ideal.exp (M - M') = weighted M' l
  | [], _ => zero_mul _
  | p :: l, h => by
    have ih := weighted_rescale h' l fun q hq => h q (List.mem_cons_of_mem _ hq)
    unfold weighted at ih ⊢
    rw [List.map_cons, List.sum_cons, List.map_cons, List.sum_cons,
      EReal.right_distrib_of_nonneg_of_ne_top (exp_nonneg _) (exp_ne_top h'), ih, mul_right_comm,
      exp_chain (h p (List.mem_cons_self ..)) h']

theorem weighted_append (M : EReal) (l : List (EReal × EReal)) (p : EReal × EReal) :
    weighted M (l ++ [p]) = weighted M l + p.2 * Ideal.exp (p.1 - M) := by
  unfold weighted
  rw [List.map_append, List.sum_append, List.map_singleton, List.sum_singleton, mul_comm p.2]

/-- A chain of merges leaves the largest exponent and the sum weighted against it. -/
theorem merges (p₀ : EReal × EReal) (l : List (EReal × EReal)) (hl : l ≠ []) :
    ∃ M : EReal, (∀ p ∈ p₀ :: l, p.1 ≤ M) ∧ (∃ p ∈ p₀ :: l, p.1 = M) ∧ l.foldl step p₀ = (M, weighted M (p₀ :: l)) := by
  induction l using List.reverseRecOn with
  | nil => exact absurd rfl hl
  | append_singleton l p ih =>
    rw [List.foldl_append, List.foldl_cons, List.foldl_nil]
    rcases List.eq_nil_or_concat l with e | ⟨l', q, e⟩
    · subst e
      refine ⟨max p₀.1 p.1, ?_, ?_, Prod.ext rfl ?_⟩
      · intro q hq
        rcases List.mem_cons.1 hq with rfl | hq
        · exact le_max_left _ _
        · obtain rfl := List.mem_singleton.1 hq; exact le_max_right _ _
      · rcases max_choice p₀.1 p.1 with e | e
        · exact ⟨p₀, List.mem_cons_self .., e.symm⟩
        · exact ⟨p, List.mem_cons_of_mem _ (List.mem_singleton.2 rfl), e.symm⟩
      · show p₀.2 * Ideal.exp (p₀.1 - max p₀.1 p.1) + p.2 * Ideal.exp (p.1 - max p₀.1 p.1) = weighted (max p₀.1 p.1) ([p₀] ++ [p])
        rw [weighted_append]
        unfold weighted
        rw [List.map_singleton, List.sum_singleton, mul_comm p₀.2]
    · obtain ⟨M, hle, hex, he⟩ := ih (by rw [e]; simp)
      refine ⟨max M p.1, ?_, ?_, ?_⟩
      · intro q hq
        rw [← List.cons_append] at hq
        rcases List.mem_append.1 hq with hq | hq
        · exact (hle q hq).trans (le_max_left _ _)
        · obtain rfl := List.mem_singleton.1 hq; exact le_max_right _ _
      · rw [← List.cons_append]
        rcases max_choice M p.1 with e | e
        · obtain ⟨q, hq, hqe⟩ := hex
          exact ⟨q, List.mem_append_left _ hq, hqe.trans e.symm⟩
        · exact ⟨p, List.mem_append_right _ (List.mem_singleton.2 rfl), e.symm⟩
      · rw [he, ← List.cons_append, weighted_append, ← weighted_rescale (le_max_left M p.1) _ hle]
        rfl

/-! ## Over the eight devices -/

/-- The largest of the devices' exponents. -/
def top (s : Fin 8 → EReal) : EReal := Finset.univ.fold max ⊥ s

/-- The devices' terms, weighted against the largest exponent. -/
def comb (s x : Fin 8 → EReal) : EReal := ∑ q : Fin 8, Ideal.exp (s q - top s) * x q

theorem top_eq {s : Fin 8 → EReal} {M : EReal} (h : ∀ q, s q ≤ M) (h' : ∃ q, s q = M) : top s = M := by
  obtain ⟨q, rfl⟩ := h'
  exact le_antisymm ((Finset.fold_max_le _).2 ⟨bot_le, fun p _ => h p⟩) ((Finset.le_fold_max _).2 (Or.inr ⟨q, Finset.mem_univ _, le_refl _⟩))

/-- The merges of a device's pair with the others', in whatever order, give the largest exponent and the whole weighted sum. -/
theorem merges_all (s x : Fin 8 → EReal) (c : Fin 8) (l : List (Fin 8)) (hl : l ≠ []) (h : (c :: l).Perm (List.finRange 8)) :
    (l.map fun q => (s q, x q)).foldl step (s c, x c) = (top s, comb s x) := by
  obtain ⟨M, hle, ⟨p, hp, hpM⟩, he⟩ := merges (s c, x c) (l.map fun q => (s q, x q)) (by simpa using hl)
  rw [← List.map_cons (f := fun q => (s q, x q))] at hle hp he
  have hM : top s = M := by
    refine top_eq (fun q => hle (s q, x q) (List.mem_map.2 ⟨q, h.mem_iff.2 (List.mem_finRange q), rfl⟩)) ?_
    obtain ⟨q, _, rfl⟩ := List.mem_map.1 hp
    exact ⟨q, hpM⟩
  rw [he, hM]
  refine Prod.ext rfl ?_
  unfold weighted comb
  rw [hM, Fin.sum_univ_def, ((h.map fun q => (s q, x q)).map fun p => Ideal.exp (p.1 - M) * p.2).sum_eq, List.map_map]
  rfl

end Cert.Merge

end
-- ==== Proof.Soft.lean ====
/- Softmax over keys spread over eight devices, each keeping a maximum, a denominator and a weighted sum over the allowed
   keys it has: what the pieces combine to is the softmax over all keys, the keys that are not allowed having a score of
   minus infinity. -/
module

public import proofs.«01_k».proof.Proof.Merge
public import Mathlib.Tactic.FinCases

@[expose] public section

noncomputable section

namespace Cert.Soft

open Idealize.ShloMosaic Cert.Merge

/-! ## Largest elements -/

/-- The largest of a row. -/
def mx {n : ℕ} (f : Fin n → EReal) : EReal := Finset.univ.fold max ⊥ f

theorem le_mx {n : ℕ} (f : Fin n → EReal) (k : Fin n) : f k ≤ mx f := (Finset.le_fold_max _).2 (Or.inr ⟨k, Finset.mem_univ _, le_refl _⟩)

theorem mx_le {n : ℕ} {f : Fin n → EReal} {M : EReal} (h : ∀ k, f k ≤ M) : mx f ≤ M := (Finset.fold_max_le _).2 ⟨bot_le, fun k _ => h k⟩

/-- The largest is minus infinity or one of the row. -/
theorem mx_mem {n : ℕ} (f : Fin n → EReal) : mx f = ⊥ ∨ ∃ k, f k = mx f := by
  rcases (Finset.le_fold_max (b := ⊥) (s := Finset.univ) (f := f) (mx f)).1 (le_refl _) with h | ⟨k, _, h⟩
  · exact Or.inl (le_bot_iff.1 h)
  · exact Or.inr ⟨k, le_antisymm (le_mx f k) h⟩

/-! ## Sums of weighted terms -/

/-- A finite factor goes into a sum. -/
theorem mul_sum {n : ℕ} {x : EReal} (h : 0 ≤ x) (h' : x ≠ ⊤) (f : Fin n → EReal) : x * ∑ k, f k = ∑ k, x * f k := by
  refine Finset.induction_on (Finset.univ : Finset (Fin n)) ?_ fun a S ha ih => ?_
  · rw [Finset.sum_empty, Finset.sum_empty, mul_zero]
  · rw [Finset.sum_insert ha, Finset.sum_insert ha, EReal.left_distrib_of_nonneg_of_ne_top h h', ih]

/-- A weighted sum taken against a larger exponent. -/
theorem rescale {n : ℕ} (s v : Fin n → EReal) {M M' : EReal} (h : ∀ k, s k ≤ M) (h' : M ≤ M') :
    Ideal.exp (M - M') * ∑ k, Ideal.exp (s k - M) * v k = ∑ k, Ideal.exp (s k - M') * v k := by
  rw [mul_sum (exp_nonneg _) (exp_ne_top h')]
  refine Finset.sum_congr rfl fun k _ => ?_
  rw [← mul_assoc, mul_comm (Ideal.exp (M - M')), exp_chain (h k) h']

theorem exp_masked (p : Prop) [Decidable p] (s T v : EReal) :
    Ideal.exp ((if p then s else ⊥) - T) * v = if p then Ideal.exp (s - T) * v else 0 := by
  split_ifs
  · rfl
  · rw [EReal.bot_sub, show Ideal.exp ⊥ = 0 from rfl, zero_mul]

/-! ## The allowed keys, by blocks -/

/-- Whether a block of rows may use a key: the key's block is its own, or the first, or the two numbers add to a multiple of three. -/
abbrev al (b J : ℕ) : Prop := b = J / 64 ∨ J / 64 = 0 ∨ (b + J / 64) % 3 = 0

/-- The first block of a device with which a block of rows adds to a multiple of three. -/
abbrev b0 (b q : ℕ) : ℕ := (2 * b + q) % 3

/-- Whether the first block and the rows' own block are kept apart: they are the first device's, and not of the other kind. -/
abbrev apart (b q : ℕ) : Prop := q = 0 ∧ b % 3 ≠ 0

/-- Every third block from a first one. -/
theorem sum_thirds (F : ℕ → EReal) (b₀ : ℕ) (h : b₀ < 3) :
    (∑ l : Fin 32, if l.val % 3 = b₀ then F l.val else 0) = ∑ j : Fin 11, if b₀ + 3 * j.val < 32 then F (b₀ + 3 * j.val) else 0 := by
  interval_cases b₀ <;> simp [Fin.sum_univ_succ]

/-- The allowed blocks of a device are every third block and, on the first device, the two kept apart. -/
theorem sum_blocks (F : ℕ → EReal) (b q : ℕ) (hb : b < 32) (hq : q < 8) :
    (∑ l : Fin 32, if al b (2048 * q + 64 * l.val) then F l.val else 0)
      = (∑ j : Fin 11, if b0 b q + 3 * j.val < 32 then F (b0 b q + 3 * j.val) else 0)
        + (if apart b q then F 0 else 0) + (if apart b q then F b else 0) := by
  rw [← sum_thirds F (b0 b q) (Nat.mod_lt _ (by norm_num))]
  have e1 : (if apart b q then F 0 else 0) = ∑ l : Fin 32, if (apart b q ∧ l.val = 0) then F l.val else 0 := by
    rw [Finset.sum_eq_single (0 : Fin 32)]
    · simp
    · intro l _ hl
      exact if_neg fun h => hl (Fin.ext h.2)
    · exact fun h => absurd (Finset.mem_univ _) h
  have e2 : (if apart b q then F b else 0) = ∑ l : Fin 32, if (apart b q ∧ l.val = b) then F l.val else 0 := by
    rw [Finset.sum_eq_single (⟨b, hb⟩ : Fin 32)]
    · simp
    · intro l _ hl
      exact if_neg fun h => hl (Fin.ext h.2)
    · exact fun h => absurd (Finset.mem_univ _) h
  rw [e1, e2, ← Finset.sum_add_distrib, ← Finset.sum_add_distrib]
  refine Finset.sum_congr rfl fun l _ => ?_
  have hl := l.isLt
  have d : (2048 * q + 64 * l.val) / 64 = 32 * q + l.val := by omega
  unfold al b0 apart
  rw [d]
  generalize l.val = y at hl d ⊢
  by_cases h1 : y % 3 = (2 * b + q) % 3
  · have a1 : b = 32 * q + y ∨ 32 * q + y = 0 ∨ (b + (32 * q + y)) % 3 = 0 := by omega
    have a2 : ¬((q = 0 ∧ b % 3 ≠ 0) ∧ y = 0) := by omega
    have a3 : ¬((q = 0 ∧ b % 3 ≠ 0) ∧ y = b) := by omega
    rw [if_pos h1, if_neg a2, if_neg a3, add_zero, add_zero, if_pos a1]
  · rw [if_neg h1, zero_add]
    by_cases h2 : (q = 0 ∧ b % 3 ≠ 0) ∧ y = 0
    · have a1 : b = 32 * q + y ∨ 32 * q + y = 0 ∨ (b + (32 * q + y)) % 3 = 0 := by omega
      have a3 : ¬((q = 0 ∧ b % 3 ≠ 0) ∧ y = b) := by omega
      rw [if_pos h2, if_neg a3, add_zero, if_pos a1]
    · rw [if_neg h2, zero_add]
      by_cases h3 : (q = 0 ∧ b % 3 ≠ 0) ∧ y = b
      · have a1 : b = 32 * q + y ∨ 32 * q + y = 0 ∨ (b + (32 * q + y)) % 3 = 0 := by omega
        rw [if_pos h3, if_pos a1]
      · have a1 : ¬(b = 32 * q + y ∨ 32 * q + y = 0 ∨ (b + (32 * q + y)) % 3 = 0) := by omega
        rw [if_neg h3, if_neg a1]

/-! ## Sums over rows of blocks -/

/-- A sum over the elements of blocks of sixty-four is a sum over the blocks of sums. -/
theorem sum_split {n N : ℕ} (hN : N = n * 64) (F : ℕ → EReal) :
    (∑ k : Fin N, F k.val) = ∑ j : Fin n, ∑ o : Fin 64, F (64 * j.val + o.val) := by
  subst hN
  rw [← Equiv.sum_comp finProdFinEquiv, Fintype.sum_prod_type]
  refine Finset.sum_congr rfl fun j _ => Finset.sum_congr rfl fun o _ => ?_
  refine congrArg F ?_
  show o.val + 64 * j.val = _
  omega

/-- A sum over all keys, by devices. -/
theorem sum_devices (F : ℕ → EReal) : (∑ J : Fin 16384, F J.val) = ∑ q : Fin 8, ∑ l : Fin 32, ∑ o : Fin 64, F (2048 * q.val + 64 * l.val + o.val) := by
  rw [← Equiv.sum_comp (finProdFinEquiv (m := 8) (n := 2048)), Fintype.sum_prod_type]
  refine Finset.sum_congr rfl fun q _ => ?_
  have := sum_split (n := 32) (N := 2048) rfl fun k => F (2048 * q.val + k)
  refine Eq.trans (Finset.sum_congr rfl fun k _ => congrArg F ?_) (this.trans (Finset.sum_congr rfl fun l _ => Finset.sum_congr rfl fun o _ => congrArg F ?_))
  · show k.val + 2048 * q.val = _
    omega
  · omega

section
variable (s v : ℕ → EReal) (b : ℕ)

/-- The score of a key, minus infinity where it is not allowed. -/
def sc (J : ℕ) : EReal := if al b J then s J else ⊥

/-- A device's scores against its every third block; against the first block; against the rows' own block. -/
def sA (q : ℕ) (k : Fin 704) : EReal := if b0 b q + 3 * (k.val / 64) < 32 then s (2048 * q + 64 * (b0 b q + 3 * (k.val / 64)) + k.val % 64) else ⊥
def sB (q : ℕ) (k : Fin 64) : EReal := if apart b q then s k.val else ⊥
def sD (q : ℕ) (k : Fin 64) : EReal := if apart b q then s (64 * b + k.val) else ⊥

/-- The values that go with them. -/
def vA (q : ℕ) (k : Fin 704) : EReal := v (2048 * q + 64 * (min (b0 b q + 3 * (k.val / 64)) 31) + k.val % 64)
def vB (q : ℕ) (k : Fin 64) : EReal := v (2048 * q + k.val)
def vD (q : ℕ) (k : Fin 64) : EReal := v (2048 * q + 64 * b + k.val)

/-- What a device keeps of a row: the largest score, and a sum weighted by the exponentials of the scores less the largest. -/
def mP (q : Fin 8) : EReal := max (mx (sA s b q)) (max (mx (sB s b q)) (mx (sD s b q)))
def oP (q : Fin 8) : EReal :=
  (∑ k, Ideal.exp (sA s b q k - mP s b q) * vA v b q k) + (∑ k, Ideal.exp (sB s b q k - mP s b q) * vB v q k)
    + ∑ k, Ideal.exp (sD s b q k - mP s b q) * vD v b q k

/-- The largest score of all keys. -/
def tp : EReal := mx fun J : Fin 16384 => sc s b J.val

theorem al_block (q l o : ℕ) (ho : o < 64) : al b (2048 * q + 64 * l + o) ↔ al b (2048 * q + 64 * l) := by
  unfold al
  rw [show (2048 * q + 64 * l + o) / 64 = (2048 * q + 64 * l) / 64 by omega]

theorem le_tp {J : ℕ} (hJ : J < 16384) (h : al b J) : s J ≤ tp s b := by
  have := le_mx (fun J : Fin 16384 => sc s b J.val) ⟨J, hJ⟩
  unfold sc at this
  rwa [if_pos h] at this

theorem mP_le (hb : b < 32) (q : Fin 8) : mP s b q ≤ tp s b := by
  have hq := q.isLt
  refine max_le (mx_le fun k => ?_) (max_le (mx_le fun k => ?_) (mx_le fun k => ?_))
  · unfold sA
    split_ifs with h
    · have := k.isLt
      refine le_tp s b (by omega) ?_
      unfold al
      unfold b0 at h ⊢
      omega
    · exact bot_le
  · unfold sB
    split_ifs with h
    · have := k.isLt
      exact le_tp s b (by omega) (Or.inr (Or.inl (by omega)))
    · exact bot_le
  · unfold sD
    split_ifs with h
    · have := k.isLt
      exact le_tp s b (by omega) (Or.inl (by omega))
    · exact bot_le

theorem le_top (M : Fin 8 → EReal) (q : Fin 8) : M q ≤ top M := (Finset.le_fold_max _).2 (Or.inr ⟨q, Finset.mem_univ _, le_refl _⟩)

/-- The largest of the devices' maxima is the largest of all. -/
theorem top_mP (hb : b < 32) : top (mP s b) = tp s b := by
  refine le_antisymm ((Finset.fold_max_le _).2 ⟨bot_le, fun q _ => mP_le s b hb q⟩) (mx_le fun J => ?_)
  have hJ := J.isLt
  unfold sc
  split_ifs with h
  swap
  · exact bot_le
  obtain ⟨q, l, o, hq, hl, ho, e⟩ : ∃ q l o : ℕ, q < 8 ∧ l < 32 ∧ o < 64 ∧ J.val = 2048 * q + 64 * l + o :=
    ⟨J.val / 2048, J.val / 64 % 32, J.val % 64, by omega, by omega, by omega, by omega⟩
  rw [e] at h ⊢
  have d : (2048 * q + 64 * l + o) / 64 = 32 * q + l := by omega
  unfold al at h
  rw [d] at h
  refine le_trans ?_ (le_top (mP s b) ⟨q, hq⟩)
  by_cases h1 : l % 3 = b0 b q
  · refine le_trans (le_of_eq ?_) ((le_mx (sA s b q) ⟨64 * (l / 3) + o, by omega⟩).trans (le_max_left _ _))
    unfold sA
    have e1 : (64 * (l / 3) + o) / 64 = l / 3 := by omega
    have e2 : (64 * (l / 3) + o) % 64 = o := by omega
    have e3 : b0 b q + 3 * (l / 3) = l := by rw [← h1]; omega
    dsimp only
    rw [e1, e2, e3, if_pos hl]
  · have hap : q = 0 ∧ b % 3 ≠ 0 := by
      unfold b0 at h1
      omega
    by_cases h2 : l = 0
    · refine le_trans (le_of_eq ?_) ((le_mx (sB s b q) ⟨o, ho⟩).trans ((le_max_left _ _).trans (le_max_right _ _)))
      unfold sB
      rw [if_pos hap, hap.1, h2]
      simp
    · refine le_trans (le_of_eq ?_) ((le_mx (sD s b q) ⟨o, ho⟩).trans ((le_max_right _ _).trans (le_max_right _ _)))
      have e1 : b = l := by
        unfold b0 at h1
        omega
      unfold sD
      rw [if_pos hap, hap.1, e1]
      simp

/-- What the devices' pieces combine to. -/
theorem comb_oP (hb : b < 32) : comb (mP s b) (oP s v b) = ∑ J : Fin 16384, Ideal.exp (sc s b J.val - tp s b) * v J.val := by
  rw [sum_devices fun J => Ideal.exp (sc s b J - tp s b) * v J]
  unfold comb
  refine Finset.sum_congr rfl fun q _ => ?_
  rw [top_mP s b hb]
  have hle := mP_le s b hb q
  unfold oP
  rw [EReal.left_distrib_of_nonneg_of_ne_top (exp_nonneg _) (exp_ne_top hle),
    EReal.left_distrib_of_nonneg_of_ne_top (exp_nonneg _) (exp_ne_top hle),
    rescale (M := mP s b q) _ _ (fun k => (le_mx (sA s b q) k).trans (le_max_left _ _)) hle,
    rescale (M := mP s b q) _ _ (fun k => (le_mx (sB s b q) k).trans ((le_max_left _ _).trans (le_max_right _ _))) hle,
    rescale (M := mP s b q) _ _ (fun k => (le_mx (sD s b q) k).trans ((le_max_right _ _).trans (le_max_right _ _))) hle]
  -- the terms of a block
  let E (l : ℕ) : EReal := ∑ o : Fin 64, Ideal.exp (s (2048 * q.val + 64 * l + o.val) - tp s b) * v (2048 * q.val + 64 * l + o.val)
  have hS : ∀ l : Fin 32, (∑ o : Fin 64, Ideal.exp (sc s b (2048 * q.val + 64 * l.val + o.val) - tp s b) * v (2048 * q.val + 64 * l.val + o.val))
      = if al b (2048 * q.val + 64 * l.val) then E l.val else 0 := by
    intro l
    by_cases h : al b (2048 * q.val + 64 * l.val)
    · rw [if_pos h]
      refine Finset.sum_congr rfl fun o _ => ?_
      unfold sc
      rw [if_pos ((al_block b _ _ _ o.isLt).2 h)]
    · rw [if_neg h]
      refine Finset.sum_eq_zero fun o _ => ?_
      unfold sc
      rw [if_neg fun h' => h ((al_block b _ _ _ o.isLt).1 h'), EReal.bot_sub, show Ideal.exp ⊥ = 0 from rfl, zero_mul]
  rw [Finset.sum_congr rfl fun l _ => hS l, sum_blocks E b q.val hb q.isLt]
  refine congrArg₂ (· + ·) (congrArg₂ (· + ·) ?_ ?_) ?_
  · refine (sum_split (n := 11) (N := 704) rfl fun k => Ideal.exp ((if b0 b q + 3 * (k / 64) < 32 then s (2048 * q + 64 * (b0 b q + 3 * (k / 64)) + k % 64) else ⊥) - tp s b)
      * v (2048 * q + 64 * (min (b0 b q + 3 * (k / 64)) 31) + k % 64)).trans (Finset.sum_congr rfl fun j _ => ?_)
    by_cases h : b0 b q + 3 * j.val < 32
    · rw [if_pos h]
      refine Finset.sum_congr rfl fun o _ => ?_
      have ho := o.isLt
      rw [show (64 * j.val + o.val) / 64 = j.val by omega, show (64 * j.val + o.val) % 64 = o.val by omega, if_pos h,
        show min (b0 b q + 3 * j.val) 31 = b0 b q + 3 * j.val by omega]
    · rw [if_neg h]
      refine Finset.sum_eq_zero fun o _ => ?_
      have ho := o.isLt
      rw [show (64 * j.val + o.val) / 64 = j.val by omega, if_neg h, EReal.bot_sub, show Ideal.exp ⊥ = 0 from rfl, zero_mul]
  · by_cases h : apart b q
    · rw [if_pos h]
      refine Finset.sum_congr rfl fun o _ => ?_
      unfold sB vB
      rw [if_pos h, h.1]
      simp
    · rw [if_neg h]
      refine Finset.sum_eq_zero fun o _ => ?_
      unfold sB
      rw [if_neg h, EReal.bot_sub, show Ideal.exp ⊥ = 0 from rfl, zero_mul]
  · by_cases h : apart b q
    · rw [if_pos h]
      refine Finset.sum_congr rfl fun o _ => ?_
      unfold sD vD
      rw [if_pos h, h.1]
      simp
    · rw [if_neg h]
      refine Finset.sum_eq_zero fun o _ => ?_
      unfold sD
      rw [if_neg h, EReal.bot_sub, show Ideal.exp ⊥ = 0 from rfl, zero_mul]

/-! ## The division -/

/-- The exponential of a key's score less the largest. -/
def ex (J : ℕ) : EReal := Ideal.exp (sc s b J - tp s b)

/-- Where the scores are real the denominator is not zero: a largest score is attained, and its exponential is one. -/
theorem den_ne (hs : ∀ J : Fin 16384, ∃ r : ℝ, s J.val = r) : (∑ J : Fin 16384, ex s b J.val) ≠ 0 := by
  have h0 : al b 0 := Or.inr (Or.inl rfl)
  have hb : tp s b ≠ ⊥ := by
    obtain ⟨r, hr⟩ := hs 0
    have h := le_tp s b (by norm_num) h0
    intro e
    rw [e, show s 0 = (r : EReal) from hr] at h
    exact absurd h (not_le.2 (EReal.bot_lt_coe r))
  rcases mx_mem fun J : Fin 16384 => sc s b J.val with h | ⟨J, hJ⟩
  · exact absurd h hb
  change sc s b J.val = tp s b at hJ
  have hal : al b J.val := by
    by_contra h
    unfold sc at hJ
    rw [if_neg h] at hJ
    exact hb hJ.symm
  obtain ⟨r, hr⟩ := hs J
  have h1 : ex s b J.val = 1 := by
    unfold ex
    rw [← hJ]
    unfold sc
    rw [if_pos hal, hr, ← EReal.coe_sub, sub_self]
    show ((Real.exp 0 : ℝ) : EReal) = 1
    rw [Real.exp_zero, EReal.coe_one]
  have h2 : ex s b J.val ≤ ∑ J : Fin 16384, ex s b J.val :=
    Finset.single_le_sum (f := fun J : Fin 16384 => ex s b J.val) (fun K _ => exp_nonneg _) (Finset.mem_univ J)
  rw [h1] at h2
  intro e
  rw [e] at h2
  exact absurd h2 (not_le.2 zero_lt_one)

/-- A combined sum over the combined denominators is the softmax's weighted sum. -/
theorem soft_eq (hb : b < 32) (hs : ∀ J : Fin 16384, ∃ r : ℝ, s J.val = r) :
    Ideal.div (comb (mP s b) (oP s v b)) (comb (mP s b) (oP s (fun _ => 1) b))
      = ∑ J : Fin 16384, v J.val * Ideal.div (ex s b J.val) (∑ K : Fin 16384, ex s b K.val) := by
  have hd := den_ne s b hs
  have hD : comb (mP s b) (oP s (fun _ => 1) b) = ∑ K : Fin 16384, ex s b K.val :=
    (comb_oP s _ b hb).trans (Finset.sum_congr rfl fun J _ => mul_one _)
  have hpos : 0 ≤ ∑ K : Fin 16384, ex s b K.val := Finset.sum_nonneg fun K _ => exp_nonneg _
  rw [hD, comb_oP s v b hb]
  unfold Ideal.div
  rw [if_neg hd, mul_comm]
  have hi : 0 ≤ (∑ K : Fin 16384, ex s b K.val)⁻¹ := EReal.inv_nonneg_of_nonneg hpos
  have ht : (∑ K : Fin 16384, ex s b K.val)⁻¹ ≠ ⊤ := by
    intro e
    generalize (∑ K : Fin 16384, ex s b K.val) = y at hd e
    induction y with
    | bot => simp at e
    | top => simp at e
    | coe r =>
      rw [← EReal.coe_inv] at e
      exact EReal.coe_ne_top _ e
  rw [mul_sum hi ht]
  refine Finset.sum_congr rfl fun J _ => ?_
  rw [if_neg hd]
  unfold ex
  rw [mul_comm, mul_right_comm, mul_comm (v J.val)]

end

end Cert.Soft

end
-- ==== Proof.AttVal.lean ====
/- The attention body's steps over the extended reals, each at an element. -/
module

public import proofs.«01_k».proof.Proof.AVals
public import proofs.«01_k».proof.Proof.DotAt
public import proofs.«01_k».proof.Proof.Soft

@[expose] public section

noncomputable section

namespace Cert.KernelIdeal.Att

open Idealize.ShloMosaic Idealize.ShloMosaic.TcCoe Idealize.ShloMosaic.ValueIdx
open Cert.KernelIdeal.Gen Cert.KernelIdeal.Hand Cert.DotAt Cert.Soft

/-- The scores' factor. -/
def scl : EReal := Ideal.ofBits .f32 0x3DB504F3#32

theorem mask_eq : (mask (F := Ideal) : EReal) = ⊥ := rfl
theorem scale_eq : (scale (F := Ideal) : EReal) = scl := rfl
theorem bits_least : Ideal.ofBits .f32 0xFF800000#32 = ⊥ := by simp [Ideal.ofBits, Ideal.ieee]

/-! ## Queries and scores -/

theorem qV_apply (x : Vec Ideal S704x1024 .f32) (w : Vec Ideal S1024x128 .f32) (a : Fin 704) (t : Fin 128) :
    (qV x w (ix2 a t) : EReal) = ∑ k : Fin 1024, (x (ix2 a k) : EReal) * (w (ix2 k t) : EReal) := by
  unfold qV
  rw [Idealize.ShloMosaic.shapeCast_self]
  exact matmul_at _ (K := 1024) rfl rfl x w (ix2 a t) (fun k => ix2 a k) (fun k => ix2 k t)
    (fun k => funext fun ax => Fin.ext (match ax with | ⟨0, _⟩ => rfl | ⟨1, _⟩ => contr_val dot_S704x1024_S1024x128_S704x128_1_0_0_1_n_n rfl rfl k))
    (fun k => funext fun ax => Fin.ext (match ax with | ⟨0, _⟩ => contr_val dot_S704x1024_S1024x128_S704x128_1_0_0_1_n_n rfl rfl k | ⟨1, _⟩ => rfl))

/-- A query times a key. -/
def dotq {n p : ℕ} (q : FVec Ideal ⟨2, ![n, 128]⟩ .f32) (k : FVec Ideal ⟨2, ![p, 128]⟩ .f32) (a : Fin n) (j : Fin p) : EReal :=
  ∑ t : Fin 128, (q (ix2 a t) : EReal) * (k (ix2 j t) : EReal)

variable (q : FVec Ideal S704x128 .f32)

theorem dot704 (kc : Vec Ideal S704x128 .f32) (a k : Fin 704) :
    (matmul (φ₂ := .f32) dot_S704x128_S704x128_S704x704_1_1_0_0_n_n none q kc (constant S704x704 .f32 0x00000000#32) (ix2 a k) : EReal) = dotq q kc a k :=
  matmul_at _ (K := 128) rfl rfl q kc (ix2 a k) (fun t => ix2 a t) (fun t => ix2 k t)
    (fun t => funext fun ax => Fin.ext (match ax with | ⟨0, _⟩ => rfl | ⟨1, _⟩ => contr_val dot_S704x128_S704x128_S704x704_1_1_0_0_n_n rfl rfl t))
    (fun t => funext fun ax => Fin.ext (match ax with | ⟨0, _⟩ => rfl | ⟨1, _⟩ => contr_val dot_S704x128_S704x128_S704x704_1_1_0_0_n_n rfl rfl t))

theorem dot64 (kc : Vec Ideal S64x128 .f32) (a : Fin 704) (k : Fin 64) :
    (matmul (φ₂ := .f32) dot_S704x128_S64x128_S704x64_1_1_0_0_n_n none q kc (constant S704x64 .f32 0x00000000#32) (ix2 a k) : EReal) = dotq q kc a k :=
  matmul_at _ (K := 128) rfl rfl q kc (ix2 a k) (fun t => ix2 a t) (fun t => ix2 k t)
    (fun t => funext fun ax => Fin.ext (match ax with | ⟨0, _⟩ => rfl | ⟨1, _⟩ => contr_val dot_S704x128_S64x128_S704x64_1_1_0_0_n_n rfl rfl t))
    (fun t => funext fun ax => Fin.ext (match ax with | ⟨0, _⟩ => rfl | ⟨1, _⟩ => contr_val dot_S704x128_S64x128_S704x64_1_1_0_0_n_n rfl rfl t))

theorem sV_apply (kc : Vec Ideal S704x128 .f32) (nv : BitVec 32) (a k : Fin 704) :
    (sV q kc nv (ix2 a k) : EReal) = if Scalar.cmpi .slt (BitVec.ofNat 32 k.val) nv = 1#1 then dotq q kc a k * scl else ⊥ := by
  have hw : (broadcastTo S704x704 (shapeCast S1x704 (cmpi .slt (iota .tc S1x704 32 [1] iota_S1x704_d1_w32) (broadcast S1x704 nv) : IVec S1x704 1)
      shapeCasts_S1x704_S1x704 : IVec S1x704 1) broadcasts_S1x704_S704x704 : IVec S704x704 1) (ix2 a k) = Scalar.cmpi .slt (BitVec.ofNat 32 k.val) nv := by
    rw [Idealize.ShloMosaic.shapeCast_self]
    refine (broadcastTo_apply _ broadcasts_S1x704_S704x704 (ix2 a k) (ix2 (0 : Fin 1) k) fun ax => ?_).trans ?_
    · fin_cases ax <;> rfl
    · exact congrArg (fun z => Scalar.cmpi .slt z nv) (iota_single_apply .tc S1x704 32 1 iota_S1x704_d1_w32 (ix2 (0 : Fin 1) k))
  unfold sV
  refine (select_apply _ _ _ _).trans ?_
  rw [hw]
  by_cases h : Scalar.cmpi .slt (BitVec.ofNat 32 k.val) nv = 1#1
  · rw [if_pos h, h, select_one, mulf_apply, dot704]
    rfl
  · rw [if_neg h, eq_zero_of_ne_one h, select_zero]
    exact mask_eq

theorem s0V_apply (f : BitVec 1) (k0 : Vec Ideal S64x128 .f32) (a : Fin 704) (k : Fin 64) :
    (s0V f q k0 (ix2 a k) : EReal) = if f = 1#1 then dotq q k0 a k * scl else ⊥ := by
  unfold s0V
  rw [Idealize.ShloMosaic.shapeCast_self]
  by_cases h : f = 1#1
  · rw [if_pos h, h]
    refine (mulf_apply _ _ _).trans ?_
    rw [dot64]
    rfl
  · rw [if_neg h, eq_zero_of_ne_one h]
    exact mask_eq

/-- The block of a row, and its place in the block. -/
def blk (a : Fin 704) : Fin 11 := ⟨a.val / 64, by omega⟩
def pl (a : Fin 704) : Fin 64 := ⟨a.val % 64, by omega⟩

theorem stack_apply (b : Fin 11 → Vec Ideal S64x128 .f32) (j : Fin 11) (o : Fin 64) (t : Fin 128) : stack b (ix3 j o t) = b j (ix2 o t) := by
  unfold stack
  refine (concatenate_ofFn_apply (t := S11x64x128) (s₁ := S1x64x128) 0 (fun j : Fin 11 =>
      (shapeCast S1x64x128 (shapeCast S64x128 (b j) shapeCasts_S64x128_S64x128 : FVec Ideal S64x128 .f32) shapeCasts_S64x128_S1x64x128 : FVec Ideal S1x64x128 .f32))
    concatenates_S1x64x128_S1x64x128_S1x64x128_S1x64x128_S1x64x128_S1x64x128_S1x64x128_S1x64x128_S1x64x128_S1x64x128_S1x64x128_S11x64x128_d0
    rfl 1 rfl (ix3 j o t) j (Nat.div_one _) (ix3 (0 : Fin 1) o t) (Nat.mod_one _).symm fun b hb => match b with
      | ⟨0, _⟩ => absurd rfl hb
      | ⟨1, _⟩ => rfl
      | ⟨2, _⟩ => rfl).trans ?_
  rw [Idealize.ShloMosaic.shapeCast_self]
  exact shapeCast_apply _ _ (ix3 (0 : Fin 1) o t) (ix2 o t) (by
    rw [Shape.rowMajor_val_two, Shape.rowMajor_val_three]
    show o.val * 128 + t.val = (0 * 64 + o.val) * 128 + t.val
    omega)

theorem unstack64 (x : FVec Ideal S11x64x64 .f32) (a : Fin 704) (k : Fin 64) :
    (shapeCast S704x64 x shapeCasts_S11x64x64_S704x64 : FVec Ideal S704x64 .f32) (ix2 a k) = x (ix3 (blk a) (pl a) k) :=
  shapeCast_apply x _ (ix2 a k) (ix3 (blk a) (pl a) k) (by
    rw [Shape.rowMajor_val_two, Shape.rowMajor_val_three]
    show (a.val / 64 * 64 + a.val % 64) * 64 + k.val = a.val * 64 + k.val
    omega)
theorem unstack128 (x : FVec Ideal S11x64x128 .f32) (a : Fin 704) (t : Fin 128) :
    (shapeCast S704x128 x shapeCasts_S11x64x128_S704x128 : FVec Ideal S704x128 .f32) (ix2 a t) = x (ix3 (blk a) (pl a) t) :=
  shapeCast_apply x _ (ix2 a t) (ix3 (blk a) (pl a) t) (by
    rw [Shape.rowMajor_val_two, Shape.rowMajor_val_three]
    show (a.val / 64 * 64 + a.val % 64) * 128 + t.val = a.val * 128 + t.val
    omega)
theorem restack64 (x : FVec Ideal S704x64 .f32) (a : Fin 704) (k : Fin 64) :
    (shapeCast S11x64x64 x shapeCasts_S704x64_S11x64x64 : FVec Ideal S11x64x64 .f32) (ix3 (blk a) (pl a) k) = x (ix2 a k) :=
  shapeCast_apply x _ (ix3 (blk a) (pl a) k) (ix2 a k) (by
    rw [Shape.rowMajor_val_two, Shape.rowMajor_val_three]
    show a.val * 64 + k.val = (a.val / 64 * 64 + a.val % 64) * 64 + k.val
    omega)
theorem restack128 (x : FVec Ideal S704x128 .f32) (a : Fin 704) (t : Fin 128) :
    (shapeCast S11x64x128 x shapeCasts_S704x128_S11x64x128 : FVec Ideal S11x64x128 .f32) (ix3 (blk a) (pl a) t) = x (ix2 a t) :=
  shapeCast_apply x _ (ix3 (blk a) (pl a) t) (ix2 a t) (by
    rw [Shape.rowMajor_val_two, Shape.rowMajor_val_three]
    show a.val * 128 + t.val = (a.val / 64 * 64 + a.val % 64) * 128 + t.val
    omega)

theorem sdV_apply (f : BitVec 1) (kd : Fin 11 → Vec Ideal S64x128 .f32) (a : Fin 704) (k : Fin 64) :
    (sdV f q kd (ix2 a k) : EReal) = if f = 1#1 then dotq q (kd (blk a)) a k * scl else ⊥ := by
  unfold sdV
  rw [unstack64]
  by_cases h : f = 1#1
  · rw [if_pos h, h]
    refine (mulf_apply _ _ _).trans ?_
    refine congrArg (fun z : EReal => z * scl) ?_
    refine (matmul_at dot_S11x64x128_S11x64x128_S11x64x64_2_2_1_1_0_0 (K := 128) rfl rfl _ _ (ix3 (blk a) (pl a) k)
      (fun t => ix3 (blk a) (pl a) t) (fun t => ix3 (blk a) k t)
      (fun t => funext fun ax => Fin.ext (match ax with
        | ⟨0, _⟩ => rfl | ⟨1, _⟩ => rfl | ⟨2, _⟩ => contr_val dot_S11x64x128_S11x64x128_S11x64x64_2_2_1_1_0_0 rfl rfl t))
      (fun t => funext fun ax => Fin.ext (match ax with
        | ⟨0, _⟩ => rfl | ⟨1, _⟩ => rfl | ⟨2, _⟩ => contr_val dot_S11x64x128_S11x64x128_S11x64x64_2_2_1_1_0_0 rfl rfl t))).trans ?_
    refine Finset.sum_congr rfl fun t _ => ?_
    rw [restack128, stack_apply]
  · rw [if_neg h, eq_zero_of_ne_one h]
    exact mask_eq

/-! ## Largest elements, sums, exponentials -/

theorem column {x : FVec Ideal S704 .f32} (a : Fin 704) :
    (shapeCast S704x1 x shapeCasts_S704_S704x1 : FVec Ideal S704x1 .f32) (ix2 a (0 : Fin 1)) = x (ix1 a) :=
  shapeCast_apply x _ (ix2 a (0 : Fin 1)) (ix1 a) (by
    rw [Shape.rowMajor_val_two, Shape.rowMajor_val_one]
    show a.val = a.val * 1 + 0
    omega)

theorem lift704 (a k : Fin 704) : reduces_S704x704_S704.lift (ix1 a) k = (ix2 a k : S704x704.Idx) :=
  funext fun ax => match ax with
    | ⟨0, _⟩ => Fin.ext rfl
    | ⟨1, _⟩ => Fin.ext rfl
theorem lift64 (a : Fin 704) (k : Fin 64) : reduces_S704x64_S704.lift (ix1 a) k = (ix2 a k : S704x64.Idx) :=
  funext fun ax => match ax with
    | ⟨0, _⟩ => Fin.ext rfl
    | ⟨1, _⟩ => Fin.ext rfl

theorem max704_apply (s : FVec Ideal S704x704 .f32) (a : Fin 704) : (max704 s (ix2 a (0 : Fin 1)) : EReal) = mx fun k : Fin 704 => (s (ix2 a k) : EReal) := by
  unfold max704 mx
  rw [column]
  refine (Ideal.multiReduction_maximumf_single s _ reduces_S704x704_S704 _ _ (ix1 a)).trans ?_
  have e0 : (FloatOps.ofBits (F := Ideal) .f32 0xFF800000#32 : EReal) = ⊥ := bits_least
  rw [e0, show s ∘ reduces_S704x704_S704.lift (ix1 a) = fun k : Fin 704 => s (ix2 a k) from funext fun k => congrArg s (lift704 a k)]
  rfl
theorem max64_apply (s : FVec Ideal S704x64 .f32) (a : Fin 704) : (max64 s (ix2 a (0 : Fin 1)) : EReal) = mx fun k : Fin 64 => (s (ix2 a k) : EReal) := by
  unfold max64 mx
  rw [column]
  refine (Ideal.multiReduction_maximumf_single s _ reduces_S704x64_S704 _ _ (ix1 a)).trans ?_
  have e0 : (FloatOps.ofBits (F := Ideal) .f32 0xFF800000#32 : EReal) = ⊥ := bits_least
  rw [e0, show s ∘ reduces_S704x64_S704.lift (ix1 a) = fun k : Fin 64 => s (ix2 a k) from funext fun k => congrArg s (lift64 a k)]
  rfl
theorem sum704_apply (s : FVec Ideal S704x704 .f32) (a : Fin 704) : (sum704 s (ix2 a (0 : Fin 1)) : EReal) = ∑ k : Fin 704, (s (ix2 a k) : EReal) := by
  unfold sum704
  rw [column]
  refine (Ideal.multiReduction_add_single s _ reduces_S704x704_S704 _ _ (ix1 a)).trans ?_
  exact Finset.sum_congr rfl fun k _ => congrArg s (lift704 a k)
theorem sum64_apply (s : FVec Ideal S704x64 .f32) (a : Fin 704) : (sum64 s (ix2 a (0 : Fin 1)) : EReal) = ∑ k : Fin 64, (s (ix2 a k) : EReal) := by
  unfold sum64
  rw [column]
  refine (Ideal.multiReduction_add_single s _ reduces_S704x64_S704 _ _ (ix1 a)).trans ?_
  exact Finset.sum_congr rfl fun k _ => congrArg s (lift64 a k)
theorem exp704_apply (s : FVec Ideal S704x704 .f32) (m : FVec Ideal S704x1 .f32) (a k : Fin 704) :
    (exp704 s m (ix2 a k) : EReal) = Ideal.exp ((s (ix2 a k) : EReal) - (m (ix2 a (0 : Fin 1)) : EReal)) := by
  unfold exp704
  show Ideal.exp ((s (ix2 a k) : EReal) - (broadcastTo S704x704 m broadcasts_S704x1_S704x704 (ix2 a k) : EReal)) = _
  rw [broadcastTo_apply m broadcasts_S704x1_S704x704 (ix2 a k) (ix2 a (0 : Fin 1)) fun ax => by fin_cases ax <;> rfl]
theorem exp64_apply (s : FVec Ideal S704x64 .f32) (m : FVec Ideal S704x1 .f32) (a : Fin 704) (k : Fin 64) :
    (exp64 s m (ix2 a k) : EReal) = Ideal.exp ((s (ix2 a k) : EReal) - (m (ix2 a (0 : Fin 1)) : EReal)) := by
  unfold exp64
  show Ideal.exp ((s (ix2 a k) : EReal) - (broadcastTo S704x64 m broadcasts_S704x1_S704x64 (ix2 a k) : EReal)) = _
  rw [broadcastTo_apply m broadcasts_S704x1_S704x64 (ix2 a k) (ix2 a (0 : Fin 1)) fun ax => by fin_cases ax <;> rfl]

/-! ## Weighted values -/

theorem oMain_apply (w : FVec Ideal S704x704 .f32) (vc : Vec Ideal S704x128 .f32) (a : Fin 704) (t : Fin 128) :
    (oMain w vc (ix2 a t) : EReal) = ∑ k : Fin 704, (w (ix2 a k) : EReal) * (vc (ix2 k t) : EReal) := by
  unfold oMain
  exact matmul_at _ (K := 704) rfl rfl w vc (ix2 a t) (fun k => ix2 a k) (fun k => ix2 k t)
    (fun k => funext fun ax => Fin.ext (match ax with | ⟨0, _⟩ => rfl | ⟨1, _⟩ => contr_val dot_S704x704_S704x128_S704x128_1_0_0_1_n_n rfl rfl k))
    (fun k => funext fun ax => Fin.ext (match ax with | ⟨0, _⟩ => contr_val dot_S704x704_S704x128_S704x128_1_0_0_1_n_n rfl rfl k | ⟨1, _⟩ => rfl))
theorem oFirst_apply (w : FVec Ideal S704x64 .f32) (v0 : Vec Ideal S64x128 .f32) (a : Fin 704) (t : Fin 128) :
    (oFirst w v0 (ix2 a t) : EReal) = ∑ k : Fin 64, (w (ix2 a k) : EReal) * (v0 (ix2 k t) : EReal) := by
  unfold oFirst
  rw [Idealize.ShloMosaic.shapeCast_self]
  exact matmul_at _ (K := 64) rfl rfl w v0 (ix2 a t) (fun k => ix2 a k) (fun k => ix2 k t)
    (fun k => funext fun ax => Fin.ext (match ax with | ⟨0, _⟩ => rfl | ⟨1, _⟩ => contr_val dot_S704x64_S64x128_S704x128_1_0_0_1_n_n rfl rfl k))
    (fun k => funext fun ax => Fin.ext (match ax with | ⟨0, _⟩ => contr_val dot_S704x64_S64x128_S704x128_1_0_0_1_n_n rfl rfl k | ⟨1, _⟩ => rfl))
theorem oOwn_apply (w : FVec Ideal S704x64 .f32) (vd : Fin 11 → Vec Ideal S64x128 .f32) (a : Fin 704) (t : Fin 128) :
    (oOwn w vd (ix2 a t) : EReal) = ∑ k : Fin 64, (w (ix2 a k) : EReal) * (vd (blk a) (ix2 k t) : EReal) := by
  unfold oOwn
  rw [unstack128]
  refine (matmul_at dot_S11x64x64_S11x64x128_S11x64x128_2_1_1_2_0_0 (K := 64) rfl rfl _ _ (ix3 (blk a) (pl a) t)
      (fun k => ix3 (blk a) (pl a) k) (fun k => ix3 (blk a) k t)
      (fun k => funext fun ax => Fin.ext (match ax with
        | ⟨0, _⟩ => rfl | ⟨1, _⟩ => rfl | ⟨2, _⟩ => contr_val dot_S11x64x64_S11x64x128_S11x64x128_2_1_1_2_0_0 rfl rfl k))
      (fun k => funext fun ax => Fin.ext (match ax with
        | ⟨0, _⟩ => rfl | ⟨1, _⟩ => contr_val dot_S11x64x64_S11x64x128_S11x64x128_2_1_1_2_0_0 rfl rfl k | ⟨2, _⟩ => rfl))).trans ?_
  exact Finset.sum_congr rfl fun k _ => by rw [restack64, stack_apply]

end Cert.KernelIdeal.Att

end
-- ==== Proof.AttMix.lean ====
/- What a device's attention body makes of a row: the maximum, the denominator and the weighted sum over its allowed keys. -/
module

public import proofs.«01_k».proof.Proof.AttVal

@[expose] public section

noncomputable section

namespace Cert.KernelIdeal.Att

open Idealize.ShloMosaic Idealize.ShloMosaic.TcCoe Idealize.ShloMosaic.ValueIdx
open Cert.KernelIdeal.Gen Cert.KernelIdeal.Hand Cert.DotAt Cert.Soft

/-! ## Places as numbers -/

theorem kRow_eq : ∀ (c : Fin 8) (r : Fin 3) (j : Fin 11), kRow (c : Dev nD) r j = 64 * min ((2 * r.val + c.val) % 3 + 3 * j.val) 31 := by decide +kernel
theorem nvW_eq : ∀ (c : Fin 8) (r : Fin 3), nvW (c : Dev nD) r = if (2 * r.val + c.val) % 3 = 2 then 640#32 else 704#32 := by decide +kernel
theorem firstW_eq : ∀ c : Fin 8, firstW (c : Dev nD) = 1#1 ↔ c.val = 0 := by decide +kernel
theorem lane640 : ∀ k : Fin 704, Scalar.cmpi .slt (BitVec.ofNat 32 k.val) 640#32 = 1#1 ↔ k.val < 640 := by decide +kernel
theorem lane704 : ∀ k : Fin 704, Scalar.cmpi .slt (BitVec.ofNat 32 k.val) 704#32 = 1#1 := by decide +kernel

theorem kept (c : Fin 8) (r : Fin 3) (k : Fin 704) :
    Scalar.cmpi .slt (BitVec.ofNat 32 k.val) (nvW (c : Dev nD) r) = 1#1 ↔ (2 * r.val + c.val) % 3 + 3 * (k.val / 64) < 32 := by
  rw [nvW_eq]
  by_cases h : (2 * r.val + c.val) % 3 = 2
  · rw [if_pos h, lane640, h]
    omega
  · rw [if_neg h]
    have h1 := lane704 k
    have h2 := k.isLt
    exact ⟨fun _ => by omega, fun _ => h1⟩

theorem kC_apply (c : Fin 8) (r : Fin 3) (k : Vec Ideal S2048x128 .f32) (i : Fin 704) (t : Fin 128) (h) :
    kC (c : Dev nD) k r (ix2 i t) = k (ix2 (⟨64 * min ((2 * r.val + c.val) % 3 + 3 * (i.val / 64)) 31 + i.val % 64, h⟩ : Fin 2048) t) := by
  have e := kRow_eq c r ⟨i.val / 64, by omega⟩
  unfold kC View.ld gV
  refine congrArg k (funext fun x => Fin.ext ?_)
  fin_cases x
  · have hi : 0 + 1 * i.val = i.val := by omega
    show kRow (c : Dev nD) r ⟨(0 + 1 * i.val) / 64, _⟩ + (0 + 1 * i.val) % 64 = _
    simp only [hi]
    rw [e]
  · show 0 + 1 * t.val = t.val
    omega

theorem kdC_apply (r : Fin 3) (k : Vec Ideal S2048x128 .f32) (j : Fin 11) (i : Fin 64) (t : Fin 128) (h) :
    kdC k r j (ix2 i t) = k (ix2 (⟨64 * min (r.val + 3 * j.val) 31 + i.val, h⟩ : Fin 2048) t) := by
  unfold kdC View.ld
  refine congrArg k (funext fun x => Fin.ext ?_)
  fin_cases x
  · show 64 * min (r.val + 3 * j.val) 31 + 1 * i.val = 64 * min (r.val + 3 * j.val) 31 + i.val
    omega
  · show 0 + 1 * t.val = t.val
    omega

theorem k0_apply (k : Vec Ideal S2048x128 .f32) (i : Fin 64) (t : Fin 128) :
    View.ld k rK0 (ix2 i t) = k (ix2 (⟨i.val, by omega⟩ : Fin 2048) t) := by
  unfold View.ld
  refine congrArg k (funext fun x => Fin.ext ?_)
  fin_cases x
  · show 0 + 1 * i.val = i.val
    omega
  · show 0 + 1 * t.val = t.val
    omega

/-- A class's queries. -/
theorem qC_apply (w : Vec Ideal S1024x128 .f32) (x : Vec Ideal S1x2048x1024 .f32) (r : Fin 3) (a : Fin 704) (t : Fin 128) (h) :
    (qC w (xpV x) r (ix2 a t) : EReal)
      = ∑ k : Fin 1024, (x (ix3 (0 : Fin 1) (⟨64 * min (r.val + 3 * (a.val / 64)) 31 + a.val % 64, h⟩ : Fin 2048) k) : EReal) * (w (ix2 k t) : EReal) := by
  unfold qC
  rw [qV_apply]
  refine Finset.sum_congr rfl fun k _ => ?_
  have e1 : View.ld (xpV x) (rSeg r) (ix2 a k) = x (ix3 (0 : Fin 1) (⟨64 * min (r.val + 3 * (a.val / 64)) 31 + a.val % 64, h⟩ : Fin 2048) k) := by
    unfold View.ld xpV
    refine congrArg x (funext fun y => Fin.ext ?_)
    have ha := a.isLt
    have e0 : (704 * r.val + 1 * a.val) / 64 = 11 * r.val + a.val / 64 := by omega
    have e1 : (11 * r.val + a.val / 64) / 11 = r.val := by omega
    have e2 : (11 * r.val + a.val / 64) % 11 = a.val / 64 := by omega
    have e3 : (704 * r.val + 1 * a.val) % 64 = a.val % 64 := by omega
    fin_cases y
    · rfl
    · show 64 * min ((704 * r.val + 1 * a.val) / 64 / 11 + 3 * ((704 * r.val + 1 * a.val) / 64 % 11)) 31 + (704 * r.val + 1 * a.val) % 64
        = 64 * min (r.val + 3 * (a.val / 64)) 31 + a.val % 64
      rw [e0, e1, e2, e3]
    · show 0 + 1 * k.val = k.val
      omega
  have e2 : View.ld w rAllW (ix2 k t) = w (ix2 k t) := by
    unfold View.ld
    refine congrArg w (funext fun y => Fin.ext ?_)
    fin_cases y
    · show 0 + 1 * k.val = k.val
      omega
    · show 0 + 1 * t.val = t.val
      omega
  rw [e1, e2]

/-! ## The row's scores -/

section
variable (c : Fin 8) (w : Vec Ideal S1024x128 .f32) (k v : Vec Ideal S2048x128 .f32) (xp : Vec Ideal S2112x1024 .f32)
variable (r : Fin 3) (a : Fin 704) (b : ℕ) (hb : b = r.val + 3 * (a.val / 64)) (hb' : b < 32)
variable (s : ℕ → EReal) (hs : ∀ j : Fin 2048, dotq (qC w xp r) k a j * scl = s (2048 * c.val + j.val))

include hb hb' hs

theorem sA_eq (i : Fin 704) : (sV (qC w xp r) (kC (c : Dev nD) k r) (nvW (c : Dev nD) r) (ix2 a i) : EReal) = sA s b c.val i := by
  have e0 : b0 b c.val = (2 * r.val + c.val) % 3 := by unfold b0; omega
  have hr := r.isLt
  have hi := i.isLt
  rw [sV_apply]
  unfold sA
  rw [e0]
  by_cases h : (2 * r.val + c.val) % 3 + 3 * (i.val / 64) < 32
  · rw [if_pos ((kept c r i).2 h), if_pos h]
    have hl : 64 * min ((2 * r.val + c.val) % 3 + 3 * (i.val / 64)) 31 + i.val % 64 < 2048 := by omega
    have e : dotq (qC w xp r) (kC (c : Dev nD) k r) a i = dotq (qC w xp r) k a ⟨_, hl⟩ :=
      Finset.sum_congr rfl fun t _ => by rw [kC_apply c r k i t hl]
    rw [e, hs]
    refine congrArg s ?_
    dsimp only
    rw [min_eq_left (by omega)]
    omega
  · rw [if_neg (fun hh => h ((kept c r i).1 hh)), if_neg h]

theorem sB_eq (hr0 : r ≠ 0) (i : Fin 64) : (s0V (firstW (c : Dev nD)) (qC w xp r) (View.ld k rK0) (ix2 a i) : EReal) = sB s b c.val i := by
  have hr : r.val ≠ 0 := fun h => hr0 (Fin.ext h)
  have hr' := r.isLt
  rw [s0V_apply]
  unfold sB apart
  by_cases h : c.val = 0
  · rw [if_pos ((firstW_eq c).2 h), if_pos ⟨h, by omega⟩]
    have e : dotq (qC w xp r) (View.ld k rK0) a i = dotq (qC w xp r) k a ⟨i.val, by omega⟩ :=
      Finset.sum_congr rfl fun t _ => by rw [k0_apply k i t]
    rw [e, hs]
    refine congrArg s ?_
    dsimp only
    omega
  · rw [if_neg (fun hh => h ((firstW_eq c).1 hh)), if_neg (fun hh => h hh.1)]

theorem sD_eq (hr0 : r ≠ 0) (i : Fin 64) : (sdV (firstW (c : Dev nD)) (qC w xp r) (kdC k r) (ix2 a i) : EReal) = sD s b c.val i := by
  have hr : r.val ≠ 0 := fun h => hr0 (Fin.ext h)
  have hr' := r.isLt
  rw [sdV_apply]
  unfold sD apart
  by_cases h : c.val = 0
  · rw [if_pos ((firstW_eq c).2 h), if_pos ⟨h, by omega⟩]
    have hl : 64 * min (r.val + 3 * (blk a).val) 31 + i.val < 2048 := by omega
    have e : dotq (qC w xp r) (kdC k r (blk a)) a i = dotq (qC w xp r) k a ⟨_, hl⟩ :=
      Finset.sum_congr rfl fun t _ => by rw [kdC_apply r k (blk a) i t hl]
    rw [e, hs]
    refine congrArg s ?_
    show 2048 * c.val + (64 * min (r.val + 3 * (a.val / 64)) 31 + i.val) = 64 * b + i.val
    omega
  · rw [if_neg (fun hh => h ((firstW_eq c).1 hh)), if_neg (fun hh => h hh.1)]

omit hb' hs in
/-- The first class keeps no block apart. -/
theorem not_apart (hr0 : r = 0) : ¬ apart b c.val := by
  have : r.val = 0 := by rw [hr0]; rfl
  unfold apart
  omega

/-! ## What is stored -/

theorem mC_eq : (mC (c : Dev nD) w k xp r (ix2 a (0 : Fin 1)) : EReal) = mP s b c := by
  have eA : (max704 (sV (qC w xp r) (kC (c : Dev nD) k r) (nvW (c : Dev nD) r)) (ix2 a (0 : Fin 1)) : EReal) = mx (sA s b c.val) := by
    rw [max704_apply]
    exact congrArg mx (funext fun i => sA_eq c w k xp r a b hb hb' s hs i)
  unfold mC mP
  by_cases hr0 : r = 0
  · rw [if_pos hr0]
    have n := not_apart c r a b hb hr0
    have bB : mx (sB s b c.val) = ⊥ := le_bot_iff.1 (mx_le fun i => by unfold sB; rw [if_neg n])
    have bD : mx (sD s b c.val) = ⊥ := le_bot_iff.1 (mx_le fun i => by unfold sD; rw [if_neg n])
    rw [bB, bD, max_self, max_bot_right]
    exact eA
  · rw [if_neg hr0]
    have eB : (max64 (s0V (firstW (c : Dev nD)) (qC w xp r) (View.ld k rK0)) (ix2 a (0 : Fin 1)) : EReal) = mx (sB s b c.val) := by
      rw [max64_apply]
      exact congrArg mx (funext fun i => sB_eq c w k xp r a b hb hb' s hs hr0 i)
    have eD : (max64 (sdV (firstW (c : Dev nD)) (qC w xp r) (kdC k r)) (ix2 a (0 : Fin 1)) : EReal) = mx (sD s b c.val) := by
      rw [max64_apply]
      exact congrArg mx (funext fun i => sD_eq c w k xp r a b hb hb' s hs hr0 i)
    unfold m1
    rw [maximumf_apply, maximumf_apply, eA, eB, eD]

theorem lC_eq : (lC (c : Dev nD) w k xp r (ix2 a (0 : Fin 1)) : EReal) = oP s (fun _ => 1) b c := by
  have eM := mC_eq c w k xp r a b hb hb' s hs
  unfold mC at eM
  unfold lC oP
  by_cases hr0 : r = 0
  · rw [if_pos hr0] at eM ⊢
    have n := not_apart c r a b hb hr0
    have zB : (∑ i : Fin 64, Ideal.exp (sB s b c.val i - mP s b c) * vB (fun _ => 1) c.val i) = 0 :=
      Finset.sum_eq_zero fun i _ => by unfold sB; rw [exp_masked, if_neg n]
    have zD : (∑ i : Fin 64, Ideal.exp (sD s b c.val i - mP s b c) * vD (fun _ => 1) b c.val i) = 0 :=
      Finset.sum_eq_zero fun i _ => by unfold sD; rw [exp_masked, if_neg n]
    rw [zB, zD, add_zero, add_zero]
    unfold l0 w0
    rw [sum704_apply]
    refine Finset.sum_congr rfl fun i _ => ?_
    rw [exp704_apply, eM, sA_eq c w k xp r a b hb hb' s hs i]
    exact (mul_one _).symm
  · rw [if_neg hr0] at eM ⊢
    unfold l1
    rw [addf_apply, addf_apply, sum704_apply, sum64_apply, sum64_apply]
    refine congrArg₂ (· + ·) (congrArg₂ (· + ·) ?_ ?_) ?_
    · refine Finset.sum_congr rfl fun i _ => ?_
      rw [exp704_apply, eM, sA_eq c w k xp r a b hb hb' s hs i]
      exact (mul_one _).symm
    · refine Finset.sum_congr rfl fun i _ => ?_
      rw [exp64_apply, eM, sB_eq c w k xp r a b hb hb' s hs hr0 i]
      exact (mul_one _).symm
    · refine Finset.sum_congr rfl fun i _ => ?_
      rw [exp64_apply, eM, sD_eq c w k xp r a b hb hb' s hs hr0 i]
      exact (mul_one _).symm

theorem oC_eq (t : Fin 128) (u : ℕ → EReal) (hu : ∀ j : Fin 2048, (v (ix2 j t) : EReal) = u (2048 * c.val + j.val)) :
    (oC (c : Dev nD) w k v xp r (ix2 a t) : EReal) = oP s u b c := by
  have eM := mC_eq c w k xp r a b hb hb' s hs
  have hr := r.isLt
  have e0 : b0 b c.val = (2 * r.val + c.val) % 3 := by unfold b0; omega
  have eA (i : Fin 704) : (kC (c : Dev nD) v r (ix2 i t) : EReal) = vA u b c.val i := by
    have hi := i.isLt
    have hl : 64 * min ((2 * r.val + c.val) % 3 + 3 * (i.val / 64)) 31 + i.val % 64 < 2048 := by omega
    rw [kC_apply c r v i t hl, hu]
    unfold vA
    rw [e0]
    refine congrArg u ?_
    dsimp only
    omega
  unfold mC at eM
  unfold oC oP
  by_cases hr0 : r = 0
  · rw [if_pos hr0] at eM ⊢
    have n := not_apart c r a b hb hr0
    have zB : (∑ i : Fin 64, Ideal.exp (sB s b c.val i - mP s b c) * vB u c.val i) = 0 :=
      Finset.sum_eq_zero fun i _ => by unfold sB; rw [exp_masked, if_neg n]
    have zD : (∑ i : Fin 64, Ideal.exp (sD s b c.val i - mP s b c) * vD u b c.val i) = 0 :=
      Finset.sum_eq_zero fun i _ => by unfold sD; rw [exp_masked, if_neg n]
    rw [zB, zD, add_zero, add_zero]
    unfold o0 w0
    rw [truncf_apply, oMain_apply]
    refine Finset.sum_congr rfl fun i _ => ?_
    rw [exp704_apply, eM, sA_eq c w k xp r a b hb hb' s hs i, eA]
  · rw [if_neg hr0] at eM ⊢
    unfold o1
    rw [truncf_apply, addf_apply, addf_apply, oMain_apply, oFirst_apply, oOwn_apply]
    refine congrArg₂ (· + ·) (congrArg₂ (· + ·) ?_ ?_) ?_
    · refine Finset.sum_congr rfl fun i _ => ?_
      rw [exp704_apply, eM, sA_eq c w k xp r a b hb hb' s hs i, eA]
    · refine Finset.sum_congr rfl fun i _ => ?_
      rw [exp64_apply, eM, sB_eq c w k xp r a b hb hb' s hs hr0 i, k0_apply, hu]
      rfl
    · refine Finset.sum_congr rfl fun i _ => ?_
      have hl : 64 * min (r.val + 3 * (blk a).val) 31 + i.val < 2048 := by omega
      rw [exp64_apply, eM, sD_eq c w k xp r a b hb hb' s hs hr0 i, kdC_apply r v (blk a) i t hl, hu]
      refine congrArg (fun z : EReal => _ * z) (congrArg u ?_)
      show 2048 * c.val + (64 * min (r.val + 3 * (a.val / 64)) 31 + i.val) = 2048 * c.val + 64 * b + i.val
      omega

end

end Cert.KernelIdeal.Att

end
-- ==== Proof.RefAtt.lean ====
/- The reference's stages over the extended reals, and which keys its mask lets a row use. -/
module

public import proofs.«01_k».proof.Proof.DotAt
public import proofs.«01_k».proof.Proof.Soft
public import proofs.«01_k».proof.Proof.Gen.ReferenceIdeal
public import Idealize.ShloMosaic.Lib.Routing.Words
public import Idealize.ShloMosaic.Lib.Routing.OpsOrder

@[expose] public section

noncomputable section

namespace Cert.ReferenceIdeal.Hand

open Idealize.ShloMosaic Idealize.SL.Sem Idealize.ShloMosaic.ValueIdx
open Cert.ReferenceIdeal Cert.ReferenceIdeal.Gen Cert.DotAt Cert.Soft

/-! ## The mask -/

/-- The block of a row; of a key. -/
def rowB : IVec S2048 32 := Routing.pyDiv bcast_S_S2048 (iotaInDim S2048 32 0) (id (constantI S_ 32 64#32))
def keyB : IVec S16384 32 := Routing.pyDiv bcast_S_S16384 (iotaInDim S16384 32 0) (id (constantI S_ 32 64#32))

/-- The same on the square of rows and keys. -/
def rowS : IVec S2048x16384 32 := broadcastInDim S2048x16384 ![0, 1] bcast_S2048x1_S2048x16384_0_1 (broadcastInDim S2048x1 ![0] bcast_S2048_S2048x1_0 rowB)
def keyS : IVec S2048x16384 32 := broadcastInDim S2048x16384 ![0, 1] bcast_S1x16384_S2048x16384_0_1 (broadcastInDim S1x16384 ![1] bcast_S16384_S1x16384_1 keyB)

/-- Which keys a row may use; whether it may use any. -/
def allowed : IVec S2048x16384 1 :=
  ori (ori (cmpi .eq rowS keyS) (broadcastInDim S2048x16384 ![0, 1] bcast_S1x16384_S2048x16384_0_1
      (cmpi .eq (broadcastInDim S1x16384 ![1] bcast_S16384_S1x16384_1 keyB) (broadcastInDim S1x16384 ![] bcast_S_S1x16384 (constantI S_ 32 0#32)))))
    (cmpi .eq (Routing.pyRem bcast_S_S2048x16384 (addi rowS keyS) (id (constantI S_ 32 3#32)))
      (broadcastInDim S2048x16384 ![] bcast_S_S2048x16384 (constantI S_ 32 0#32)))
def anyKey : IVec S2048 1 := Host.reduce IntOp.ori allowed (constantI S_ 1 0#1) reducesTo_S2048x16384_S2048_d1 h_S_

theorem rowB_apply (i : Fin 2048) : rowB (ix1 i) = BitVec.ofNat 32 (i.val / 64) := by
  have := i.isLt
  exact Routing.pyDiv_ap bcast_S_S2048 _ _ (ix1 i) (a := i.val) (b := 64) rfl rfl (by omega) (by decide) (by decide)
theorem keyB_apply (J : Fin 16384) : keyB (ix1 J) = BitVec.ofNat 32 (J.val / 64) := by
  have := J.isLt
  exact Routing.pyDiv_ap bcast_S_S16384 _ _ (ix1 J) (a := J.val) (b := 64) rfl rfl (by omega) (by decide) (by decide)

theorem rowS_apply (i : Fin 2048) (J : Fin 16384) : rowS (ix2 i J) = BitVec.ofNat 32 (i.val / 64) := by
  unfold rowS
  rw [broadcastInDim_apply _ _ _ (ix2 i J) (ix2 i (0 : Fin 1)) (fun a => match a with
      | ⟨0, _⟩ => rfl
      | ⟨1, _⟩ => rfl),
    broadcastInDim_apply _ _ _ (ix2 i (0 : Fin 1)) (ix1 i) (fun a => match a with
      | ⟨0, _⟩ => rfl), rowB_apply]
theorem keyR_apply (J : Fin 16384) :
    (broadcastInDim S1x16384 ![1] bcast_S16384_S1x16384_1 keyB : IVec S1x16384 32) (ix2 (0 : Fin 1) J) = BitVec.ofNat 32 (J.val / 64) := by
  rw [broadcastInDim_apply _ _ _ (ix2 (0 : Fin 1) J) (ix1 J) (fun a => match a with
      | ⟨0, _⟩ => rfl), keyB_apply]
theorem keyS_apply (i : Fin 2048) (J : Fin 16384) : keyS (ix2 i J) = BitVec.ofNat 32 (J.val / 64) := by
  unfold keyS
  rw [broadcastInDim_apply _ _ _ (ix2 i J) (ix2 (0 : Fin 1) J) (fun a => match a with
      | ⟨0, _⟩ => rfl
      | ⟨1, _⟩ => rfl), keyR_apply]

theorem ori_one (x y : BitVec 1) : IntOp.ori x y = 1#1 ↔ x = 1#1 ∨ y = 1#1 := by revert x y; decide

theorem allowed_iff (i : Fin 2048) (J : Fin 16384) : allowed (ix2 i J) = 1#1 ↔ al (i.val / 64) J.val := by
  have hi := i.isLt
  have hJ := J.isLt
  have e1 : cmpi .eq rowS keyS (ix2 i J) = 1#1 ↔ i.val / 64 = J.val / 64 := by
    show IntOp.cmpi .eq (rowS (ix2 i J)) (keyS (ix2 i J)) = 1#1 ↔ _
    rw [rowS_apply, keyS_apply, WordCmp.cmpi_eq_ofNat_eq_one_iff (by omega) (by omega)]
  have e2 : (broadcastInDim S2048x16384 ![0, 1] bcast_S1x16384_S2048x16384_0_1
      (cmpi .eq (broadcastInDim S1x16384 ![1] bcast_S16384_S1x16384_1 keyB) (broadcastInDim S1x16384 ![] bcast_S_S1x16384 (constantI S_ 32 0#32))) : IVec S2048x16384 1)
        (ix2 i J) = 1#1 ↔ J.val / 64 = 0 := by
    rw [broadcastInDim_apply _ _ _ (ix2 i J) (ix2 (0 : Fin 1) J) (fun a => match a with
      | ⟨0, _⟩ => rfl
      | ⟨1, _⟩ => rfl)]
    show IntOp.cmpi .eq ((broadcastInDim S1x16384 ![1] bcast_S16384_S1x16384_1 keyB : IVec S1x16384 32) (ix2 (0 : Fin 1) J)) (BitVec.ofNat 32 0) = 1#1 ↔ _
    rw [keyR_apply, WordCmp.cmpi_eq_ofNat_eq_one_iff (by omega) (by omega)]
  have e3 : cmpi .eq (Routing.pyRem bcast_S_S2048x16384 (addi rowS keyS) (id (constantI S_ 32 3#32)))
      (broadcastInDim S2048x16384 ![] bcast_S_S2048x16384 (constantI S_ 32 0#32)) (ix2 i J) = 1#1 ↔ (i.val / 64 + J.val / 64) % 3 = 0 := by
    have ha : addi rowS keyS (ix2 i J) = BitVec.ofNat 32 (i.val / 64 + J.val / 64) := by
      show rowS (ix2 i J) + keyS (ix2 i J) = _
      rw [rowS_apply, keyS_apply, BitVec.ofNat_add]
    have hr := Routing.pyRem_ap bcast_S_S2048x16384 (addi rowS keyS) (id (constantI S_ 32 3#32)) (ix2 i J) (b := 3) ha rfl (by omega) (by decide) (by decide)
    show IntOp.cmpi .eq (Routing.pyRem bcast_S_S2048x16384 (addi rowS keyS) (id (constantI S_ 32 3#32)) (ix2 i J)) (BitVec.ofNat 32 0) = 1#1 ↔ _
    rw [hr, WordCmp.cmpi_eq_ofNat_eq_one_iff (by omega) (by omega)]
  unfold allowed al
  refine (ori_one _ _).trans ?_
  refine (or_congr (ori_one _ _) Iff.rfl).trans ?_
  rw [e1, e2, e3, or_assoc]

theorem redI : Shape.Reduces S2048x16384 [1] S2048 := by decide
theorem liftI (i : Fin 2048) (J : Fin 16384) : redI.lift (ix1 i) J = (ix2 i J : S2048x16384.Idx) :=
  funext fun ax => match ax with
    | ⟨0, _⟩ => Fin.ext rfl
    | ⟨1, _⟩ => Fin.ext rfl

/-- Every row may use the first key. -/
theorem anyKey_apply (i : Fin 2048) : anyKey (ix1 i) = 1#1 := by
  unfold anyKey
  refine (Host.reduce_eq_fold_single IntOp.ori allowed _ _ redI _ (ix1 i)).trans ?_
  refine (Routing.fold_ori _ _).2 ⟨(0 : Fin 16384), Finset.mem_univ _, ?_⟩
  refine (congrArg allowed (liftI i 0)).trans ?_
  exact (allowed_iff i 0).2 (Or.inr (Or.inl rfl))

/-! ## The stages -/

section
variable (x : FVec Ideal S1x2048x1024 .f32) (wq : FVec Ideal S1024x1024 .f32) (ke ve : FVec Ideal S1x16384x8x128 .f32) (wo : FVec Ideal S1024x1024 .f32)

def queries : FVec Ideal S1x2048x8x128 .f32 :=
  shapeCast _ (Host.dotGeneral dot_S1x2048x1024_S1024x1024_S1x2048x1024_2_0_01_1_n_n none x wq : FVec Ideal S1x2048x1024 .f32) shapeCasts_S1x2048x1024_S1x2048x8x128
/-- The scores, minus infinity where the mask forbids a key. -/
def scores : FVec Ideal S1x8x2048x16384 .f32 :=
  select (broadcastInDim S1x8x2048x16384 ![0, 1, 2, 3] bcast_S1x1x2048x16384_S1x8x2048x16384_0_1_2_3
      (broadcastInDim S1x1x2048x16384 ![2, 3] bcast_S2048x16384_S1x1x2048x16384_2_3 allowed))
    (mulf (Host.dotGeneral dot_S1x2048x8x128_S1x16384x8x128_S1x8x2048x16384_3_3_1_1_02_02 none (queries x wq) ke)
      (broadcastInDim S1x8x2048x16384 ![] bcast_S_S1x8x2048x16384 (constant S_ .f32 0x3DB504F3#32)))
    (broadcastInDim S1x8x2048x16384 ![] bcast_S_S1x8x2048x16384 (id (constant S_ .f32 0xFF800000#32)))
def largest : FVec Ideal S1x8x2048 .f32 :=
  Host.reduce FloatOps.maximumf (scores x wq ke) (constant S_ .f32 0xFF800000#32) reducesTo_S1x8x2048x16384_S1x8x2048_d3 h_S_
def weights : FVec Ideal S1x8x2048x16384 .f32 :=
  Host.exp (subf (scores x wq ke) (broadcastInDim S1x8x2048x16384 ![0, 1, 2, 3] bcast_S1x8x2048x1_S1x8x2048x16384_0_1_2_3
    (broadcastInDim S1x8x2048x1 ![0, 1, 2] bcast_S1x8x2048_S1x8x2048x1_0_1_2 (largest x wq ke))))
def dens : FVec Ideal S1x8x2048 .f32 :=
  Host.reduceAdd (weights x wq ke) (constant S_ .f32 0x00000000#32) reducesTo_S1x8x2048x16384_S1x8x2048_d3 h_S_
/-- The denominators, one for a row with no key. -/
def densK : FVec Ideal S1x8x2048x1 .f32 :=
  select (broadcastInDim S1x8x2048x1 ![0, 1, 2, 3] bcast_S1x1x2048x1_S1x8x2048x1_0_1_2_3 (broadcastInDim S1x1x2048x1 ![2] bcast_S2048_S1x1x2048x1_2 anyKey))
    (broadcastInDim S1x8x2048x1 ![0, 1, 2] bcast_S1x8x2048_S1x8x2048x1_0_1_2 (dens x wq ke))
    (broadcastInDim S1x8x2048x1 ![] bcast_S_S1x8x2048x1 (id (constant S_ .f32 0x3F800000#32)))
/-- The probabilities, zero for a row with no key. -/
def probs : FVec Ideal S1x8x2048x16384 .f32 :=
  select (broadcastInDim S1x8x2048x16384 ![0, 1, 2, 3] bcast_S1x1x2048x1_S1x8x2048x16384_0_1_2_3 (broadcastInDim S1x1x2048x1 ![2] bcast_S2048_S1x1x2048x1_2 anyKey))
    (Host.divf (weights x wq ke) (broadcastInDim S1x8x2048x16384 ![0, 1, 2, 3] bcast_S1x8x2048x1_S1x8x2048x16384_0_1_2_3 (densK x wq ke)))
    (broadcastInDim S1x8x2048x16384 ![] bcast_S_S1x8x2048x16384 (id (constant S_ .f32 0x00000000#32)))
def mixed : FVec Ideal S1x8x128x2048 .f32 :=
  Host.dotGeneral dot_S1x16384x8x128_S1x8x2048x16384_S1x8x128x2048_1_3_3_2_02_01 none ve (probs x wq ke)
def result : FVec Ideal S1x2048x1024 .f32 :=
  Host.dotGeneral dot_S1x2048x1024_S1024x1024_S1x2048x1024_2_0_01_1_n_n none
    (shapeCast _ (transpose S1x2048x8x128 [0, 3, 1, 2] (mixed x wq ke ve) transposes_S1x8x128x2048_S1x2048x8x128_0_3_1_2 : FVec Ideal S1x2048x8x128 .f32)
      shapeCasts_S1x2048x8x128_S1x2048x1024 : FVec Ideal S1x2048x1024 .f32) wo

end

end Cert.ReferenceIdeal.Hand

end
-- ==== Proof.RefRead.lean ====
/- The reference's result at an element: the softmax over the allowed keys, the values weighted by it, times the output matrix. -/
module

public import proofs.«01_k».proof.Proof.RefAtt

@[expose] public section

noncomputable section

namespace Cert.ReferenceIdeal.Hand

open Idealize.ShloMosaic Idealize.SL.Sem Idealize.ShloMosaic.ValueIdx
open Cert.ReferenceIdeal Cert.ReferenceIdeal.Gen Cert.DotAt Cert.Soft

/-- The scores' factor. -/
def scl : EReal := Ideal.ofBits .f32 0x3DB504F3#32

theorem bits_least : Ideal.ofBits .f32 0xFF800000#32 = ⊥ := by simp [Ideal.ofBits, Ideal.ieee]
theorem bits_zero : Ideal.ofBits .f32 0x00000000#32 = 0 := by simp [Ideal.ofBits, Ideal.ieee]

/-- A lane of a head. -/
def ln (h : Fin 8) (t : Fin 128) : Fin 1024 := ⟨128 * h.val + t.val, by omega⟩
/-- The head of a lane, and its place there. -/
def hdR (k : Fin 1024) : Fin 8 := ⟨k.val / 128, by omega⟩
def plR (k : Fin 1024) : Fin 128 := ⟨k.val % 128, by omega⟩

variable (x : FVec Ideal S1x2048x1024 .f32) (wq : FVec Ideal S1024x1024 .f32) (ke ve : FVec Ideal S1x16384x8x128 .f32) (wo : FVec Ideal S1024x1024 .f32)

/-- A row's query, and its score against a key. -/
def qR (i : Fin 2048) (h : Fin 8) (t : Fin 128) : EReal := ∑ k : Fin 1024, (x (ix3 (0 : Fin 1) i k) : EReal) * (wq (ix2 k (ln h t)) : EReal)
def sR (i : Fin 2048) (h : Fin 8) (J : ℕ) : EReal :=
  if hJ : J < 16384 then (∑ t : Fin 128, qR x wq i h t * (ke (ix4 (0 : Fin 1) (⟨J, hJ⟩ : Fin 16384) h t) : EReal)) * scl else 0
/-- A key's value at a lane. -/
def vR (k : Fin 1024) (J : ℕ) : EReal := if hJ : J < 16384 then (ve (ix4 (0 : Fin 1) (⟨J, hJ⟩ : Fin 16384) (hdR k) (plR k)) : EReal) else 0

theorem dot_plain (a : FVec Ideal S1x2048x1024 .f32) (b : FVec Ideal S1024x1024 .f32) (i : Fin 2048) (n : Fin 1024) :
    (Host.dotGeneral dot_S1x2048x1024_S1024x1024_S1x2048x1024_2_0_01_1_n_n none a b (ix3 (0 : Fin 1) i n) : EReal)
      = ∑ k : Fin 1024, (a (ix3 (0 : Fin 1) i k) : EReal) * (b (ix2 k n) : EReal) :=
  dot_at _ (K := 1024) rfl rfl a b (ix3 (0 : Fin 1) i n) (fun k => ix3 (0 : Fin 1) i k) (fun k => ix2 k n)
    (fun k => funext fun ax => Fin.ext (match ax with
      | ⟨0, _⟩ => rfl | ⟨1, _⟩ => rfl | ⟨2, _⟩ => contr_val dot_S1x2048x1024_S1024x1024_S1x2048x1024_2_0_01_1_n_n rfl rfl k))
    (fun k => funext fun ax => Fin.ext (match ax with
      | ⟨0, _⟩ => contr_val dot_S1x2048x1024_S1024x1024_S1x2048x1024_2_0_01_1_n_n rfl rfl k | ⟨1, _⟩ => rfl))

theorem queries_apply (i : Fin 2048) (h : Fin 8) (t : Fin 128) : (queries x wq (ix4 (0 : Fin 1) i h t) : EReal) = qR x wq i h t := by
  unfold queries qR
  rw [shapeCast_apply _ _ (ix4 (0 : Fin 1) i h t) (ix3 (0 : Fin 1) i (ln h t)) (by
    rw [Shape.rowMajor_val_three, Shape.rowMajor_val_four]
    show (0 * 2048 + i.val) * 1024 + (128 * h.val + t.val) = ((0 * 2048 + i.val) * 8 + h.val) * 128 + t.val
    omega)]
  exact dot_plain x wq i (ln h t)

theorem scores_apply (i : Fin 2048) (h : Fin 8) (J : Fin 16384) :
    (scores x wq ke (ix4 (0 : Fin 1) h i J) : EReal) = sc (sR x wq ke i h) (i.val / 64) J.val := by
  have hm : (broadcastInDim S1x8x2048x16384 ![0, 1, 2, 3] bcast_S1x1x2048x16384_S1x8x2048x16384_0_1_2_3
      (broadcastInDim S1x1x2048x16384 ![2, 3] bcast_S2048x16384_S1x1x2048x16384_2_3 allowed) : IVec S1x8x2048x16384 1) (ix4 (0 : Fin 1) h i J) = allowed (ix2 i J) := by
    rw [broadcastInDim_apply _ _ _ (ix4 (0 : Fin 1) h i J) (ix4 (0 : Fin 1) (0 : Fin 1) i J) (fun a => match a with
        | ⟨0, _⟩ => rfl
        | ⟨1, _⟩ => rfl
        | ⟨2, _⟩ => rfl
        | ⟨3, _⟩ => rfl),
      broadcastInDim_apply _ _ _ (ix4 (0 : Fin 1) (0 : Fin 1) i J) (ix2 i J) (fun a => match a with
        | ⟨0, _⟩ => rfl
        | ⟨1, _⟩ => rfl)]
  unfold scores sc
  refine (select_apply _ _ _ _).trans ?_
  rw [hm]
  by_cases h1 : allowed (ix2 i J) = 1#1
  · rw [if_pos ((allowed_iff i J).1 h1), h1, select_one]
    unfold sR
    rw [dif_pos J.isLt]
    refine (mulf_apply _ _ _).trans ?_
    refine congrArg (fun z : EReal => z * scl) ?_
    refine (dot_at dot_S1x2048x8x128_S1x16384x8x128_S1x8x2048x16384_3_3_1_1_02_02 (K := 128) rfl rfl _ _ (ix4 (0 : Fin 1) h i J)
      (fun t => ix4 (0 : Fin 1) i h t) (fun t => ix4 (0 : Fin 1) J h t)
      (fun t => funext fun ax => Fin.ext (match ax with
        | ⟨0, _⟩ => rfl | ⟨1, _⟩ => rfl | ⟨2, _⟩ => rfl
        | ⟨3, _⟩ => contr_val dot_S1x2048x8x128_S1x16384x8x128_S1x8x2048x16384_3_3_1_1_02_02 rfl rfl t))
      (fun t => funext fun ax => Fin.ext (match ax with
        | ⟨0, _⟩ => rfl | ⟨1, _⟩ => rfl | ⟨2, _⟩ => rfl
        | ⟨3, _⟩ => contr_val dot_S1x2048x8x128_S1x16384x8x128_S1x8x2048x16384_3_3_1_1_02_02 rfl rfl t))).trans ?_
    exact Finset.sum_congr rfl fun t _ => by rw [queries_apply]
  · rw [if_neg (fun hh => h1 ((allowed_iff i J).2 hh)), show allowed (ix2 i J) = 0#1 by
      revert h1; generalize allowed (ix2 i J) = y; revert y; decide, select_zero]
    exact bits_least

theorem red4 : Shape.Reduces S1x8x2048x16384 [3] S1x8x2048 := by decide
theorem lift4 (h : Fin 8) (i : Fin 2048) (J : Fin 16384) : red4.lift (ix3 (0 : Fin 1) h i) J = (ix4 (0 : Fin 1) h i J : S1x8x2048x16384.Idx) :=
  funext fun ax => match ax with
    | ⟨0, _⟩ => Fin.ext rfl
    | ⟨1, _⟩ => Fin.ext rfl
    | ⟨2, _⟩ => Fin.ext rfl
    | ⟨3, _⟩ => Fin.ext rfl

theorem largest_apply (i : Fin 2048) (h : Fin 8) : (largest x wq ke (ix3 (0 : Fin 1) h i) : EReal) = tp (sR x wq ke i h) (i.val / 64) := by
  unfold largest tp mx
  refine (Host.reduce_eq_fold_single (FloatOps.maximumf (F := Ideal) (φ := .f32)) (scores x wq ke) _ _ red4 _ (ix3 (0 : Fin 1) h i)).trans ?_
  have e0 : (constant S_ .f32 0xFF800000#32 : FVec Ideal S_ .f32) (Shape.Idx.first h_S_) = (⊥ : EReal) := bits_least
  rw [e0]
  have e1 : (scores x wq ke ∘ red4.lift (ix3 (0 : Fin 1) h i)) = fun J : Fin 16384 => sc (sR x wq ke i h) (i.val / 64) J.val := by
    funext J
    exact (congrArg (scores x wq ke) (lift4 h i J)).trans (scores_apply x wq ke i h J)
  rw [e1]
  rfl

theorem spread {α : Type} (y : S1x8x2048.Idx → α) (h : Fin 8) (i : Fin 2048) (J : Fin 16384) :
    broadcastInDim S1x8x2048x16384 ![0, 1, 2, 3] bcast_S1x8x2048x1_S1x8x2048x16384_0_1_2_3
      (broadcastInDim S1x8x2048x1 ![0, 1, 2] bcast_S1x8x2048_S1x8x2048x1_0_1_2 y) (ix4 (0 : Fin 1) h i J) = y (ix3 (0 : Fin 1) h i) := by
  rw [broadcastInDim_apply _ _ _ (ix4 (0 : Fin 1) h i J) (ix4 (0 : Fin 1) h i (0 : Fin 1)) (fun a => match a with
      | ⟨0, _⟩ => rfl
      | ⟨1, _⟩ => rfl
      | ⟨2, _⟩ => rfl
      | ⟨3, _⟩ => rfl),
    broadcastInDim_apply _ _ _ (ix4 (0 : Fin 1) h i (0 : Fin 1)) (ix3 (0 : Fin 1) h i) (fun a => match a with
      | ⟨0, _⟩ => rfl
      | ⟨1, _⟩ => rfl
      | ⟨2, _⟩ => rfl)]

theorem weights_apply (i : Fin 2048) (h : Fin 8) (J : Fin 16384) :
    (weights x wq ke (ix4 (0 : Fin 1) h i J) : EReal) = ex (sR x wq ke i h) (i.val / 64) J.val := by
  unfold weights ex
  show (Ideal.exp ((scores x wq ke (ix4 (0 : Fin 1) h i J) : EReal) - (broadcastInDim S1x8x2048x16384 ![0, 1, 2, 3] bcast_S1x8x2048x1_S1x8x2048x16384_0_1_2_3
    (broadcastInDim S1x8x2048x1 ![0, 1, 2] bcast_S1x8x2048_S1x8x2048x1_0_1_2 (largest x wq ke)) (ix4 (0 : Fin 1) h i J) : EReal)) : EReal) = _
  rw [spread, scores_apply, largest_apply]

theorem dens_apply (i : Fin 2048) (h : Fin 8) :
    (dens x wq ke (ix3 (0 : Fin 1) h i) : EReal) = ∑ J : Fin 16384, ex (sR x wq ke i h) (i.val / 64) J.val := by
  unfold dens
  rw [hostReduceAdd_apply, Ideal.hostReduceAdd_single _ red4]
  have e0 : (constant S_ .f32 0x00000000#32 : FVec Ideal S_ .f32) (Shape.Idx.first h_S_) = (0 : EReal) := bits_zero
  rw [e0, zero_add]
  exact Finset.sum_congr rfl fun (J : Fin 16384) _ => (congrArg (weights x wq ke) (lift4 h i J)).trans (weights_apply x wq ke i h J)

theorem densK_apply (i : Fin 2048) (h : Fin 8) :
    (densK x wq ke (ix4 (0 : Fin 1) h i (0 : Fin 1)) : EReal) = ∑ J : Fin 16384, ex (sR x wq ke i h) (i.val / 64) J.val := by
  unfold densK
  refine (select_apply _ _ _ _).trans ?_
  rw [broadcastInDim_apply _ _ (broadcastInDim S1x1x2048x1 ![2] bcast_S2048_S1x1x2048x1_2 anyKey) (ix4 (0 : Fin 1) h i (0 : Fin 1)) (ix4 (0 : Fin 1) (0 : Fin 1) i (0 : Fin 1)) (fun a => match a with
      | ⟨0, _⟩ => rfl
      | ⟨1, _⟩ => rfl
      | ⟨2, _⟩ => rfl
      | ⟨3, _⟩ => rfl),
    broadcastInDim_apply _ _ anyKey (ix4 (0 : Fin 1) (0 : Fin 1) i (0 : Fin 1)) (ix1 i) (fun a => match a with
      | ⟨0, _⟩ => rfl), anyKey_apply, select_one,
    broadcastInDim_apply _ _ (dens x wq ke) (ix4 (0 : Fin 1) h i (0 : Fin 1)) (ix3 (0 : Fin 1) h i) (fun a => match a with
      | ⟨0, _⟩ => rfl
      | ⟨1, _⟩ => rfl
      | ⟨2, _⟩ => rfl), dens_apply]

theorem probs_apply (i : Fin 2048) (h : Fin 8) (J : Fin 16384) :
    (probs x wq ke (ix4 (0 : Fin 1) h i J) : EReal)
      = Ideal.div (ex (sR x wq ke i h) (i.val / 64) J.val) (∑ J : Fin 16384, ex (sR x wq ke i h) (i.val / 64) J.val) := by
  unfold probs
  refine (select_apply _ _ _ _).trans ?_
  rw [broadcastInDim_apply _ _ (broadcastInDim S1x1x2048x1 ![2] bcast_S2048_S1x1x2048x1_2 anyKey) (ix4 (0 : Fin 1) h i J) (ix4 (0 : Fin 1) (0 : Fin 1) i (0 : Fin 1)) (fun a => match a with
      | ⟨0, _⟩ => rfl
      | ⟨1, _⟩ => rfl
      | ⟨2, _⟩ => rfl
      | ⟨3, _⟩ => rfl),
    broadcastInDim_apply _ _ anyKey (ix4 (0 : Fin 1) (0 : Fin 1) i (0 : Fin 1)) (ix1 i) (fun a => match a with
      | ⟨0, _⟩ => rfl), anyKey_apply, select_one, hostDivf_apply, weights_apply,
    broadcastInDim_apply _ _ (densK x wq ke) (ix4 (0 : Fin 1) h i J) (ix4 (0 : Fin 1) h i (0 : Fin 1)) (fun a => match a with
      | ⟨0, _⟩ => rfl
      | ⟨1, _⟩ => rfl
      | ⟨2, _⟩ => rfl
      | ⟨3, _⟩ => rfl), densK_apply]

/-- A row's mixed values at a lane. -/
def mixR (i : Fin 2048) (k : Fin 1024) : EReal :=
  ∑ J : Fin 16384, vR ve k J.val * Ideal.div (ex (sR x wq ke i (hdR k)) (i.val / 64) J.val) (∑ J : Fin 16384, ex (sR x wq ke i (hdR k)) (i.val / 64) J.val)

theorem mixed_apply (i : Fin 2048) (k : Fin 1024) : (mixed x wq ke ve (ix4 (0 : Fin 1) (hdR k) (plR k) i) : EReal) = mixR x wq ke ve i k := by
  unfold mixed mixR
  refine (dot_at dot_S1x16384x8x128_S1x8x2048x16384_S1x8x128x2048_1_3_3_2_02_01 (K := 16384) rfl rfl _ _ (ix4 (0 : Fin 1) (hdR k) (plR k) i)
      (fun J => ix4 (0 : Fin 1) J (hdR k) (plR k)) (fun J => ix4 (0 : Fin 1) (hdR k) i J)
      (fun J => funext fun ax => Fin.ext (match ax with
        | ⟨0, _⟩ => rfl
        | ⟨1, _⟩ => contr_val dot_S1x16384x8x128_S1x8x2048x16384_S1x8x128x2048_1_3_3_2_02_01 rfl rfl J
        | ⟨2, _⟩ => rfl | ⟨3, _⟩ => rfl))
      (fun J => funext fun ax => Fin.ext (match ax with
        | ⟨0, _⟩ => rfl | ⟨1, _⟩ => rfl | ⟨2, _⟩ => rfl
        | ⟨3, _⟩ => contr_val dot_S1x16384x8x128_S1x8x2048x16384_S1x8x128x2048_1_3_3_2_02_01 rfl rfl J))).trans ?_
  refine Finset.sum_congr rfl fun J _ => ?_
  rw [probs_apply]
  unfold vR
  rw [dif_pos J.isLt]

/-- The result at an element. -/
theorem result_apply (i : Fin 2048) (n : Fin 1024) :
    (result x wq ke ve wo (ix3 (0 : Fin 1) i n) : EReal) = ∑ k : Fin 1024, mixR x wq ke ve i k * (wo (ix2 k n) : EReal) := by
  unfold result
  refine (dot_plain _ wo i n).trans (Finset.sum_congr rfl fun k _ => ?_)
  rw [shapeCast_apply _ _ (ix3 (0 : Fin 1) i k) (ix4 (0 : Fin 1) i (hdR k) (plR k)) (by
      rw [Shape.rowMajor_val_three, Shape.rowMajor_val_four]
      show ((0 * 2048 + i.val) * 8 + k.val / 128) * 128 + k.val % 128 = (0 * 2048 + i.val) * 1024 + k.val
      omega),
    transpose_apply _ _ _ (ix4 (0 : Fin 1) i (hdR k) (plR k)) (ix4 (0 : Fin 1) (hdR k) (plR k) i) (fun a => match a with
      | ⟨0, _⟩ => rfl
      | ⟨1, _⟩ => rfl
      | ⟨2, _⟩ => rfl
      | ⟨3, _⟩ => rfl), mixed_apply]

end Cert.ReferenceIdeal.Hand

end
-- ==== Proof.Reads.lean ====
/- Whole buffers read and written through rectangles, an element at a time. -/
module

public import proofs.«01_k».proof.Proof.Parts
public import Idealize.ShloMosaic.Lib.ValueIdx
public import Idealize.ShloMosaic.Lib.ValueLayout
public import Idealize.ShloMosaic.Lib.Pipeline.Value

@[expose] public section

noncomputable section

namespace Cert.KernelIdeal.Hand

open Idealize.ShloMosaic Idealize.ShloMosaic.TcCoe Idealize.SL.Sem Idealize.ShloMosaic.ValueIdx
open Cert.KernelIdeal.Gen

variable {F : FTy → Type} [FloatOps F] [Named F]

section Generic
variable {Val : EltTy → Type} (b : Ref sig .tc) {off size : Fin b.ty.shape.rank → ℕ} (inb : ∀ a, off a + size a ≤ b.ty.shape.size a)

theorem emb_eq {x : (Rect.unit off size inb).shape.Idx} {i : b.ty.shape.Idx} (h : ∀ a, (i a).val = off a + (x a).val) :
    (Rect.unit off size inb).emb x = i :=
  funext fun a => Fin.ext (by
    rw [h a, Rect.emb_apply]
    show off a + 1 * (x a).val = _
    rw [Nat.one_mul])

/-- A read through a rectangle: the element at the offset plus the index. -/
theorem read_at (f : b.ty.Contents Val) (x : (Rect.unit off size inb).shape.Idx) (i : b.ty.shape.Idx) (h : ∀ a, (i a).val = off a + (x a).val) :
    (Memref.whole b).view.readAt Val (Rect.unit off size inb).toLoadRect f x = f i :=
  congrArg f (emb_eq b inb h)

/-- A write through a rectangle: inside, the element written; -/
theorem write_at (f : b.ty.Contents Val) (w : (Rect.unit off size inb).shape.Idx → Val b.ty.elt) (x : (Rect.unit off size inb).shape.Idx)
    (i : b.ty.shape.Idx) (h : ∀ a, (i a).val = off a + (x a).val) :
    ((Memref.whole b).access (Rect.unit off size inb)).write Val f w Finset.univ i = w x := by
  obtain rfl := emb_eq b inb h
  exact View.write_emb_of_mem (v := (View.whole b).slice (Rect.unit off size inb)) f w (Finset.mem_univ x)

/-- outside, the element that was there. -/
theorem write_off (f : b.ty.Contents Val) (w : (Rect.unit off size inb).shape.Idx → Val b.ty.elt) (i : b.ty.shape.Idx) (a : Fin b.ty.shape.rank)
    (h : (i a).val < off a ∨ off a + size a ≤ (i a).val) :
    ((Memref.whole b).access (Rect.unit off size inb)).write Val f w Finset.univ i = f i := by
  refine View.write_of_not_mem (v := (View.whole b).slice (Rect.unit off size inb)) f w Finset.univ fun hm => ?_
  rw [View.setOn_univ, View.set_slice_whole, Rect.mem_set_unit] at hm
  have h1 : off a ≤ (i a).val := (hm a).1
  have h2 : (i a).val < off a + size a := (hm a).2
  omega

end Generic

/-! ## Heads and planes of the accumulators -/

/-- The column of a head's lane. -/
abbrev col (h : Fin 8) (t : Fin 128) : Fin 1024 := ⟨128 * h.val + t.val, by omega⟩

theorem rdHead_apply (h : Fin 8) (f : AO F) (r : Fin 256) (t : Fin 128) : rdHead h f (ix2 r t) = f (ix2 r (col h t)) :=
  read_at cc1_scratch0 (inb_head h) f _ _ fun a => match a with
    | ⟨0, _⟩ => (Nat.zero_add _).symm
    | ⟨1, _⟩ => rfl

theorem wrHead_same (h : Fin 8) (f : AO F) (w : Vec F S256x128 .f32) (r : Fin 256) (t : Fin 128) :
    wrHead h f w (ix2 r (col h t)) = w (ix2 r t) :=
  write_at cc1_scratch0 (inb_head h) f w (ix2 r t) _ fun a => match a with
    | ⟨0, _⟩ => (Nat.zero_add _).symm
    | ⟨1, _⟩ => rfl

theorem wrHead_other {h h' : Fin 8} (hn : h ≠ h') (f : AO F) (w : Vec F S256x128 .f32) (r : Fin 256) (t : Fin 128) :
    wrHead h f w (ix2 r (col h' t)) = f (ix2 r (col h' t)) :=
  write_off cc1_scratch0 (inb_head h) f w _ 1 (by
    have : h.val ≠ h'.val := fun e => hn (Fin.ext e)
    show 128 * h'.val + t.val < 128 * h.val ∨ 128 * h.val + 128 ≤ 128 * h'.val + t.val
    omega)

theorem rdPlane_apply (k : Fin 2) (f : AM F) (r : Fin 256) (h : Fin 8) : rdPlane k f (ix3 0 r h) = f (ix3 k r h) :=
  read_at cc1_scratch1 (inb_ml k) f _ _ fun a => match a with
    | ⟨0, _⟩ => rfl
    | ⟨1, _⟩ => (Nat.zero_add _).symm
    | ⟨2, _⟩ => (Nat.zero_add _).symm

theorem wrPlane_same (k : Fin 2) (f : AM F) (w : Vec F S1x256x8 .f32) (r : Fin 256) (h : Fin 8) :
    wrPlane k f w (ix3 k r h) = w (ix3 0 r h) :=
  write_at cc1_scratch1 (inb_ml k) f w (ix3 0 r h) _ fun a => match a with
    | ⟨0, _⟩ => rfl
    | ⟨1, _⟩ => (Nat.zero_add _).symm
    | ⟨2, _⟩ => (Nat.zero_add _).symm

theorem wrPlane_other {k k' : Fin 2} (hn : k ≠ k') (f : AM F) (w : Vec F S1x256x8 .f32) (r : Fin 256) (h : Fin 8) :
    wrPlane k f w (ix3 k' r h) = f (ix3 k' r h) :=
  write_off cc1_scratch1 (inb_ml k) f w _ 0 (by
    have : k.val ≠ k'.val := fun e => hn (Fin.ext e)
    show k'.val < k.val ∨ k.val + 1 ≤ k'.val
    omega)

/-! ## The inputs -/

variable (m : (ℓ : Loc nD τ sig) → Buf (Elt F) ℓ)

theorem inO_eq (c : Dev nD) : inO m c = m ((c : Thread nD τ).loc main_v3_0) :=
  Memref.read_access_unit_zero (Elt F) main_v3_0 (funext fun a => by fin_cases a <;> decide) _ _
theorem inM_eq (c : Dev nD) : inM m c = m ((c : Thread nD τ).loc main_v3_1) :=
  Memref.read_access_unit_zero (Elt F) main_v3_1 (funext fun a => by fin_cases a <;> decide) _ _
theorem inL_eq (c : Dev nD) : inL m c = m ((c : Thread nD τ).loc main_v3_2) :=
  Memref.read_access_unit_zero (Elt F) main_v3_2 (funext fun a => by fin_cases a <;> decide) _ _
theorem inW_eq (c : Dev nD) : inW m c = m ((c : Thread nD τ).loc main_arg4) :=
  Memref.read_access_unit_zero (Elt F) main_arg4 (funext fun a => by fin_cases a <;> decide) _ _

/-- A row of a chunk, in a device's rows. -/
abbrev row (p : Fin 8) (r : Fin 256) : Fin 2112 := ⟨256 * p.val + r.val, by omega⟩

/-! ## What arrived in the slots -/

theorem read_slice (b : Ref sig .tc) {off size : Fin b.ty.shape.rank → ℕ} (inb : ∀ a, off a + size a ≤ b.ty.shape.size a)
    (f : b.ty.Contents (Elt F)) (hs : ∀ a, (Rect.unit off size inb).stride a = 1) (x : (Rect.unit off size inb).shape.Idx) (i : b.ty.shape.Idx)
    (h : ∀ a, (i a).val = off a + (x a).val) : ((Memref.whole b).slice (Rect.unit off size inb) hs).view.read (Elt F) f x = f i :=
  congrArg f (emb_eq b inb h)

theorem xO_apply (c : Dev nD) (j : Fin 7) (r : Fin 256) (k : Fin 1024) :
    xO m (up c j) j (ix2 r k) = m ((up c j : Thread nD τ).loc main_v3_0) (ix2 (row c r) k) := by
  unfold xO
  rw [inO_eq]
  refine read_slice cc1_stg0_0 (k1_off1_inb (up c j) j) _ (fun _ => rfl) (ix2 r k) _ fun a => ?_
  have e := (off1_dn (up c j) j).trans (by rw [dn_up] : _ = ![256 * c.val, 0])
  exact match a with
    | ⟨0, _⟩ => (congrArg (· + r.val) (congrFun e 0)).symm
    | ⟨1, _⟩ => (Nat.zero_add _).symm.trans (congrArg (· + k.val) (congrFun e 1)).symm

theorem xM_apply (c : Dev nD) (j : Fin 7) (r : Fin 256) (h : Fin 8) :
    xM m (up c j) j (ix2 r h) = m ((up c j : Thread nD τ).loc main_v3_1) (ix2 (row c r) h) := by
  unfold xM
  rw [inM_eq]
  refine read_slice cc1_stg1_0 (k1_off2_inb (up c j) j) _ (fun _ => rfl) (ix2 r h) _ fun a => ?_
  have e := (off2_dn (up c j) j).trans (by rw [dn_up] : _ = ![256 * c.val, 0])
  exact match a with
    | ⟨0, _⟩ => (congrArg (· + r.val) (congrFun e 0)).symm
    | ⟨1, _⟩ => (Nat.zero_add _).symm.trans (congrArg (· + h.val) (congrFun e 1)).symm

theorem xL_apply (c : Dev nD) (j : Fin 7) (r : Fin 256) (h : Fin 8) :
    xL m (up c j) j (ix2 r h) = m ((up c j : Thread nD τ).loc main_v3_2) (ix2 (row c r) h) := by
  unfold xL
  rw [inL_eq]
  refine read_slice cc1_stg2_0 (k1_off2_inb (up c j) j) _ (fun _ => rfl) (ix2 r h) _ fun a => ?_
  have e := (off2_dn (up c j) j).trans (by rw [dn_up] : _ = ![256 * c.val, 0])
  exact match a with
    | ⟨0, _⟩ => (congrArg (· + r.val) (congrFun e 0)).symm
    | ⟨1, _⟩ => (Nat.zero_add _).symm.trans (congrArg (· + h.val) (congrFun e 1)).symm

/-- What a hop reads, without the slots' unit axes, is what was sent. -/
theorem yO_cast (c : Dev nD) (j : Fin 7) : shapeCast S256x1024 (yO m c j) shapeCasts_S1x256x1024_S256x1024 = xO m (up c j) j :=
  (Memref.read_squeeze_slice rO (rSlotO j) (fun _ => rfl) squeezes_S1x256x1024_S256x1024 shapeCasts_S1x256x1024_S256x1024 (sO m c j)).symm.trans
    (View.read_rep (slotO j).view (xO m (up c j) j))

theorem yM_cast (c : Dev nD) (j : Fin 7) : shapeCast S256x8 (yM m c j) shapeCasts_S1x1x256x8_S256x8 = xM m (up c j) j :=
  (Memref.read_squeeze_slice rM (rSlotM j 0) (fun _ => rfl) squeezes_S1x1x256x8_S256x8 shapeCasts_S1x1x256x8_S256x8 (sM m c j)).symm.trans
    (View.read_rep (slotML j 0).view (xM m (up c j) j))

theorem yL_cast (c : Dev nD) (j : Fin 7) : shapeCast S256x8 (yL m c j) shapeCasts_S1x1x256x8_S256x8 = xL m (up c j) j :=
  (Memref.read_squeeze_slice rM (rSlotM j 1) (fun _ => rfl) squeezes_S1x1x256x8_S256x8 shapeCasts_S1x1x256x8_S256x8 (sL m c j)).symm.trans
    (View.read_rep (slotML j 1).view (xL m (up c j) j))

/-! ## The own chunk -/

theorem ownO_apply (c : Dev nD) (r : Fin 256) (k : Fin 1024) :
    bO.view.readAt (Elt F) (Rect.unit (s := S2112x1024) (k1_off3 c) S256x1024.size (k1_off3_inb c)).toLoadRect (inO m c) (ix2 r k)
      = m ((c : Thread nD τ).loc main_v3_0) (ix2 (row c r) k) := by
  rw [inO_eq]
  refine read_at cc1_stg0_0 (k1_off3_inb c) _ (ix2 r k) _ fun a => ?_
  have e := k1_off3_eq c
  exact match a with
    | ⟨0, _⟩ => (congrArg (· + r.val) (congrFun e 0)).symm
    | ⟨1, _⟩ => (Nat.zero_add _).symm.trans (congrArg (· + k.val) (congrFun e 1)).symm

theorem ownM_apply (c : Dev nD) (r : Fin 256) (h : Fin 8) :
    bM.view.readAt (Elt F) (Rect.unit (s := S2112x8) (k1_off4 c) S256x8.size (k1_off4_inb c)).toLoadRect (inM m c) (ix2 r h)
      = m ((c : Thread nD τ).loc main_v3_1) (ix2 (row c r) h) := by
  rw [inM_eq]
  refine read_at cc1_stg1_0 (k1_off4_inb c) _ (ix2 r h) _ fun a => ?_
  have e := k1_off4_eq c
  exact match a with
    | ⟨0, _⟩ => (congrArg (· + r.val) (congrFun e 0)).symm
    | ⟨1, _⟩ => (Nat.zero_add _).symm.trans (congrArg (· + h.val) (congrFun e 1)).symm

theorem ownL_apply (c : Dev nD) (r : Fin 256) (h : Fin 8) :
    bL.view.readAt (Elt F) (Rect.unit (s := S2112x8) (k1_off4 c) S256x8.size (k1_off4_inb c)).toLoadRect (inL m c) (ix2 r h)
      = m ((c : Thread nD τ).loc main_v3_2) (ix2 (row c r) h) := by
  rw [inL_eq]
  refine read_at cc1_stg2_0 (k1_off4_inb c) _ (ix2 r h) _ fun a => ?_
  have e := k1_off4_eq c
  exact match a with
    | ⟨0, _⟩ => (congrArg (· + r.val) (congrFun e 0)).symm
    | ⟨1, _⟩ => (Nat.zero_add _).symm.trans (congrArg (· + h.val) (congrFun e 1)).symm

/-! ## Rows gathered, blocks of the result -/

theorem wrRows_apply (p : Fin 8) (f : AG F) (w : FVec F S256x1024 .bf16) (r : Fin 256) (n : Fin 1024) (R : Fin 2048) (hR : R.val = 256 * p.val + r.val) :
    wrRows p f w (ix2 R n) = w (ix2 r n) := by
  have e5 := k1_off5_eq p
  refine write_at cc1_scratch4 (k1_off5_inb p) f w (ix2 r n) (ix2 R n) fun a => ?_
  exact match a with
    | ⟨0, _⟩ => hR.trans (congrArg (· + r.val) (congrFun e5 0)).symm
    | ⟨1, _⟩ => (Nat.zero_add _).symm.trans (congrArg (· + n.val) (congrFun e5 1)).symm

theorem agV_apply (p : Fin 8) (r : Fin 256) (n : Fin 1024) (R : Fin 2048) (hR : R.val = 256 * p.val + r.val) : agV m (ix2 R n) = rows m p (ix2 r n) := by
  have e : rowDev (ix2 R n) = p := Fin.ext (by
    show R.val / 256 = p.val
    omega)
  refine Eq.trans ?_ (wrRows_apply p gB.view.junk (rows m p) r n R hR)
  rw [← e]
  rfl

theorem rdSrc_apply (b : Fin 32) (g : AG F) (t : Fin 64) (n : Fin 1024) :
    rdSrc b g (ix2 t n) = g (ix2 (⟨64 * srcBlk b + t.val, by unfold srcBlk; omega⟩ : Fin 2048) n) :=
  read_at cc1_scratch4 (inb_src b) g _ _ fun a => match a with
    | ⟨0, _⟩ => rfl
    | ⟨1, _⟩ => (Nat.zero_add _).symm

/-- The output's element in block `b` is the gathered rows' in the block that goes there. -/
theorem outV_apply (b : Fin 32) (t : Fin 64) (n : Fin 1024) :
    outV m (ix3 (0 : Fin 1) (⟨64 * b.val + t.val, by omega⟩ : Fin 2048) n)
      = outVal (rdSrc b (agV m)) (ix3 0 t n) := by
  have key : ∀ (l : List (Fin 32)) (f : OU F), b ∈ l →
      l.foldl (stepOut (agV m)) f (ix3 (0 : Fin 1) (⟨64 * b.val + t.val, by omega⟩ : Fin 2048) n) = outVal (rdSrc b (agV m)) (ix3 0 t n) := by
    intro l
    induction l using List.reverseRecOn with
    | nil => intro f hb; exact absurd hb List.not_mem_nil
    | append_singleton l b' ih =>
      intro f hb
      rw [List.foldl_append, List.foldl_cons, List.foldl_nil]
      by_cases hbb : b = b'
      · subst hbb
        exact write_at cc1_stg4_0 (inb_dst b) _ _ (ix3 0 t n) _ fun a => match a with
          | ⟨0, _⟩ => rfl
          | ⟨1, _⟩ => rfl
          | ⟨2, _⟩ => (Nat.zero_add _).symm
      · refine (write_off cc1_stg4_0 (inb_dst b') _ _ _ 1 ?_).trans (ih f ?_)
        · have : b.val ≠ b'.val := fun e => hbb (Fin.ext e)
          show 64 * b.val + t.val < 64 * b'.val ∨ 64 * b'.val + 64 ≤ 64 * b.val + t.val
          omega
        · rcases List.mem_append.1 hb with h | h
          · exact h
          · exact absurd (List.mem_singleton.1 h) hbb
  have hb : ∀ b : Fin 32, b ∈ L32 := by decide
  exact key L32 _ (hb b)

end Cert.KernelIdeal.Hand

end
-- ==== Proof.Accs.lean ====
/- The accumulators after the seven hops, over the extended reals: at each row and head the largest of the eight devices'
   maxima, and the devices' sums and denominators weighted against it. -/
module

public import proofs.«01_k».proof.Proof.Reads
public import proofs.«01_k».proof.Proof.Merge

@[expose] public section

noncomputable section

namespace Cert.KernelIdeal.Hand

open Idealize.ShloMosaic Idealize.ShloMosaic.TcCoe Idealize.SL.Sem Idealize.ShloMosaic.ValueIdx
open Cert.KernelIdeal.Gen Cert.Merge

variable (m : (ℓ : Loc nD τ sig) → Buf (Elt Ideal) ℓ)

/-- The devices' partial sums, maxima and denominators, at a place. -/
def oAt (i : Fin 2112) (k : Fin 1024) (q : Fin 8) : EReal := m ((q : Thread nD τ).loc main_v3_0) (ix2 i k)
def sAt (i : Fin 2112) (h : Fin 8) (q : Fin 8) : EReal := m ((q : Thread nD τ).loc main_v3_1) (ix2 i h)
def lAt (i : Fin 2112) (h : Fin 8) (q : Fin 8) : EReal := m ((q : Thread nD τ).loc main_v3_2) (ix2 i h)

/-! ## The operations at an element -/

theorem lane_col (a : FVec Ideal S256x8 .f32) (h : Fin 8) (r : Fin 256) (t : Fin 128) :
    (broadcastTo S256x128 (extractStridedSlice S256x1 ![0, h.val] a (slices_col h)) broadcasts_S256x1_S256x128 : FVec Ideal S256x128 .f32) (ix2 r t)
      = a (ix2 r h) := by
  refine (broadcastTo_apply _ _ (ix2 r t) (ix2 r (0 : Fin 1)) fun x => ?_).trans (extractStridedSlice_apply _ _ _ _ (ix2 r h) fun x => ?_)
  · exact match x with
      | ⟨0, _⟩ => rfl
      | ⟨1, _⟩ => rfl
  · exact match x with
      | ⟨0, _⟩ => (Nat.zero_add _).symm
      | ⟨1, _⟩ => rfl

theorem headVal_apply (h : Fin 8) (al ar : FVec Ideal S256x8 .f32) (x : Vec Ideal S256x128 .f32) (y : Vec Ideal S1x256x1024 .bf16) (r : Fin 256) (t : Fin 128) :
    headVal h al ar x y (ix2 r t) = (x (ix2 r t) * al (ix2 r h)
      + (shapeCast S256x1024 y shapeCasts_S1x256x1024_S256x1024 : FVec Ideal S256x1024 .bf16) (ix2 r (col h t)) * ar (ix2 r h) : EReal) := by
  unfold headVal
  rw [shapeCast_self, addf_apply, mulf_apply, mulf_apply, lane_col, lane_col, extf_apply]
  congr 2
  exact extractStridedSlice_apply _ _ _ _ (ix2 r (col h t)) fun x => match x with
    | ⟨0, _⟩ => (Nat.zero_add _).symm
    | ⟨1, _⟩ => rfl

theorem mergeM_apply (m0 : Vec Ideal S1x256x8 .f32) (m1 : Vec Ideal S1x1x256x8 .f32) (r : Fin 256) (h : Fin 8) :
    mergeM m0 m1 (ix2 r h) = (max (m0 (ix3 0 r h)) ((shapeCast S256x8 m1 shapeCasts_S1x1x256x8_S256x8 : FVec Ideal S256x8 .f32) (ix2 r h)) : EReal) := by
  unfold mergeM
  rw [maximumf_apply]
  exact congrArg (fun z : EReal => max z _) (shapeCast_1ab_ab_apply m0 _ r h)

theorem scaleA_apply (m0 : Vec Ideal S1x256x8 .f32) (m1 : Vec Ideal S1x1x256x8 .f32) (r : Fin 256) (h : Fin 8) :
    scaleA m0 m1 (ix2 r h) = Ideal.exp (m0 (ix3 0 r h)
      - max (m0 (ix3 0 r h)) ((shapeCast S256x8 m1 shapeCasts_S1x1x256x8_S256x8 : FVec Ideal S256x8 .f32) (ix2 r h)) : EReal) := by
  show Ideal.exp (_ - mergeM m0 m1 (ix2 r h) : EReal) = _
  rw [mergeM_apply]
  exact congrArg (fun z : EReal => Ideal.exp (z - _)) (shapeCast_1ab_ab_apply m0 _ r h)

theorem scaleR_apply (m0 : Vec Ideal S1x256x8 .f32) (m1 : Vec Ideal S1x1x256x8 .f32) (r : Fin 256) (h : Fin 8) :
    scaleR m0 m1 (ix2 r h) = Ideal.exp ((shapeCast S256x8 m1 shapeCasts_S1x1x256x8_S256x8 : FVec Ideal S256x8 .f32) (ix2 r h)
      - max (m0 (ix3 0 r h)) ((shapeCast S256x8 m1 shapeCasts_S1x1x256x8_S256x8 : FVec Ideal S256x8 .f32) (ix2 r h)) : EReal) := by
  show Ideal.exp (_ - mergeM m0 m1 (ix2 r h) : EReal) = _
  rw [mergeM_apply]

theorem newM_apply (m0 : Vec Ideal S1x256x8 .f32) (m1 : Vec Ideal S1x1x256x8 .f32) (r : Fin 256) (h : Fin 8) :
    newM m0 m1 (ix3 0 r h) = (max (m0 (ix3 0 r h)) ((shapeCast S256x8 m1 shapeCasts_S1x1x256x8_S256x8 : FVec Ideal S256x8 .f32) (ix2 r h)) : EReal) :=
  (shapeCast_ab_1ab_apply _ _ 0 r h).trans (mergeM_apply m0 m1 r h)

theorem newL_apply (m0 l0 : Vec Ideal S1x256x8 .f32) (m1 l1 : Vec Ideal S1x1x256x8 .f32) (r : Fin 256) (h : Fin 8) :
    newL m0 m1 l0 l1 (ix3 0 r h) = (l0 (ix3 0 r h) * scaleA m0 m1 (ix2 r h)
      + (shapeCast S256x8 l1 shapeCasts_S1x1x256x8_S256x8 : FVec Ideal S256x8 .f32) (ix2 r h) * scaleR m0 m1 (ix2 r h) : EReal) := by
  refine (shapeCast_ab_1ab_apply _ _ 0 r h).trans ?_
  rw [addf_apply, mulf_apply, mulf_apply]
  exact congrArg (fun z : EReal => z * _ + _) (shapeCast_1ab_ab_apply l0 _ r h)

/-! ## A hop -/

/-- The heads of a hop, each on its own columns. -/
theorem heads_apply (al ar : FVec Ideal S256x8 .f32) (y : Vec Ideal S1x256x1024 .bf16) (f : AO Ideal) (h : Fin 8) (r : Fin 256) (t : Fin 128) :
    L8.foldl (stepHead al ar y) f (ix2 r (col h t)) = headVal h al ar (rdHead h f) y (ix2 r t) := by
  have key : ∀ l : List (Fin 8), l.Nodup → l.foldl (stepHead al ar y) f (ix2 r (col h t))
      = if h ∈ l then headVal h al ar (rdHead h f) y (ix2 r t) else f (ix2 r (col h t)) := by
    intro l
    induction l using List.reverseRecOn with
    | nil => intro _; rw [if_neg List.not_mem_nil]; rfl
    | append_singleton l b ih =>
      intro hn
      have hl : l.Nodup := hn.of_append_left
      have hb : b ∉ l := fun hb => (List.disjoint_of_nodup_append hn) hb (List.mem_singleton.2 rfl)
      rw [List.foldl_append, List.foldl_cons, List.foldl_nil]
      by_cases e : h = b
      · subst e
        rw [if_pos (List.mem_append_right _ (List.mem_singleton.2 rfl))]
        unfold stepHead
        rw [wrHead_same, headVal_apply, headVal_apply, rdHead_apply, rdHead_apply]
        have := ih hl
        rw [if_neg hb] at this
        unfold stepHead at this
        rw [this]
      · have hm : (h ∈ l ++ [b]) ↔ h ∈ l := by
          rw [List.mem_append, List.mem_singleton]
          exact ⟨fun o => o.resolve_right e, Or.inl⟩
        rw [if_congr hm rfl rfl, ← ih hl]
        exact wrHead_other (fun e' => e e'.symm) _ _ r t
  have hm : ∀ h : Fin 8, h ∈ L8 := by decide
  rw [key L8 (by decide), if_pos (hm h)]

/-- The accumulators at a place: the maximum, the denominator, the sum. -/
def aMax (s : AO Ideal × AM Ideal) (r : Fin 256) (h : Fin 8) : EReal := s.2 (ix3 (0 : Fin 2) r h)
def aDen (s : AO Ideal × AM Ideal) (r : Fin 256) (h : Fin 8) : EReal := s.2 (ix3 (1 : Fin 2) r h)
def aSum (s : AO Ideal × AM Ideal) (r : Fin 256) (k : Fin 1024) : EReal := s.1 (ix2 r k)

variable (c : Dev nD) (s : AO Ideal × AM Ideal) (j : Fin 7) (r : Fin 256) (h : Fin 8)

theorem old_max : (rdPlane 0 s.2 (ix3 0 r h) : EReal) = aMax s r h := rdPlane_apply 0 s.2 r h
theorem old_den : (rdPlane 1 s.2 (ix3 0 r h) : EReal) = aDen s r h := rdPlane_apply 1 s.2 r h
theorem new_exp : ((shapeCast S256x8 (yM m c j) shapeCasts_S1x1x256x8_S256x8 : FVec Ideal S256x8 .f32) (ix2 r h) : EReal) = sAt m (row c r) h (up c j) := by
  rw [yM_cast]; exact xM_apply m c j r h
theorem new_den : ((shapeCast S256x8 (yL m c j) shapeCasts_S1x1x256x8_S256x8 : FVec Ideal S256x8 .f32) (ix2 r h) : EReal) = lAt m (row c r) h (up c j) := by
  rw [yL_cast]; exact xL_apply m c j r h
theorem new_sum (k : Fin 1024) : ((shapeCast S256x1024 (yO m c j) shapeCasts_S1x256x1024_S256x1024 : FVec Ideal S256x1024 .bf16) (ix2 r k) : EReal)
    = oAt m (row c r) k (up c j) := by
  rw [yO_cast]; exact xO_apply m c j r k

theorem planes_max (f : AM Ideal) (w w' : Vec Ideal S1x256x8 .f32) (z : AO Ideal) : aMax (z, wrPlane 1 (wrPlane 0 f w) w') r h = w (ix3 0 r h) := by
  have hn : (1 : Fin 2) ≠ 0 := by decide
  unfold aMax
  dsimp only
  rw [wrPlane_other (F := Ideal) hn (wrPlane 0 f w) w' r h, wrPlane_same]
theorem planes_den (f : AM Ideal) (w w' : Vec Ideal S1x256x8 .f32) (z : AO Ideal) : aDen (z, wrPlane 1 (wrPlane 0 f w) w') r h = w' (ix3 0 r h) :=
  wrPlane_same (F := Ideal) 1 (wrPlane 0 f w) w' r h

theorem hop_max : aMax (stepHop m c s j) r h = max (aMax s r h) (sAt m (row c r) h (up c j)) := by
  unfold stepHop
  rw [planes_max, newM_apply, old_max, new_exp]

/-- One hop on an accumulated value is one merge; -/
theorem hop_sum (t : Fin 128) : (aMax (stepHop m c s j) r h, aSum (stepHop m c s j) r (col h t))
    = step (aMax s r h, aSum s r (col h t)) (sAt m (row c r) h (up c j), oAt m (row c r) (col h t) (up c j)) := by
  rw [Prod.ext_iff]
  dsimp only [step]
  refine ⟨hop_max m c s j r h, ?_⟩
  unfold stepHop aSum
  dsimp only
  rw [heads_apply, headVal_apply, scaleA_apply, scaleR_apply, old_max, new_exp, new_sum, rdHead_apply]

/-- and on a denominator. -/
theorem hop_den : (aMax (stepHop m c s j) r h, aDen (stepHop m c s j) r h)
    = step (aMax s r h, aDen s r h) (sAt m (row c r) h (up c j), lAt m (row c r) h (up c j)) := by
  rw [Prod.ext_iff]
  dsimp only [step]
  refine ⟨hop_max m c s j r h, ?_⟩
  unfold stepHop
  rw [planes_den, newL_apply, scaleA_apply, scaleR_apply, old_max, old_den, new_exp, new_den]

/-! ## All hops -/

theorem own_sum (k : Fin 1024) : aSum (own m c) r k = oAt m (row c r) k c := by
  refine Eq.trans ?_ (ownO_apply m c r k)
  show k1_pay1 _ (ix2 r k) = _
  unfold k1_pay1
  rw [shapeCast_self, shapeCast_self]
  rfl

theorem pay2_apply (w : Vec Ideal S256x8 .f32) : (k1_pay2 w (ix3 0 r h) : EReal) = w (ix2 r h) := by
  unfold k1_pay2
  rw [shapeCast_self]
  exact shapeCast_ab_1ab_apply w _ 0 r h

theorem own_max : aMax (own m c) r h = sAt m (row c r) h c := by
  unfold own
  rw [planes_max]
  exact (pay2_apply r h _).trans (ownM_apply m c r h)

theorem own_den : aDen (own m c) r h = lAt m (row c r) h c := by
  unfold own
  rw [planes_den]
  exact (pay2_apply r h _).trans (ownL_apply m c r h)

theorem peers_all (c : Fin 8) : (c :: L7.map (up c)).Perm (List.finRange 8) := by revert c; decide

/-- The accumulated value at a row and a lane of a head: the devices' sums, weighted. -/
theorem accs_sum (t : Fin 128) : aSum (accs m c) r (col h t) = comb (sAt m (row c r) h) (oAt m (row c r) (col h t)) := by
  have key : ∀ (l : List (Fin 7)) (s : AO Ideal × AM Ideal),
      (aMax (l.foldl (stepHop m c) s) r h, aSum (l.foldl (stepHop m c) s) r (col h t))
        = ((l.map (up c)).map fun q => (sAt m (row c r) h q, oAt m (row c r) (col h t) q)).foldl step (aMax s r h, aSum s r (col h t)) := by
    intro l
    induction l with
    | nil => intro s; rfl
    | cons j l ih => intro s; rw [List.foldl_cons, ih, hop_sum]; rfl
  have e := key L7 (own m c)
  rw [own_max, own_sum, merges_all _ _ c (L7.map (up c)) (by simp) (peers_all c)] at e
  exact congrArg Prod.snd e

/-- The accumulated denominator. -/
theorem accs_den : aDen (accs m c) r h = comb (sAt m (row c r) h) (lAt m (row c r) h) := by
  have key : ∀ (l : List (Fin 7)) (s : AO Ideal × AM Ideal),
      (aMax (l.foldl (stepHop m c) s) r h, aDen (l.foldl (stepHop m c) s) r h)
        = ((l.map (up c)).map fun q => (sAt m (row c r) h q, lAt m (row c r) h q)).foldl step (aMax s r h, aDen s r h) := by
    intro l
    induction l with
    | nil => intro s; rfl
    | cons j l ih => intro s; rw [List.foldl_cons, ih, hop_den]; rfl
  have e := key L7 (own m c)
  rw [own_max, own_den, merges_all _ _ c (L7.map (up c)) (by simp) (peers_all c)] at e
  exact congrArg Prod.snd e

end Cert.KernelIdeal.Hand

end
-- ==== Proof.Rows.lean ====
/- The result over the extended reals, at an element: a row of the output matrix's product with the merged rows, each divided
   by its denominator. -/
module

public import proofs.«01_k».proof.Proof.Accs
public import Idealize.ShloMosaic.Lib.StackMember
public import Idealize.ShloMosaic.Lib.KernelVsHost

@[expose] public section

noncomputable section

namespace Cert.KernelIdeal.Hand

open Idealize.ShloMosaic Idealize.ShloMosaic.TcCoe Idealize.SL.Sem Idealize.ShloMosaic.ValueIdx
open Cert.KernelIdeal.Gen Cert.Merge

variable (m : (ℓ : Loc nD τ sig) → Buf (Elt Ideal) ℓ)

/-- The head of a column. -/
def hdc (k : Fin 1024) : Fin 8 := ⟨k.val / 128, by omega⟩

theorem col_hd (k : Fin 1024) : col (hdc k) ⟨k.val % 128, Nat.mod_lt _ (by decide)⟩ = k := Fin.ext (Nat.div_add_mod _ _)

/-- The output matrix of a device, at a place; and a merged row. -/
def wAt (c : Dev nD) (k n : Fin 1024) : EReal := m ((c : Thread nD τ).loc main_arg4) (ix2 k n)
def mixed (i : Fin 2112) (k : Fin 1024) : EReal :=
  Ideal.div (comb (sAt m i (hdc k)) (oAt m i k)) (comb (sAt m i (hdc k)) (lAt m i (hdc k)))

theorem headDiv_apply (h : Fin 8) (l : Vec Ideal S1x256x8 .f32) (x : Vec Ideal S256x128 .f32) (r : Fin 256) (t : Fin 128) :
    headDiv h l x (ix2 r t) = (Ideal.div (x (ix2 r t)) (l (ix3 0 r h)) : EReal) := by
  unfold headDiv
  rw [divf_apply, lane_col]
  exact congrArg (fun z : EReal => Ideal.div _ z) (shapeCast_1ab_ab_apply l _ r h)

/-- Eight heads side by side. -/
theorem heads_cat (f : Fin 8 → FVec Ideal S256x128 .f32) (r : Fin 256) (k : Fin 1024) :
    concatenate S256x1024 1 [⟨S256x128, f 0⟩, ⟨S256x128, f 1⟩, ⟨S256x128, f 2⟩, ⟨S256x128, f 3⟩, ⟨S256x128, f 4⟩, ⟨S256x128, f 5⟩,
      ⟨S256x128, f 6⟩, ⟨S256x128, f 7⟩] concatenates_S256x128_S256x128_S256x128_S256x128_S256x128_S256x128_S256x128_S256x128_S256x1024_d1 (ix2 r k)
      = f (hdc k) (ix2 r (⟨k.val % 128, Nat.mod_lt _ (by decide)⟩ : Fin 128)) :=
  concatenate_ofFn_apply (t := S256x1024) (s₁ := S256x128) 1 f
    concatenates_S256x128_S256x128_S256x128_S256x128_S256x128_S256x128_S256x128_S256x128_S256x1024_d1 rfl 128 rfl (ix2 r k) (hdc k) rfl
    (ix2 r (⟨k.val % 128, Nat.mod_lt _ (by decide)⟩ : Fin 128)) rfl fun b hb => match b with
      | ⟨0, _⟩ => rfl
      | ⟨1, _⟩ => absurd rfl hb

theorem finVal_apply (l : Vec Ideal S1x256x8 .f32) (x : Fin 8 → Vec Ideal S256x128 .f32) (w : Vec Ideal S1024x1024 .f32) (r : Fin 256) (n : Fin 1024) :
    (finVal l x w (ix2 r n) : EReal) = ∑ k : Fin 1024, (headDiv (hdc k) l (x (hdc k)) (ix2 r (⟨k.val % 128, Nat.mod_lt _ (by decide)⟩ : Fin 128)) * w (ix2 k n) : EReal) := by
  unfold finVal
  rw [shapeCast_self, shapeCast_self, truncf_apply, matmul_zero_eq_dotGeneral]
  refine (StackMember.dotGeneral_plain_apply (m := 256) (k := 1024) (n := 1024) none _ w r n).trans (Finset.sum_congr rfl fun k _ => ?_)
  exact congrArg (fun z : EReal => z * _) (heads_cat (fun h => headDiv h l (x h)) r k)

/-- A chunk's rows of the result. -/
theorem rows_apply (p : Fin 8) (r : Fin 256) (n : Fin 1024) : (rows m p (ix2 r n) : EReal) = ∑ k : Fin 1024, mixed m (row p r) k * wAt m p k n := by
  unfold rows
  refine (finVal_apply _ _ _ r n).trans (Finset.sum_congr rfl fun k _ => ?_)
  rw [headDiv_apply, rdHead_apply, rdPlane_apply, col_hd]
  have e1 := accs_sum m p r (hdc k) ⟨k.val % 128, Nat.mod_lt _ (by decide)⟩
  have e2 := accs_den m p r (hdc k)
  rw [col_hd] at e1
  unfold aSum at e1
  unfold aDen at e2
  rw [e1, e2]
  refine congrArg (fun z : EReal => mixed m (row p r) k * z) ?_
  rw [inW_eq]
  exact congrFun (Memref.readAt_unit_zero (Elt Ideal) cc1_stg3_0 (funext fun a => by fin_cases a <;> rfl) _ _) (ix2 k n)

/-- The row of the merged rows that stands in a row of the result. -/
def src (i : Fin 2048) : Fin 2112 := ⟨64 * (i.val / 64 % 3 * 11 + i.val / 64 / 3) + i.val % 64, by omega⟩

/-- The result at an element. -/
theorem outV_at (p : Fin 2048 → Fin 8) (hp : ∀ i, (p i).val = (src i).val / 256) (i : Fin 2048) (n : Fin 1024) :
    (outV m (ix3 (0 : Fin 1) i n) : EReal) = ∑ k : Fin 1024, mixed m (src i) k * wAt m (p i) k n := by
  have h := outV_apply m (⟨i.val / 64, by omega⟩ : Fin 32) (⟨i.val % 64, by omega⟩ : Fin 64) n
  have ei : (⟨64 * (⟨i.val / 64, by omega⟩ : Fin 32).val + (⟨i.val % 64, by omega⟩ : Fin 64).val, by
      show 64 * (i.val / 64) + i.val % 64 < 2048
      omega⟩ : Fin 2048) = i := Fin.ext (Nat.div_add_mod _ _)
  rw [ei] at h
  refine h.trans ?_
  unfold outVal
  refine (shapeCast_ab_1ab_apply _ _ 0 _ n).trans ?_
  rw [extf_apply, rdSrc_apply]
  have hs := (src i).isLt
  have hq := hp i
  have e := agV_apply m (p i) (⟨(src i).val % 256, Nat.mod_lt _ (by decide)⟩ : Fin 256) n
    (⟨64 * srcBlk (⟨i.val / 64, by omega⟩ : Fin 32) + i.val % 64, by unfold srcBlk; dsimp only; omega⟩ : Fin 2048) (by
      show (src i).val = 256 * (p i).val + (src i).val % 256
      omega)
  refine e.trans ((rows_apply m (p i) _ n).trans ?_)
  have er : row (p i) (⟨(src i).val % 256, Nat.mod_lt _ (by decide)⟩ : Fin 256) = src i := Fin.ext (by
    show 256 * (p i).val + (src i).val % 256 = (src i).val
    omega)
  rw [er]

end Cert.KernelIdeal.Hand

end
-- ==== Proof.Scores.lean ====
/- On the devices' blocks of the whole arrays, what each device keeps of a row is its part of the reference's softmax. -/
module

public import proofs.«01_k».proof.Proof.Inputs
public import proofs.«01_k».proof.Proof.Finite
public import proofs.«01_k».proof.Proof.AttMix
public import proofs.«01_k».proof.Proof.RefRead
public import proofs.«01_k».proof.Proof.Rows
public import Idealize.ShloMosaic.Lib.Layout

@[expose] public section

noncomputable section

namespace Cert.KernelIdeal.Hand

open Idealize.ShloMosaic Idealize.ShloMosaic.TcCoe Idealize.SL.Sem Idealize.ShloMosaic.ValueIdx
open Cert.KernelIdeal.Gen Cert.KernelIdeal.Att Cert.Merge Cert.Finite
open Cert.ReferenceIdeal.Hand (sR vR qR mixR ln hdR plR)

variable (m : (ℓ : Loc nD τ sig) → Buf (Elt Ideal) ℓ)

/-- A device's block of the keys or the values. -/
theorem block_at {α : Type} (h : Layout.Tiles ⟨4, ![1, 2048, 8, 128]⟩ ⟨4, ![1, 16384, 8, 128]⟩ 1 8)
    (v : (⟨4, ![1, 16384, 8, 128]⟩ : Shape).Idx → α) (c : Fin 8) (j : Fin 2048) (g : Fin 8) (t : Fin 128) (hJ : 2048 * c.val + j.val < 16384) :
    Layout.block ⟨4, ![1, 2048, 8, 128]⟩ ⟨4, ![1, 16384, 8, 128]⟩ 1 8 c v h (ix4 (0 : Fin 1) j g t)
      = v (ix4 (0 : Fin 1) (⟨2048 * c.val + j.val, hJ⟩ : Fin 16384) g t) := by
  rw [Layout.block_apply]
  congr 1
  funext a
  exact match a with
    | ⟨0, _⟩ => Fin.ext rfl
    | ⟨1, _⟩ => Fin.ext (congrArg (· + j.val) (Nat.mul_comm _ _))
    | ⟨2, _⟩ => Fin.ext rfl
    | ⟨3, _⟩ => Fin.ext rfl

/-! ## Where a row stands -/

theorem src_class (i : Fin 2048) : (rowC (src i)).val = i.val / 64 % 3 := by
  show (64 * (i.val / 64 % 3 * 11 + i.val / 64 / 3) + i.val % 64) / 704 = _
  omega
theorem src_place (i : Fin 2048) : (rowI (src i)).val = 64 * (i.val / 64 / 3) + i.val % 64 := by
  show (64 * (i.val / 64 % 3 * 11 + i.val / 64 / 3) + i.val % 64) % 704 = _
  omega
theorem src_block (i : Fin 2048) : i.val / 64 = (rowC (src i)).val + 3 * ((rowI (src i)).val / 64) := by
  rw [src_class, src_place]
  omega
theorem src_row (i : Fin 2048) : 64 * min ((rowC (src i)).val + 3 * ((rowI (src i)).val / 64)) 31 + (rowI (src i)).val % 64 = i.val := by
  have hi := i.isLt
  rw [← src_block, src_place]
  omega

/-! ## The devices' parts -/

variable (x : FVec Ideal Cert.ReferenceIdeal.S1x2048x1024 .f32) (wq : FVec Ideal Cert.ReferenceIdeal.S1024x1024 .f32)
  (ke ve : FVec Ideal Cert.ReferenceIdeal.S1x16384x8x128 .f32)

/-- The devices hold the rows and the projection whole and the keys and the values in blocks. -/
structure Holds : Prop where
  rows : ∀ (c : Fin 8) i k, (m (((c : Dev nD) : Thread nD τ).loc main_arg0) (ix3 (0 : Fin 1) i k) : EReal) = x (ix3 (0 : Fin 1) i k)
  proj : ∀ (c : Fin 8) k n, (m (((c : Dev nD) : Thread nD τ).loc main_arg1) (ix2 k n) : EReal) = wq (ix2 k n)
  keys : ∀ (c : Fin 8) (j : Fin 2048) h t hJ, (m (((c : Dev nD) : Thread nD τ).loc main_arg2) (ix4 (0 : Fin 1) j h t) : EReal)
    = ke (ix4 (0 : Fin 1) (⟨2048 * c.val + j.val, hJ⟩ : Fin 16384) h t)
  vals : ∀ (c : Fin 8) (j : Fin 2048) h t hJ, (m (((c : Dev nD) : Thread nD τ).loc main_arg3) (ix4 (0 : Fin 1) j h t) : EReal)
    = ve (ix4 (0 : Fin 1) (⟨2048 * c.val + j.val, hJ⟩ : Fin 16384) h t)

variable {m x wq ke ve}

theorem query_eq (H : Holds m x wq ke ve) (c : Fin 8) (h : Fin 8) (i : Fin 2048) (t : Fin 128) :
    (qC (wA m (c : Dev nD) h) (xpV (xA m (c : Dev nD))) (rowC (src i)) (ix2 (rowI (src i)) t) : EReal) = qR x wq i h t := by
  have hr := src_row i
  refine (qC_apply _ _ _ _ t (by rw [hr]; exact i.isLt)).trans (Finset.sum_congr (M := EReal) rfl fun k _ => ?_)
  have e1 : (xA m (c : Dev nD) (ix3 (0 : Fin 1) (⟨64 * min ((rowC (src i)).val + 3 * ((rowI (src i)).val / 64)) 31 + (rowI (src i)).val % 64, by rw [hr]; exact i.isLt⟩ : Fin 2048) k) : EReal)
      = x (ix3 (0 : Fin 1) i k) := by
    rw [show (⟨64 * min ((rowC (src i)).val + 3 * ((rowI (src i)).val / 64)) 31 + (rowI (src i)).val % 64, by rw [hr]; exact i.isLt⟩ : Fin 2048) = i from Fin.ext hr, xA_eq]
    exact H.rows c i k
  have e2 : (wA m (c : Dev nD) h (ix2 k t) : EReal) = wq (ix2 k (ln h t)) :=
    (wA_apply m c h k t (by have := h.isLt; have := t.isLt; omega)).trans (H.proj c k _)
  exact congrArg₂ (fun a b : EReal => a * b) e1 e2

/-- A device's score is the reference's, at the key's place among all. -/
theorem score_eq (H : Holds m x wq ke ve) (c : Fin 8) (h : Fin 8) (i : Fin 2048) (j : Fin 2048) :
    dotq (qC (wA m (c : Dev nD) h) (xpV (xA m (c : Dev nD))) (rowC (src i))) (kA m (c : Dev nD) h) (rowI (src i)) j * Att.scl
      = sR x wq ke i h (2048 * c.val + j.val) := by
  have hJ : 2048 * c.val + j.val < 16384 := by have := c.isLt; have := j.isLt; omega
  unfold sR
  rw [dif_pos hJ]
  refine congrArg (fun z : EReal => z * _) (Finset.sum_congr (M := EReal) rfl fun t _ => ?_)
  exact congrArg₂ (fun a b : EReal => a * b) (query_eq H c h i t) ((kA_apply m c h j t).trans (H.keys c j h t hJ))

theorem value_eq (H : Holds m x wq ke ve) (c : Fin 8) (k : Fin 1024) (j : Fin 2048) :
    (vA m (c : Dev nD) (hdR k) (ix2 j (plR k)) : EReal) = vR ve k (2048 * c.val + j.val) := by
  have hJ : 2048 * c.val + j.val < 16384 := by have := c.isLt; have := j.isLt; omega
  unfold vR
  rw [dif_pos hJ]
  exact (vA_apply m c (hdR k) j (plR k)).trans (H.vals c j _ _ hJ)

theorem block_lt (i : Fin 2048) : i.val / 64 < 32 := by omega

theorem maxima_eq (H : Holds m x wq ke ve) (i : Fin 2048) (h : Fin 8) : sAt (m2 m) (src i) h = Soft.mP (sR x wq ke i h) (i.val / 64) := by
  funext c
  unfold sAt m2
  show (W2 m (c : Dev nD) main_v3_1 (ix2 (src i) h) : EReal) = _
  rw [W2_m]
  exact mC_eq c _ _ _ _ _ _ (src_block i) (block_lt i) _ (score_eq H c h i)
theorem dens_eq (H : Holds m x wq ke ve) (i : Fin 2048) (h : Fin 8) : lAt (m2 m) (src i) h = Soft.oP (sR x wq ke i h) (fun _ => 1) (i.val / 64) := by
  funext c
  unfold lAt m2
  show (W2 m (c : Dev nD) main_v3_2 (ix2 (src i) h) : EReal) = _
  rw [W2_l]
  exact lC_eq c _ _ _ _ _ _ (src_block i) (block_lt i) _ (score_eq H c h i)
theorem sums_eq (H : Holds m x wq ke ve) (i : Fin 2048) (k : Fin 1024) :
    oAt (m2 m) (src i) k = Soft.oP (sR x wq ke i (hdR k)) (vR ve k) (i.val / 64) := by
  funext c
  unfold oAt m2
  show (W2 m (c : Dev nD) main_v3_0 (ix2 (src i) k) : EReal) = _
  rw [W2_o]
  exact oC_eq c _ _ _ _ _ _ _ (src_block i) (block_lt i) _ (score_eq H c (hdR k) i) (plR k) _ (value_eq H c k)

/-! ## The scores are real -/

theorem scl_real : Real' Cert.ReferenceIdeal.Hand.scl := by
  unfold Cert.ReferenceIdeal.Hand.scl
  simp only [Ideal.ofBits, Ideal.ieee]
  norm_num
  exact real_mul ⟨_, rfl⟩ ⟨_, rfl⟩

theorem score_real (hx : ∀ i, Real' (x i)) (hw : ∀ i, Real' (wq i)) (hk : ∀ i, Real' (ke i)) (i : Fin 2048) (h : Fin 8) (J : Fin 16384) :
    Real' (sR x wq ke i h J.val) := by
  unfold sR
  rw [dif_pos J.isLt]
  exact real_mul (real_sum _ fun t => real_mul (real_sum _ fun k => real_mul (hx _) (hw _)) (hk _)) scl_real

/-- A merged row, divided by its denominator, is the reference's softmax of the values. -/
theorem mixed_eq (H : Holds m x wq ke ve) (hx : ∀ i, Real' (x i)) (hw : ∀ i, Real' (wq i)) (hk : ∀ i, Real' (ke i)) (i : Fin 2048) (k : Fin 1024) :
    mixed (m2 m) (src i) k = mixR x wq ke ve i k := by
  unfold mixed
  rw [show hdc k = hdR k from rfl, maxima_eq H, dens_eq H, sums_eq H]
  exact Soft.soft_eq _ _ _ (block_lt i) (score_real hx hw hk i (hdR k))

end Cert.KernelIdeal.Hand

end
-- ==== Proof.RefEq.lean ====
/- The result the reference's run ends with is the stages composed. -/
module

public import proofs.«01_k».proof.Proof.RefAtt
public import proofs.«01_k».proof.Proof.Gen.ReferenceIdeal.Run

@[expose] public section

noncomputable section

namespace Cert.ReferenceIdeal.Hand

open Idealize.ShloMosaic Idealize.ShloMosaic.TcCoe Idealize.SL.Sem
open Cert.ReferenceIdeal Cert.ReferenceIdeal.Gen

set_option maxRecDepth 8192 in
theorem res_eq (m : (ℓ : Loc nD τ sig) → Buf (Elt Ideal) ℓ) (c : Dev nD) :
    Value.res_main_v44 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Value.res_main_v44
  rfl

end Cert.ReferenceIdeal.Hand

end
-- ==== Proof.Value.lean ====
/- The value claim: run on the devices' blocks of the whole keys and values, the kernel leaves on every device the reference's
   result. -/
module

public import proofs.«01_k».proof.Defs
public import proofs.«01_k».proof.Proof.Frames
public import proofs.«01_k».proof.Proof.Scores
public import proofs.«01_k».proof.Proof.RefEq

@[expose] public section

noncomputable section

namespace Cert.KernelIdeal.Hand

open Idealize.ShloMosaic Idealize.ShloMosaic.TcCoe Idealize.SL.Sem Idealize.ShloMosaic.ValueIdx
open Cert.KernelIdeal.Gen Cert.Merge

/-! ## The result array after the run -/

section Result

variable {F : FTy → Type} [FloatOps F] [Named F]
variable (m : (ℓ : Loc nD τ sig) → Buf (Elt F) ℓ)

/-- Its one block, then the array. -/
theorem final_block (c : Dev nD) : (win1_4.blk (0 : Fin 1)).view.read (Elt F) ((dats1 m c).arrAt (4 : Fin 5) cfg1.N) = outV m := by
  rw [show cfg1.N = ((0 : Fin 1) : Fin cfg1.N).val + 1 from rfl, (dats1 m c).arrAt_succ (4 : Fin 5) (0 : Fin 1)]
  rw [show (cfg1.win (4 : Fin 5)).flush (0 : Fin 1) = true from by decide, if_pos rfl]
  exact View.read_write_univ _ _

theorem final_result (c : Dev nD) : (dats1 m c).arrAt (4 : Fin 5) cfg1.N = outV m :=
  have hz : (fun a => (win1_4.index (0 : Fin 1)) a * main_v4.ty.shape.size a) = fun _ => 0 := funext fun a => by fin_cases a <;> decide
  (Memref.read_access_unit_zero (Elt F) main_v4 hz (fun a => by fin_cases a <;> decide) ((dats1 m c).arrAt (4 : Fin 5) cfg1.N)).symm.trans
    (final_block m c)

/-- The result after the run. -/
theorem result_after (r : PUnit × MemSt nD τ sig (Elt F)) (h : QC m r) (c : Dev nD) :
    r.2.mem ((c.tc : Thread nD τ).loc main_v4) = outV (m2 m) :=
  (h c (Proc.devRef .tc main_v4) (mem_uc _ (by decide))).trans ((W3_out m c).trans (final_result (m2 m) c))

end Result

/-! ## The two results -/

section Agree

open Cert.Finite

variable {m : (ℓ : Loc nD τ sig) → Buf (Elt Ideal) ℓ}
variable {x : FVec Ideal Cert.ReferenceIdeal.S1x2048x1024 .f32} {wq wo : FVec Ideal Cert.ReferenceIdeal.S1024x1024 .f32}
  {ke ve : FVec Ideal Cert.ReferenceIdeal.S1x16384x8x128 .f32}

/-- The device whose rows stand in a row of the result. -/
def maker (i : Fin 2048) : Fin 8 := ⟨(src i).val / 256, by
  show (64 * (i.val / 64 % 3 * 11 + i.val / 64 / 3) + i.val % 64) / 256 < 8
  omega⟩

theorem out_mat (H : ∀ (c : Fin 8) k n, (m (((c : Dev nD) : Thread nD τ).loc main_arg4) (ix2 k n) : EReal) = wo (ix2 k n)) (c : Fin 8) (k n : Fin 1024) :
    wAt (m2 m) (c : Dev nD) k n = wo (ix2 k n) := by
  unfold wAt m2
  show (W2 m (c : Dev nD) main_arg4 (ix2 k n) : EReal) = _
  rw [W2_of m c main_arg4 (by decide) (by decide) (by decide), V1_of m c main_arg4 (by decide)]
  exact H c k n

theorem out_eq (H : Holds m x wq ke ve) (Ho : ∀ (c : Fin 8) k n, (m (((c : Dev nD) : Thread nD τ).loc main_arg4) (ix2 k n) : EReal) = wo (ix2 k n))
    (hx : ∀ i, Real' (x i)) (hw : ∀ i, Real' (wq i)) (hk : ∀ i, Real' (ke i)) :
    outV (m2 m) = Cert.ReferenceIdeal.Hand.result x wq ke ve wo := by
  funext j
  obtain ⟨z, i, n, rfl⟩ : ∃ (z : Fin 1) (i : Fin 2048) (n : Fin 1024), j = ix3 z i n := ⟨_, _, _, eq_ix3 j⟩
  obtain rfl : z = 0 := Subsingleton.elim _ _
  refine (outV_at (m2 m) maker (fun _ => rfl) i n).trans (Eq.trans (Finset.sum_congr (M := EReal) rfl fun k _ => ?_)
    (Cert.ReferenceIdeal.Hand.result_apply x wq ke ve wo i n).symm)
  exact congrArg₂ (fun a b : EReal => a * b) (mixed_eq H hx hw hk i k) (out_mat Ho (maker i) k n)

end Agree

/-- The value claim. -/
theorem same_result : Cert.algebraic_KernelIdeal_ReferenceIdeal_pre_finite_KernelIdeal := by
  intro m ρ m' ρ' hp h
  have H : Holds m (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1))
      (m' (((0 : Dev Cert.ReferenceIdeal.nD).tc : Thread _ Cert.ReferenceIdeal.τ).loc Cert.ReferenceIdeal.main_arg2))
      (m' (((0 : Dev Cert.ReferenceIdeal.nD).tc : Thread _ Cert.ReferenceIdeal.τ).loc Cert.ReferenceIdeal.main_arg3)) :=
    { rows := fun q i k => congrFun (h q).1 (ix3 0 i k)
      proj := fun q k n => congrFun (h q).2.1 (ix2 k n)
      keys := fun q j g t hJ => (congrFun (h q).2.2.1 (ix4 0 j g t)).trans (block_at _ _ q j g t hJ)
      vals := fun q j g t hJ => (congrFun (h q).2.2.2.1 (ix4 0 j g t)).trans (block_at _ _ q j g t hJ) }
  have P := fun c => Cert.Finite.pre_real _ _ _ _ _ (hp c)
  have hx : ∀ i, Cert.Finite.Real' (m' (((0 : Dev Cert.ReferenceIdeal.nD).tc : Thread _ Cert.ReferenceIdeal.τ).loc Cert.ReferenceIdeal.main_arg0) i) := fun i => by
    rw [← congrFun (h 0).1 i]
    exact (P 0).1 i
  have hw : ∀ i, Cert.Finite.Real' (m' (((0 : Dev Cert.ReferenceIdeal.nD).tc : Thread _ Cert.ReferenceIdeal.τ).loc Cert.ReferenceIdeal.main_arg1) i) := fun i => by
    rw [← congrFun (h 0).2.1 i]
    exact (P 0).2.1 i
  have hk : ∀ i, Cert.Finite.Real' (m' (((0 : Dev Cert.ReferenceIdeal.nD).tc : Thread _ Cert.ReferenceIdeal.τ).loc Cert.ReferenceIdeal.main_arg2) i) := fun i => by
    obtain ⟨z, J, g, t, rfl⟩ : ∃ (z : Fin 1) (J : Fin 16384) (g : Fin 8) (t : Fin 128), i = ix4 z J g t := ⟨_, _, _, _, eq_ix4 i⟩
    obtain rfl : z = 0 := Subsingleton.elim _ _
    have e := H.keys (⟨J.val / 2048, by omega⟩ : Fin 8) (⟨J.val % 2048, by omega⟩ : Fin 2048) g t (by dsimp only; omega)
    rw [show (⟨2048 * (⟨J.val / 2048, by omega⟩ : Fin 8).val + (⟨J.val % 2048, by omega⟩ : Fin 2048).val, by dsimp only; omega⟩ : Fin 16384) = J from
      Fin.ext (Nat.div_add_mod _ _)] at e
    rw [← e]
    exact (P (⟨J.val / 2048, by omega⟩ : Fin 8)).2.2 _
  have e := out_eq H (fun q k n => congrFun (h q).2.2.2.2 (ix2 k n)) hx hw hk
  refine ⟨_, (θ_run defs _ _).mono (fun r hr c => ⟨(result_after m r hr.1 c).trans e, args_kept m r hr.1 c⟩) (run_main m ρ), ?_⟩
  exact (θ_run Cert.ReferenceIdeal.defs _ _).mono (fun r hr => ⟨(hr 0).1.trans (Cert.ReferenceIdeal.Hand.res_eq m' 0), (hr 0).2⟩)
    (Cert.ReferenceIdeal.Value.run (F := Ideal) m' ρ')

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem

/-- The reference's run, whatever its arguments hold: it keeps them and uses no semaphore. -/
theorem frame_reference : Cert.quiescent_ReferenceIdeal := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  Cert.KernelIdeal.Hand.frame_kernel, Cert.KernelIdeal.Hand.frame_ideal, fun m ρ _ => Cert.KernelIdeal.Hand.run_frame m ρ,
  frame_reference, fun m ρ _ => frame_reference m ρ trivial,
  IdealRules.named_const.statement Cert.KernelIdeal.κ "mask" .f32 0xCE6E6B28#32 ⊥ rfl,
  Cert.KernelIdeal.Hand.same_result⟩

end Cert.Proof

end
